-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownRefIdeal (m : (ℓ : Loc Cert.DdownRefIdeal.nD Cert.DdownRefIdeal.τ Cert.DdownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatRefIdeal (m : (ℓ : Loc Cert.DycatRefIdeal.nD Cert.DycatRefIdeal.τ Cert.DycatRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_proj [hPre_finite_proj : Cert.Pre_finite_proj.Facts] (m : (ℓ : Loc Cert.AttendIdeal.nD Cert.AttendIdeal.τ Cert.AttendIdeal.sig) → Buf (Elt Ideal) ℓ) : Prop :=
  ∀ c : Dev Cert.AttendIdeal.nD,
    (Cert.Pre_finite_proj.fn (F := Ideal) (m ((c.tc : Thread Cert.AttendIdeal.nD Cert.AttendIdeal.τ).loc Cert.AttendIdeal.main_arg0))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite_proj [hPre_finite_proj : Cert.Pre_finite_proj.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite_proj.fn (F := Ideal) (m ((c.tc : Thread Cert.AttendRefIdeal.nD Cert.AttendRefIdeal.τ).loc Cert.AttendRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_DycatRefIdeal [hDycatRefIdeal : Cert.DycatRefIdeal.Facts] : Prop :=
  ∀ (m : (ℓ : Loc Cert.DycatRefIdeal.nD Cert.DycatRefIdeal.τ Cert.DycatRefIdeal.sig) → Buf (Elt Ideal) ℓ) (g : Dev Cert.DycatRefIdeal.nD → PrngReg), Pre_DycatRefIdeal m →
    θ_run (Cert.DycatRefIdeal.defs (F := Ideal)) (onTc (τ := Cert.DycatRefIdeal.τ) (Cert.DycatRefIdeal.main (F := Ideal))) ⟨m, fun _ => 0, g⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendIdeal_pre_finite_proj [hAttendIdeal : Cert.AttendIdeal.Facts] [hPre_finite_proj : Cert.Pre_finite_proj.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_proj m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def quiescent_AttendRefIdeal_pre_finite_proj [hAttendRefIdeal : Cert.AttendRefIdeal.Facts] [hPre_finite_proj : Cert.Pre_finite_proj.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite_proj m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ddown_DdownIdeal : Prop :=
  True

def algebraic_DdownIdeal_DdownRefIdeal [hDdownIdeal : Cert.DdownIdeal.Facts] [hDdownRefIdeal : Cert.DdownRefIdeal.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)) →
    ∃ (v0 : (c : Dev Cert.DdownIdeal.nD) → Buf (Elt Ideal) ((c.tc : Thread Cert.DdownIdeal.nD Cert.DdownIdeal.τ).loc Cert.DdownIdeal.main_v0)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v0) = v0 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v5) = v0 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v5) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v4) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v0)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v0) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v5) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Dycat_DycatIdeal : Prop :=
  True

def algebraic_DycatIdeal_DycatRefIdeal [hDycatIdeal : Cert.DycatIdeal.Facts] [hDycatRefIdeal : Cert.DycatRefIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatRefIdeal.nD Cert.DycatRefIdeal.τ Cert.DycatRefIdeal.sig) → Buf (Elt Ideal) ℓ) (g' : Dev Cert.DycatRefIdeal.nD → PrngReg), Pre_DycatIdeal m →
    (∀ c : Dev Cert.DycatIdeal.nD,
      m' ((c.tc : Thread Cert.DycatRefIdeal.nD Cert.DycatRefIdeal.τ).loc Cert.DycatRefIdeal.main_arg0) = m ((c.tc : Thread Cert.DycatIdeal.nD Cert.DycatIdeal.τ).loc Cert.DycatIdeal.main_arg0)
      ∧ m' ((c.tc : Thread Cert.DycatRefIdeal.nD Cert.DycatRefIdeal.τ).loc Cert.DycatRefIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.DycatRefIdeal.defs (F := Ideal)) (onTc (τ := Cert.DycatRefIdeal.τ) (Cert.DycatRefIdeal.main (F := Ideal))) ⟨m', fun _ => 0, g'⟩ (fun r => ∀ c : Dev Cert.DycatRefIdeal.nD,
          r.2.mem ((c.tc : Thread Cert.DycatRefIdeal.nD Cert.DycatRefIdeal.τ).loc Cert.DycatRefIdeal.main_v4) = v0 c
          ∧ r.2.mem ((c.tc : Thread Cert.DycatRefIdeal.nD Cert.DycatRefIdeal.τ).loc Cert.DycatRefIdeal.main_arg0) = m' ((c.tc : Thread Cert.DycatRefIdeal.nD Cert.DycatRefIdeal.τ).loc Cert.DycatRefIdeal.main_arg0)
          ∧ r.2.mem ((c.tc : Thread Cert.DycatRefIdeal.nD Cert.DycatRefIdeal.τ).loc Cert.DycatRefIdeal.main_arg1) = m' ((c.tc : Thread Cert.DycatRefIdeal.nD Cert.DycatRefIdeal.τ).loc Cert.DycatRefIdeal.main_arg1))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)) →
    ∃ (v0 : (c : Dev Cert.DinIdeal.nD) → Buf (Elt Ideal) ((c.tc : Thread Cert.DinIdeal.nD Cert.DinIdeal.τ).loc Cert.DinIdeal.main_v0)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v0) = v0 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v5) = v0 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)) (v2 : (c : Dev Cert.DnormIdeal.nD) → Buf (Elt Ideal) ((c.tc : Thread Cert.DnormIdeal.nD Cert.DnormIdeal.τ).loc Cert.DnormIdeal.main_v0_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_v0_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v34) = v0 c
          ∧ r.2.mem ((c.tc : Thread Cert.DnormRefIdeal.nD Cert.DnormRefIdeal.τ).loc Cert.DnormRefIdeal.main_v35) = v1 c
          ∧ r.2.mem ((c.tc : Thread Cert.DnormRefIdeal.nD Cert.DnormRefIdeal.τ).loc Cert.DnormRefIdeal.main_v17) = v2 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Attend_AttendIdeal : Prop :=
  True

def algebraic_AttendIdeal_AttendRefIdeal_pre_finite_proj [hAttendIdeal : Cert.AttendIdeal.Facts] [hAttendRefIdeal : Cert.AttendRefIdeal.Facts] [hPre_finite_proj : Cert.Pre_finite_proj.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite_proj m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)) →
    ∃ (v0 : (c : Dev Cert.AttendIdeal.nD) → Buf (Elt Ideal) ((c.tc : Thread Cert.AttendIdeal.nD Cert.AttendIdeal.τ).loc Cert.AttendIdeal.main_v2_0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v2_0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v28) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0))

def Claim : Prop :=
  ∃ (hKernel : Cert.Kernel.Facts) (hKernelIdeal : Cert.KernelIdeal.Facts) (hReferenceIdeal : Cert.ReferenceIdeal.Facts) (hDdown : Cert.Ddown.Facts) (hDdownIdeal : Cert.DdownIdeal.Facts) (hDdownRefIdeal : Cert.DdownRefIdeal.Facts) (hDact : Cert.Dact.Facts) (hDactIdeal : Cert.DactIdeal.Facts) (hDactRefIdeal : Cert.DactRefIdeal.Facts) (hDup : Cert.Dup.Facts) (hDupIdeal : Cert.DupIdeal.Facts) (hDupRefIdeal : Cert.DupRefIdeal.Facts) (hDh2 : Cert.Dh2.Facts) (hDh2Ideal : Cert.Dh2Ideal.Facts) (hDh2RefIdeal : Cert.Dh2RefIdeal.Facts) (hDout : Cert.Dout.Facts) (hDoutIdeal : Cert.DoutIdeal.Facts) (hDoutRefIdeal : Cert.DoutRefIdeal.Facts) (hDycat : Cert.Dycat.Facts) (hDycatIdeal : Cert.DycatIdeal.Facts) (hDycatRefIdeal : Cert.DycatRefIdeal.Facts) (hDin : Cert.Din.Facts) (hDinIdeal : Cert.DinIdeal.Facts) (hDinRefIdeal : Cert.DinRefIdeal.Facts) (hDh : Cert.Dh.Facts) (hDhIdeal : Cert.DhIdeal.Facts) (hDhRefIdeal : Cert.DhRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hDnorm : Cert.Dnorm.Facts) (hDnormIdeal : Cert.DnormIdeal.Facts) (hDnormRefIdeal : Cert.DnormRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hAttend : Cert.Attend.Facts) (hAttendIdeal : Cert.AttendIdeal.Facts) (hAttendRefIdeal : Cert.AttendRefIdeal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ddown (hDdown := hDdown)
    ∧ quiescent_DdownIdeal (hDdownIdeal := hDdownIdeal)
    ∧ quiescent_DdownRefIdeal (hDdownRefIdeal := hDdownRefIdeal)
    ∧ quiescent_Dact (hDact := hDact)
    ∧ quiescent_DactIdeal (hDactIdeal := hDactIdeal)
    ∧ quiescent_DactRefIdeal (hDactRefIdeal := hDactRefIdeal)
    ∧ quiescent_Dup (hDup := hDup)
    ∧ quiescent_DupIdeal (hDupIdeal := hDupIdeal)
    ∧ quiescent_DupRefIdeal (hDupRefIdeal := hDupRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dout (hDout := hDout)
    ∧ quiescent_DoutIdeal (hDoutIdeal := hDoutIdeal)
    ∧ quiescent_DoutRefIdeal (hDoutRefIdeal := hDoutRefIdeal)
    ∧ quiescent_Dycat (hDycat := hDycat)
    ∧ quiescent_DycatIdeal (hDycatIdeal := hDycatIdeal)
    ∧ quiescent_DycatRefIdeal (hDycatRefIdeal := hDycatRefIdeal)
    ∧ quiescent_Din (hDin := hDin)
    ∧ quiescent_DinIdeal (hDinIdeal := hDinIdeal)
    ∧ quiescent_DinRefIdeal (hDinRefIdeal := hDinRefIdeal)
    ∧ quiescent_Dh (hDh := hDh)
    ∧ quiescent_DhIdeal (hDhIdeal := hDhIdeal)
    ∧ quiescent_DhRefIdeal (hDhRefIdeal := hDhRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Attend (hAttend := hAttend)
    ∧ quiescent_AttendIdeal (hAttendIdeal := hAttendIdeal)
    ∧ quiescent_AttendIdeal_pre_finite_proj (hAttendIdeal := hAttendIdeal) (hPre_finite_proj := hPre_finite_proj)
    ∧ quiescent_AttendRefIdeal (hAttendRefIdeal := hAttendRefIdeal)
    ∧ quiescent_AttendRefIdeal_pre_finite_proj (hAttendRefIdeal := hAttendRefIdeal) (hPre_finite_proj := hPre_finite_proj)
    ∧ preserves_Kernel_KernelIdeal
    ∧ algebraic_KernelIdeal_ReferenceIdeal_pre_finite (hKernelIdeal := hKernelIdeal) (hReferenceIdeal := hReferenceIdeal) (hPre_finite := hPre_finite)
    ∧ preserves_Ddown_DdownIdeal
    ∧ algebraic_DdownIdeal_DdownRefIdeal (hDdownIdeal := hDdownIdeal) (hDdownRefIdeal := hDdownRefIdeal)
    ∧ preserves_Dact_DactIdeal
    ∧ algebraic_DactIdeal_DactRefIdeal (hDactIdeal := hDactIdeal) (hDactRefIdeal := hDactRefIdeal)
    ∧ preserves_Dup_DupIdeal
    ∧ algebraic_DupIdeal_DupRefIdeal (hDupIdeal := hDupIdeal) (hDupRefIdeal := hDupRefIdeal)
    ∧ preserves_Dh2_Dh2Ideal
    ∧ algebraic_Dh2Ideal_Dh2RefIdeal (hDh2Ideal := hDh2Ideal) (hDh2RefIdeal := hDh2RefIdeal)
    ∧ preserves_Dout_DoutIdeal
    ∧ algebraic_DoutIdeal_DoutRefIdeal (hDoutIdeal := hDoutIdeal) (hDoutRefIdeal := hDoutRefIdeal)
    ∧ preserves_Dycat_DycatIdeal
    ∧ algebraic_DycatIdeal_DycatRefIdeal (hDycatIdeal := hDycatIdeal) (hDycatRefIdeal := hDycatRefIdeal)
    ∧ preserves_Din_DinIdeal
    ∧ algebraic_DinIdeal_DinRefIdeal (hDinIdeal := hDinIdeal) (hDinRefIdeal := hDinRefIdeal)
    ∧ preserves_Dh_DhIdeal
    ∧ algebraic_DhIdeal_DhRefIdeal (hDhIdeal := hDhIdeal) (hDhRefIdeal := hDhRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Dnorm_DnormIdeal
    ∧ algebraic_DnormIdeal_DnormRefIdeal (hDnormIdeal := hDnormIdeal) (hDnormRefIdeal := hDnormRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Attend_AttendIdeal
    ∧ algebraic_AttendIdeal_AttendRefIdeal_pre_finite_proj (hAttendIdeal := hAttendIdeal) (hAttendRefIdeal := hAttendRefIdeal) (hPre_finite_proj := hPre_finite_proj)
-- ==== Pre_finite.lean ====
abbrev S8192x3840 : Shape := ⟨2, ![8192, 3840]⟩
abbrev S8192x1024 : Shape := ⟨2, ![8192, 1024]⟩
abbrev S8192x768 : Shape := ⟨2, ![8192, 768]⟩
abbrev S_ : Shape := ⟨0, ![]⟩
abbrev S8192x256 : Shape := ⟨2, ![8192, 256]⟩

class Facts : Prop where
  slices_S8192x3840_S8192x768_0_2816 : S8192x3840.Slices ![0, 2816] S8192x768
  bcast_S_S8192x768 : S_.BroadcastsInDim S8192x768 (![] : Fin 0 → Fin S8192x768.rank)
  slices_S8192x1024_S8192x256_0_768 : S8192x1024.Slices ![0, 768] S8192x256
  bcast_S_S8192x256 : S_.BroadcastsInDim S8192x256 (![] : Fin 0 → Fin S8192x256.rank)

variable [Facts]

def fn {F : FTy → Type} [FloatOps F] (main_arg0 : FVec F S8192x3840 .f32) (main_arg1 : FVec F S8192x1024 .f32) : IVec S8192x768 1 × IVec S8192x256 1 :=
  let main_v0 : FVec F S8192x768 .f32 := (extractStridedSlice S8192x768 ![0, 2816] · slices_S8192x3840_S8192x768_0_2816) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_v4 : FVec F S8192x256 .f32 := (extractStridedSlice S8192x256 ![0, 768] · slices_S8192x1024_S8192x256_0_768) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  (main_v3, main_v7)
-- ==== Pre_finite_proj.lean ====
abbrev S8192x3840 : Shape := ⟨2, ![8192, 3840]⟩
abbrev S8192x768 : Shape := ⟨2, ![8192, 768]⟩
abbrev S_ : Shape := ⟨0, ![]⟩

class Facts : Prop where
  slices_S8192x3840_S8192x768_0_2816 : S8192x3840.Slices ![0, 2816] S8192x768
  bcast_S_S8192x768 : S_.BroadcastsInDim S8192x768 (![] : Fin 0 → Fin S8192x768.rank)

variable [Facts]

def fn {F : FTy → Type} [FloatOps F] (main_arg0 : FVec F S8192x3840 .f32) : IVec S8192x768 1 :=
  let main_v0 : FVec F S8192x768 .f32 := (extractStridedSlice S8192x768 ![0, 2816] · slices_S8192x3840_S8192x768_0_2816) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  main_v3
-- ==== Kernel.lean ====
abbrev S8192x3840 : Shape := ⟨2, ![8192, 3840]⟩
abbrev S8192x1024 : Shape := ⟨2, ![8192, 1024]⟩
abbrev S8192x512 : Shape := ⟨2, ![8192, 512]⟩
abbrev S8192x256 : Shape := ⟨2, ![8192, 256]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S8192x4 : Shape := ⟨2, ![8192, 4]⟩
abbrev S8192x128 : Shape := ⟨2, ![8192, 128]⟩
abbrev S128x256 : Shape := ⟨2, ![128, 256]⟩
abbrev S128x128 : Shape := ⟨2, ![128, 128]⟩
abbrev S512x128 : Shape := ⟨2, ![512, 128]⟩
abbrev S128 : Shape := ⟨1, ![128]⟩
abbrev S128x1 : Shape := ⟨2, ![128, 1]⟩
abbrev S512x1 : Shape := ⟨2, ![512, 1]⟩
abbrev S256x128 : Shape := ⟨2, ![256, 128]⟩
abbrev S4096x128 : Shape := ⟨2, ![4096, 128]⟩
abbrev S4096 : Shape := ⟨1, ![4096]⟩
abbrev S4096x1 : Shape := ⟨2, ![4096, 1]⟩
abbrev S2048x128 : Shape := ⟨2, ![2048, 128]⟩
abbrev S2048 : Shape := ⟨1, ![2048]⟩
abbrev S2048x1 : Shape := ⟨2, ![2048, 1]⟩
abbrev S512 : Shape := ⟨1, ![512]⟩
abbrev S1024x128 : Shape := ⟨2, ![1024, 128]⟩

abbrev nBuf : Space → Nat
  | .hbm => 50
  | .vmem => 11
  | .smem => 0
  | _ => 0

abbrev bufTy : (tb : Table) → Fin (tcTables nBuf tb) → BufTy
  | .hbm, ⟨0, _⟩ => ⟨S8192x3840, .f32⟩
  | .hbm, ⟨1, _⟩ => ⟨S8192x1024, .f32⟩
  | .hbm, ⟨2, _⟩ => ⟨S8192x512, .f32⟩
  | .hbm, ⟨3, _⟩ => ⟨S8192x512, .bf16⟩
  | .hbm, ⟨4, _⟩ => ⟨S8192x256, .f32⟩
  | .hbm, ⟨5, _⟩ => ⟨S8192x256, .f32⟩
  | .hbm, ⟨6, _⟩ => ⟨S8192x4x64, .f32⟩
  | .hbm, ⟨7, _⟩ => ⟨S8192x4x64, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S_, .f32⟩
  | .hbm, ⟨37, _⟩ => ⟨S_, .f32⟩
  | .hbm, ⟨38, _⟩ => ⟨S4x8192x8192, .i1⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S8192x4, .f32⟩
  | .hbm, ⟨44, _⟩ => ⟨S_, .i32⟩
  | .hbm, ⟨45, _⟩ => ⟨S_, .f32⟩
  | .hbm, ⟨46, _⟩ => ⟨S8192x128, .f32⟩
  | .hbm, ⟨47, _⟩ => ⟨S8192x256, .bf16⟩
  | .hbm, ⟨48, _⟩ => ⟨S8192x256, .f32⟩
  | .hbm, ⟨49, _⟩ => ⟨S8192x256, .f32⟩
  | .local _ .vmem, ⟨0, _⟩ => ⟨S128x256, .f32⟩
  | .local _ .vmem, ⟨1, _⟩ => ⟨S128x256, .f32⟩
  | .local _ .vmem, ⟨2, _⟩ => ⟨S8192x512, .bf16⟩
  | .local _ .vmem, ⟨3, _⟩ => ⟨S128x256, .f32⟩
  | .local _ .vmem, ⟨4, _⟩ => ⟨S128x256, .f32⟩
  | .local _ .vmem, ⟨5, _⟩ => ⟨S128x128, .f32⟩
  | .local _ .vmem, ⟨6, _⟩ => ⟨S128x128, .f32⟩
  | .local _ .vmem, ⟨7, _⟩ => ⟨S128x256, .bf16⟩
  | .local _ .vmem, ⟨8, _⟩ => ⟨S128x256, .bf16⟩
  | .local _ .vmem, ⟨9, _⟩ => ⟨S8192x256, .f32⟩
  | .local _ .vmem, ⟨10, _⟩ => ⟨S8192x256, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_call2_v0 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_v22_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

@[reducible] def k0_t1_loop (i : grid0.Coords) : Scf.Loop 32 :=
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_57 : BitVec 32 := 1#32
  ⟨c0_i32_55, v135, c1_i32_57⟩
def k0_mult1 (i : grid0.Coords) (k0_t1 : Fin (k0_t1_loop i).trips) : BitVec 32 :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let c0_i32_123 : BitVec 32 := 0#32
  let v324 : BitVec 32 := Scalar.addi v323 c0_i32_123
  let c128_i32_135 : BitVec 32 := 128#32
  let v339 : BitVec 32 := Scalar.muli v324 c128_i32_135
  v339
def k0_mult2 (i : grid0.Coords) (k0_t1 : Fin (k0_t1_loop i).trips) : BitVec 32 :=
  let c8_i32_124 : BitVec 32 := 8#32
  let c0_i32_55 : BitVec 32 := 0#32
  let c1_i32_57 : BitVec 32 := 1#32
  let arg10 : BitVec 32 := Scf.iv c0_i32_55 c1_i32_57 k0_t1
  let v325 : BitVec 32 := Scalar.muli c8_i32_124 arg10
  let c1_i32_125 : BitVec 32 := 1#32
  let v326 : BitVec 32 := Scalar.addi v325 c1_i32_125
  let c128_i32_136 : BitVec 32 := 128#32
  let v341 : BitVec 32 := Scalar.muli v326 c128_i32_136
  v341
def k0_mult3 (i : grid0.Coords) (k0_t1 : Fin (k0_t1_loop i).trips) : BitVec 32 :=
  let c8_i32_126 : BitVec 32 := 8#32
  let c0_i32_55 : BitVec 32 := 0#32
  let c1_i32_57 : BitVec 32 := 1#32
  let arg10 : BitVec 32 := Scf.iv c0_i32_55 c1_i32_57 k0_t1
  let v327 : BitVec 32 := Scalar.muli c8_i32_126 arg10
  let c2_i32_127 : BitVec 32 := 2#32
  let v328 : BitVec 32 := Scalar.addi v327 c2_i32_127
  let c128_i32_137 : BitVec 32 := 128#32
  let v343 : BitVec 32 := Scalar.muli v328 c128_i32_137
  v343
def k0_mult4 (i : grid0.Coords) (k0_t1 : Fin (k0_t1_loop i).trips) : BitVec 32 :=
  let c8_i32_128 : BitVec 32 := 8#32
  let c0_i32_55 : BitVec 32 := 0#32
  let c1_i32_57 : BitVec 32 := 1#32
  let arg10 : BitVec 32 := Scf.iv c0_i32_55 c1_i32_57 k0_t1
  let v329 : BitVec 32 := Scalar.muli c8_i32_128 arg10
  let c3_i32_129 : BitVec 32 := 3#32
  let v330 : BitVec 32 := Scalar.addi v329 c3_i32_129
  let c128_i32_138 : BitVec 32 := 128#32
  let v345 : BitVec 32 := Scalar.muli v330 c128_i32_138
  v345
def k0_mult5 (i : grid0.Coords) (k0_t1 : Fin (k0_t1_loop i).trips) : BitVec 32 :=
  let c8_i32_130 : BitVec 32 := 8#32
  let c0_i32_55 : BitVec 32 := 0#32
  let c1_i32_57 : BitVec 32 := 1#32
  let arg10 : BitVec 32 := Scf.iv c0_i32_55 c1_i32_57 k0_t1
  let v331 : BitVec 32 := Scalar.muli c8_i32_130 arg10
  let c4_i32_131 : BitVec 32 := 4#32
  let v332 : BitVec 32 := Scalar.addi v331 c4_i32_131
  let c128_i32_139 : BitVec 32 := 128#32
  let v347 : BitVec 32 := Scalar.muli v332 c128_i32_139
  v347
def k0_mult6 (i : grid0.Coords) (k0_t1 : Fin (k0_t1_loop i).trips) : BitVec 32 :=
  let c8_i32_132 : BitVec 32 := 8#32
  let c0_i32_55 : BitVec 32 := 0#32
  let c1_i32_57 : BitVec 32 := 1#32
  let arg10 : BitVec 32 := Scf.iv c0_i32_55 c1_i32_57 k0_t1
  let v333 : BitVec 32 := Scalar.muli c8_i32_132 arg10
  let c5_i32 : BitVec 32 := 5#32
  let v334 : BitVec 32 := Scalar.addi v333 c5_i32
  let c128_i32_140 : BitVec 32 := 128#32
  let v349 : BitVec 32 := Scalar.muli v334 c128_i32_140
  v349
def k0_mult7 (i : grid0.Coords) (k0_t1 : Fin (k0_t1_loop i).trips) : BitVec 32 :=
  let c8_i32_133 : BitVec 32 := 8#32
  let c0_i32_55 : BitVec 32 := 0#32
  let c1_i32_57 : BitVec 32 := 1#32
  let arg10 : BitVec 32 := Scf.iv c0_i32_55 c1_i32_57 k0_t1
  let v335 : BitVec 32 := Scalar.muli c8_i32_133 arg10
  let c6_i32 : BitVec 32 := 6#32
  let v336 : BitVec 32 := Scalar.addi v335 c6_i32
  let c128_i32_141 : BitVec 32 := 128#32
  let v351 : BitVec 32 := Scalar.muli v336 c128_i32_141
  v351
def k0_mult8 (i : grid0.Coords) (k0_t1 : Fin (k0_t1_loop i).trips) : BitVec 32 :=
  let c8_i32_134 : BitVec 32 := 8#32
  let c0_i32_55 : BitVec 32 := 0#32
  let c1_i32_57 : BitVec 32 := 1#32
  let arg10 : BitVec 32 := Scf.iv c0_i32_55 c1_i32_57 k0_t1
  let v337 : BitVec 32 := Scalar.muli c8_i32_134 arg10
  let c7_i32 : BitVec 32 := 7#32
  let v338 : BitVec 32 := Scalar.addi v337 c7_i32
  let c128_i32_142 : BitVec 32 := 128#32
  let v353 : BitVec 32 := Scalar.muli v338 c128_i32_142
  v353
def k0_off1 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v355 : Index := Scalar.indexCast v340
  let c0_143 : Index := 0#32
  ![v355.toNat, 0]
def k0_off2 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v358 : Index := Scalar.indexCast v340
  let c128_144 : Index := 128#32
  ![v358.toNat, 128]
def k0_off3 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v403 : Index := Scalar.indexCast v340
  let c256_159 : Index := 256#32
  ![v403.toNat, 256]
def k0_off4 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v406 : Index := Scalar.indexCast v340
  let c384_160 : Index := 384#32
  ![v406.toNat, 384]
def k0_off5 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v600 : Index := Scalar.indexCast v340
  let c0_216 : Index := 0#32
  ![v600.toNat, 0]
def k0_off6 (i : grid0.Coords) (k0_t1 : Fin (k0_t1_loop i).trips) (c0_i32_123 : BitVec 32) : Fin 2 → Nat :=
  let c8_i32_122 : BitVec 32 := 8#32
  let c0_i32_55 : BitVec 32 := 0#32
  let c1_i32_57 : BitVec 32 := 1#32
  let arg10 : BitVec 32 := Scf.iv c0_i32_55 c1_i32_57 k0_t1
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v626 : Index := Scalar.indexCast v340
  let c128_223 : Index := 128#32
  ![v626.toNat, 128]
@[reducible] def k0_t2_loop (i : grid0.Coords) : Scf.Loop 32 :=
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let v132 : BitVec 32 := Scalar.addi c0_i32_55 v131
  let c1_i32_58 : BitVec 32 := 1#32
  ⟨v135, v132, c1_i32_58⟩
def k0_mult9 (i : grid0.Coords) (k0_t2 : Fin (k0_t2_loop i).trips) : BitVec 32 :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let c0_i32_123 : BitVec 32 := 0#32
  let v324 : BitVec 32 := Scalar.addi v323 c0_i32_123
  let c128_i32_135 : BitVec 32 := 128#32
  let v339 : BitVec 32 := Scalar.muli v324 c128_i32_135
  v339
def k0_mult10 (i : grid0.Coords) (k0_t2 : Fin (k0_t2_loop i).trips) : BitVec 32 :=
  let c8_i32_124 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v325 : BitVec 32 := Scalar.muli c8_i32_124 arg10
  let c1_i32_125 : BitVec 32 := 1#32
  let v326 : BitVec 32 := Scalar.addi v325 c1_i32_125
  let c128_i32_136 : BitVec 32 := 128#32
  let v341 : BitVec 32 := Scalar.muli v326 c128_i32_136
  v341
def k0_mult11 (i : grid0.Coords) (k0_t2 : Fin (k0_t2_loop i).trips) : BitVec 32 :=
  let c8_i32_126 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v327 : BitVec 32 := Scalar.muli c8_i32_126 arg10
  let c2_i32_127 : BitVec 32 := 2#32
  let v328 : BitVec 32 := Scalar.addi v327 c2_i32_127
  let c128_i32_137 : BitVec 32 := 128#32
  let v343 : BitVec 32 := Scalar.muli v328 c128_i32_137
  v343
def k0_mult12 (i : grid0.Coords) (k0_t2 : Fin (k0_t2_loop i).trips) : BitVec 32 :=
  let c8_i32_128 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v329 : BitVec 32 := Scalar.muli c8_i32_128 arg10
  let c3_i32_129 : BitVec 32 := 3#32
  let v330 : BitVec 32 := Scalar.addi v329 c3_i32_129
  let c128_i32_138 : BitVec 32 := 128#32
  let v345 : BitVec 32 := Scalar.muli v330 c128_i32_138
  v345
def k0_mult13 (i : grid0.Coords) (k0_t2 : Fin (k0_t2_loop i).trips) : BitVec 32 :=
  let c8_i32_130 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v331 : BitVec 32 := Scalar.muli c8_i32_130 arg10
  let c4_i32_131 : BitVec 32 := 4#32
  let v332 : BitVec 32 := Scalar.addi v331 c4_i32_131
  let c128_i32_139 : BitVec 32 := 128#32
  let v347 : BitVec 32 := Scalar.muli v332 c128_i32_139
  v347
def k0_mult14 (i : grid0.Coords) (k0_t2 : Fin (k0_t2_loop i).trips) : BitVec 32 :=
  let c8_i32_132 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v333 : BitVec 32 := Scalar.muli c8_i32_132 arg10
  let c5_i32 : BitVec 32 := 5#32
  let v334 : BitVec 32 := Scalar.addi v333 c5_i32
  let c128_i32_140 : BitVec 32 := 128#32
  let v349 : BitVec 32 := Scalar.muli v334 c128_i32_140
  v349
def k0_mult15 (i : grid0.Coords) (k0_t2 : Fin (k0_t2_loop i).trips) : BitVec 32 :=
  let c8_i32_133 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v335 : BitVec 32 := Scalar.muli c8_i32_133 arg10
  let c6_i32 : BitVec 32 := 6#32
  let v336 : BitVec 32 := Scalar.addi v335 c6_i32
  let c128_i32_141 : BitVec 32 := 128#32
  let v351 : BitVec 32 := Scalar.muli v336 c128_i32_141
  v351
def k0_mult16 (i : grid0.Coords) (k0_t2 : Fin (k0_t2_loop i).trips) : BitVec 32 :=
  let c8_i32_134 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v337 : BitVec 32 := Scalar.muli c8_i32_134 arg10
  let c7_i32 : BitVec 32 := 7#32
  let v338 : BitVec 32 := Scalar.addi v337 c7_i32
  let c128_i32_142 : BitVec 32 := 128#32
  let v353 : BitVec 32 := Scalar.muli v338 c128_i32_142
  v353
def k0_off7 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v355 : Index := Scalar.indexCast v340
  let c0_143 : Index := 0#32
  ![v355.toNat, 0]
def k0_off8 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v358 : Index := Scalar.indexCast v340
  let c128_144 : Index := 128#32
  ![v358.toNat, 128]
def k0_off9 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v403 : Index := Scalar.indexCast v340
  let c256_159 : Index := 256#32
  ![v403.toNat, 256]
def k0_off10 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v406 : Index := Scalar.indexCast v340
  let c384_160 : Index := 384#32
  ![v406.toNat, 384]
def k0_off11 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v600 : Index := Scalar.indexCast v340
  let c0_216 : Index := 0#32
  ![v600.toNat, 0]
def k0_off12 (i : grid0.Coords) (k0_t2 : Fin (k0_t2_loop i).trips) (c0_i32_123 : BitVec 32) : Fin 2 → Nat :=
  let c8_i32_122 : BitVec 32 := 8#32
  let c0_i32_55 : BitVec 32 := 0#32
  let arg0 : BitVec 32 := BitVec.ofNat 32 (i 0).val
  let c0_i32_48 : BitVec 32 := 0#32
  let v114 : BitVec 1 := Scalar.cmpi .sgt arg0 c0_i32_48
  let v115 : BitVec 32 := Scalar.extui v114
  let c0_i32_49 : BitVec 32 := 0#32
  let v116 : BitVec 1 := Scalar.cmpi .slt arg0 c0_i32_49
  let v117 : BitVec 32 := Scalar.extui v116
  let v118 : BitVec 32 := Scalar.subi v115 v117
  let c8_i32 : BitVec 32 := 8#32
  let c0_i32_50 : BitVec 32 := 0#32
  let v119 : BitVec 1 := Scalar.cmpi .sgt c8_i32 c0_i32_50
  let v120 : BitVec 32 := Scalar.extui v119
  let c0_i32_51 : BitVec 32 := 0#32
  let v121 : BitVec 1 := Scalar.cmpi .slt c8_i32 c0_i32_51
  let v122 : BitVec 32 := Scalar.extui v121
  let v123 : BitVec 32 := Scalar.subi v120 v122
  let v124 : BitVec 1 := Scalar.cmpi .ne v118 v123
  let v125 : BitVec 32 := Scalar.remsi arg0 c8_i32
  let c0_i32_52 : BitVec 32 := 0#32
  let v126 : BitVec 1 := Scalar.cmpi .ne v125 c0_i32_52
  let v127 : BitVec 1 := Scalar.andi v124 v126
  let v113 : BitVec 32 := Scalar.divsi arg0 c8_i32
  let c1_i32_53 : BitVec 32 := 1#32
  let v128 : BitVec 32 := Scalar.subi v113 c1_i32_53
  let v129 : BitVec 32 := Scalar.select v127 v128 v113
  let v131 : BitVec 32 := Scalar.subi v129 c0_i32_55
  let c1_i32_56 : BitVec 32 := 1#32
  let v133 : BitVec 32 := Scalar.divsi v131 c1_i32_56
  let v134 : BitVec 32 := Scalar.muli v133 c1_i32_56
  let v135 : BitVec 32 := Scalar.addi c0_i32_55 v134
  let c1_i32_58 : BitVec 32 := 1#32
  let arg10 : BitVec 32 := Scf.iv v135 c1_i32_58 k0_t2
  let v323 : BitVec 32 := Scalar.muli c8_i32_122 arg10
  let v324 : BitVec 32 := Scalar.addi v323 c0_i32_123
  let c128_i32_135 : BitVec 32 := 128#32
  let v339 : BitVec 32 := Scalar.muli v324 c128_i32_135
  let v340 : BitVec 32 := v339
  let v626 : Index := Scalar.indexCast v340
  let c128_223 : Index := 128#32
  ![v626.toNat, 128]
@[reducible] def k0_t3_loop (i : grid0.Coords) : Scf.Loop 32 :=
  let c0_i32_71 : BitVec 32 := 0#32
  let arg0 : BitVec 32 := BitVec.ofNat 32 (i 0).val
  let c8_i32_59 : BitVec 32 := 8#32
  let c0_i32_60 : BitVec 32 := 0#32
  let v138 : BitVec 1 := Scalar.cmpi .eq c8_i32_59 c0_i32_60
  let c1_i32_61 : BitVec 32 := 1#32
  let v139 : BitVec 32 := Scalar.select v138 c1_i32_61 c8_i32_59
  let v140 : BitVec 32 := Scalar.remsi arg0 v139
  let c0_i32_63 : BitVec 32 := 0#32
  let v142 : BitVec 1 := Scalar.cmpi .slt v140 c0_i32_63
  let c0_i32_64 : BitVec 32 := 0#32
  let v143 : BitVec 1 := Scalar.cmpi .slt v139 c0_i32_64
  let v144 : BitVec 1 := Scalar.xori v142 v143
  let c0_i32_62 : BitVec 32 := 0#32
  let v141 : BitVec 1 := Scalar.cmpi .ne v140 c0_i32_62
  let v145 : BitVec 1 := Scalar.andi v144 v141
  let v146 : BitVec 32 := Scalar.addi v140 v139
  let v147 : BitVec 32 := Scalar.select v145 v146 v140
  let c0_i32_65 : BitVec 32 := 0#32
  let v149 : BitVec 1 := Scalar.cmpi .sgt v147 c0_i32_65
  let v150 : BitVec 32 := Scalar.extui v149
  let c0_i32_66 : BitVec 32 := 0#32
  let v151 : BitVec 1 := Scalar.cmpi .slt v147 c0_i32_66
  let v152 : BitVec 32 := Scalar.extui v151
  let v153 : BitVec 32 := Scalar.subi v150 v152
  let c4_i32 : BitVec 32 := 4#32
  let c0_i32_67 : BitVec 32 := 0#32
  let v154 : BitVec 1 := Scalar.cmpi .sgt c4_i32 c0_i32_67
  let v155 : BitVec 32 := Scalar.extui v154
  let c0_i32_68 : BitVec 32 := 0#32
  let v156 : BitVec 1 := Scalar.cmpi .slt c4_i32 c0_i32_68
  let v157 : BitVec 32 := Scalar.extui v156
  let v158 : BitVec 32 := Scalar.subi v155 v157
  let v159 : BitVec 1 := Scalar.cmpi .ne v153 v158
  let v160 : BitVec 32 := Scalar.remsi v147 c4_i32
  let c0_i32_69 : BitVec 32 := 0#32
  let v161 : BitVec 1 := Scalar.cmpi .ne v160 c0_i32_69
  let v162 : BitVec 1 := Scalar.andi v159 v161
  let v148 : BitVec 32 := Scalar.divsi v147 c4_i32
  let c1_i32_70 : BitVec 32 := 1#32
  let v163 : BitVec 32 := Scalar.subi v148 c1_i32_70
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let c1_i32_73 : BitVec 32 := 1#32
  ⟨c0_i32_71, v169, c1_i32_73⟩
def k0_mult17 (i : grid0.Coords) : BitVec 32 :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_128 : BitVec 32 := 0#32
  let v334 : BitVec 32 := Scalar.addi v333 c0_i32_128
  let c128_i32_150 : BitVec 32 := 128#32
  let v371 : BitVec 32 := Scalar.muli v334 c128_i32_150
  v371
def k0_mult18 (i : grid0.Coords) : BitVec 32 :=
  let arg0 : BitVec 32 := BitVec.ofNat 32 (i 0).val
  let c8_i32_129 : BitVec 32 := 8#32
  let c0_i32_130 : BitVec 32 := 0#32
  let v335 : BitVec 1 := Scalar.cmpi .eq c8_i32_129 c0_i32_130
  let c1_i32_131 : BitVec 32 := 1#32
  let v336 : BitVec 32 := Scalar.select v335 c1_i32_131 c8_i32_129
  let v337 : BitVec 32 := Scalar.remsi arg0 v336
  let c0_i32_133 : BitVec 32 := 0#32
  let v339 : BitVec 1 := Scalar.cmpi .slt v337 c0_i32_133
  let c0_i32_134 : BitVec 32 := 0#32
  let v340 : BitVec 1 := Scalar.cmpi .slt v336 c0_i32_134
  let v341 : BitVec 1 := Scalar.xori v339 v340
  let c0_i32_132 : BitVec 32 := 0#32
  let v338 : BitVec 1 := Scalar.cmpi .ne v337 c0_i32_132
  let v342 : BitVec 1 := Scalar.andi v341 v338
  let v343 : BitVec 32 := Scalar.addi v337 v336
  let v344 : BitVec 32 := Scalar.select v342 v343 v337
  let v345 : BitVec 32 := Scalar.subi arg0 v344
  let c1_i32_135 : BitVec 32 := 1#32
  let v346 : BitVec 32 := Scalar.addi v345 c1_i32_135
  let c128_i32_151 : BitVec 32 := 128#32
  let v373 : BitVec 32 := Scalar.muli v346 c128_i32_151
  v373
def k0_mult19 (i : grid0.Coords) : BitVec 32 :=
  let arg0 : BitVec 32 := BitVec.ofNat 32 (i 0).val
  let c8_i32_136 : BitVec 32 := 8#32
  let c0_i32_137 : BitVec 32 := 0#32
  let v347 : BitVec 1 := Scalar.cmpi .eq c8_i32_136 c0_i32_137
  let c1_i32_138 : BitVec 32 := 1#32
  let v348 : BitVec 32 := Scalar.select v347 c1_i32_138 c8_i32_136
  let v349 : BitVec 32 := Scalar.remsi arg0 v348
  let c0_i32_140 : BitVec 32 := 0#32
  let v351 : BitVec 1 := Scalar.cmpi .slt v349 c0_i32_140
  let c0_i32_141 : BitVec 32 := 0#32
  let v352 : BitVec 1 := Scalar.cmpi .slt v348 c0_i32_141
  let v353 : BitVec 1 := Scalar.xori v351 v352
  let c0_i32_139 : BitVec 32 := 0#32
  let v350 : BitVec 1 := Scalar.cmpi .ne v349 c0_i32_139
  let v354 : BitVec 1 := Scalar.andi v353 v350
  let v355 : BitVec 32 := Scalar.addi v349 v348
  let v356 : BitVec 32 := Scalar.select v354 v355 v349
  let v357 : BitVec 32 := Scalar.subi arg0 v356
  let c2_i32_142 : BitVec 32 := 2#32
  let v358 : BitVec 32 := Scalar.addi v357 c2_i32_142
  let c128_i32_152 : BitVec 32 := 128#32
  let v375 : BitVec 32 := Scalar.muli v358 c128_i32_152
  v375
def k0_mult20 (i : grid0.Coords) : BitVec 32 :=
  let arg0 : BitVec 32 := BitVec.ofNat 32 (i 0).val
  let c8_i32_143 : BitVec 32 := 8#32
  let c0_i32_144 : BitVec 32 := 0#32
  let v359 : BitVec 1 := Scalar.cmpi .eq c8_i32_143 c0_i32_144
  let c1_i32_145 : BitVec 32 := 1#32
  let v360 : BitVec 32 := Scalar.select v359 c1_i32_145 c8_i32_143
  let v361 : BitVec 32 := Scalar.remsi arg0 v360
  let c0_i32_147 : BitVec 32 := 0#32
  let v363 : BitVec 1 := Scalar.cmpi .slt v361 c0_i32_147
  let c0_i32_148 : BitVec 32 := 0#32
  let v364 : BitVec 1 := Scalar.cmpi .slt v360 c0_i32_148
  let v365 : BitVec 1 := Scalar.xori v363 v364
  let c0_i32_146 : BitVec 32 := 0#32
  let v362 : BitVec 1 := Scalar.cmpi .ne v361 c0_i32_146
  let v366 : BitVec 1 := Scalar.andi v365 v362
  let v367 : BitVec 32 := Scalar.addi v361 v360
  let v368 : BitVec 32 := Scalar.select v366 v367 v361
  let v369 : BitVec 32 := Scalar.subi arg0 v368
  let c3_i32_149 : BitVec 32 := 3#32
  let v370 : BitVec 32 := Scalar.addi v369 c3_i32_149
  let c128_i32_153 : BitVec 32 := 128#32
  let v377 : BitVec 32 := Scalar.muli v370 c128_i32_153
  v377
def k0_off13 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v379 : Index := Scalar.indexCast v372
  let c0_154 : Index := 0#32
  ![v379.toNat, 0]
def k0_off14 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v382 : Index := Scalar.indexCast v372
  let c128_155 : Index := 128#32
  ![v382.toNat, 128]
def k0_off15 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v403 : Index := Scalar.indexCast v372
  let c256_162 : Index := 256#32
  ![v403.toNat, 256]
def k0_off16 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v406 : Index := Scalar.indexCast v372
  let c384_163 : Index := 384#32
  ![v406.toNat, 384]
def k0_off17 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v528 : Index := Scalar.indexCast v372
  let c0_195 : Index := 0#32
  ![v528.toNat, 0]
def k0_off18 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v554 : Index := Scalar.indexCast v372
  let c128_202 : Index := 128#32
  ![v554.toNat, 128]
@[reducible] def k0_t4_loop (i : grid0.Coords) : Scf.Loop 32 :=
  let c0_i32_71 : BitVec 32 := 0#32
  let arg0 : BitVec 32 := BitVec.ofNat 32 (i 0).val
  let c8_i32_59 : BitVec 32 := 8#32
  let c0_i32_60 : BitVec 32 := 0#32
  let v138 : BitVec 1 := Scalar.cmpi .eq c8_i32_59 c0_i32_60
  let c1_i32_61 : BitVec 32 := 1#32
  let v139 : BitVec 32 := Scalar.select v138 c1_i32_61 c8_i32_59
  let v140 : BitVec 32 := Scalar.remsi arg0 v139
  let c0_i32_63 : BitVec 32 := 0#32
  let v142 : BitVec 1 := Scalar.cmpi .slt v140 c0_i32_63
  let c0_i32_64 : BitVec 32 := 0#32
  let v143 : BitVec 1 := Scalar.cmpi .slt v139 c0_i32_64
  let v144 : BitVec 1 := Scalar.xori v142 v143
  let c0_i32_62 : BitVec 32 := 0#32
  let v141 : BitVec 1 := Scalar.cmpi .ne v140 c0_i32_62
  let v145 : BitVec 1 := Scalar.andi v144 v141
  let v146 : BitVec 32 := Scalar.addi v140 v139
  let v147 : BitVec 32 := Scalar.select v145 v146 v140
  let c0_i32_65 : BitVec 32 := 0#32
  let v149 : BitVec 1 := Scalar.cmpi .sgt v147 c0_i32_65
  let v150 : BitVec 32 := Scalar.extui v149
  let c0_i32_66 : BitVec 32 := 0#32
  let v151 : BitVec 1 := Scalar.cmpi .slt v147 c0_i32_66
  let v152 : BitVec 32 := Scalar.extui v151
  let v153 : BitVec 32 := Scalar.subi v150 v152
  let c4_i32 : BitVec 32 := 4#32
  let c0_i32_67 : BitVec 32 := 0#32
  let v154 : BitVec 1 := Scalar.cmpi .sgt c4_i32 c0_i32_67
  let v155 : BitVec 32 := Scalar.extui v154
  let c0_i32_68 : BitVec 32 := 0#32
  let v156 : BitVec 1 := Scalar.cmpi .slt c4_i32 c0_i32_68
  let v157 : BitVec 32 := Scalar.extui v156
  let v158 : BitVec 32 := Scalar.subi v155 v157
  let v159 : BitVec 1 := Scalar.cmpi .ne v153 v158
  let v160 : BitVec 32 := Scalar.remsi v147 c4_i32
  let c0_i32_69 : BitVec 32 := 0#32
  let v161 : BitVec 1 := Scalar.cmpi .ne v160 c0_i32_69
  let v162 : BitVec 1 := Scalar.andi v159 v161
  let v148 : BitVec 32 := Scalar.divsi v147 c4_i32
  let c1_i32_70 : BitVec 32 := 1#32
  let v163 : BitVec 32 := Scalar.subi v148 c1_i32_70
  let v164 : BitVec 32 := Scalar.select v162 v163 v148
  let v165 : BitVec 32 := Scalar.subi v164 c0_i32_71
  let c1_i32_72 : BitVec 32 := 1#32
  let v167 : BitVec 32 := Scalar.divsi v165 c1_i32_72
  let v168 : BitVec 32 := Scalar.muli v167 c1_i32_72
  let v169 : BitVec 32 := Scalar.addi c0_i32_71 v168
  let v166 : BitVec 32 := Scalar.addi c0_i32_71 v165
  let c1_i32_74 : BitVec 32 := 1#32
  ⟨v169, v166, c1_i32_74⟩
def k0_mult21 (i : grid0.Coords) : BitVec 32 :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_128 : BitVec 32 := 0#32
  let v334 : BitVec 32 := Scalar.addi v333 c0_i32_128
  let c128_i32_150 : BitVec 32 := 128#32
  let v371 : BitVec 32 := Scalar.muli v334 c128_i32_150
  v371
def k0_mult22 (i : grid0.Coords) : BitVec 32 :=
  let arg0 : BitVec 32 := BitVec.ofNat 32 (i 0).val
  let c8_i32_129 : BitVec 32 := 8#32
  let c0_i32_130 : BitVec 32 := 0#32
  let v335 : BitVec 1 := Scalar.cmpi .eq c8_i32_129 c0_i32_130
  let c1_i32_131 : BitVec 32 := 1#32
  let v336 : BitVec 32 := Scalar.select v335 c1_i32_131 c8_i32_129
  let v337 : BitVec 32 := Scalar.remsi arg0 v336
  let c0_i32_133 : BitVec 32 := 0#32
  let v339 : BitVec 1 := Scalar.cmpi .slt v337 c0_i32_133
  let c0_i32_134 : BitVec 32 := 0#32
  let v340 : BitVec 1 := Scalar.cmpi .slt v336 c0_i32_134
  let v341 : BitVec 1 := Scalar.xori v339 v340
  let c0_i32_132 : BitVec 32 := 0#32
  let v338 : BitVec 1 := Scalar.cmpi .ne v337 c0_i32_132
  let v342 : BitVec 1 := Scalar.andi v341 v338
  let v343 : BitVec 32 := Scalar.addi v337 v336
  let v344 : BitVec 32 := Scalar.select v342 v343 v337
  let v345 : BitVec 32 := Scalar.subi arg0 v344
  let c1_i32_135 : BitVec 32 := 1#32
  let v346 : BitVec 32 := Scalar.addi v345 c1_i32_135
  let c128_i32_151 : BitVec 32 := 128#32
  let v373 : BitVec 32 := Scalar.muli v346 c128_i32_151
  v373
def k0_mult23 (i : grid0.Coords) : BitVec 32 :=
  let arg0 : BitVec 32 := BitVec.ofNat 32 (i 0).val
  let c8_i32_136 : BitVec 32 := 8#32
  let c0_i32_137 : BitVec 32 := 0#32
  let v347 : BitVec 1 := Scalar.cmpi .eq c8_i32_136 c0_i32_137
  let c1_i32_138 : BitVec 32 := 1#32
  let v348 : BitVec 32 := Scalar.select v347 c1_i32_138 c8_i32_136
  let v349 : BitVec 32 := Scalar.remsi arg0 v348
  let c0_i32_140 : BitVec 32 := 0#32
  let v351 : BitVec 1 := Scalar.cmpi .slt v349 c0_i32_140
  let c0_i32_141 : BitVec 32 := 0#32
  let v352 : BitVec 1 := Scalar.cmpi .slt v348 c0_i32_141
  let v353 : BitVec 1 := Scalar.xori v351 v352
  let c0_i32_139 : BitVec 32 := 0#32
  let v350 : BitVec 1 := Scalar.cmpi .ne v349 c0_i32_139
  let v354 : BitVec 1 := Scalar.andi v353 v350
  let v355 : BitVec 32 := Scalar.addi v349 v348
  let v356 : BitVec 32 := Scalar.select v354 v355 v349
  let v357 : BitVec 32 := Scalar.subi arg0 v356
  let c2_i32_142 : BitVec 32 := 2#32
  let v358 : BitVec 32 := Scalar.addi v357 c2_i32_142
  let c128_i32_152 : BitVec 32 := 128#32
  let v375 : BitVec 32 := Scalar.muli v358 c128_i32_152
  v375
def k0_mult24 (i : grid0.Coords) : BitVec 32 :=
  let arg0 : BitVec 32 := BitVec.ofNat 32 (i 0).val
  let c8_i32_143 : BitVec 32 := 8#32
  let c0_i32_144 : BitVec 32 := 0#32
  let v359 : BitVec 1 := Scalar.cmpi .eq c8_i32_143 c0_i32_144
  let c1_i32_145 : BitVec 32 := 1#32
  let v360 : BitVec 32 := Scalar.select v359 c1_i32_145 c8_i32_143
  let v361 : BitVec 32 := Scalar.remsi arg0 v360
  let c0_i32_147 : BitVec 32 := 0#32
  let v363 : BitVec 1 := Scalar.cmpi .slt v361 c0_i32_147
  let c0_i32_148 : BitVec 32 := 0#32
  let v364 : BitVec 1 := Scalar.cmpi .slt v360 c0_i32_148
  let v365 : BitVec 1 := Scalar.xori v363 v364
  let c0_i32_146 : BitVec 32 := 0#32
  let v362 : BitVec 1 := Scalar.cmpi .ne v361 c0_i32_146
  let v366 : BitVec 1 := Scalar.andi v365 v362
  let v367 : BitVec 32 := Scalar.addi v361 v360
  let v368 : BitVec 32 := Scalar.select v366 v367 v361
  let v369 : BitVec 32 := Scalar.subi arg0 v368
  let c3_i32_149 : BitVec 32 := 3#32
  let v370 : BitVec 32 := Scalar.addi v369 c3_i32_149
  let c128_i32_153 : BitVec 32 := 128#32
  let v377 : BitVec 32 := Scalar.muli v370 c128_i32_153
  v377
def k0_off19 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v379 : Index := Scalar.indexCast v372
  let c0_154 : Index := 0#32
  ![v379.toNat, 0]
def k0_off20 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v382 : Index := Scalar.indexCast v372
  let c128_155 : Index := 128#32
  ![v382.toNat, 128]
def k0_off21 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v403 : Index := Scalar.indexCast v372
  let c256_162 : Index := 256#32
  ![v403.toNat, 256]
def k0_off22 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v406 : Index := Scalar.indexCast v372
  let c384_163 : Index := 384#32
  ![v406.toNat, 384]
def k0_off23 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v528 : Index := Scalar.indexCast v372
  let c0_195 : Index := 0#32
  ![v528.toNat, 0]
def k0_off24 (i : grid0.Coords) (c0_i32_128 : BitVec 32) : Fin 2 → Nat :=
  let arg0 : BitVec 32 := BitVec.ofNat 32 (i 0).val
  let c8_i32_122 : BitVec 32 := 8#32
  let c0_i32_123 : BitVec 32 := 0#32
  let v323 : BitVec 1 := Scalar.cmpi .eq c8_i32_122 c0_i32_123
  let c1_i32_124 : BitVec 32 := 1#32
  let v324 : BitVec 32 := Scalar.select v323 c1_i32_124 c8_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let v334 : BitVec 32 := Scalar.addi v333 c0_i32_128
  let c128_i32_150 : BitVec 32 := 128#32
  let v371 : BitVec 32 := Scalar.muli v334 c128_i32_150
  let v372 : BitVec 32 := v371
  let v554 : Index := Scalar.indexCast v372
  let c128_202 : Index := 128#32
  ![v554.toNat, 128]
@[reducible] def k0_t5_loop (i : grid0.Coords) : Scf.Loop 32 :=
  let c0_i32_81 : BitVec 32 := 0#32
  let arg0 : BitVec 32 := BitVec.ofNat 32 (i 0).val
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_83 : BitVec 32 := 1#32
  ⟨c0_i32_81, v186, c1_i32_83⟩
def k0_mult25 (i : grid0.Coords) (k0_t5 : Fin (k0_t5_loop i).trips) : BitVec 32 :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  v335
def k0_off25 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v337 : Index := Scalar.indexCast v336
  let c0_129 : Index := 0#32
  ![v337.toNat, 0]
def k0_off26 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v340 : Index := Scalar.indexCast v336
  let c128_130 : Index := 128#32
  ![v340.toNat, 128]
def k0_off27 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v343 : Index := Scalar.indexCast v336
  let c256_131 : Index := 256#32
  ![v343.toNat, 256]
def k0_off28 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v346 : Index := Scalar.indexCast v336
  let c384_132 : Index := 384#32
  ![v346.toNat, 384]
def k0_off29 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v409 : Index := Scalar.indexCast v336
  let c0_146 : Index := 0#32
  ![v409.toNat, 0]
def k0_off30 (i : grid0.Coords) (k0_t5 : Fin (k0_t5_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c1_i32_83 : BitVec 32 := 1#32
  let arg10 : BitVec 32 := Scf.iv c0_i32_81 c1_i32_83 k0_t5
  let v334 : BitVec 32 := Scalar.addi v333 arg10
  let c128_i32_128 : BitVec 32 := 128#32
  let v335 : BitVec 32 := Scalar.muli v334 c128_i32_128
  let v336 : BitVec 32 := v335
  let v435 : Index := Scalar.indexCast v336
  let c128_153 : Index := 128#32
  ![v435.toNat, 128]
@[reducible] def k0_t6_loop (i : grid0.Coords) : Scf.Loop 32 :=
  let c0_i32_81 : BitVec 32 := 0#32
  let arg0 : BitVec 32 := BitVec.ofNat 32 (i 0).val
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let v183 : BitVec 32 := Scalar.addi c0_i32_81 v182
  let c1_i32_84 : BitVec 32 := 1#32
  ⟨v186, v183, c1_i32_84⟩
def k0_mult26 (i : grid0.Coords) (k0_t6 : Fin (k0_t6_loop i).trips) : BitVec 32 :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  v335
def k0_off31 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v337 : Index := Scalar.indexCast v336
  let c0_129 : Index := 0#32
  ![v337.toNat, 0]
def k0_off32 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v340 : Index := Scalar.indexCast v336
  let c128_130 : Index := 128#32
  ![v340.toNat, 128]
def k0_off33 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v343 : Index := Scalar.indexCast v336
  let c256_131 : Index := 256#32
  ![v343.toNat, 256]
def k0_off34 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v346 : Index := Scalar.indexCast v336
  let c384_132 : Index := 384#32
  ![v346.toNat, 384]
def k0_off35 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v409 : Index := Scalar.indexCast v336
  let c0_146 : Index := 0#32
  ![v409.toNat, 0]
def k0_off36 (i : grid0.Coords) (k0_t6 : Fin (k0_t6_loop i).trips) : Fin 2 → Nat :=
  let arg0 : BitVec 32 := BitVec.ofNat 32 (i 0).val
  let c4_i32_122 : BitVec 32 := 4#32
  let c0_i32_123 : BitVec 32 := 0#32
  let v323 : BitVec 1 := Scalar.cmpi .eq c4_i32_122 c0_i32_123
  let c1_i32_124 : BitVec 32 := 1#32
  let v324 : BitVec 32 := Scalar.select v323 c1_i32_124 c4_i32_122
  let v325 : BitVec 32 := Scalar.remsi arg0 v324
  let c0_i32_126 : BitVec 32 := 0#32
  let v327 : BitVec 1 := Scalar.cmpi .slt v325 c0_i32_126
  let c0_i32_127 : BitVec 32 := 0#32
  let v328 : BitVec 1 := Scalar.cmpi .slt v324 c0_i32_127
  let v329 : BitVec 1 := Scalar.xori v327 v328
  let c0_i32_125 : BitVec 32 := 0#32
  let v326 : BitVec 1 := Scalar.cmpi .ne v325 c0_i32_125
  let v330 : BitVec 1 := Scalar.andi v329 v326
  let v331 : BitVec 32 := Scalar.addi v325 v324
  let v332 : BitVec 32 := Scalar.select v330 v331 v325
  let v333 : BitVec 32 := Scalar.subi arg0 v332
  let c0_i32_81 : BitVec 32 := 0#32
  let c4_i32_75 : BitVec 32 := 4#32
  let c0_i32_76 : BitVec 32 := 0#32
  let v172 : BitVec 1 := Scalar.cmpi .eq c4_i32_75 c0_i32_76
  let c1_i32_77 : BitVec 32 := 1#32
  let v173 : BitVec 32 := Scalar.select v172 c1_i32_77 c4_i32_75
  let v174 : BitVec 32 := Scalar.remsi arg0 v173
  let c0_i32_79 : BitVec 32 := 0#32
  let v176 : BitVec 1 := Scalar.cmpi .slt v174 c0_i32_79
  let c0_i32_80 : BitVec 32 := 0#32
  let v177 : BitVec 1 := Scalar.cmpi .slt v173 c0_i32_80
  let v178 : BitVec 1 := Scalar.xori v176 v177
  let c0_i32_78 : BitVec 32 := 0#32
  let v175 : BitVec 1 := Scalar.cmpi .ne v174 c0_i32_78
  let v179 : BitVec 1 := Scalar.andi v178 v175
  let v180 : BitVec 32 := Scalar.addi v174 v173
  let v181 : BitVec 32 := Scalar.select v179 v180 v174
  let v182 : BitVec 32 := Scalar.subi v181 c0_i32_81
  let c1_i32_82 : BitVec 32 := 1#32
  let v184 : BitVec 32 := Scalar.divsi v182 c1_i32_82
  let v185 : BitVec 32 := Scalar.muli v184 c1_i32_82
  let v186 : BitVec 32 := Scalar.addi c0_i32_81 v185
  let c1_i32_84 : BitVec 32 := 1#32
  let arg10 : BitVec 32 := Scf.iv v186 c1_i32_84 k0_t6
  let v334 : BitVec 32 := Scalar.addi v333 arg10
  let c128_i32_128 : BitVec 32 := 128#32
  let v335 : BitVec 32 := Scalar.muli v334 c128_i32_128
  let v336 : BitVec 32 := v335
  let v435 : Index := Scalar.indexCast v336
  let c128_153 : Index := 128#32
  ![v435.toNat, 128]
def k0_mult27 (i : grid0.Coords) : BitVec 32 :=
  let arg0 : BitVec 32 := BitVec.ofNat 32 (i 0).val
  let c128_i32 : BitVec 32 := 128#32
  let v189 : BitVec 32 := Scalar.muli arg0 c128_i32
  v189
def k0_off37 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v191 : Index := Scalar.indexCast v190
  let c0_85 : Index := 0#32
  ![v191.toNat, 0]
def k0_off38 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v194 : Index := Scalar.indexCast v190
  let c128_86 : Index := 128#32
  ![v194.toNat, 128]
def k0_off39 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v197 : Index := Scalar.indexCast v190
  let c256 : Index := 256#32
  ![v197.toNat, 256]
def k0_off40 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v200 : Index := Scalar.indexCast v190
  let c384 : Index := 384#32
  ![v200.toNat, 384]
def k0_off41 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v266 : Index := Scalar.indexCast v190
  let c0_102 : Index := 0#32
  ![v266.toNat, 0]
def k0_off42 (i : grid0.Coords) : Fin 2 → Nat :=
  let arg0 : BitVec 32 := BitVec.ofNat 32 (i 0).val
  let c128_i32 : BitVec 32 := 128#32
  let v189 : BitVec 32 := Scalar.muli arg0 c128_i32
  let v190 : BitVec 32 := v189
  let v292 : Index := Scalar.indexCast v190
  let c128_109 : Index := 128#32
  ![v292.toNat, 128]
def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x3840 : Shape := ⟨2, ![8192, 3840]⟩
abbrev S8192x1024 : Shape := ⟨2, ![8192, 1024]⟩
abbrev S8192x256 : Shape := ⟨2, ![8192, 256]⟩
abbrev S1x8192x4x64 : Shape := ⟨4, ![1, 8192, 4, 64]⟩
abbrev S1x4x8192x8192 : Shape := ⟨4, ![1, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x4x64x8192 : Shape := ⟨4, ![1, 4, 64, 8192]⟩
abbrev S1x4x8192x64 : Shape := ⟨4, ![1, 4, 8192, 64]⟩

abbrev nBuf : Space → Nat
  | .hbm => 176
  | .vmem => 0
  | .smem => 0
  | _ => 0

abbrev hbmTy0_0 (i : Nat) : BufTy := match i % 128 with
  | 0 => ⟨S8192x3840, .f32⟩
  | 1 => ⟨S8192x1024, .f32⟩
  | 2 => ⟨S8192x256, .f32⟩
  | 3 => ⟨S8192x256, .f32⟩
  | 4 => ⟨S8192x256, .f32⟩
  | 5 => ⟨S1x8192x4x64, .f32⟩
  | 6 => ⟨S1x8192x4x64, .f32⟩
  | 7 => ⟨S1x8192x4x64, .f32⟩
  | 8 => ⟨S1x4x8192x8192, .f32⟩
  | 9 => ⟨S_, .f32⟩
  | 10 => ⟨S1x4x8192x8192, .f32⟩
  | 11 => ⟨S1x4x8192x8192, .f32⟩
  | 12 => ⟨S8192, .i32⟩
  | 13 => ⟨S1x8192, .i32⟩
  | 14 => ⟨S8192, .i32⟩
  | 15 => ⟨S8192x1, .i32⟩
  | 16 => ⟨S8192x8192, .i32⟩
  | 17 => ⟨S8192x8192, .i32⟩
  | 18 => ⟨S8192x8192, .i1⟩
  | 19 => ⟨S1x4x8192x8192, .f32⟩
  | 20 => ⟨S_, .f32⟩
  | 21 => ⟨S1x4x8192x8192, .f32⟩
  | 22 => ⟨S1x4x8192x8192, .f32⟩
  | 23 => ⟨S1x4x8192x8192, .f32⟩
  | 24 => ⟨S1x4x8192x8192, .f32⟩
  | 25 => ⟨S1x4x8192x8192, .i1⟩
  | 26 => ⟨S1x4x8192x8192, .f32⟩
  | 27 => ⟨S1x4x8192x8192, .f32⟩
  | 28 => ⟨S1x4x8192x8192, .f32⟩
  | 29 => ⟨S1x4x8192x8192, .f32⟩
  | 30 => ⟨S1x4x8192x8192, .f32⟩
  | 31 => ⟨S1x4x8192x8192, .f32⟩
  | 32 => ⟨S1x4x8192x8192, .f32⟩
  | 33 => ⟨S1x4x8192x8192, .f32⟩
  | 34 => ⟨S_, .f32⟩
  | 35 => ⟨S1x4x8192x8192, .f32⟩
  | 36 => ⟨S1x4x8192x8192, .i1⟩
  | 37 => ⟨S_, .f32⟩
  | 38 => ⟨S1x4x8192x8192, .f32⟩
  | 39 => ⟨S1x4x8192x8192, .f32⟩
  | 40 => ⟨S_, .f32⟩
  | 41 => ⟨S1x4x8192x8192, .f32⟩
  | 42 => ⟨S1x4x8192x8192, .i1⟩
  | 43 => ⟨S_, .f32⟩
  | 44 => ⟨S1x4x8192x8192, .f32⟩
  | 45 => ⟨S1x4x8192x8192, .f32⟩
  | 46 => ⟨S1x4x8192x8192, .f32⟩
  | 47 => ⟨S1x4x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S1x4x8192x8192, .f32⟩
  | 56 => ⟨S1x4x8192x8192, .i1⟩
  | 57 => ⟨S_, .f32⟩
  | 58 => ⟨S1x4x8192x8192, .f32⟩
  | 59 => ⟨S1x4x8192x8192, .f32⟩
  | 60 => ⟨S1x4x8192x8192, .f32⟩
  | 61 => ⟨S1x4x8192x8192, .f32⟩
  | 62 => ⟨S1x4x8192x8192, .f32⟩
  | 63 => ⟨S_, .f32⟩
  | 64 => ⟨S1x4x8192x8192, .f32⟩
  | 65 => ⟨S1x4x8192x8192, .f32⟩
  | 66 => ⟨S1x4x8192x8192, .f32⟩
  | 67 => ⟨S1x4x8192x8192, .f32⟩
  | 68 => ⟨S1x4x8192x8192, .f32⟩
  | 69 => ⟨S_, .f32⟩
  | 70 => ⟨S1x4x8192x8192, .f32⟩
  | 71 => ⟨S1x4x8192x8192, .f32⟩
  | 72 => ⟨S1x4x8192x8192, .f32⟩
  | 73 => ⟨S1x4x8192x8192, .f32⟩
  | 74 => ⟨S1x4x8192x8192, .i1⟩
  | 75 => ⟨S1x4x8192x8192, .f32⟩
  | 76 => ⟨S1x4x8192x8192, .f32⟩
  | 77 => ⟨S1x4x8192x8192, .f32⟩
  | 78 => ⟨S1x4x8192x8192, .f32⟩
  | 79 => ⟨S1x4x8192x8192, .f32⟩
  | 80 => ⟨S1x4x8192x8192, .f32⟩
  | 81 => ⟨S1x4x8192x8192, .f32⟩
  | 82 => ⟨S1x4x8192x8192, .f32⟩
  | 83 => ⟨S_, .f32⟩
  | 84 => ⟨S1x4x8192x8192, .f32⟩
  | 85 => ⟨S1x4x8192x8192, .i1⟩
  | 86 => ⟨S_, .f32⟩
  | 87 => ⟨S1x4x8192x8192, .f32⟩
  | 88 => ⟨S1x4x8192x8192, .f32⟩
  | 89 => ⟨S_, .f32⟩
  | 90 => ⟨S1x4x8192x8192, .f32⟩
  | 91 => ⟨S1x4x8192x8192, .i1⟩
  | 92 => ⟨S_, .f32⟩
  | 93 => ⟨S1x4x8192x8192, .f32⟩
  | 94 => ⟨S1x4x8192x8192, .f32⟩
  | 95 => ⟨S1x4x8192x8192, .f32⟩
  | 96 => ⟨S1x4x8192x8192, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S1x4x8192x8192, .f32⟩
  | 105 => ⟨S1x4x8192x8192, .i1⟩
  | 106 => ⟨S_, .f32⟩
  | 107 => ⟨S1x4x8192x8192, .f32⟩
  | 108 => ⟨S1x4x8192x8192, .f32⟩
  | 109 => ⟨S1x4x8192x8192, .f32⟩
  | 110 => ⟨S1x4x8192x8192, .f32⟩
  | 111 => ⟨S1x4x8192x8192, .f32⟩
  | 112 => ⟨S_, .f32⟩
  | 113 => ⟨S1x4x8192x8192, .f32⟩
  | 114 => ⟨S1x4x8192x8192, .f32⟩
  | 115 => ⟨S1x4x8192x8192, .f32⟩
  | 116 => ⟨S_, .f32⟩
  | 117 => ⟨S_, .f32⟩
  | 118 => ⟨S1x4x8192x8192, .i1⟩
  | 119 => ⟨S1x4x8192x8192, .f32⟩
  | 120 => ⟨S1x4x8192x8192, .f32⟩
  | 121 => ⟨S_, .f32⟩
  | 122 => ⟨S1x4x8192x8192, .f32⟩
  | 123 => ⟨S_, .f32⟩
  | 124 => ⟨S_, .f32⟩
  | 125 => ⟨S1x4x8192x8192, .f32⟩
  | 126 => ⟨S1x4x8192x8192, .f32⟩
  | 127 => ⟨S1x4x8192x8192, .f32⟩
  | _ => ⟨S8192x3840, .f32⟩

abbrev hbmTy0_1 (i : Nat) : BufTy := match i % 128 with
  | 0 => ⟨S1x4x8192x8192, .f32⟩
  | 1 => ⟨S_, .f32⟩
  | 2 => ⟨S_, .f32⟩
  | 3 => ⟨S1x4x8192x8192, .i1⟩
  | 4 => ⟨S1x4x8192x8192, .f32⟩
  | 5 => ⟨S1x4x8192x8192, .f32⟩
  | 6 => ⟨S_, .f32⟩
  | 7 => ⟨S1x4x8192x8192, .f32⟩
  | 8 => ⟨S1x4x64x8192, .f32⟩
  | 9 => ⟨S1x8192x4x64, .f32⟩
  | 10 => ⟨S8192x256, .f32⟩
  | 11 => ⟨S8192x256, .f32⟩
  | 12 => ⟨S1x8192x4x64, .f32⟩
  | 13 => ⟨S1x4x64x8192, .f32⟩
  | 14 => ⟨S1x4x8192x8192, .f32⟩
  | 15 => ⟨S1x4x64x8192, .f32⟩
  | 16 => ⟨S1x8192x4x64, .f32⟩
  | 17 => ⟨S_, .f32⟩
  | 18 => ⟨S1x4x8192x8192, .f32⟩
  | 19 => ⟨S1x4x8192x8192, .f32⟩
  | 20 => ⟨S1x4x8192x8192, .f32⟩
  | 21 => ⟨S1x4x8192x8192, .f32⟩
  | 22 => ⟨S_, .f32⟩
  | 23 => ⟨S_, .f32⟩
  | 24 => ⟨S1x4x8192x8192, .f32⟩
  | 25 => ⟨S1x4x8192x8192, .f32⟩
  | 26 => ⟨S_, .f32⟩
  | 27 => ⟨S1x4x8192x8192, .f32⟩
  | 28 => ⟨S1x4x8192x8192, .f32⟩
  | 29 => ⟨S1x4x8192x8192, .f32⟩
  | 30 => ⟨S1x4x8192x8192, .f32⟩
  | 31 => ⟨S1x4x8192x8192, .f32⟩
  | 32 => ⟨S1x4x8192x8192, .f32⟩
  | 33 => ⟨S1x4x8192x8192, .f32⟩
  | 34 => ⟨S1x4x8192x8192, .f32⟩
  | 35 => ⟨S1x4x8192x8192, .f32⟩
  | 36 => ⟨S1x4x8192x8192, .f32⟩
  | 37 => ⟨S_, .f32⟩
  | 38 => ⟨S1x4x8192x8192, .f32⟩
  | 39 => ⟨S1x4x8192x8192, .f32⟩
  | 40 => ⟨S1x4x8192x64, .f32⟩
  | 41 => ⟨S1x8192x4x64, .f32⟩
  | 42 => ⟨S1x4x8192x64, .f32⟩
  | 43 => ⟨S1x8192x4x64, .f32⟩
  | 44 => ⟨S8192x256, .f32⟩
  | 45 => ⟨S8192x256, .f32⟩
  | 46 => ⟨S8192x256, .f32⟩
  | 47 => ⟨S8192x256, .bf16⟩
  | _ => ⟨S8192x3840, .f32⟩

abbrev hbmTy (i : Nat) : BufTy := match i / 128 with
  | 0 => hbmTy0_0 i
  | 1 => hbmTy0_1 i
  | _ => ⟨S8192x3840, .f32⟩

abbrev bufTy : (tb : Table) → Fin (tcTables nBuf tb) → BufTy
  | .hbm, ⟨i, _⟩ => hbmTy i
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_call6_cst : Ref sig .tc := ⟨.hbm, 150, rfl⟩
abbrev main_call6_v0 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_call8_v0 : Ref sig .tc := ⟨.hbm, 157, rfl⟩
abbrev main_call8_v1 : Ref sig .tc := ⟨.hbm, 158, rfl⟩
abbrev main_v40 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== Ddown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DdownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dup.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DupRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh2.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dout.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dycat.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycatRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Din.lean ====
abbrev S8192x1024 : Shape := ⟨2, ![8192, 1024]⟩
abbrev S8192x3840 : Shape := ⟨2, ![8192, 3840]⟩
abbrev S1024x3840 : Shape := ⟨2, ![1024, 3840]⟩
abbrev S1024x1024 : Shape := ⟨2, ![1024, 1024]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S1024x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .f32⟩
  | .local _ .vmem, ⟨5, _⟩ => ⟨S1024x1920, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DinRefIdeal.lean ====
abbrev S8192x1024 : Shape := ⟨2, ![8192, 1024]⟩
abbrev S8192x3840 : Shape := ⟨2, ![8192, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S_, .f32⟩
  | .hbm, ⟨3, _⟩ => ⟨S1024x3840, .f32⟩
  | .hbm, ⟨4, _⟩ => ⟨S8192x1024, .f32⟩
  | .hbm, ⟨5, _⟩ => ⟨S8192x3840, .f32⟩
  | .hbm, ⟨6, _⟩ => ⟨S8192x3840, .f32⟩
  | .hbm, ⟨7, _⟩ => ⟨S3840x1024, .f32⟩
  | .hbm, ⟨8, _⟩ => ⟨S1024x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh.lean ====
abbrev S8192x3840 : Shape := ⟨2, ![8192, 3840]⟩
abbrev S1024x3840 : Shape := ⟨2, ![1024, 3840]⟩
abbrev S8192x1024 : Shape := ⟨2, ![8192, 1024]⟩
abbrev S512x3840 : Shape := ⟨2, ![512, 3840]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S8192x1024, .f32⟩
  | .local _ .vmem, ⟨0, _⟩ => ⟨S1024x3840, .bf16⟩
  | .local _ .vmem, ⟨1, _⟩ => ⟨S1024x3840, .bf16⟩
  | .local _ .vmem, ⟨2, _⟩ => ⟨S512x3840, .bf16⟩
  | .local _ .vmem, ⟨3, _⟩ => ⟨S512x3840, .bf16⟩
  | .local _ .vmem, ⟨4, _⟩ => ⟨S1024x512, .f32⟩
  | .local _ .vmem, ⟨5, _⟩ => ⟨S1024x512, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x3840 : Shape := ⟨2, ![8192, 3840]⟩
abbrev S1024x3840 : Shape := ⟨2, ![1024, 3840]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S1024x3840, .bf16⟩
  | .hbm, ⟨2, _⟩ => ⟨S_, .f32⟩
  | .hbm, ⟨3, _⟩ => ⟨S8192x1024, .f32⟩
  | .hbm, ⟨4, _⟩ => ⟨S1024x3840, .f32⟩
  | .hbm, ⟨5, _⟩ => ⟨S8192x3840, .f32⟩
  | .hbm, ⟨6, _⟩ => ⟨S8192x3840, .f32⟩
  | .hbm, ⟨7, _⟩ => ⟨S8192x1024, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8192x1024 : Shape := ⟨2, ![8192, 1024]⟩
abbrev S1024x3840 : Shape := ⟨2, ![1024, 3840]⟩
abbrev S8192x3840 : Shape := ⟨2, ![8192, 3840]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .bf16⟩
  | .hbm, ⟨2, _⟩ => ⟨S8192x3840, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x3840 : Shape := ⟨2, ![1024, 3840]⟩
abbrev S8192x3840 : Shape := ⟨2, ![8192, 3840]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .bf16⟩
  | .hbm, ⟨2, _⟩ => ⟨S8192x1024, .f32⟩
  | .hbm, ⟨3, _⟩ => ⟨S1024x3840, .f32⟩
  | .hbm, ⟨4, _⟩ => ⟨S8192x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dnorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AdamIn.lean ====
abbrev S4x2x1024x449 : Shape := ⟨4, ![4, 2, 1024, 449]⟩
abbrev S2x1024x449 : Shape := ⟨3, ![2, 1024, 449]⟩
abbrev S4x1x512x449 : Shape := ⟨4, ![4, 1, 512, 449]⟩
abbrev S1x512x449 : Shape := ⟨3, ![1, 512, 449]⟩
abbrev S1x1x512x449 : Shape := ⟨4, ![1, 1, 512, 449]⟩
abbrev S512x449 : Shape := ⟨2, ![512, 449]⟩

abbrev nBuf : Space → Nat
  | .hbm => 8
  | .vmem => 16
  | .smem => 0
  | _ => 0

abbrev bufTy : (tb : Table) → Fin (tcTables nBuf tb) → BufTy
  | .hbm, ⟨0, _⟩ => ⟨S4x2x1024x449, .bf16⟩
  | .hbm, ⟨1, _⟩ => ⟨S2x1024x449, .f32⟩
  | .hbm, ⟨2, _⟩ => ⟨S2x1024x449, .f32⟩
  | .hbm, ⟨3, _⟩ => ⟨S2x1024x449, .f32⟩
  | .hbm, ⟨4, _⟩ => ⟨S2x1024x449, .f32⟩
  | .hbm, ⟨5, _⟩ => ⟨S2x1024x449, .f32⟩
  | .hbm, ⟨6, _⟩ => ⟨S2x1024x449, .f32⟩
  | .hbm, ⟨7, _⟩ => ⟨S2x1024x449, .f32⟩
  | .local _ .vmem, ⟨0, _⟩ => ⟨S4x1x512x449, .bf16⟩
  | .local _ .vmem, ⟨1, _⟩ => ⟨S4x1x512x449, .bf16⟩
  | .local _ .vmem, ⟨2, _⟩ => ⟨S1x512x449, .f32⟩
  | .local _ .vmem, ⟨3, _⟩ => ⟨S1x512x449, .f32⟩
  | .local _ .vmem, ⟨4, _⟩ => ⟨S1x512x449, .f32⟩
  | .local _ .vmem, ⟨5, _⟩ => ⟨S1x512x449, .f32⟩
  | .local _ .vmem, ⟨6, _⟩ => ⟨S1x512x449, .f32⟩
  | .local _ .vmem, ⟨7, _⟩ => ⟨S1x512x449, .f32⟩
  | .local _ .vmem, ⟨8, _⟩ => ⟨S1x512x449, .f32⟩
  | .local _ .vmem, ⟨9, _⟩ => ⟨S1x512x449, .f32⟩
  | .local _ .vmem, ⟨10, _⟩ => ⟨S1x512x449, .f32⟩
  | .local _ .vmem, ⟨11, _⟩ => ⟨S1x512x449, .f32⟩
  | .local _ .vmem, ⟨12, _⟩ => ⟨S1x512x449, .f32⟩
  | .local _ .vmem, ⟨13, _⟩ => ⟨S1x512x449, .f32⟩
  | .local _ .vmem, ⟨14, _⟩ => ⟨S1x512x449, .f32⟩
  | .local _ .vmem, ⟨15, _⟩ => ⟨S1x512x449, .f32⟩
  | _, _ => ⟨S4x2x1024x449, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x449 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S4x2x1024x449 : Shape := ⟨4, ![4, 2, 1024, 449]⟩
abbrev S2x1024x449 : Shape := ⟨3, ![2, 1024, 449]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1024x449, .bf16⟩
  | .hbm, ⟨1, _⟩ => ⟨S2x1024x449, .f32⟩
  | .hbm, ⟨2, _⟩ => ⟨S2x1024x449, .f32⟩
  | .hbm, ⟨3, _⟩ => ⟨S2x1024x449, .f32⟩
  | .hbm, ⟨4, _⟩ => ⟨S4x2x1024x449, .f32⟩
  | .hbm, ⟨5, _⟩ => ⟨S_, .f32⟩
  | .hbm, ⟨6, _⟩ => ⟨S2x1024x449, .f32⟩
  | .hbm, ⟨7, _⟩ => ⟨S_, .f32⟩
  | .hbm, ⟨8, _⟩ => ⟨S2x1024x449, .f32⟩
  | .hbm, ⟨9, _⟩ => ⟨S2x1024x449, .f32⟩
  | .hbm, ⟨10, _⟩ => ⟨S_, .f32⟩
  | .hbm, ⟨11, _⟩ => ⟨S2x1024x449, .f32⟩
  | .hbm, ⟨12, _⟩ => ⟨S2x1024x449, .f32⟩
  | .hbm, ⟨13, _⟩ => ⟨S2x1024x449, .f32⟩
  | .hbm, ⟨14, _⟩ => ⟨S_, .f32⟩
  | .hbm, ⟨15, _⟩ => ⟨S2x1024x449, .f32⟩
  | .hbm, ⟨16, _⟩ => ⟨S2x1024x449, .f32⟩
  | .hbm, ⟨17, _⟩ => ⟨S2x1024x449, .f32⟩
  | .hbm, ⟨18, _⟩ => ⟨S_, .f32⟩
  | .hbm, ⟨19, _⟩ => ⟨S2x1024x449, .f32⟩
  | .hbm, ⟨20, _⟩ => ⟨S2x1024x449, .f32⟩
  | .hbm, ⟨21, _⟩ => ⟨S2x1024x449, .f32⟩
  | .hbm, ⟨22, _⟩ => ⟨S_, .f32⟩
  | .hbm, ⟨23, _⟩ => ⟨S2x1024x449, .f32⟩
  | .hbm, ⟨24, _⟩ => ⟨S2x1024x449, .f32⟩
  | .hbm, ⟨25, _⟩ => ⟨S_, .f32⟩
  | .hbm, ⟨26, _⟩ => ⟨S2x1024x449, .f32⟩
  | .hbm, ⟨27, _⟩ => ⟨S2x1024x449, .f32⟩
  | .hbm, ⟨28, _⟩ => ⟨S2x1024x449, .f32⟩
  | .hbm, ⟨29, _⟩ => ⟨S_, .f32⟩
  | .hbm, ⟨30, _⟩ => ⟨S2x1024x449, .f32⟩
  | .hbm, ⟨31, _⟩ => ⟨S2x1024x449, .f32⟩
  | .hbm, ⟨32, _⟩ => ⟨S2x1024x449, .f32⟩
  | .hbm, ⟨33, _⟩ => ⟨S_, .f32⟩
  | .hbm, ⟨34, _⟩ => ⟨S2x1024x449, .f32⟩
  | .hbm, ⟨35, _⟩ => ⟨S2x1024x449, .f32⟩
  | .hbm, ⟨36, _⟩ => ⟨S2x1024x449, .f32⟩
  | .hbm, ⟨37, _⟩ => ⟨S_, .f32⟩
  | .hbm, ⟨38, _⟩ => ⟨S2x1024x449, .f32⟩
  | .hbm, ⟨39, _⟩ => ⟨S2x1024x449, .f32⟩
  | _, _ => ⟨S4x2x1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x2x128x1024 : Shape := ⟨4, ![4, 2, 128, 1024]⟩
abbrev S2x128x1024 : Shape := ⟨3, ![2, 128, 1024]⟩
abbrev S4x1x128x1024 : Shape := ⟨4, ![4, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .local _ .vmem, ⟨0, _⟩ => ⟨S4x1x128x1024, .bf16⟩
  | .local _ .vmem, ⟨1, _⟩ => ⟨S4x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S4x2x128x1024 : Shape := ⟨4, ![4, 2, 128, 1024]⟩
abbrev S2x128x1024 : Shape := ⟨3, ![2, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S4x2x128x1024, .f32⟩
  | .hbm, ⟨5, _⟩ => ⟨S_, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S_, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | _, _ => ⟨S4x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4x2x1024x704 : Shape := ⟨4, ![4, 2, 1024, 704]⟩
abbrev S2x1024x704 : Shape := ⟨3, ![2, 1024, 704]⟩
abbrev S4x1x512x704 : Shape := ⟨4, ![4, 1, 512, 704]⟩
abbrev S1x512x704 : Shape := ⟨3, ![1, 512, 704]⟩
abbrev S1x1x512x704 : Shape := ⟨4, ![1, 1, 512, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x2x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .local _ .vmem, ⟨0, _⟩ => ⟨S4x1x512x704, .bf16⟩
  | .local _ .vmem, ⟨1, _⟩ => ⟨S4x1x512x704, .bf16⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | _, _ => ⟨S4x2x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S4x2x1024x704 : Shape := ⟨4, ![4, 2, 1024, 704]⟩
abbrev S2x1024x704 : Shape := ⟨3, ![2, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S4x2x1024x704, .f32⟩
  | .hbm, ⟨5, _⟩ => ⟨S_, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S_, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | _, _ => ⟨S4x2x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S4x2x352x1024 : Shape := ⟨4, ![4, 2, 352, 1024]⟩
abbrev S2x352x1024 : Shape := ⟨3, ![2, 352, 1024]⟩
abbrev S4x1x352x1024 : Shape := ⟨4, ![4, 1, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .local _ .vmem, ⟨0, _⟩ => ⟨S4x1x352x1024, .bf16⟩
  | .local _ .vmem, ⟨1, _⟩ => ⟨S4x1x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S4x2x352x1024 : Shape := ⟨4, ![4, 2, 352, 1024]⟩
abbrev S2x352x1024 : Shape := ⟨3, ![2, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S4x2x352x1024, .f32⟩
  | .hbm, ⟨5, _⟩ => ⟨S_, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S_, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S2x352x1024, .f32⟩
  | .hbm, ⟨18, _⟩ => ⟨S_, .f32⟩
  | .hbm, ⟨19, _⟩ => ⟨S2x352x1024, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S2x352x1024, .f32⟩
  | .hbm, ⟨37, _⟩ => ⟨S_, .f32⟩
  | .hbm, ⟨38, _⟩ => ⟨S2x352x1024, .f32⟩
  | .hbm, ⟨39, _⟩ => ⟨S2x352x1024, .f32⟩
  | _, _ => ⟨S4x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x416x128 : Shape := ⟨3, ![8, 416, 128]⟩
abbrev S416x128 : Shape := ⟨2, ![416, 128]⟩
abbrev S1x416x128 : Shape := ⟨3, ![1, 416, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x416x128, .f32⟩
  | .hbm, ⟨1, _⟩ => ⟨S416x128, .f32⟩
  | .local _ .vmem, ⟨0, _⟩ => ⟨S8x416x128, .f32⟩
  | .local _ .vmem, ⟨1, _⟩ => ⟨S416x128, .f32⟩
  | _, _ => ⟨S8x416x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x416x128 : Shape := ⟨3, ![8, 416, 128]⟩
abbrev S_ : Shape := ⟨0, ![]⟩
abbrev S416x128 : Shape := ⟨2, ![416, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x416x128, .f32⟩
  | .hbm, ⟨1, _⟩ => ⟨S_, .f32⟩
  | .hbm, ⟨2, _⟩ => ⟨S416x128, .f32⟩
  | _, _ => ⟨S8x416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Attend.lean ====
abbrev S8192x3840 : Shape := ⟨2, ![8192, 3840]⟩
abbrev S8192x512 : Shape := ⟨2, ![8192, 512]⟩
abbrev S8192x256 : Shape := ⟨2, ![8192, 256]⟩
abbrev S8192x128 : Shape := ⟨2, ![8192, 128]⟩
abbrev S128x256 : Shape := ⟨2, ![128, 256]⟩
abbrev S128x128 : Shape := ⟨2, ![128, 128]⟩
abbrev S512x128 : Shape := ⟨2, ![512, 128]⟩
abbrev S512x1 : Shape := ⟨2, ![512, 1]⟩
abbrev S256x128 : Shape := ⟨2, ![256, 128]⟩
abbrev S512 : Shape := ⟨1, ![512]⟩
abbrev S1024x128 : Shape := ⟨2, ![1024, 128]⟩
abbrev S4096x128 : Shape := ⟨2, ![4096, 128]⟩
abbrev S4096 : Shape := ⟨1, ![4096]⟩
abbrev S4096x1 : Shape := ⟨2, ![4096, 1]⟩
abbrev S2048x128 : Shape := ⟨2, ![2048, 128]⟩
abbrev S2048 : Shape := ⟨1, ![2048]⟩
abbrev S2048x1 : Shape := ⟨2, ![2048, 1]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x3840, .f32⟩
  | .hbm, ⟨1, _⟩ => ⟨S8192x512, .f32⟩
  | .hbm, ⟨2, _⟩ => ⟨S8192x512, .bf16⟩
  | .hbm, ⟨3, _⟩ => ⟨S8192x256, .bf16⟩
  | .hbm, ⟨4, _⟩ => ⟨S8192x128, .f32⟩
  | .local _ .vmem, ⟨0, _⟩ => ⟨S128x256, .f32⟩
  | .local _ .vmem, ⟨1, _⟩ => ⟨S128x256, .f32⟩
  | .local _ .vmem, ⟨2, _⟩ => ⟨S8192x512, .bf16⟩
  | .local _ .vmem, ⟨3, _⟩ => ⟨S128x256, .bf16⟩
  | .local _ .vmem, ⟨4, _⟩ => ⟨S128x256, .bf16⟩
  | .local _ .vmem, ⟨5, _⟩ => ⟨S128x128, .f32⟩
  | .local _ .vmem, ⟨6, _⟩ => ⟨S128x128, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v46 : BitVec 32 := Scalar.muli arg0 c128_i32
  v46
def k0_off1 (i : grid0.Coords) : Fin 2 → Nat :=
  let arg0 : BitVec 32 := BitVec.ofNat 32 (i 0).val
  let c128_i32 : BitVec 32 := 128#32
  let v46 : BitVec 32 := Scalar.muli arg0 c128_i32
  let v47 : BitVec 32 := v46
  let v48 : Index := Scalar.indexCast v47
  let c0_18 : Index := 0#32
  ![v48.toNat, 0]
def k0_off2 (i : grid0.Coords) : Fin 2 → Nat :=
  let arg0 : BitVec 32 := BitVec.ofNat 32 (i 0).val
  let c128_i32 : BitVec 32 := 128#32
  let v46 : BitVec 32 := Scalar.muli arg0 c128_i32
  let v47 : BitVec 32 := v46
  let v51 : Index := Scalar.indexCast v47
  let c128_19 : Index := 128#32
  ![v51.toNat, 128]
def k0_off3 (i : grid0.Coords) : Fin 2 → Nat :=
  let arg0 : BitVec 32 := BitVec.ofNat 32 (i 0).val
  let c128_i32 : BitVec 32 := 128#32
  let v46 : BitVec 32 := Scalar.muli arg0 c128_i32
  let v47 : BitVec 32 := v46
  let v54 : Index := Scalar.indexCast v47
  let c256 : Index := 256#32
  ![v54.toNat, 256]
def k0_off4 (i : grid0.Coords) : Fin 2 → Nat :=
  let arg0 : BitVec 32 := BitVec.ofNat 32 (i 0).val
  let c128_i32 : BitVec 32 := 128#32
  let v46 : BitVec 32 := Scalar.muli arg0 c128_i32
  let v47 : BitVec 32 := v46
  let v57 : Index := Scalar.indexCast v47
  let c384 : Index := 384#32
  ![v57.toNat, 384]
@[reducible] def k0_t1_loop (i : grid0.Coords) : Scf.Loop 32 :=
  let c0_i32_35 : BitVec 32 := 0#32
  let arg0 : BitVec 32 := BitVec.ofNat 32 (i 0).val
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_37 : BitVec 32 := 1#32
  ⟨c0_i32_35, v131, c1_i32_37⟩
def k0_mult2 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c0_i32_76 : BitVec 32 := 0#32
  let v219 : BitVec 32 := Scalar.subi v218 c0_i32_76
  let c128_i32_81 : BitVec 32 := 128#32
  let v227 : BitVec 32 := Scalar.muli v219 c128_i32_81
  v227
def k0_mult3 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c1_i32_77 : BitVec 32 := 1#32
  let v220 : BitVec 32 := Scalar.subi v218 c1_i32_77
  let c128_i32_82 : BitVec 32 := 128#32
  let v229 : BitVec 32 := Scalar.muli v220 c128_i32_82
  v229
def k0_mult4 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c2_i32_78 : BitVec 32 := 2#32
  let v221 : BitVec 32 := Scalar.subi v218 c2_i32_78
  let c128_i32_83 : BitVec 32 := 128#32
  let v231 : BitVec 32 := Scalar.muli v221 c128_i32_83
  v231
def k0_mult5 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c3_i32_79 : BitVec 32 := 3#32
  let v222 : BitVec 32 := Scalar.subi v218 c3_i32_79
  let c128_i32_84 : BitVec 32 := 128#32
  let v233 : BitVec 32 := Scalar.muli v222 c128_i32_84
  v233
def k0_mult6 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c4_i32_80 : BitVec 32 := 4#32
  let v223 : BitVec 32 := Scalar.subi v218 c4_i32_80
  let c128_i32_85 : BitVec 32 := 128#32
  let v235 : BitVec 32 := Scalar.muli v223 c128_i32_85
  v235
def k0_mult7 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c5_i32 : BitVec 32 := 5#32
  let v224 : BitVec 32 := Scalar.subi v218 c5_i32
  let c128_i32_86 : BitVec 32 := 128#32
  let v237 : BitVec 32 := Scalar.muli v224 c128_i32_86
  v237
def k0_mult8 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c6_i32 : BitVec 32 := 6#32
  let v225 : BitVec 32 := Scalar.subi v218 c6_i32
  let c128_i32_87 : BitVec 32 := 128#32
  let v239 : BitVec 32 := Scalar.muli v225 c128_i32_87
  v239
def k0_mult9 (i : grid0.Coords) (k0_t1 : Fin (k0_t1_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let c7_i32 : BitVec 32 := 7#32
  let v226 : BitVec 32 := Scalar.subi v218 c7_i32
  let c128_i32_88 : BitVec 32 := 128#32
  let v241 : BitVec 32 := Scalar.muli v226 c128_i32_88
  v241
def k0_off5 (i : grid0.Coords) (k0_t1 : Fin (k0_t1_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v243 : Index := Scalar.indexCast v228
  let c0_89 : Index := 0#32
  ![v243.toNat, 0]
def k0_off6 (i : grid0.Coords) (k0_t1 : Fin (k0_t1_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v246 : Index := Scalar.indexCast v228
  let c128_90 : Index := 128#32
  ![v246.toNat, 128]
def k0_off7 (i : grid0.Coords) (k0_t1 : Fin (k0_t1_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v291 : Index := Scalar.indexCast v228
  let c256_105 : Index := 256#32
  ![v291.toNat, 256]
def k0_off8 (i : grid0.Coords) (k0_t1 : Fin (k0_t1_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c1_i32_37 : BitVec 32 := 1#32
  let arg5 : BitVec 32 := Scf.iv c0_i32_35 c1_i32_37 k0_t1
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v294 : Index := Scalar.indexCast v228
  let c384_106 : Index := 384#32
  ![v294.toNat, 384]
@[reducible] def k0_t2_loop (i : grid0.Coords) : Scf.Loop 32 :=
  let c0_i32_35 : BitVec 32 := 0#32
  let arg0 : BitVec 32 := BitVec.ofNat 32 (i 0).val
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let v128 : BitVec 32 := Scalar.addi c0_i32_35 v127
  let c1_i32_38 : BitVec 32 := 1#32
  ⟨v131, v128, c1_i32_38⟩
def k0_mult10 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c0_i32_76 : BitVec 32 := 0#32
  let v219 : BitVec 32 := Scalar.subi v218 c0_i32_76
  let c128_i32_81 : BitVec 32 := 128#32
  let v227 : BitVec 32 := Scalar.muli v219 c128_i32_81
  v227
def k0_mult11 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c1_i32_77 : BitVec 32 := 1#32
  let v220 : BitVec 32 := Scalar.subi v218 c1_i32_77
  let c128_i32_82 : BitVec 32 := 128#32
  let v229 : BitVec 32 := Scalar.muli v220 c128_i32_82
  v229
def k0_mult12 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c2_i32_78 : BitVec 32 := 2#32
  let v221 : BitVec 32 := Scalar.subi v218 c2_i32_78
  let c128_i32_83 : BitVec 32 := 128#32
  let v231 : BitVec 32 := Scalar.muli v221 c128_i32_83
  v231
def k0_mult13 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c3_i32_79 : BitVec 32 := 3#32
  let v222 : BitVec 32 := Scalar.subi v218 c3_i32_79
  let c128_i32_84 : BitVec 32 := 128#32
  let v233 : BitVec 32 := Scalar.muli v222 c128_i32_84
  v233
def k0_mult14 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c4_i32_80 : BitVec 32 := 4#32
  let v223 : BitVec 32 := Scalar.subi v218 c4_i32_80
  let c128_i32_85 : BitVec 32 := 128#32
  let v235 : BitVec 32 := Scalar.muli v223 c128_i32_85
  v235
def k0_mult15 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c5_i32 : BitVec 32 := 5#32
  let v224 : BitVec 32 := Scalar.subi v218 c5_i32
  let c128_i32_86 : BitVec 32 := 128#32
  let v237 : BitVec 32 := Scalar.muli v224 c128_i32_86
  v237
def k0_mult16 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c6_i32 : BitVec 32 := 6#32
  let v225 : BitVec 32 := Scalar.subi v218 c6_i32
  let c128_i32_87 : BitVec 32 := 128#32
  let v239 : BitVec 32 := Scalar.muli v225 c128_i32_87
  v239
def k0_mult17 (i : grid0.Coords) (k0_t2 : Fin (k0_t2_loop i).trips) : BitVec 32 :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let c7_i32 : BitVec 32 := 7#32
  let v226 : BitVec 32 := Scalar.subi v218 c7_i32
  let c128_i32_88 : BitVec 32 := 128#32
  let v241 : BitVec 32 := Scalar.muli v226 c128_i32_88
  v241
def k0_off9 (i : grid0.Coords) (k0_t2 : Fin (k0_t2_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v243 : Index := Scalar.indexCast v228
  let c0_89 : Index := 0#32
  ![v243.toNat, 0]
def k0_off10 (i : grid0.Coords) (k0_t2 : Fin (k0_t2_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v246 : Index := Scalar.indexCast v228
  let c128_90 : Index := 128#32
  ![v246.toNat, 128]
def k0_off11 (i : grid0.Coords) (k0_t2 : Fin (k0_t2_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v291 : Index := Scalar.indexCast v228
  let c256_105 : Index := 256#32
  ![v291.toNat, 256]
def k0_off12 (i : grid0.Coords) (k0_t2 : Fin (k0_t2_loop i).trips) (c0_i32_76 : BitVec 32) : Fin 2 → Nat :=
  let arg0 : BitVec 32 := BitVec.ofNat 32 (i 0).val
  let c1_i32_74 : BitVec 32 := 1#32
  let v216 : BitVec 32 := Scalar.subi arg0 c1_i32_74
  let c8_i32_75 : BitVec 32 := 8#32
  let c0_i32_35 : BitVec 32 := 0#32
  let c0_i32 : BitVec 32 := 0#32
  let v111 : BitVec 1 := Scalar.cmpi .sgt arg0 c0_i32
  let v112 : BitVec 32 := Scalar.extui v111
  let c0_i32_31 : BitVec 32 := 0#32
  let v113 : BitVec 1 := Scalar.cmpi .slt arg0 c0_i32_31
  let v114 : BitVec 32 := Scalar.extui v113
  let v115 : BitVec 32 := Scalar.subi v112 v114
  let c8_i32 : BitVec 32 := 8#32
  let c0_i32_32 : BitVec 32 := 0#32
  let v116 : BitVec 1 := Scalar.cmpi .sgt c8_i32 c0_i32_32
  let v117 : BitVec 32 := Scalar.extui v116
  let c0_i32_33 : BitVec 32 := 0#32
  let v118 : BitVec 1 := Scalar.cmpi .slt c8_i32 c0_i32_33
  let v119 : BitVec 32 := Scalar.extui v118
  let v120 : BitVec 32 := Scalar.subi v117 v119
  let v121 : BitVec 1 := Scalar.cmpi .ne v115 v120
  let v122 : BitVec 32 := Scalar.remsi arg0 c8_i32
  let c0_i32_34 : BitVec 32 := 0#32
  let v123 : BitVec 1 := Scalar.cmpi .ne v122 c0_i32_34
  let v124 : BitVec 1 := Scalar.andi v121 v123
  let v110 : BitVec 32 := Scalar.divsi arg0 c8_i32
  let c1_i32 : BitVec 32 := 1#32
  let v125 : BitVec 32 := Scalar.subi v110 c1_i32
  let v126 : BitVec 32 := Scalar.select v124 v125 v110
  let v127 : BitVec 32 := Scalar.subi v126 c0_i32_35
  let c1_i32_36 : BitVec 32 := 1#32
  let v129 : BitVec 32 := Scalar.divsi v127 c1_i32_36
  let v130 : BitVec 32 := Scalar.muli v129 c1_i32_36
  let v131 : BitVec 32 := Scalar.addi c0_i32_35 v130
  let c1_i32_38 : BitVec 32 := 1#32
  let arg5 : BitVec 32 := Scf.iv v131 c1_i32_38 k0_t2
  let v217 : BitVec 32 := Scalar.muli c8_i32_75 arg5
  let v218 : BitVec 32 := Scalar.subi v216 v217
  let v219 : BitVec 32 := Scalar.subi v218 c0_i32_76
  let c128_i32_81 : BitVec 32 := 128#32
  let v227 : BitVec 32 := Scalar.muli v219 c128_i32_81
  let v228 : BitVec 32 := v227
  let v294 : Index := Scalar.indexCast v228
  let c384_106 : Index := 384#32
  ![v294.toNat, 384]
@[reducible] def k0_t3_loop (i : grid0.Coords) : Scf.Loop 32 :=
  let c0_i32_51 : BitVec 32 := 0#32
  let arg0 : BitVec 32 := BitVec.ofNat 32 (i 0).val
  let c8_i32_39 : BitVec 32 := 8#32
  let c0_i32_40 : BitVec 32 := 0#32
  let v134 : BitVec 1 := Scalar.cmpi .eq c8_i32_39 c0_i32_40
  let c1_i32_41 : BitVec 32 := 1#32
  let v135 : BitVec 32 := Scalar.select v134 c1_i32_41 c8_i32_39
  let v136 : BitVec 32 := Scalar.remsi arg0 v135
  let c0_i32_43 : BitVec 32 := 0#32
  let v138 : BitVec 1 := Scalar.cmpi .slt v136 c0_i32_43
  let c0_i32_44 : BitVec 32 := 0#32
  let v139 : BitVec 1 := Scalar.cmpi .slt v135 c0_i32_44
  let v140 : BitVec 1 := Scalar.xori v138 v139
  let c0_i32_42 : BitVec 32 := 0#32
  let v137 : BitVec 1 := Scalar.cmpi .ne v136 c0_i32_42
  let v141 : BitVec 1 := Scalar.andi v140 v137
  let v142 : BitVec 32 := Scalar.addi v136 v135
  let v143 : BitVec 32 := Scalar.select v141 v142 v136
  let c0_i32_45 : BitVec 32 := 0#32
  let v145 : BitVec 1 := Scalar.cmpi .sgt v143 c0_i32_45
  let v146 : BitVec 32 := Scalar.extui v145
  let c0_i32_46 : BitVec 32 := 0#32
  let v147 : BitVec 1 := Scalar.cmpi .slt v143 c0_i32_46
  let v148 : BitVec 32 := Scalar.extui v147
  let v149 : BitVec 32 := Scalar.subi v146 v148
  let c4_i32 : BitVec 32 := 4#32
  let c0_i32_47 : BitVec 32 := 0#32
  let v150 : BitVec 1 := Scalar.cmpi .sgt c4_i32 c0_i32_47
  let v151 : BitVec 32 := Scalar.extui v150
  let c0_i32_48 : BitVec 32 := 0#32
  let v152 : BitVec 1 := Scalar.cmpi .slt c4_i32 c0_i32_48
  let v153 : BitVec 32 := Scalar.extui v152
  let v154 : BitVec 32 := Scalar.subi v151 v153
  let v155 : BitVec 1 := Scalar.cmpi .ne v149 v154
  let v156 : BitVec 32 := Scalar.remsi v143 c4_i32
  let c0_i32_49 : BitVec 32 := 0#32
  let v157 : BitVec 1 := Scalar.cmpi .ne v156 c0_i32_49
  let v158 : BitVec 1 := Scalar.andi v155 v157
  let v144 : BitVec 32 := Scalar.divsi v143 c4_i32
  let c1_i32_50 : BitVec 32 := 1#32
  let v159 : BitVec 32 := Scalar.subi v144 c1_i32_50
  let v160 : BitVec 32 := Scalar.select v158 v159 v144
  let v161 : BitVec 32 := Scalar.subi v160 c0_i32_51
  let c1_i32_52 : BitVec 32 := 1#32
  let v163 : BitVec 32 := Scalar.divsi v161 c1_i32_52
  let v164 : BitVec 32 := Scalar.muli v163 c1_i32_52
  let v165 : BitVec 32 := Scalar.addi c0_i32_51 v164
  let c1_i32_53 : BitVec 32 := 1#32
  ⟨c0_i32_51, v165, c1_i32_53⟩
def k0_mult18 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_81 : BitVec 32 := 0#32
  let v227 : BitVec 32 := Scalar.subi v226 c0_i32_81
  let c128_i32_85 : BitVec 32 := 128#32
  let v231 : BitVec 32 := Scalar.muli v227 c128_i32_85
  v231
def k0_mult19 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c1_i32_82 : BitVec 32 := 1#32
  let v228 : BitVec 32 := Scalar.subi v226 c1_i32_82
  let c128_i32_86 : BitVec 32 := 128#32
  let v233 : BitVec 32 := Scalar.muli v228 c128_i32_86
  v233
def k0_mult20 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c2_i32_83 : BitVec 32 := 2#32
  let v229 : BitVec 32 := Scalar.subi v226 c2_i32_83
  let c128_i32_87 : BitVec 32 := 128#32
  let v235 : BitVec 32 := Scalar.muli v229 c128_i32_87
  v235
def k0_mult21 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c3_i32_84 : BitVec 32 := 3#32
  let v230 : BitVec 32 := Scalar.subi v226 c3_i32_84
  let c128_i32_88 : BitVec 32 := 128#32
  let v237 : BitVec 32 := Scalar.muli v230 c128_i32_88
  v237
def k0_off13 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v239 : Index := Scalar.indexCast v232
  let c0_89 : Index := 0#32
  ![v239.toNat, 0]
def k0_off14 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v242 : Index := Scalar.indexCast v232
  let c128_90 : Index := 128#32
  ![v242.toNat, 128]
def k0_off15 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v263 : Index := Scalar.indexCast v232
  let c256_97 : Index := 256#32
  ![v263.toNat, 256]
def k0_off16 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v266 : Index := Scalar.indexCast v232
  let c384_98 : Index := 384#32
  ![v266.toNat, 384]
@[reducible] def k0_t4_loop (i : grid0.Coords) : Scf.Loop 32 :=
  let c0_i32_51 : BitVec 32 := 0#32
  let arg0 : BitVec 32 := BitVec.ofNat 32 (i 0).val
  let c8_i32_39 : BitVec 32 := 8#32
  let c0_i32_40 : BitVec 32 := 0#32
  let v134 : BitVec 1 := Scalar.cmpi .eq c8_i32_39 c0_i32_40
  let c1_i32_41 : BitVec 32 := 1#32
  let v135 : BitVec 32 := Scalar.select v134 c1_i32_41 c8_i32_39
  let v136 : BitVec 32 := Scalar.remsi arg0 v135
  let c0_i32_43 : BitVec 32 := 0#32
  let v138 : BitVec 1 := Scalar.cmpi .slt v136 c0_i32_43
  let c0_i32_44 : BitVec 32 := 0#32
  let v139 : BitVec 1 := Scalar.cmpi .slt v135 c0_i32_44
  let v140 : BitVec 1 := Scalar.xori v138 v139
  let c0_i32_42 : BitVec 32 := 0#32
  let v137 : BitVec 1 := Scalar.cmpi .ne v136 c0_i32_42
  let v141 : BitVec 1 := Scalar.andi v140 v137
  let v142 : BitVec 32 := Scalar.addi v136 v135
  let v143 : BitVec 32 := Scalar.select v141 v142 v136
  let c0_i32_45 : BitVec 32 := 0#32
  let v145 : BitVec 1 := Scalar.cmpi .sgt v143 c0_i32_45
  let v146 : BitVec 32 := Scalar.extui v145
  let c0_i32_46 : BitVec 32 := 0#32
  let v147 : BitVec 1 := Scalar.cmpi .slt v143 c0_i32_46
  let v148 : BitVec 32 := Scalar.extui v147
  let v149 : BitVec 32 := Scalar.subi v146 v148
  let c4_i32 : BitVec 32 := 4#32
  let c0_i32_47 : BitVec 32 := 0#32
  let v150 : BitVec 1 := Scalar.cmpi .sgt c4_i32 c0_i32_47
  let v151 : BitVec 32 := Scalar.extui v150
  let c0_i32_48 : BitVec 32 := 0#32
  let v152 : BitVec 1 := Scalar.cmpi .slt c4_i32 c0_i32_48
  let v153 : BitVec 32 := Scalar.extui v152
  let v154 : BitVec 32 := Scalar.subi v151 v153
  let v155 : BitVec 1 := Scalar.cmpi .ne v149 v154
  let v156 : BitVec 32 := Scalar.remsi v143 c4_i32
  let c0_i32_49 : BitVec 32 := 0#32
  let v157 : BitVec 1 := Scalar.cmpi .ne v156 c0_i32_49
  let v158 : BitVec 1 := Scalar.andi v155 v157
  let v144 : BitVec 32 := Scalar.divsi v143 c4_i32
  let c1_i32_50 : BitVec 32 := 1#32
  let v159 : BitVec 32 := Scalar.subi v144 c1_i32_50
  let v160 : BitVec 32 := Scalar.select v158 v159 v144
  let v161 : BitVec 32 := Scalar.subi v160 c0_i32_51
  let c1_i32_52 : BitVec 32 := 1#32
  let v163 : BitVec 32 := Scalar.divsi v161 c1_i32_52
  let v164 : BitVec 32 := Scalar.muli v163 c1_i32_52
  let v165 : BitVec 32 := Scalar.addi c0_i32_51 v164
  let v162 : BitVec 32 := Scalar.addi c0_i32_51 v161
  let c1_i32_54 : BitVec 32 := 1#32
  ⟨v165, v162, c1_i32_54⟩
def k0_mult22 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_81 : BitVec 32 := 0#32
  let v227 : BitVec 32 := Scalar.subi v226 c0_i32_81
  let c128_i32_85 : BitVec 32 := 128#32
  let v231 : BitVec 32 := Scalar.muli v227 c128_i32_85
  v231
def k0_mult23 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c1_i32_82 : BitVec 32 := 1#32
  let v228 : BitVec 32 := Scalar.subi v226 c1_i32_82
  let c128_i32_86 : BitVec 32 := 128#32
  let v233 : BitVec 32 := Scalar.muli v228 c128_i32_86
  v233
def k0_mult24 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c2_i32_83 : BitVec 32 := 2#32
  let v229 : BitVec 32 := Scalar.subi v226 c2_i32_83
  let c128_i32_87 : BitVec 32 := 128#32
  let v235 : BitVec 32 := Scalar.muli v229 c128_i32_87
  v235
def k0_mult25 (i : grid0.Coords) : BitVec 32 :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c3_i32_84 : BitVec 32 := 3#32
  let v230 : BitVec 32 := Scalar.subi v226 c3_i32_84
  let c128_i32_88 : BitVec 32 := 128#32
  let v237 : BitVec 32 := Scalar.muli v230 c128_i32_88
  v237
def k0_off17 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v239 : Index := Scalar.indexCast v232
  let c0_89 : Index := 0#32
  ![v239.toNat, 0]
def k0_off18 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v242 : Index := Scalar.indexCast v232
  let c128_90 : Index := 128#32
  ![v242.toNat, 128]
def k0_off19 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v263 : Index := Scalar.indexCast v232
  let c256_97 : Index := 256#32
  ![v263.toNat, 256]
def k0_off20 (i : grid0.Coords) (c0_i32_81 : BitVec 32) : Fin 2 → Nat :=
  let arg0 : BitVec 32 := BitVec.ofNat 32 (i 0).val
  let c8_i32_74 : BitVec 32 := 8#32
  let c0_i32_75 : BitVec 32 := 0#32
  let v216 : BitVec 1 := Scalar.cmpi .eq c8_i32_74 c0_i32_75
  let c1_i32_76 : BitVec 32 := 1#32
  let v217 : BitVec 32 := Scalar.select v216 c1_i32_76 c8_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let v227 : BitVec 32 := Scalar.subi v226 c0_i32_81
  let c128_i32_85 : BitVec 32 := 128#32
  let v231 : BitVec 32 := Scalar.muli v227 c128_i32_85
  let v232 : BitVec 32 := v231
  let v266 : Index := Scalar.indexCast v232
  let c384_98 : Index := 384#32
  ![v266.toNat, 384]
@[reducible] def k0_t5_loop (i : grid0.Coords) : Scf.Loop 32 :=
  let c0_i32_61 : BitVec 32 := 0#32
  let arg0 : BitVec 32 := BitVec.ofNat 32 (i 0).val
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_63 : BitVec 32 := 1#32
  ⟨c0_i32_61, v182, c1_i32_63⟩
def k0_mult26 (i : grid0.Coords) (k0_t5 : Fin (k0_t5_loop i).trips) : BitVec 32 :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c1_i32_63 : BitVec 32 := 1#32
  let arg5 : BitVec 32 := Scf.iv c0_i32_61 c1_i32_63 k0_t5
  let v227 : BitVec 32 := Scalar.subi v226 arg5
  let c128_i32_81 : BitVec 32 := 128#32
  let v228 : BitVec 32 := Scalar.muli v227 c128_i32_81
  v228
def k0_off21 (i : grid0.Coords) (k0_t5 : Fin (k0_t5_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c1_i32_63 : BitVec 32 := 1#32
  let arg5 : BitVec 32 := Scf.iv c0_i32_61 c1_i32_63 k0_t5
  let v227 : BitVec 32 := Scalar.subi v226 arg5
  let c128_i32_81 : BitVec 32 := 128#32
  let v228 : BitVec 32 := Scalar.muli v227 c128_i32_81
  let v229 : BitVec 32 := v228
  let v230 : Index := Scalar.indexCast v229
  let c0_82 : Index := 0#32
  ![v230.toNat, 0]
def k0_off22 (i : grid0.Coords) (k0_t5 : Fin (k0_t5_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c1_i32_63 : BitVec 32 := 1#32
  let arg5 : BitVec 32 := Scf.iv c0_i32_61 c1_i32_63 k0_t5
  let v227 : BitVec 32 := Scalar.subi v226 arg5
  let c128_i32_81 : BitVec 32 := 128#32
  let v228 : BitVec 32 := Scalar.muli v227 c128_i32_81
  let v229 : BitVec 32 := v228
  let v233 : Index := Scalar.indexCast v229
  let c128_83 : Index := 128#32
  ![v233.toNat, 128]
def k0_off23 (i : grid0.Coords) (k0_t5 : Fin (k0_t5_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c1_i32_63 : BitVec 32 := 1#32
  let arg5 : BitVec 32 := Scf.iv c0_i32_61 c1_i32_63 k0_t5
  let v227 : BitVec 32 := Scalar.subi v226 arg5
  let c128_i32_81 : BitVec 32 := 128#32
  let v228 : BitVec 32 := Scalar.muli v227 c128_i32_81
  let v229 : BitVec 32 := v228
  let v236 : Index := Scalar.indexCast v229
  let c256_84 : Index := 256#32
  ![v236.toNat, 256]
def k0_off24 (i : grid0.Coords) (k0_t5 : Fin (k0_t5_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c1_i32_63 : BitVec 32 := 1#32
  let arg5 : BitVec 32 := Scf.iv c0_i32_61 c1_i32_63 k0_t5
  let v227 : BitVec 32 := Scalar.subi v226 arg5
  let c128_i32_81 : BitVec 32 := 128#32
  let v228 : BitVec 32 := Scalar.muli v227 c128_i32_81
  let v229 : BitVec 32 := v228
  let v239 : Index := Scalar.indexCast v229
  let c384_85 : Index := 384#32
  ![v239.toNat, 384]
@[reducible] def k0_t6_loop (i : grid0.Coords) : Scf.Loop 32 :=
  let c0_i32_61 : BitVec 32 := 0#32
  let arg0 : BitVec 32 := BitVec.ofNat 32 (i 0).val
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let v179 : BitVec 32 := Scalar.addi c0_i32_61 v178
  let c1_i32_64 : BitVec 32 := 1#32
  ⟨v182, v179, c1_i32_64⟩
def k0_mult27 (i : grid0.Coords) (k0_t6 : Fin (k0_t6_loop i).trips) : BitVec 32 :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg5 : BitVec 32 := Scf.iv v182 c1_i32_64 k0_t6
  let v227 : BitVec 32 := Scalar.subi v226 arg5
  let c128_i32_81 : BitVec 32 := 128#32
  let v228 : BitVec 32 := Scalar.muli v227 c128_i32_81
  v228
def k0_off25 (i : grid0.Coords) (k0_t6 : Fin (k0_t6_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg5 : BitVec 32 := Scf.iv v182 c1_i32_64 k0_t6
  let v227 : BitVec 32 := Scalar.subi v226 arg5
  let c128_i32_81 : BitVec 32 := 128#32
  let v228 : BitVec 32 := Scalar.muli v227 c128_i32_81
  let v229 : BitVec 32 := v228
  let v230 : Index := Scalar.indexCast v229
  let c0_82 : Index := 0#32
  ![v230.toNat, 0]
def k0_off26 (i : grid0.Coords) (k0_t6 : Fin (k0_t6_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg5 : BitVec 32 := Scf.iv v182 c1_i32_64 k0_t6
  let v227 : BitVec 32 := Scalar.subi v226 arg5
  let c128_i32_81 : BitVec 32 := 128#32
  let v228 : BitVec 32 := Scalar.muli v227 c128_i32_81
  let v229 : BitVec 32 := v228
  let v233 : Index := Scalar.indexCast v229
  let c128_83 : Index := 128#32
  ![v233.toNat, 128]
def k0_off27 (i : grid0.Coords) (k0_t6 : Fin (k0_t6_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg5 : BitVec 32 := Scf.iv v182 c1_i32_64 k0_t6
  let v227 : BitVec 32 := Scalar.subi v226 arg5
  let c128_i32_81 : BitVec 32 := 128#32
  let v228 : BitVec 32 := Scalar.muli v227 c128_i32_81
  let v229 : BitVec 32 := v228
  let v236 : Index := Scalar.indexCast v229
  let c256_84 : Index := 256#32
  ![v236.toNat, 256]
def k0_off28 (i : grid0.Coords) (k0_t6 : Fin (k0_t6_loop i).trips) : Fin 2 → Nat :=
  let arg0 : BitVec 32 := BitVec.ofNat 32 (i 0).val
  let c4_i32_74 : BitVec 32 := 4#32
  let c0_i32_75 : BitVec 32 := 0#32
  let v216 : BitVec 1 := Scalar.cmpi .eq c4_i32_74 c0_i32_75
  let c1_i32_76 : BitVec 32 := 1#32
  let v217 : BitVec 32 := Scalar.select v216 c1_i32_76 c4_i32_74
  let v218 : BitVec 32 := Scalar.remsi arg0 v217
  let c0_i32_78 : BitVec 32 := 0#32
  let v220 : BitVec 1 := Scalar.cmpi .slt v218 c0_i32_78
  let c0_i32_79 : BitVec 32 := 0#32
  let v221 : BitVec 1 := Scalar.cmpi .slt v217 c0_i32_79
  let v222 : BitVec 1 := Scalar.xori v220 v221
  let c0_i32_77 : BitVec 32 := 0#32
  let v219 : BitVec 1 := Scalar.cmpi .ne v218 c0_i32_77
  let v223 : BitVec 1 := Scalar.andi v222 v219
  let v224 : BitVec 32 := Scalar.addi v218 v217
  let v225 : BitVec 32 := Scalar.select v223 v224 v218
  let c1_i32_80 : BitVec 32 := 1#32
  let v226 : BitVec 32 := Scalar.subi v225 c1_i32_80
  let c0_i32_61 : BitVec 32 := 0#32
  let c4_i32_55 : BitVec 32 := 4#32
  let c0_i32_56 : BitVec 32 := 0#32
  let v168 : BitVec 1 := Scalar.cmpi .eq c4_i32_55 c0_i32_56
  let c1_i32_57 : BitVec 32 := 1#32
  let v169 : BitVec 32 := Scalar.select v168 c1_i32_57 c4_i32_55
  let v170 : BitVec 32 := Scalar.remsi arg0 v169
  let c0_i32_59 : BitVec 32 := 0#32
  let v172 : BitVec 1 := Scalar.cmpi .slt v170 c0_i32_59
  let c0_i32_60 : BitVec 32 := 0#32
  let v173 : BitVec 1 := Scalar.cmpi .slt v169 c0_i32_60
  let v174 : BitVec 1 := Scalar.xori v172 v173
  let c0_i32_58 : BitVec 32 := 0#32
  let v171 : BitVec 1 := Scalar.cmpi .ne v170 c0_i32_58
  let v175 : BitVec 1 := Scalar.andi v174 v171
  let v176 : BitVec 32 := Scalar.addi v170 v169
  let v177 : BitVec 32 := Scalar.select v175 v176 v170
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg5 : BitVec 32 := Scf.iv v182 c1_i32_64 k0_t6
  let v227 : BitVec 32 := Scalar.subi v226 arg5
  let c128_i32_81 : BitVec 32 := 128#32
  let v228 : BitVec 32 := Scalar.muli v227 c128_i32_81
  let v229 : BitVec 32 := v228
  let v239 : Index := Scalar.indexCast v229
  let c384_85 : Index := 384#32
  ![v239.toNat, 384]
def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendRefIdeal.lean ====
abbrev S8192x3840 : Shape := ⟨2, ![8192, 3840]⟩
abbrev S8192x256 : Shape := ⟨2, ![8192, 256]⟩
abbrev S1x8192x4x64 : Shape := ⟨4, ![1, 8192, 4, 64]⟩
abbrev S1x4x8192x8192 : Shape := ⟨4, ![1, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x4x64x8192 : Shape := ⟨4, ![1, 4, 64, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x3840, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S1x8192x4x64, .f32⟩
  | .hbm, ⟨5, _⟩ => ⟨S1x8192x4x64, .f32⟩
  | .hbm, ⟨6, _⟩ => ⟨S1x8192x4x64, .f32⟩
  | .hbm, ⟨7, _⟩ => ⟨S1x4x8192x8192, .f32⟩
  | .hbm, ⟨8, _⟩ => ⟨S_, .f32⟩
  | .hbm, ⟨9, _⟩ => ⟨S1x4x8192x8192, .f32⟩
  | .hbm, ⟨10, _⟩ => ⟨S1x4x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x4x8192x8192, .f32⟩
  | .hbm, ⟨19, _⟩ => ⟨S_, .f32⟩
  | .hbm, ⟨20, _⟩ => ⟨S1x4x8192x8192, .f32⟩
  | .hbm, ⟨21, _⟩ => ⟨S1x4x8192x8192, .f32⟩
  | .hbm, ⟨22, _⟩ => ⟨S1x4x8192x8192, .f32⟩
  | .hbm, ⟨23, _⟩ => ⟨S1x4x8192x8192, .f32⟩
  | .hbm, ⟨24, _⟩ => ⟨S1x4x8192x8192, .i1⟩
  | .hbm, ⟨25, _⟩ => ⟨S1x4x8192x8192, .f32⟩
  | .hbm, ⟨26, _⟩ => ⟨S1x4x8192x8192, .f32⟩
  | .hbm, ⟨27, _⟩ => ⟨S1x4x8192x8192, .f32⟩
  | .hbm, ⟨28, _⟩ => ⟨S1x4x8192x8192, .f32⟩
  | .hbm, ⟨29, _⟩ => ⟨S1x4x8192x8192, .f32⟩
  | .hbm, ⟨30, _⟩ => ⟨S1x4x8192x8192, .f32⟩
  | .hbm, ⟨31, _⟩ => ⟨S1x4x8192x8192, .f32⟩
  | .hbm, ⟨32, _⟩ => ⟨S1x4x8192x8192, .f32⟩
  | .hbm, ⟨33, _⟩ => ⟨S1x4x8192x8192, .f32⟩
  | .hbm, ⟨34, _⟩ => ⟨S1x4x8192x8192, .f32⟩
  | .hbm, ⟨35, _⟩ => ⟨S1x4x8192x8192, .f32⟩
  | .hbm, ⟨36, _⟩ => ⟨S_, .f32⟩
  | .hbm, ⟨37, _⟩ => ⟨S1x4x8192x8192, .f32⟩
  | .hbm, ⟨38, _⟩ => ⟨S1x4x8192x8192, .f32⟩
  | .hbm, ⟨39, _⟩ => ⟨S1x4x8192x8192, .f32⟩
  | .hbm, ⟨40, _⟩ => ⟨S1x4x8192x8192, .f32⟩
  | .hbm, ⟨41, _⟩ => ⟨S1x4x8192x8192, .i1⟩
  | .hbm, ⟨42, _⟩ => ⟨S1x4x8192x8192, .f32⟩
  | .hbm, ⟨43, _⟩ => ⟨S1x4x8192x8192, .f32⟩
  | .hbm, ⟨44, _⟩ => ⟨S1x4x8192x8192, .f32⟩
  | .hbm, ⟨45, _⟩ => ⟨S1x4x8192x8192, .f32⟩
  | .hbm, ⟨46, _⟩ => ⟨S1x4x8192x8192, .f32⟩
  | .hbm, ⟨47, _⟩ => ⟨S1x4x8192x8192, .f32⟩
  | .hbm, ⟨48, _⟩ => ⟨S1x4x8192x8192, .f32⟩
  | .hbm, ⟨49, _⟩ => ⟨S1x4x8192x8192, .f32⟩
  | .hbm, ⟨50, _⟩ => ⟨S1x4x8192x8192, .f32⟩
  | .hbm, ⟨51, _⟩ => ⟨S_, .f32⟩
  | .hbm, ⟨52, _⟩ => ⟨S_, .f32⟩
  | .hbm, ⟨53, _⟩ => ⟨S1x4x8192x8192, .i1⟩
  | .hbm, ⟨54, _⟩ => ⟨S1x4x8192x8192, .f32⟩
  | .hbm, ⟨55, _⟩ => ⟨S1x4x8192x8192, .f32⟩
  | .hbm, ⟨56, _⟩ => ⟨S_, .f32⟩
  | .hbm, ⟨57, _⟩ => ⟨S_, .f32⟩
  | .hbm, ⟨58, _⟩ => ⟨S1x4x8192x8192, .f32⟩
  | .hbm, ⟨59, _⟩ => ⟨S1x4x8192x8192, .f32⟩
  | .hbm, ⟨60, _⟩ => ⟨S1x4x8192x8192, .f32⟩
  | .hbm, ⟨61, _⟩ => ⟨S1x4x8192x8192, .f32⟩
  | .hbm, ⟨62, _⟩ => ⟨S_, .f32⟩
  | .hbm, ⟨63, _⟩ => ⟨S_, .f32⟩
  | .hbm, ⟨64, _⟩ => ⟨S1x4x8192x8192, .i1⟩
  | .hbm, ⟨65, _⟩ => ⟨S1x4x8192x8192, .f32⟩
  | .hbm, ⟨66, _⟩ => ⟨S1x4x8192x8192, .f32⟩
  | .hbm, ⟨67, _⟩ => ⟨S1x4x64x8192, .f32⟩
  | .hbm, ⟨68, _⟩ => ⟨S1x8192x4x64, .f32⟩
  | .hbm, ⟨69, _⟩ => ⟨S8192x256, .f32⟩
  | .hbm, ⟨70, _⟩ => ⟨S8192x256, .bf16⟩
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Proof.Products.lean ====
/- Plain matrix products, entry by entry, and products of blocks: what the product calls of both passes have in common, over arrays of any sizes. The values are extended reals; sums are only regrouped, so nothing has to be finite. -/
module

public import Idealize.ShloMosaic.Lib.MatmulPlain
public import Idealize.ShloMosaic.Lib.ValueIdx
import Idealize.ShloMosaic.Lib.Pipeline.ValueKit

@[expose] public section

noncomputable section

namespace Cert.Products

open Idealize.ShloMosaic
open scoped BigOperators

/-- The shape of a matrix. -/
abbrev Mat (r c : ℕ) : Shape := ⟨2, ![r, c]⟩

variable {M N K : ℕ}

/-- `a · bᵀ`: rows times rows. -/
def rowsByRows (a : (Mat M K).Idx → EReal) (b : (Mat N K).Idx → EReal) : (Mat M N).Idx → EReal :=
  fun i => ∑ k : Fin K, a (ValueIdx.ix2 (i 0) k) * b (ValueIdx.ix2 (i 1) k)

/-- `aᵀ · b`: columns times columns. -/
def colsByCols (a : (Mat K M).Idx → EReal) (b : (Mat K N).Idx → EReal) : (Mat M N).Idx → EReal :=
  fun i => ∑ k : Fin K, a (ValueIdx.ix2 k (i 0)) * b (ValueIdx.ix2 k (i 1))

/-- `a · b`. -/
def product (a : (Mat M K).Idx → EReal) (b : (Mat K N).Idx → EReal) : (Mat M N).Idx → EReal :=
  fun i => ∑ k : Fin K, a (ValueIdx.ix2 (i 0) k) * b (ValueIdx.ix2 k (i 1))

/-- `r + a · b`. -/
def plusProduct (r : (Mat M N).Idx → EReal) (a : (Mat M K).Idx → EReal) (b : (Mat K N).Idx → EReal) : (Mat M N).Idx → EReal :=
  fun i => r i + product a b i

/-! ## The products of the kernels and of the references -/

/-- How a product sums over both operands' rows. -/
def colsDims (M N K : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap _ _ _, by simp [List.finRange]; exact List.Perm.swap _ _ _, rfl, Nat.two_pos,
    fun b => by fin_cases b <;> rfl⟩

/-- Its one summed coordinate. -/
def colsContr (M N K : ℕ) : (colsDims M N K).contr.Idx ≃ Fin K := ValueIdx.contrEquiv1 _ K rfl rfl

theorem cols_sum (a : (Mat K M).Idx → EReal) (b : (Mat K N).Idx → EReal) (i : (Mat M N).Idx) :
    ∑ k : (colsDims M N K).contr.Idx, a ((colsDims M N K).lhsIdx i k) * b ((colsDims M N K).rhsIdx i k) = colsByCols a b i := by
  rw [← Equiv.sum_comp (colsContr M N K).symm]
  refine Finset.sum_congr rfl fun k _ => ?_
  have hk := ValueIdx.contrEquiv1_symm_val (colsDims M N K) K rfl rfl k
  refine congrArg₂ (· * ·) (congrArg a ?_) (congrArg b ?_) <;>
  · funext d; apply Fin.ext
    match d with
    | ⟨0, _⟩ => exact hk
    | ⟨1, _⟩ => rfl

theorem rows_sum (a : (Mat M K).Idx → EReal) (b : (Mat N K).Idx → EReal) (i : (Mat M N).Idx) :
    ∑ k : (DotDims.transposedRhs M K N).contr.Idx, a ((DotDims.transposedRhs M K N).lhsIdx i k) * b ((DotDims.transposedRhs M K N).rhsIdx i k)
      = rowsByRows a b i := by
  rw [← Equiv.sum_comp (DotDims.transposedRhsContr M K N).symm]
  refine Finset.sum_congr rfl fun k _ => ?_
  have hk := ValueIdx.contrEquiv1_symm_val _ K (DotDims.transposedRhs_contr_rank M K N) (DotDims.transposedRhs_contr_size M K N) k
  refine congrArg₂ (· * ·) (congrArg a ?_) (congrArg b ?_) <;>
  · funext d; apply Fin.ext
    match d with
    | ⟨0, _⟩ => rfl
    | ⟨1, _⟩ => exact hk

theorem plain_sum (a : (Mat M K).Idx → EReal) (b : (Mat K N).Idx → EReal) (i : (Mat M N).Idx) :
    ∑ k : (DotDims.plain M K N).contr.Idx, a ((DotDims.plain M K N).lhsIdx i k) * b ((DotDims.plain M K N).rhsIdx i k) = product a b i := by
  rw [← Equiv.sum_comp (DotDims.plainContr M K N).symm]
  refine Finset.sum_congr rfl fun k _ => ?_
  have hk := ValueIdx.contrEquiv1_symm_val _ K (DotDims.plain_contr_rank M K N) (DotDims.plain_contr_size M K N) k
  refine congrArg₂ (· * ·) (congrArg a ?_) (congrArg b ?_)
  · funext d; apply Fin.ext
    match d with
    | ⟨0, _⟩ => rfl
    | ⟨1, _⟩ => exact hk
  · funext d; apply Fin.ext
    match d with
    | ⟨0, _⟩ => exact hk
    | ⟨1, _⟩ => rfl

theorem mxu_plain {φ₁ φ₂ : FTy} (x : FVec Ideal (Mat M K) φ₁) (y : FVec Ideal (Mat K N) φ₂) (i : (Mat M N).Idx) :
    matmul (DotDims.plain M K N) none x y (constant (Mat M N) .f32 0x00000000#32) i = product x y i := by
  refine (Ideal.matmul_apply _ none x y _ i).trans ?_
  rw [show constant (F := Ideal) (Mat M N) .f32 0x00000000#32 i = 0 from Ideal.ofBits_zero_f32, zero_add]
  exact plain_sum x y i

theorem host_plain (x : FVec Ideal (Mat M K) .bf16) (y : FVec Ideal (Mat K N) .bf16) (h : FTy.bits .bf16 < FTy.bits .f32) :
    Host.dotGeneral (DotDims.plain M K N) none (extf .f32 x h) (extf .f32 y h) = product x y := by
  funext i
  refine (Ideal.dotGeneral_apply _ none _ _ _ i).trans ?_
  exact plain_sum x y i

theorem mxu_rows {φ₁ φ₂ : FTy} (x : FVec Ideal (Mat M K) φ₁) (y : FVec Ideal (Mat N K) φ₂) (i : (Mat M N).Idx) :
    matmul (DotDims.transposedRhs M K N) none x y (constant (Mat M N) .f32 0x00000000#32) i = rowsByRows x y i := by
  refine (Ideal.matmul_apply _ none x y _ i).trans ?_
  rw [show constant (F := Ideal) (Mat M N) .f32 0x00000000#32 i = 0 from Ideal.ofBits_zero_f32, zero_add]
  exact rows_sum x y i

theorem mxu_cols {φ₁ φ₂ : FTy} (x : FVec Ideal (Mat K M) φ₁) (y : FVec Ideal (Mat K N) φ₂) (i : (Mat M N).Idx) :
    matmul (colsDims M N K) none x y (constant (Mat M N) .f32 0x00000000#32) i = colsByCols x y i := by
  refine (Ideal.matmul_apply _ none x y _ i).trans ?_
  rw [show constant (F := Ideal) (Mat M N) .f32 0x00000000#32 i = 0 from Ideal.ofBits_zero_f32, zero_add]
  exact cols_sum x y i

theorem host_rows (x : FVec Ideal (Mat M K) .bf16) (y : FVec Ideal (Mat N K) .bf16) (h : FTy.bits .bf16 < FTy.bits .f32) :
    Host.dotGeneral (DotDims.transposedRhs M K N) none (extf .f32 x h) (extf .f32 y h) = rowsByRows x y := by
  funext i
  refine (Ideal.dotGeneral_apply _ none _ _ _ i).trans ?_
  exact rows_sum x y i

/-- The gradient of a plain product by its right factor is written as a product the other way round, transposed. -/
theorem host_cols (x : FVec Ideal (Mat K M) .bf16) (y : FVec Ideal (Mat K N) .bf16) (h : FTy.bits .bf16 < FTy.bits .f32)
    (ht : (Mat N M).Transposes [1, 0] (Mat M N)) :
    transpose (Mat M N) [1, 0] (Host.dotGeneral (colsDims N M K) none (extf .f32 y h) (extf .f32 x h)) ht = colsByCols x y := by
  funext i
  refine (transpose_apply [1, 0] _ ht i (ValueIdx.ix2 (i 1) (i 0)) (fun b => match b with
    | ⟨0, _⟩ => rfl
    | ⟨1, _⟩ => rfl)).trans ?_
  refine (Ideal.dotGeneral_apply _ none _ _ _ _).trans ?_
  refine (cols_sum y x _).trans (Finset.sum_congr rfl fun k _ => mul_comm _ _)

/-! ## Products of blocks -/

/-- A block of rows of each factor: the block of the product. -/
theorem rowsByRows_block {m n r c : ℕ} {x : (Mat m K).Idx → EReal} {y : (Mat n K).Idx → EReal} {a : (Mat M K).Idx → EReal} {b : (Mat N K).Idx → EReal}
    (hx : ∀ I J, (J 0).val = r * m + (I 0).val → (J 1).val = (I 1).val → x I = a J)
    (hy : ∀ I J, (J 0).val = c * n + (I 0).val → (J 1).val = (I 1).val → y I = b J)
    (I : (Mat m n).Idx) (J : (Mat M N).Idx) (h0 : (J 0).val = r * m + (I 0).val) (h1 : (J 1).val = c * n + (I 1).val) :
    rowsByRows x y I = rowsByRows a b J :=
  Finset.sum_congr rfl fun k _ => congrArg₂ (· * ·) (hx _ _ h0 rfl) (hy _ _ h1 rfl)

/-- A block of rows of the left factor, a block of columns of the right one. -/
theorem product_block {m n r c : ℕ} {x : (Mat m K).Idx → EReal} {y : (Mat K n).Idx → EReal} {a : (Mat M K).Idx → EReal} {b : (Mat K N).Idx → EReal}
    (hx : ∀ I J, (J 0).val = r * m + (I 0).val → (J 1).val = (I 1).val → x I = a J)
    (hy : ∀ I J, (J 0).val = (I 0).val → (J 1).val = c * n + (I 1).val → y I = b J)
    (I : (Mat m n).Idx) (J : (Mat M N).Idx) (h0 : (J 0).val = r * m + (I 0).val) (h1 : (J 1).val = c * n + (I 1).val) :
    product x y I = product a b J :=
  Finset.sum_congr rfl fun k _ => congrArg₂ (· * ·) (hx _ _ h0 rfl) (hy _ _ rfl h1)

/-- The same, the summed coordinate cut into `S` blocks of `T`. -/
theorem product_blocks {m n S T r c : ℕ} (hK : K = S * T) {x : Fin S → (Mat m T).Idx → EReal} {y : Fin S → (Mat T n).Idx → EReal}
    {a : (Mat M K).Idx → EReal} {b : (Mat K N).Idx → EReal}
    (hx : ∀ s I J, (J 0).val = r * m + (I 0).val → (J 1).val = s.val * T + (I 1).val → x s I = a J)
    (hy : ∀ s I J, (J 0).val = s.val * T + (I 0).val → (J 1).val = c * n + (I 1).val → y s I = b J)
    (I : (Mat m n).Idx) (J : (Mat M N).Idx) (h0 : (J 0).val = r * m + (I 0).val) (h1 : (J 1).val = c * n + (I 1).val) :
    ∑ s, product (x s) (y s) I = product a b J :=
  Fin.sum_mul_add_congr (hL := hK) fun s k hl => congrArg₂ (· * ·) (hx s _ _ h0 rfl) (hy s _ _ rfl h1)

/-- Blocks of columns, the rows cut into `S` blocks of `T`: the sum over the blocks is the block of the product. -/
theorem colsByCols_block {m n S T r c : ℕ} (hK : K = S * T) {x : Fin S → (Mat T m).Idx → EReal} {y : Fin S → (Mat T n).Idx → EReal}
    {a : (Mat K M).Idx → EReal} {b : (Mat K N).Idx → EReal}
    (hx : ∀ s I J, (J 0).val = s.val * T + (I 0).val → (J 1).val = r * m + (I 1).val → x s I = a J)
    (hy : ∀ s I J, (J 0).val = s.val * T + (I 0).val → (J 1).val = c * n + (I 1).val → y s I = b J)
    (I : (Mat m n).Idx) (J : (Mat M N).Idx) (h0 : (J 0).val = r * m + (I 0).val) (h1 : (J 1).val = c * n + (I 1).val) :
    ∑ s, colsByCols (x s) (y s) I = colsByCols a b J :=
  Fin.sum_mul_add_congr (hL := hK) fun s k hl => congrArg₂ (· * ·) (hx s _ _ rfl h0) (hy s _ _ rfl h1)

end Cert.Products
-- ==== Proof.ValueDdown.lean ====
/- The gradient of w_down, actᵀ · dx2: 2 blocks of 1408 rows, each summed over 8 blocks of 1024 of the summed rows. -/
module

public import proofs.«01_k».proof.Proof.Products
public import proofs.«01_k».proof.Proof.Gen.DdownIdeal.Value
public import proofs.«01_k».proof.Proof.Gen.DdownRefIdeal.Run
public import proofs.«01_k».proof.Defs
import Idealize.ShloMosaic.Lib.Pipeline.ValueKit

@[expose] public section

noncomputable section

namespace Cert.DdownIdeal.Hand

open Idealize.ShloMosaic Idealize.ShloMosaic.TcCoe Idealize.SL.Sem
open Cert.DdownIdeal Cert.DdownIdeal.Gen Cert.Products

variable (m : (ℓ : Loc nD τ sig) → Buf (Elt Ideal) ℓ) (c : Dev nD)

theorem index0 : ∀ t : Fin cfg0.N, win0_0.index t = ![t.val % 8, t.val / 8] := by decide +kernel
theorem index1 : ∀ t : Fin cfg0.N, win0_1.index t = ![t.val % 8, 0] := by decide +kernel
theorem index2 : ∀ t : Fin cfg0.N, win0_2.index t = ![t.val / 8, 0] := by decide +kernel

/-- The whole product. -/
def result : S2816x1024.Idx → EReal := colsByCols (M := 2816) (N := 1024) (K := 8192) (m ((c.tc : Thread nD τ).loc main_arg0)) (m ((c.tc : Thread nD τ).loc main_arg1))

/-- The product of a point's blocks. -/
def part (t : Fin cfg0.N) : S1408x1024.Idx → EReal := colsByCols (M := 1408) (N := 1024) (K := 1024) (iblk m c 0 t) (iblk m c 1 t)

theorem lhs (t : Fin cfg0.N) (I : S1024x1408.Idx) (J : S8192x2816.Idx) (h0 : (J 0).val = t.val % 8 * 1024 + (I 0).val)
    (h1 : (J 1).val = t.val / 8 * 1408 + (I 1).val) : iblk m c 0 t I = m ((c.tc : Thread nD τ).loc main_arg0) J := by
  show m ((c.tc : Thread nD τ).loc main_arg0) (((cfg0.win 0).blk t).view.emb I) = _
  refine congrArg _ (funext fun a => Fin.ext ?_)
  match a with
  | ⟨0, _⟩ => blk_simp [index0 t]; exact h0.symm
  | ⟨1, _⟩ => blk_simp [index0 t]; exact h1.symm

theorem rhs (t : Fin cfg0.N) (I : S1024x1024.Idx) (J : S8192x1024.Idx) (h0 : (J 0).val = t.val % 8 * 1024 + (I 0).val)
    (h1 : (J 1).val = (I 1).val) : iblk m c 1 t I = m ((c.tc : Thread nD τ).loc main_arg1) J := by
  show m ((c.tc : Thread nD τ).loc main_arg1) (((cfg0.win 1).blk t).view.emb I) = _
  refine congrArg _ (funext fun a => Fin.ext ?_)
  match a with
  | ⟨0, _⟩ => blk_simp [index1 t]; exact h0.symm
  | ⟨1, _⟩ => blk_simp [index1 t]; exact h1.symm

theorem array : (dats m 0 c).arrAt 2 cfg0.N = result m c := by
  refine (dats m 0 c).arrAt_eq_of_covers 2 _ (by decide +kernel) fun t hf y => ?_
  have ht := (flush0_2 t).mp hf
  blk_simp
  rw [after0_2, Pipeline.eq_sum_fin_of_reset_step_apply_of_flush (fun n h => outsAt0 m c n h) 8 (fun _ => (0 : EReal)) (part m c)
    (fun t h j => by rw [outsAt0_A m c t h (by omega)]; frame_out; exact (mxu_cols _ _ _).trans (zero_add _).symm)
    (fun t h j => by
      rw [outsAt0_B m c t h (by omega)]; frame_out
      unfold k0_pay2; rw [shapeCast_self]
      exact congrArg (_ + ·) (mxu_cols _ _ _)) t ht, zero_add]
  unfold part
  refine colsByCols_block (S := 8) (T := 1024) (r := t.val / 8) (c := 0) rfl (fun s I J h0 h1 => ?_) (fun s I J h0 h1 => ?_) _ _ ?_ ?_
  · exact lhs m c _ I J (by show _ = (8 * (t.val / 8) + s.val) % 8 * 1024 + _; omega) (by show _ = (8 * (t.val / 8) + s.val) / 8 * 1408 + _; omega)
  · exact rhs m c _ I J (by show _ = (8 * (t.val / 8) + s.val) % 8 * 1024 + _; omega) (h1.trans (by omega))
  · blk_simp [index2 t]
  · blk_simp [index2 t]

end Cert.DdownIdeal.Hand

namespace Cert.Products

open Idealize.ShloMosaic Idealize.ShloMosaic.TcCoe Idealize.SL.Sem

theorem value_ddown : Cert.algebraic_DdownIdeal_DdownRefIdeal := fun m g m' g' _ hargs =>
  ⟨DdownIdeal.Hand.result m,
    (θ_run _ _ _).mono (fun _ h c => ⟨(h c).1.trans (DdownIdeal.Hand.array m c), (h c).2⟩) (DdownIdeal.Value.run_blocks m g),
    (θ_run _ _ _).mono (fun _ h c => ⟨(h c).1.trans ((host_cols _ _ _ _).trans (by rw [(hargs c).1, (hargs c).2]; rfl)), (h c).2⟩) (DdownRefIdeal.Value.run m' g')⟩

end Cert.Products
-- ==== Proof.ValueDact.lean ====
/- The gradient of the activations, dx2 · w_downᵀ: 8 by 2 blocks of 1024 rows and 1408 columns, each one product. -/
module

public import proofs.«01_k».proof.Proof.Products
public import proofs.«01_k».proof.Proof.Gen.DactIdeal.Value
public import proofs.«01_k».proof.Proof.Gen.DactRefIdeal.Run
public import proofs.«01_k».proof.Defs
import Idealize.ShloMosaic.Lib.Pipeline.ValueKit

@[expose] public section

noncomputable section

namespace Cert.DactIdeal.Hand

open Idealize.ShloMosaic Idealize.ShloMosaic.TcCoe Idealize.SL.Sem
open Cert.DactIdeal Cert.DactIdeal.Gen Cert.Products

variable (m : (ℓ : Loc nD τ sig) → Buf (Elt Ideal) ℓ) (c : Dev nD)

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

/-- The whole product. -/
def result : S8192x2816.Idx → EReal := rowsByRows (M := 8192) (N := 2816) (K := 1024) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_rows _ _ _).trans (rowsByRows_block (r := t.val / 2) (c := t.val % 2) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.DactIdeal.Hand

namespace Cert.Products

open Idealize.ShloMosaic Idealize.ShloMosaic.TcCoe Idealize.SL.Sem

theorem value_dact : Cert.algebraic_DactIdeal_DactRefIdeal := fun m g m' g' _ hargs =>
  ⟨DactIdeal.Hand.result m,
    (θ_run _ _ _).mono (fun _ h c => ⟨(h c).1.trans (DactIdeal.Hand.array m c), (h c).2⟩) (DactIdeal.Value.run_blocks m g),
    (θ_run _ _ _).mono (fun _ h c => ⟨(h c).1.trans ((host_rows _ _ _).trans (by rw [(hargs c).1, (hargs c).2]; rfl)), (h c).2⟩) (DactRefIdeal.Value.run m' g')⟩

end Cert.Products
-- ==== Proof.ValueDup.lean ====
/- The gradient of w_up, h2ᵀ · dup: 2 blocks of 2816 columns, each summed over 8 blocks of 1024 of the summed rows. -/
module

public import proofs.«01_k».proof.Proof.Products
public import proofs.«01_k».proof.Proof.Gen.DupIdeal.Value
public import proofs.«01_k».proof.Proof.Gen.DupRefIdeal.Run
public import proofs.«01_k».proof.Defs
import Idealize.ShloMosaic.Lib.Pipeline.ValueKit

@[expose] public section

noncomputable section

namespace Cert.DupIdeal.Hand

open Idealize.ShloMosaic Idealize.ShloMosaic.TcCoe Idealize.SL.Sem
open Cert.DupIdeal Cert.DupIdeal.Gen Cert.Products

variable (m : (ℓ : Loc nD τ sig) → Buf (Elt Ideal) ℓ) (c : Dev nD)

theorem index0 : ∀ t : Fin cfg0.N, win0_0.index t = ![t.val % 8, 0] := by decide +kernel
theorem index1 : ∀ t : Fin cfg0.N, win0_1.index t = ![t.val % 8, t.val / 8] := by decide +kernel
theorem index2 : ∀ t : Fin cfg0.N, win0_2.index t = ![0, t.val / 8] := by decide +kernel

/-- The whole product. -/
def result : S1024x5632.Idx → EReal := colsByCols (M := 1024) (N := 5632) (K := 8192) (m ((c.tc : Thread nD τ).loc main_arg0)) (m ((c.tc : Thread nD τ).loc main_arg1))

/-- The product of a point's blocks. -/
def part (t : Fin cfg0.N) : S1024x2816.Idx → EReal := colsByCols (M := 1024) (N := 2816) (K := 1024) (iblk m c 0 t) (iblk m c 1 t)

theorem lhs (t : Fin cfg0.N) (I : S1024x1024.Idx) (J : S8192x1024.Idx) (h0 : (J 0).val = t.val % 8 * 1024 + (I 0).val)
    (h1 : (J 1).val = (I 1).val) : iblk m c 0 t I = m ((c.tc : Thread nD τ).loc main_arg0) J := by
  show m ((c.tc : Thread nD τ).loc main_arg0) (((cfg0.win 0).blk t).view.emb I) = _
  refine congrArg _ (funext fun a => Fin.ext ?_)
  match a with
  | ⟨0, _⟩ => blk_simp [index0 t]; exact h0.symm
  | ⟨1, _⟩ => blk_simp [index0 t]; exact h1.symm

theorem rhs (t : Fin cfg0.N) (I : S1024x2816.Idx) (J : S8192x5632.Idx) (h0 : (J 0).val = t.val % 8 * 1024 + (I 0).val)
    (h1 : (J 1).val = t.val / 8 * 2816 + (I 1).val) : iblk m c 1 t I = m ((c.tc : Thread nD τ).loc main_arg1) J := by
  show m ((c.tc : Thread nD τ).loc main_arg1) (((cfg0.win 1).blk t).view.emb I) = _
  refine congrArg _ (funext fun a => Fin.ext ?_)
  match a with
  | ⟨0, _⟩ => blk_simp [index1 t]; exact h0.symm
  | ⟨1, _⟩ => blk_simp [index1 t]; exact h1.symm

theorem array : (dats m 0 c).arrAt 2 cfg0.N = result m c := by
  refine (dats m 0 c).arrAt_eq_of_covers 2 _ (by decide +kernel) fun t hf y => ?_
  have ht := (flush0_2 t).mp hf
  blk_simp
  rw [after0_2, Pipeline.eq_sum_fin_of_reset_step_apply_of_flush (fun n h => outsAt0 m c n h) 8 (fun _ => (0 : EReal)) (part m c)
    (fun t h j => by rw [outsAt0_A m c t h (by omega)]; frame_out; exact (mxu_cols _ _ _).trans (zero_add _).symm)
    (fun t h j => by
      rw [outsAt0_B m c t h (by omega)]; frame_out
      unfold k0_pay2; rw [shapeCast_self]
      exact congrArg (_ + ·) (mxu_cols _ _ _)) t ht, zero_add]
  unfold part
  refine colsByCols_block (S := 8) (T := 1024) (r := 0) (c := t.val / 8) rfl (fun s I J h0 h1 => ?_) (fun s I J h0 h1 => ?_) _ _ ?_ ?_
  · exact lhs m c _ I J (by show _ = (8 * (t.val / 8) + s.val) % 8 * 1024 + _; omega) (h1.trans (by omega))
  · exact rhs m c _ I J (by show _ = (8 * (t.val / 8) + s.val) % 8 * 1024 + _; omega) (h1.trans (congrArg (· * 2816 + (I 1).val) (show t.val / 8 = (8 * (t.val / 8) + s.val) / 8 by omega)))
  · blk_simp [index2 t]
  · blk_simp [index2 t]

end Cert.DupIdeal.Hand

namespace Cert.Products

open Idealize.ShloMosaic Idealize.ShloMosaic.TcCoe Idealize.SL.Sem

theorem value_dup : Cert.algebraic_DupIdeal_DupRefIdeal := fun m g m' g' _ hargs =>
  ⟨DupIdeal.Hand.result m,
    (θ_run _ _ _).mono (fun _ h c => ⟨(h c).1.trans (DupIdeal.Hand.array m c), (h c).2⟩) (DupIdeal.Value.run_blocks m g),
    (θ_run _ _ _).mono (fun _ h c => ⟨(h c).1.trans ((host_cols _ _ _ _).trans (by rw [(hargs c).1, (hargs c).2]; rfl)), (h c).2⟩) (DupRefIdeal.Value.run m' g')⟩

end Cert.Products
-- ==== Proof.ValueDh2.lean ====
/- The gradient of the second normalised input, dup · w_upᵀ: 8 by 2 blocks of 1024 rows and 512 columns, each one product. -/
module

public import proofs.«01_k».proof.Proof.Products
public import proofs.«01_k».proof.Proof.Gen.Dh2Ideal.Value
public import proofs.«01_k».proof.Proof.Gen.Dh2RefIdeal.Run
public import proofs.«01_k».proof.Defs
import Idealize.ShloMosaic.Lib.Pipeline.ValueKit

@[expose] public section

noncomputable section

namespace Cert.Dh2Ideal.Hand

open Idealize.ShloMosaic Idealize.ShloMosaic.TcCoe Idealize.SL.Sem
open Cert.Dh2Ideal Cert.Dh2Ideal.Gen Cert.Products

variable (m : (ℓ : Loc nD τ sig) → Buf (Elt Ideal) ℓ) (c : Dev nD)

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

/-- The whole product. -/
def result : S8192x1024.Idx → EReal := rowsByRows (M := 8192) (N := 1024) (K := 5632) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_rows _ _ _).trans (rowsByRows_block (r := t.val / 2) (c := t.val % 2) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.Dh2Ideal.Hand

namespace Cert.Products

open Idealize.ShloMosaic Idealize.ShloMosaic.TcCoe Idealize.SL.Sem

theorem value_dh2 : Cert.algebraic_Dh2Ideal_Dh2RefIdeal := fun m g m' g' _ hargs =>
  ⟨Dh2Ideal.Hand.result m,
    (θ_run _ _ _).mono (fun _ h c => ⟨(h c).1.trans (Dh2Ideal.Hand.array m c), (h c).2⟩) (Dh2Ideal.Value.run_blocks m g),
    (θ_run _ _ _).mono (fun _ h c => ⟨(h c).1.trans ((host_rows _ _ _).trans (by rw [(hargs c).1, (hargs c).2]; rfl)), (h c).2⟩) (Dh2RefIdeal.Value.run m' g')⟩

end Cert.Products
-- ==== Proof.ValueDout.lean ====
/- The gradient of w_out, ycatᵀ · dx1: one block, summed over 8 blocks of 1024 of the summed rows. -/
module

public import proofs.«01_k».proof.Proof.Products
public import proofs.«01_k».proof.Proof.Gen.DoutIdeal.Value
public import proofs.«01_k».proof.Proof.Gen.DoutRefIdeal.Run
public import proofs.«01_k».proof.Defs
import Idealize.ShloMosaic.Lib.Pipeline.ValueKit

@[expose] public section

noncomputable section

namespace Cert.DoutIdeal.Hand

open Idealize.ShloMosaic Idealize.ShloMosaic.TcCoe Idealize.SL.Sem
open Cert.DoutIdeal Cert.DoutIdeal.Gen Cert.Products

variable (m : (ℓ : Loc nD τ sig) → Buf (Elt Ideal) ℓ) (c : Dev nD)

theorem index0 : ∀ t : Fin cfg0.N, win0_0.index t = ![t.val % 8, 0] := by decide +kernel
theorem index1 : ∀ t : Fin cfg0.N, win0_1.index t = ![t.val % 8, 0] := by decide +kernel
theorem index2 : ∀ t : Fin cfg0.N, win0_2.index t = ![0, 0] := by decide +kernel

/-- The whole product. -/
def result : S1024x1024.Idx → EReal := colsByCols (M := 1024) (N := 1024) (K := 8192) (m ((c.tc : Thread nD τ).loc main_arg0)) (m ((c.tc : Thread nD τ).loc main_arg1))

/-- The product of a point's blocks. -/
def part (t : Fin cfg0.N) : S1024x1024.Idx → EReal := colsByCols (M := 1024) (N := 1024) (K := 1024) (iblk m c 0 t) (iblk m c 1 t)

theorem lhs (t : Fin cfg0.N) (I : S1024x1024.Idx) (J : S8192x1024.Idx) (h0 : (J 0).val = t.val % 8 * 1024 + (I 0).val)
    (h1 : (J 1).val = (I 1).val) : iblk m c 0 t I = m ((c.tc : Thread nD τ).loc main_arg0) J := by
  show m ((c.tc : Thread nD τ).loc main_arg0) (((cfg0.win 0).blk t).view.emb I) = _
  refine congrArg _ (funext fun a => Fin.ext ?_)
  match a with
  | ⟨0, _⟩ => blk_simp [index0 t]; exact h0.symm
  | ⟨1, _⟩ => blk_simp [index0 t]; exact h1.symm

theorem rhs (t : Fin cfg0.N) (I : S1024x1024.Idx) (J : S8192x1024.Idx) (h0 : (J 0).val = t.val % 8 * 1024 + (I 0).val)
    (h1 : (J 1).val = (I 1).val) : iblk m c 1 t I = m ((c.tc : Thread nD τ).loc main_arg1) J := by
  show m ((c.tc : Thread nD τ).loc main_arg1) (((cfg0.win 1).blk t).view.emb I) = _
  refine congrArg _ (funext fun a => Fin.ext ?_)
  match a with
  | ⟨0, _⟩ => blk_simp [index1 t]; exact h0.symm
  | ⟨1, _⟩ => blk_simp [index1 t]; exact h1.symm

theorem array : (dats m 0 c).arrAt 2 cfg0.N = result m c := by
  refine (dats m 0 c).arrAt_eq_of_covers 2 _ (by decide +kernel) fun t hf y => ?_
  have ht := (flush0_2 t).mp hf
  blk_simp
  rw [after0_2, Pipeline.eq_sum_fin_of_reset_step_apply_of_flush (fun n h => outsAt0 m c n h) 8 (fun _ => (0 : EReal)) (part m c)
    (fun t h j => by rw [outsAt0_A m c t h (by have := lt_of_lt_of_eq t.isLt (show cfg0.N = 8 from N_0); omega)]; frame_out; exact (mxu_cols _ _ _).trans (zero_add _).symm)
    (fun t h j => by
      rw [outsAt0_B m c t h (by omega)]; frame_out
      unfold k0_pay2; rw [shapeCast_self]
      exact congrArg (_ + ·) (mxu_cols _ _ _)) t ht, zero_add]
  unfold part
  refine colsByCols_block (S := 8) (T := 1024) (r := 0) (c := 0) rfl (fun s I J h0 h1 => ?_) (fun s I J h0 h1 => ?_) _ _ ?_ ?_
  · exact lhs m c _ I J (by show _ = (8 * (t.val / 8) + s.val) % 8 * 1024 + _; omega) (h1.trans (by omega))
  · exact rhs m c _ I J (by show _ = (8 * (t.val / 8) + s.val) % 8 * 1024 + _; omega) (h1.trans (by omega))
  · blk_simp [index2 t]
  · blk_simp [index2 t]

end Cert.DoutIdeal.Hand

namespace Cert.Products

open Idealize.ShloMosaic Idealize.ShloMosaic.TcCoe Idealize.SL.Sem

theorem value_dout : Cert.algebraic_DoutIdeal_DoutRefIdeal := fun m g m' g' _ hargs =>
  ⟨DoutIdeal.Hand.result m,
    (θ_run _ _ _).mono (fun _ h c => ⟨(h c).1.trans (DoutIdeal.Hand.array m c), (h c).2⟩) (DoutIdeal.Value.run_blocks m g),
    (θ_run _ _ _).mono (fun _ h c => ⟨(h c).1.trans ((host_cols _ _ _ _).trans (by rw [(hargs c).1, (hargs c).2]; rfl)), (h c).2⟩) (DoutRefIdeal.Value.run m' g')⟩

end Cert.Products
-- ==== Proof.ValueDycat.lean ====
/- The gradient of the mixer's output, dx1 · w_outᵀ: 8 by 2 blocks of 1024 rows and 512 columns, each one product. -/
module

public import proofs.«01_k».proof.Proof.Products
public import proofs.«01_k».proof.Proof.Gen.DycatIdeal.Value
public import proofs.«01_k».proof.Proof.Gen.DycatRefIdeal.Run
public import proofs.«01_k».proof.Defs
import Idealize.ShloMosaic.Lib.Pipeline.ValueKit

@[expose] public section

noncomputable section

namespace Cert.DycatIdeal.Hand

open Idealize.ShloMosaic Idealize.ShloMosaic.TcCoe Idealize.SL.Sem
open Cert.DycatIdeal Cert.DycatIdeal.Gen Cert.Products

variable (m : (ℓ : Loc nD τ sig) → Buf (Elt Ideal) ℓ) (c : Dev nD)

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

/-- The whole product. -/
def result : S8192x1024.Idx → EReal := rowsByRows (M := 8192) (N := 1024) (K := 1024) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_rows _ _ _).trans (rowsByRows_block (r := t.val / 2) (c := t.val % 2) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.DycatIdeal.Hand

namespace Cert.Products

open Idealize.ShloMosaic Idealize.ShloMosaic.TcCoe Idealize.SL.Sem

theorem value_dycat : Cert.algebraic_DycatIdeal_DycatRefIdeal := fun m g m' g' _ hargs =>
  ⟨DycatIdeal.Hand.result m,
    (θ_run _ _ _).mono (fun _ h c => ⟨(h c).1.trans (DycatIdeal.Hand.array m c), (h c).2⟩) (DycatIdeal.Value.run_blocks m g),
    (θ_run _ _ _).mono (fun _ h c => ⟨(h c).1.trans ((host_rows _ _ _).trans (by rw [(hargs c).1, (hargs c).2]; rfl)), (h c).2⟩) (DycatRefIdeal.Value.run m' g')⟩

end Cert.Products
-- ==== Proof.ValueDin.lean ====
/- The gradient of w_in, hᵀ · dproj: 2 blocks of 1920 columns, each summed over 8 blocks of 1024 of the summed rows. -/
module

public import proofs.«01_k».proof.Proof.Products
public import proofs.«01_k».proof.Proof.Gen.DinIdeal.Value
public import proofs.«01_k».proof.Proof.Gen.DinRefIdeal.Run
public import proofs.«01_k».proof.Defs
import Idealize.ShloMosaic.Lib.Pipeline.ValueKit

@[expose] public section

noncomputable section

namespace Cert.DinIdeal.Hand

open Idealize.ShloMosaic Idealize.ShloMosaic.TcCoe Idealize.SL.Sem
open Cert.DinIdeal Cert.DinIdeal.Gen Cert.Products

variable (m : (ℓ : Loc nD τ sig) → Buf (Elt Ideal) ℓ) (c : Dev nD)

theorem index0 : ∀ t : Fin cfg0.N, win0_0.index t = ![t.val % 8, 0] := by decide +kernel
theorem index1 : ∀ t : Fin cfg0.N, win0_1.index t = ![t.val % 8, t.val / 8] := by decide +kernel
theorem index2 : ∀ t : Fin cfg0.N, win0_2.index t = ![0, t.val / 8] := by decide +kernel

/-- The whole product. -/
def result : S1024x3840.Idx → EReal := colsByCols (M := 1024) (N := 3840) (K := 8192) (m ((c.tc : Thread nD τ).loc main_arg0)) (m ((c.tc : Thread nD τ).loc main_arg1))

/-- The product of a point's blocks. -/
def part (t : Fin cfg0.N) : S1024x1920.Idx → EReal := colsByCols (M := 1024) (N := 1920) (K := 1024) (iblk m c 0 t) (iblk m c 1 t)

theorem lhs (t : Fin cfg0.N) (I : S1024x1024.Idx) (J : S8192x1024.Idx) (h0 : (J 0).val = t.val % 8 * 1024 + (I 0).val)
    (h1 : (J 1).val = (I 1).val) : iblk m c 0 t I = m ((c.tc : Thread nD τ).loc main_arg0) J := by
  show m ((c.tc : Thread nD τ).loc main_arg0) (((cfg0.win 0).blk t).view.emb I) = _
  refine congrArg _ (funext fun a => Fin.ext ?_)
  match a with
  | ⟨0, _⟩ => blk_simp [index0 t]; exact h0.symm
  | ⟨1, _⟩ => blk_simp [index0 t]; exact h1.symm

theorem rhs (t : Fin cfg0.N) (I : S1024x1920.Idx) (J : S8192x3840.Idx) (h0 : (J 0).val = t.val % 8 * 1024 + (I 0).val)
    (h1 : (J 1).val = t.val / 8 * 1920 + (I 1).val) : iblk m c 1 t I = m ((c.tc : Thread nD τ).loc main_arg1) J := by
  show m ((c.tc : Thread nD τ).loc main_arg1) (((cfg0.win 1).blk t).view.emb I) = _
  refine congrArg _ (funext fun a => Fin.ext ?_)
  match a with
  | ⟨0, _⟩ => blk_simp [index1 t]; exact h0.symm
  | ⟨1, _⟩ => blk_simp [index1 t]; exact h1.symm

theorem array : (dats m 0 c).arrAt 2 cfg0.N = result m c := by
  refine (dats m 0 c).arrAt_eq_of_covers 2 _ (by decide +kernel) fun t hf y => ?_
  have ht := (flush0_2 t).mp hf
  blk_simp
  rw [after0_2, Pipeline.eq_sum_fin_of_reset_step_apply_of_flush (fun n h => outsAt0 m c n h) 8 (fun _ => (0 : EReal)) (part m c)
    (fun t h j => by rw [outsAt0_A m c t h (by omega)]; frame_out; exact (mxu_cols _ _ _).trans (zero_add _).symm)
    (fun t h j => by
      rw [outsAt0_B m c t h (by omega)]; frame_out
      unfold k0_pay2; rw [shapeCast_self]
      exact congrArg (_ + ·) (mxu_cols _ _ _)) t ht, zero_add]
  unfold part
  refine colsByCols_block (S := 8) (T := 1024) (r := 0) (c := t.val / 8) rfl (fun s I J h0 h1 => ?_) (fun s I J h0 h1 => ?_) _ _ ?_ ?_
  · exact lhs m c _ I J (by show _ = (8 * (t.val / 8) + s.val) % 8 * 1024 + _; omega) (h1.trans (by omega))
  · exact rhs m c _ I J (by show _ = (8 * (t.val / 8) + s.val) % 8 * 1024 + _; omega) (by show _ = (8 * (t.val / 8) + s.val) / 8 * 1920 + _; omega)
  · blk_simp [index2 t]
  · blk_simp [index2 t]

end Cert.DinIdeal.Hand

namespace Cert.Products

open Idealize.ShloMosaic Idealize.ShloMosaic.TcCoe Idealize.SL.Sem

theorem value_din : Cert.algebraic_DinIdeal_DinRefIdeal := fun m g m' g' _ hargs =>
  ⟨DinIdeal.Hand.result m,
    (θ_run _ _ _).mono (fun _ h c => ⟨(h c).1.trans (DinIdeal.Hand.array m c), (h c).2⟩) (DinIdeal.Value.run_blocks m g),
    (θ_run _ _ _).mono (fun _ h c => ⟨(h c).1.trans ((host_cols _ _ _ _).trans (by rw [(hargs c).1, (hargs c).2]; rfl)), (h c).2⟩) (DinRefIdeal.Value.run m' g')⟩

end Cert.Products
-- ==== Proof.ValueDh.lean ====
/- The gradient of the first normalised input, dproj · w_inᵀ: 8 by 2 blocks of 1024 rows and 512 columns, each one product. -/
module

public import proofs.«01_k».proof.Proof.Products
public import proofs.«01_k».proof.Proof.Gen.DhIdeal.Value
public import proofs.«01_k».proof.Proof.Gen.DhRefIdeal.Run
public import proofs.«01_k».proof.Defs
import Idealize.ShloMosaic.Lib.Pipeline.ValueKit

@[expose] public section

noncomputable section

namespace Cert.DhIdeal.Hand

open Idealize.ShloMosaic Idealize.ShloMosaic.TcCoe Idealize.SL.Sem
open Cert.DhIdeal Cert.DhIdeal.Gen Cert.Products

variable (m : (ℓ : Loc nD τ sig) → Buf (Elt Ideal) ℓ) (c : Dev nD)

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

/-- The whole product. -/
def result : S8192x1024.Idx → EReal := rowsByRows (M := 8192) (N := 1024) (K := 3840) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_rows _ _ _).trans (rowsByRows_block (r := t.val / 2) (c := t.val % 2) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.DhIdeal.Hand

namespace Cert.Products

open Idealize.ShloMosaic Idealize.ShloMosaic.TcCoe Idealize.SL.Sem

theorem value_dh : Cert.algebraic_DhIdeal_DhRefIdeal := fun m g m' g' _ hargs =>
  ⟨DhIdeal.Hand.result m,
    (θ_run _ _ _).mono (fun _ h c => ⟨(h c).1.trans (DhIdeal.Hand.array m c), (h c).2⟩) (DhIdeal.Value.run_blocks m g),
    (θ_run _ _ _).mono (fun _ h c => ⟨(h c).1.trans ((host_rows _ _ _).trans (by rw [(hargs c).1, (hargs c).2]; rfl)), (h c).2⟩) (DhRefIdeal.Value.run m' g')⟩

end Cert.Products
-- ==== Proof.ValueProj.lean ====
/- The projections, h · w_in: 4 by 5 blocks of 2048 rows and 768 columns, each one product. -/
module

public import proofs.«01_k».proof.Proof.Products
public import proofs.«01_k».proof.Proof.Gen.ProjIdeal.Value
public import proofs.«01_k».proof.Proof.Gen.ProjRefIdeal.Run
public import proofs.«01_k».proof.Defs
import Idealize.ShloMosaic.Lib.Pipeline.ValueKit

@[expose] public section

noncomputable section

namespace Cert.ProjIdeal.Hand

open Idealize.ShloMosaic Idealize.ShloMosaic.TcCoe Idealize.SL.Sem
open Cert.ProjIdeal Cert.ProjIdeal.Gen Cert.Products

variable (m : (ℓ : Loc nD τ sig) → Buf (Elt Ideal) ℓ) (c : Dev nD)

theorem index0 : ∀ t : Fin cfg0.N, win0_0.index t = ![t.val / 5, 0] := by decide +kernel
theorem index1 : ∀ t : Fin cfg0.N, win0_1.index t = ![0, t.val % 5] := by decide +kernel
theorem index2 : ∀ t : Fin cfg0.N, win0_2.index t = ![t.val / 5, t.val % 5] := by decide +kernel

/-- The whole product. -/
def result : S8192x3840.Idx → EReal := product (M := 8192) (N := 3840) (K := 1024) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_plain _ _ _).trans (product_block (r := t.val / 5) (c := t.val % 5) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.ProjIdeal.Hand

namespace Cert.Products

open Idealize.ShloMosaic Idealize.ShloMosaic.TcCoe Idealize.SL.Sem

theorem value_proj : Cert.algebraic_ProjIdeal_ProjRefIdeal := fun m g m' g' _ hargs =>
  ⟨ProjIdeal.Hand.result m,
    (θ_run _ _ _).mono (fun _ h c => ⟨(h c).1.trans (ProjIdeal.Hand.array m c), (h c).2⟩) (ProjIdeal.Value.run_blocks m g),
    (θ_run _ _ _).mono (fun _ h c => ⟨(h c).1.trans ((host_plain _ _ _).trans (by rw [(hargs c).1, (hargs c).2]; rfl)), (h c).2⟩) (ProjRefIdeal.Value.run m' g')⟩

end Cert.Products
-- ==== Proof.ValueMix.lean ====
/- The mixer's last product with the residual, x + ycat · w_out: 4 by 2 blocks of 2048 rows and 512 columns, each one product. -/
module

public import proofs.«01_k».proof.Proof.Products
public import proofs.«01_k».proof.Proof.Gen.MixIdeal.Value
public import proofs.«01_k».proof.Proof.Gen.MixRefIdeal.Run
public import proofs.«01_k».proof.Defs
import Idealize.ShloMosaic.Lib.Pipeline.ValueKit

@[expose] public section

noncomputable section

namespace Cert.MixIdeal.Hand

open Idealize.ShloMosaic Idealize.ShloMosaic.TcCoe Idealize.SL.Sem
open Cert.MixIdeal Cert.MixIdeal.Gen Cert.Products

variable (m : (ℓ : Loc nD τ sig) → Buf (Elt Ideal) ℓ) (c : Dev nD)

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

/-- The whole product and the residual. -/
def result : S8192x1024.Idx → EReal :=
  plusProduct (M := 8192) (N := 1024) (K := 1024) (m ((c.tc : Thread nD τ).loc main_arg2)) (m ((c.tc : Thread nD τ).loc main_arg0)) (m ((c.tc : Thread nD τ).loc main_arg1))

theorem array : (dats m 0 c).arrAt 3 cfg0.N = result m c := by
  refine (dats m 0 c).arrAt_eq_of_covers 3 _ (by decide +kernel) fun t hf y => ?_
  blk_simp
  rw [after0_3]
  frame_out
  refine (add_comm (G := EReal) _ _).trans (congrArg₂ (fun a b : EReal => a + b) ?_ ((mxu_plain _ _ _).trans (product_block (r := t.val / 2) (c := t.val % 2) (fun I J h0 h1 => ?_) (fun I J h0 h1 => ?_) _ _ ?_ ?_)))
  · show m ((c.tc : Thread nD τ).loc main_arg2) (((cfg0.win 2).blk t).view.emb y) = _
    refine congrArg _ (funext fun a => Fin.ext ?_)
    match a with
    | ⟨0, _⟩ => blk_simp [index2 t, index3 t]
    | ⟨1, _⟩ => blk_simp [index2 t, index3 t]
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index3 t]
  · blk_simp [index3 t]

end Cert.MixIdeal.Hand

namespace Cert.Products

open Idealize.ShloMosaic Idealize.ShloMosaic.TcCoe Idealize.SL.Sem

theorem value_mix : Cert.algebraic_MixIdeal_MixRefIdeal := fun m g m' g' _ hargs =>
  ⟨MixIdeal.Hand.result m,
    (θ_run _ _ _).mono (fun _ h c => ⟨(h c).1.trans (MixIdeal.Hand.array m c), (h c).2⟩) (MixIdeal.Value.run_blocks m g),
    (θ_run _ _ _).mono (fun _ h c => ⟨(h c).1.trans ((congrArg (addf _) (host_plain _ _ _)).trans (by rw [(hargs c).1, (hargs c).2.1, (hargs c).2.2]; rfl)), (h c).2⟩) (MixRefIdeal.Value.run m' g')⟩

end Cert.Products
-- ==== Proof.ValueUp.lean ====
/- The FFN's first product, h2 · w_up: 4 by 11 blocks of 2048 rows and 512 columns, each one product. -/
module

public import proofs.«01_k».proof.Proof.Products
public import proofs.«01_k».proof.Proof.Gen.UpIdeal.Value
public import proofs.«01_k».proof.Proof.Gen.UpRefIdeal.Run
public import proofs.«01_k».proof.Defs
import Idealize.ShloMosaic.Lib.Pipeline.ValueKit

@[expose] public section

noncomputable section

namespace Cert.UpIdeal.Hand

open Idealize.ShloMosaic Idealize.ShloMosaic.TcCoe Idealize.SL.Sem
open Cert.UpIdeal Cert.UpIdeal.Gen Cert.Products

variable (m : (ℓ : Loc nD τ sig) → Buf (Elt Ideal) ℓ) (c : Dev nD)

theorem index0 : ∀ t : Fin cfg0.N, win0_0.index t = ![t.val / 11, 0] := by decide +kernel
theorem index1 : ∀ t : Fin cfg0.N, win0_1.index t = ![0, t.val % 11] := by decide +kernel
theorem index2 : ∀ t : Fin cfg0.N, win0_2.index t = ![t.val / 11, t.val % 11] := by decide +kernel

/-- The whole product. -/
def result : S8192x5632.Idx → EReal := product (M := 8192) (N := 5632) (K := 1024) (m ((c.tc : Thread nD τ).loc main_arg0)) (m ((c.tc : Thread nD τ).loc main_arg1))

theorem array : (dats m 0 c).arrAt 2 cfg0.N = result m c := by
  refine (dats m 0 c).arrAt_eq_of_covers 2 _ (by decide +kernel) fun t hf y => ?_
  blk_simp
  rw [after0_2]
  frame_out
  refine (mxu_plain _ _ _).trans (product_block (r := t.val / 11) (c := t.val % 11) (fun I J h0 h1 => ?_) (fun I J h0 h1 => ?_) _ _ ?_ ?_)
  · show m ((c.tc : Thread nD τ).loc main_arg0) (((cfg0.win 0).blk t).view.emb I) = _
    refine congrArg _ (funext fun a => Fin.ext ?_)
    match a with
    | ⟨0, _⟩ => blk_simp [index0 t]; exact h0.symm
    | ⟨1, _⟩ => blk_simp [index0 t]; exact h1.symm
  · show m ((c.tc : Thread nD τ).loc main_arg1) (((cfg0.win 1).blk t).view.emb I) = _
    refine congrArg _ (funext fun a => Fin.ext ?_)
    match a with
    | ⟨0, _⟩ => blk_simp [index1 t]; exact h0.symm
    | ⟨1, _⟩ => blk_simp [index1 t]; exact h1.symm
  · blk_simp [index2 t]
  · blk_simp [index2 t]

end Cert.UpIdeal.Hand

namespace Cert.Products

open Idealize.ShloMosaic Idealize.ShloMosaic.TcCoe Idealize.SL.Sem

theorem value_up : Cert.algebraic_UpIdeal_UpRefIdeal := fun m g m' g' _ hargs =>
  ⟨UpIdeal.Hand.result m,
    (θ_run _ _ _).mono (fun _ h c => ⟨(h c).1.trans (UpIdeal.Hand.array m c), (h c).2⟩) (UpIdeal.Value.run_blocks m g),
    (θ_run _ _ _).mono (fun _ h c => ⟨(h c).1.trans ((host_plain _ _ _).trans (by rw [(hargs c).1, (hargs c).2]; rfl)), (h c).2⟩) (UpRefIdeal.Value.run m' g')⟩

end Cert.Products
-- ==== Proof.ValueDown.lean ====
/- The FFN's last product with the residual, x1 + act · w_down: 4 by 2 blocks of 2048 rows and 512 columns, each in two
   steps of 1408 terms: the first adds the residual, the second the rest of the product. -/
module

public import proofs.«01_k».proof.Proof.Products
public import proofs.«01_k».proof.Proof.Gen.DownIdeal.Value
public import proofs.«01_k».proof.Proof.Gen.DownRefIdeal.Run
public import proofs.«01_k».proof.Defs
import Idealize.ShloMosaic.Lib.Pipeline.ValueKit

@[expose] public section

noncomputable section

namespace Cert.DownIdeal.Hand

open Idealize.ShloMosaic Idealize.ShloMosaic.TcCoe Idealize.SL.Sem
open Cert.DownIdeal Cert.DownIdeal.Gen Cert.Products

variable (m : (ℓ : Loc nD τ sig) → Buf (Elt Ideal) ℓ) (c : Dev nD)

theorem index0 : ∀ t : Fin cfg0.N, win0_0.index t = ![t.val / 4, t.val % 2] := by decide +kernel
theorem index1 : ∀ t : Fin cfg0.N, win0_1.index t = ![t.val % 2, t.val / 2 % 2] := by decide +kernel
theorem index2 : ∀ t : Fin cfg0.N, win0_2.index t = ![t.val / 4, t.val / 2 % 2] := by decide +kernel
theorem index3 : ∀ t : Fin cfg0.N, win0_3.index t = ![t.val / 4, t.val / 2 % 2] := by decide +kernel

/-- The whole product and the residual. -/
def result : S8192x1024.Idx → EReal :=
  plusProduct (M := 8192) (N := 1024) (K := 2816) (m ((c.tc : Thread nD τ).loc main_arg2)) (m ((c.tc : Thread nD τ).loc main_arg0)) (m ((c.tc : Thread nD τ).loc main_arg1))

/-- The blocks of the factors at a point and their product; the block of the residual. -/
abbrev lhs (t : Fin cfg0.N) : (Mat 2048 1408).Idx → EReal := iblk m c 0 t
abbrev rhs (t : Fin cfg0.N) : (Mat 1408 512).Idx → EReal := iblk m c 1 t
abbrev res (t : Fin cfg0.N) : (Mat 2048 512).Idx → EReal := iblk m c 2 t
def part (t : Fin cfg0.N) : (Mat 2048 512).Idx → EReal := product (lhs m c t) (rhs m c t)

/-- The point `s` of the run that ends at `t`. -/
def pt (t : Fin cfg0.N) (s : Fin 2) : Fin cfg0.N := ⟨2 * (t.val / 2) + s.val, by
  have := lt_of_lt_of_eq t.isLt (show cfg0.N = 16 from N_0); exact lt_of_lt_of_eq (by omega) N_0.symm⟩

theorem first (t : Fin cfg0.N) (h0 : t.val % 2 = 0) (y : (Mat 2048 512).Idx) :
    outsAt0 m c t.val t.isLt y = (part m c t y + res m c t y : EReal) := by
  rw [outsAt0_A m c t h0 (by omega)]
  frame_out
  exact congrArg (fun a : EReal => a + res m c t y) (mxu_plain _ _ _)

theorem last (t : Fin cfg0.N) (h1 : t.val % 2 = 1) (y : (Mat 2048 512).Idx) :
    outsAt0 m c t.val t.isLt y = (outsAt0 m c (t.val - 1) (Nat.lt_of_le_of_lt (Nat.sub_le _ _) t.isLt) y + part m c t y : EReal) := by
  rw [outsAt0_B m c t (by omega) h1]
  frame_out
  unfold k0_pay3
  rw [shapeCast_self]
  exact congrArg (_ + ·) (mxu_plain _ _ _)

theorem array : (dats m 0 c).arrAt 3 cfg0.N = result m c := by
  refine (dats m 0 c).arrAt_eq_of_covers 3 _ (by decide +kernel) fun t hf y => ?_
  have ht : t.val % 2 = 1 := (flush0_3 t).mp hf
  blk_simp
  rw [after0_3, last m c t ht y, first m c ⟨t.val - 1, Nat.lt_of_le_of_lt (Nat.sub_le _ _) t.isLt⟩ (by show (t.val - 1) % 2 = 0; omega) y]
  have e0 : (⟨t.val - 1, Nat.lt_of_le_of_lt (Nat.sub_le _ _) t.isLt⟩ : Fin cfg0.N) = pt t 0 := Fin.ext (show t.val - 1 = 2 * (t.val / 2) + 0 by omega)
  have e1 : t = pt t 1 := Fin.ext (show t.val = 2 * (t.val / 2) + 1 by omega)
  rw [e0]
  refine Eq.trans (b := res m c (pt t 0) y + ∑ s, part m c (pt t s) y) ?_ (congrArg₂ (fun a b : EReal => a + b) ?_ ?_)
  · rw [Fin.sum_univ_two, ← e1, add_comm (part m c (pt t 0) y), add_assoc]
  · show m ((c.tc : Thread nD τ).loc main_arg2) (((cfg0.win 2).blk (pt t 0)).view.emb y) = _
    refine congrArg _ (funext fun a => Fin.ext ?_)
    match a with
    | ⟨0, _⟩ => blk_simp [index2 (pt t 0), index3 t]; exact congrArg (· * 2048 + (y 0).val) (show (2 * (t.val / 2) + 0) / 4 = t.val / 4 by omega)
    | ⟨1, _⟩ => blk_simp [index2 (pt t 0), index3 t]; exact congrArg (· * 512 + (y 1).val) (show (2 * (t.val / 2) + 0) / 2 % 2 = t.val / 2 % 2 by omega)
  · refine product_blocks (S := 2) (T := 1408) (r := t.val / 4) (c := t.val / 2 % 2) rfl (fun s I J h0 h1 => ?_) (fun s I J h0 h1 => ?_) _ _ ?_ ?_
    · show m ((c.tc : Thread nD τ).loc main_arg0) (((cfg0.win 0).blk (pt t s)).view.emb I) = _
      refine congrArg _ (funext fun a => Fin.ext ?_)
      match a with
      | ⟨0, _⟩ => blk_simp [index0 (pt t s)]; exact (h0.trans (congrArg (· * 2048 + (I 0).val) (show t.val / 4 = (2 * (t.val / 2) + s.val) / 4 by omega))).symm
      | ⟨1, _⟩ => blk_simp [index0 (pt t s)]; exact (h1.trans (congrArg (· * 1408 + (I 1).val) (show s.val = (2 * (t.val / 2) + s.val) % 2 by omega))).symm
    · show m ((c.tc : Thread nD τ).loc main_arg1) (((cfg0.win 1).blk (pt t s)).view.emb I) = _
      refine congrArg _ (funext fun a => Fin.ext ?_)
      match a with
      | ⟨0, _⟩ => blk_simp [index1 (pt t s)]; exact (h0.trans (congrArg (· * 1408 + (I 0).val) (show s.val = (2 * (t.val / 2) + s.val) % 2 by omega))).symm
      | ⟨1, _⟩ => blk_simp [index1 (pt t s)]; exact (h1.trans (congrArg (· * 512 + (I 1).val) (show t.val / 2 % 2 = (2 * (t.val / 2) + s.val) / 2 % 2 by omega))).symm
    · blk_simp [index3 t]
    · blk_simp [index3 t]

end Cert.DownIdeal.Hand

namespace Cert.Products

open Idealize.ShloMosaic Idealize.ShloMosaic.TcCoe Idealize.SL.Sem

theorem value_down : Cert.algebraic_DownIdeal_DownRefIdeal := fun m g m' g' _ hargs =>
  ⟨DownIdeal.Hand.result m,
    (θ_run _ _ _).mono (fun _ h c => ⟨(h c).1.trans (DownIdeal.Hand.array m c), (h c).2⟩) (DownIdeal.Value.run_blocks m g),
    (θ_run _ _ _).mono (fun _ h c => ⟨(h c).1.trans ((congrArg (addf _) (host_plain _ _ _)).trans (by rw [(hargs c).1, (hargs c).2.1, (hargs c).2.2]; rfl)), (h c).2⟩) (DownRefIdeal.Value.run m' g')⟩

end Cert.Products
-- ==== Proof.Column.lean ====
/- A vector read as a column. -/
module

public import Idealize.ShloMosaic.Lib.Pipeline.Value
import Idealize.ShloMosaic.Lib.Pointwise.Reshape

@[expose] public section

namespace Cert.KernelIdeal.Sweep

open Idealize.ShloMosaic

theorem column_apply {α : Type} (N : ℕ) (x : (⟨1, ![N]⟩ : Shape).Idx → α) (h : (⟨1, ![N]⟩ : Shape).ShapeCasts ⟨2, ![N, 1]⟩)
    (I : (⟨2, ![N, 1]⟩ : Shape).Idx) (k : (⟨1, ![N]⟩ : Shape).Idx) (hk : (k 0).val = (I 0).val) : shapeCast ⟨2, ![N, 1]⟩ x h I = x k :=
  shapeCast_apply _ _ _ _ (by
    have h1 : (I 1).val = 0 := Nat.lt_one_iff.mp (I 1).isLt
    rw [rowMajor_val1, rowMajor_val2 I 1 rfl, h1, hk]
    omega)

end Cert.KernelIdeal.Sweep
-- ==== Proof.Norms.lean ====
/- A row of the norm and of its gradient, as functions of the row alone: the norm treats each of the 8192 rows by itself. The values are
   extended reals; both programs apply the same operations to a row, so nothing has to be finite. -/
module

public import Idealize.ShloMosaic.Lib.ValueIdx
public import Idealize.ShloMosaic.Lib.ValueLayout
public import Idealize.ShloMosaic.PureOps.Ideal.Laws
public import proofs.«01_k».proof.Proof.Column
import Idealize.ShloMosaic.Lib.Pointwise.Reshape
import Idealize.ShloMosaic.Lib.Pipeline.ValueKit

@[expose] public section

noncomputable section

namespace Cert.Norms

open Idealize.ShloMosaic
open scoped BigOperators

/-- The shape of a matrix. -/
abbrev Mat (r c : ℕ) : Shape := ⟨2, ![r, c]⟩

/-- A row of 1024 entries. -/
abbrev Row := Fin 1024 → EReal

/-- Row `r` of a matrix. -/
def row {n : ℕ} (x : (Mat n 1024).Idx → EReal) (r : Fin n) : Row := fun k => x (ValueIdx.ix2 r k)

/-- The mean of a row's squares, and the small constant. -/
def energy (x : Row) : EReal := Ideal.div (∑ k, x k * x k) (Ideal.ofBits .f32 0x44800000#32) + Ideal.ofBits .f32 0x358637BD#32

/-- One over the root of it. -/
def scale (x : Row) : EReal := Ideal.rsqrt (energy x)

/-- The norm of a row, with the weights `w`. -/
def normed (x w : Row) : Row := fun j => x j * scale x * w j

/-- The gradient that comes in, times the weights. -/
def weighted (w d : Row) : Row := fun j => d j * w j

/-- What each of a row's squares receives: the sum of entry times gradient, times the slope of `scale`, over the row's length. -/
def pull (x g : Row) : EReal :=
  Ideal.div ((∑ k, x k * g k) * (Ideal.ofBits .f32 0xBF000000#32 * Ideal.div (scale x) (energy x))) (Ideal.ofBits .f32 0x44800000#32)

/-- The gradient by a row, added to `r`. -/
def back (x w d r : Row) : Row := fun j => r j + (weighted w d j * scale x + x j * pull x (weighted w d) + pull x (weighted w d) * x j)

/-- A row's share of the gradient by the weights. -/
def share (x d : Row) : Row := fun j => x j * scale x * d j

/-- A column, spread over the columns of a matrix. -/
theorem spread_apply {α : Type} {n k : ℕ} (v : (Mat n 1).Idx → α) (h : (Mat n 1).Broadcasts (Mat n k)) (J : (Mat n k).Idx) :
    broadcastTo (Mat n k) v h J = v (ValueIdx.ix2 (J 0) 0) := by
  refine broadcastTo_apply v h J _ fun a => ?_
  match a with
  | ⟨0, _⟩ =>
    by_cases e : n = 1
    · subst e
      exact (Nat.lt_one_iff.mp (J 0).isLt).trans (if_pos rfl).symm
    · exact (if_neg e).symm
  | ⟨1, _⟩ => exact (if_pos rfl).symm

/-- A row, spread over the rows of a matrix. -/
theorem repeat_apply {α : Type} {n k : ℕ} (v : (Mat 1 k).Idx → α) (h : (Mat 1 k).Broadcasts (Mat n k)) (J : (Mat n k).Idx) :
    broadcastTo (Mat n k) v h J = v (ValueIdx.ix2 0 (J 1)) := by
  refine broadcastTo_apply v h J _ fun a => ?_
  match a with
  | ⟨0, _⟩ => exact (if_pos rfl).symm
  | ⟨1, _⟩ =>
    by_cases e : k = 1
    · subst e
      exact (Nat.lt_one_iff.mp (J 1).isLt).trans (if_pos rfl).symm
    · exact (if_neg e).symm

/-- The sums of a matrix's rows, as a column. -/
theorem rowSum_apply {n k : ℕ} (x : FVec Ideal (Mat n k) .f32) (h : (Mat n k).Reduces [1] ⟨1, ![n]⟩) (hφ : FKind.Formats .f32)
    (hacc : (0x00000000#32 : BitVec 32) = FKind.add.neutral .f32 hφ) (hc : (⟨1, ![n]⟩ : Shape).ShapeCasts (Mat n 1)) (I : (Mat n 1).Idx) :
    shapeCast (Mat n 1) (multiReduction .add [1] ⟨1, ![n]⟩ x 0x00000000#32 h hφ hacc) hc I = ∑ j : Fin k, x (ValueIdx.ix2 (I 0) j) := by
  refine (Cert.KernelIdeal.Sweep.column_apply n _ hc I (ValueIdx.ix1 (I 0)) rfl).trans ?_
  refine (Ideal.multiReduction_add_single (s := Mat n k) (a := 1) x _ h _ _ _).trans ?_
  refine Finset.sum_congr rfl fun j _ => congrArg x (funext fun a => ?_)
  match a with
  | ⟨0, _⟩ => rfl
  | ⟨1, _⟩ => rfl

/-- The sums of a matrix's columns, as a row. -/
theorem colSum_apply {n k : ℕ} (x : FVec Ideal (Mat n k) .f32) (h : (Mat n k).Reduces [0] ⟨1, ![k]⟩) (hφ : FKind.Formats .f32)
    (hacc : (0x00000000#32 : BitVec 32) = FKind.add.neutral .f32 hφ) (hc : (⟨1, ![k]⟩ : Shape).ShapeCasts (Mat 1 k)) (I : (Mat 1 k).Idx) :
    shapeCast (Mat 1 k) (multiReduction .add [0] ⟨1, ![k]⟩ x 0x00000000#32 h hφ hacc) hc I = ∑ r : Fin n, x (ValueIdx.ix2 r (I 1)) := by
  refine (shapeCast_apply _ hc I (ValueIdx.ix1 (I 1)) ?_).trans ?_
  · have h0 : (I 0).val = 0 := Nat.lt_one_iff.mp (I 0).isLt
    rw [rowMajor_val1, rowMajor_val2 I k rfl, h0]
    simp only [Nat.zero_mul, Nat.zero_add]
    rfl
  refine (Ideal.multiReduction_add_single (s := Mat n k) (a := 0) x _ h _ _ _).trans ?_
  refine Finset.sum_congr rfl fun j _ => congrArg x (funext fun a => ?_)
  match a with
  | ⟨0, _⟩ => rfl
  | ⟨1, _⟩ => rfl

end Cert.Norms
-- ==== Proof.ValueNorm.lean ====
/- The norm of the 8192 rows, in 16 blocks of 512. -/
module

public import proofs.«01_k».proof.Proof.Norms
public import proofs.«01_k».proof.Proof.Gen.NormIdeal.Value
public import proofs.«01_k».proof.Proof.Gen.NormRefIdeal.Run
public import proofs.«01_k».proof.Proof.Gen.NormRefIdeal.Read
public import proofs.«01_k».proof.Defs
import Idealize.ShloMosaic.Lib.Pipeline.ValueKit

@[expose] public section

noncomputable section

namespace Cert.NormIdeal.Hand

open Idealize.ShloMosaic Idealize.ShloMosaic.TcCoe Idealize.SL.Sem
open Cert.NormIdeal Cert.NormIdeal.Gen Cert.Norms

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- The norm of every row. -/
def result (x : (Mat 8192 1024).Idx → EReal) (w : (Mat 1 1024).Idx → EReal) : (Mat 8192 1024).Idx → EReal :=
  fun J => normed (row x (J 0)) (row w 0) (J 1)

/-- A block's norm. -/
theorem block_norm (x : FVec Ideal S512x1024 .f32) (w : FVec Ideal S1x1024 .f32) (I : S512x1024.Idx) :
    (k0_pay1 (F := Ideal) x w I : EReal) = normed (row x (I 0)) (row w 0) (I 1) := by
  unfold k0_pay1
  show x I * broadcastTo (Mat 512 1024) _ _ I * broadcastTo (Mat 512 1024) _ _ I = _
  rw [spread_apply, repeat_apply]
  refine congrArg₂ (fun a b : EReal => a * Ideal.rsqrt b * row w 0 (I 1)) (congrArg x (funext fun a => ?_)) ?_
  · match a with
    | ⟨0, _⟩ => rfl
    | ⟨1, _⟩ => rfl
  · refine congrArg (fun a : EReal => Ideal.div a _ + _) ((rowSum_apply _ _ _ _ _ _).trans ?_)
    rfl

theorem array : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  refine (block_norm _ _ _).trans ?_
  have hx : row (iblk m c 0 t : (Mat 512 1024).Idx → EReal) (y 0) = row (m ((c.tc : Thread nD τ).loc main_arg0)) (((cfg0.win 2).blk t).view.emb y 0) := by
    funext k
    show m ((c.tc : Thread nD τ).loc main_arg0) (((cfg0.win 0).blk t).view.emb (ValueIdx.ix2 (y 0) k)) = m _ _
    refine congrArg _ (funext fun a => Fin.ext ?_)
    match a with
    | ⟨0, _⟩ =>
      show (((cfg0.win 0).blk t).view.emb (ValueIdx.ix2 (y 0) k) 0).val = (((cfg0.win 2).blk t).view.emb y 0).val
      blk_simp [index0 t, index2 t]
      rfl
    | ⟨1, _⟩ => blk_simp [index0 t]
  have hw : row (iblk m c 1 t : (Mat 1 1024).Idx → EReal) 0 = row (m ((c.tc : Thread nD τ).loc main_arg1)) 0 := by
    funext k
    show m ((c.tc : Thread nD τ).loc main_arg1) (((cfg0.win 1).blk t).view.emb (ValueIdx.ix2 0 k)) = m _ _
    refine congrArg _ (funext fun a => Fin.ext ?_)
    match a with
    | ⟨0, _⟩ => blk_simp [index1 t]
    | ⟨1, _⟩ => blk_simp [index1 t]
  rw [hx, hw]
  refine congrArg (normed _ _) (Fin.ext ?_)
  blk_simp [index2 t]

end Cert.NormIdeal.Hand

namespace Cert.NormRefIdeal.Hand

open Idealize.ShloMosaic Idealize.ShloMosaic.TcCoe Idealize.SL.Sem
open Cert.NormRefIdeal Cert.NormRefIdeal.Gen Cert.NormRefIdeal.Read Cert.Norms

/-- The reference's norm. -/
theorem value (x : (Mat 8192 1024).Idx → EReal) (w : (Mat 1 1024).Idx → EReal) :
    val_main_v12 (F := Ideal) x w = Cert.NormIdeal.Hand.result x w := by
  funext J
  rw [val_main_v12_apply, val_main_v11_apply, val_main_v9_apply, val_main_v10_apply, val_main_v8_apply, val_main_v7_apply, val_main_v6_apply,
    val_main_v4_apply, val_main_v2_apply, val_main_v1_apply, val_main_v3_apply, val_main_v5_apply]
  show x J * Ideal.rsqrt (Ideal.div (Ideal.ofBits .f32 0x00000000#32 + _) _ + _) * w _ = _
  rw [Ideal.ofBits_zero_f32, zero_add]
  have hs : ∑ k, val_main_v0 (F := Ideal) x (idx_main_v1 (idx_main_v2 (idx_main_v8 J)) k) = ∑ k, row x (J 0) k * row x (J 0) k := by
    refine Finset.sum_congr rfl fun k _ => ?_
    refine congrArg₂ (fun a b : EReal => a * b) (congrArg x (funext fun a => ?_)) (congrArg x (funext fun a => ?_))
    · match a with
      | ⟨0, _⟩ => rfl
      | ⟨1, _⟩ => rfl
    · match a with
      | ⟨0, _⟩ => rfl
      | ⟨1, _⟩ => rfl
  rw [hs]
  show x J * scale (row x (J 0)) * w (idx_main_v10 J) = row x (J 0) (J 1) * scale (row x (J 0)) * row w 0 (J 1)
  refine congrArg₂ (fun a b : EReal => a * scale (row x (J 0)) * b) (congrArg x (funext fun a => ?_)) (congrArg w (funext fun a => ?_))
  · match a with
    | ⟨0, _⟩ => rfl
    | ⟨1, _⟩ => rfl
  · match a with
    | ⟨0, _⟩ => rfl
    | ⟨1, _⟩ => rfl

end Cert.NormRefIdeal.Hand

namespace Cert.Norms

open Idealize.ShloMosaic Idealize.ShloMosaic.TcCoe Idealize.SL.Sem

theorem value_norm : Cert.algebraic_NormIdeal_NormRefIdeal := fun m g m' g' _ hargs =>
  ⟨fun c => NormIdeal.Hand.result (m ((c.tc : Thread NormIdeal.nD NormIdeal.τ).loc NormIdeal.main_arg0)) (m ((c.tc : Thread NormIdeal.nD NormIdeal.τ).loc NormIdeal.main_arg1)),
    (θ_run _ _ _).mono (fun _ h c => ⟨(h c).1.trans (NormIdeal.Hand.array m c), (h c).2⟩) (NormIdeal.Value.run_blocks m g),
    (θ_run _ _ _).mono (fun _ h c => ⟨(h c).1.trans ((NormRefIdeal.Read.val_main_v12_eq _ _).trans ((NormRefIdeal.Hand.value _ _).trans (by
      rw [(hargs c).1, (hargs c).2]))), (h c).2⟩) (NormRefIdeal.Value.run m' g')⟩

end Cert.Norms
-- ==== Proof.ValueDnorm.lean ====
/- The norm's gradient: by the rows, in 16 blocks of 512, added to the gradient of the residual; by the weights, summed over the 16 blocks. -/
module

public import proofs.«01_k».proof.Proof.Norms
public import proofs.«01_k».proof.Proof.Gen.DnormIdeal.Value
public import proofs.«01_k».proof.Proof.Gen.DnormRefIdeal.Run
public import proofs.«01_k».proof.Proof.Gen.DnormRefIdeal.Read
public import proofs.«01_k».proof.Defs
import Idealize.ShloMosaic.Lib.Pipeline.ValueKit

@[expose] public section

noncomputable section

namespace Cert.DnormIdeal.Hand

open Idealize.ShloMosaic Idealize.ShloMosaic.TcCoe Idealize.SL.Sem
open Cert.DnormIdeal Cert.DnormIdeal.Gen Cert.Norms

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![0, 0] := by decide +kernel

/-- The gradient by every row. -/
def rows (x : (Mat 8192 1024).Idx → EReal) (w : (Mat 1 1024).Idx → EReal) (d r : (Mat 8192 1024).Idx → EReal) : (Mat 8192 1024).Idx → EReal :=
  fun J => back (row x (J 0)) (row w 0) (row d (J 0)) (row r (J 0)) (J 1)

/-- The gradient by the weights. -/
def weights (x d : (Mat 8192 1024).Idx → EReal) : (Mat 1 1024).Idx → EReal :=
  fun J => ∑ i : Fin 8192, share (row x i) (row d i) (J 1)

/-! ## A block -/

theorem block_energy (x : FVec Ideal S512x1024 .f32) (I : S512x1.Idx) : (k0_pay3 (F := Ideal) x I : EReal) = energy (row x (I 0)) := by
  unfold k0_pay3
  refine congrArg (fun a : EReal => Ideal.div a _ + _) ((rowSum_apply _ _ _ _ _ _).trans ?_)
  rfl

theorem block_scale (x : FVec Ideal S512x1024 .f32) (I : S512x1.Idx) : (k0_pay4 (F := Ideal) x I : EReal) = scale (row x (I 0)) :=
  congrArg Ideal.rsqrt (block_energy x I)

theorem block_share (x d : FVec Ideal S512x1024 .f32) (I : S1x1024.Idx) :
    (k0_pay5 (F := Ideal) x d I : EReal) = ∑ r : Fin 512, share (row x r) (row d r) (I 1) := by
  unfold k0_pay5
  refine (colSum_apply _ _ _ _ _ _).trans (Finset.sum_congr rfl fun r _ => ?_)
  show x _ * broadcastTo (Mat 512 1024) _ _ _ * d _ = _
  rw [spread_apply]
  exact congrArg (fun a : EReal => x (ValueIdx.ix2 r (I 1)) * a * d (ValueIdx.ix2 r (I 1))) (block_scale x _)

theorem block_back (x : FVec Ideal S512x1024 .f32) (w : FVec Ideal S1x1024 .f32) (d r : FVec Ideal S512x1024 .f32) (I : S512x1024.Idx) :
    (k0_pay6 (F := Ideal) x w d r I : EReal) = back (row x (I 0)) (row w 0) (row d (I 0)) (row r (I 0)) (I 1) := by
  have hI : I = ValueIdx.ix2 (I 0) (I 1) := funext fun a => by
    match a with
    | ⟨0, _⟩ => rfl
    | ⟨1, _⟩ => rfl
  have hg : ∀ J : S512x1024.Idx, (mulf (F := Ideal) d (broadcastTo S512x1024 w broadcasts_S1x1024_S512x1024) J : EReal)
      = d J * row w 0 (J 1) := fun J => congrArg (fun a : EReal => d J * a) (repeat_apply _ _ _)
  have hs : (broadcastTo S512x1024 (k0_pay4 (F := Ideal) x) broadcasts_S512x1_S512x1024 I : EReal) = scale (row x (I 0)) :=
    (spread_apply _ _ _).trans (block_scale x _)
  unfold k0_pay6
  show r I + (mulf (F := Ideal) d (broadcastTo S512x1024 w _) I * broadcastTo S512x1024 (k0_pay4 x) _ I
    + x I * broadcastTo (Mat 512 1024) _ _ I + broadcastTo (Mat 512 1024) _ _ I * x I) = _
  rw [hg, hs, spread_apply]
  have hp : ∀ a : EReal, a = pull (row x (I 0)) (weighted (row w 0) (row d (I 0))) →
      r I + (d I * row w 0 (I 1) * scale (row x (I 0)) + x I * a + a * x I)
        = back (row x (I 0)) (row w 0) (row d (I 0)) (row r (I 0)) (I 1) := by
    rintro a rfl
    rw [hI]
    rfl
  refine hp _ ((rowSum_apply _ _ _ _ _ _).trans ((Fin.sum_univ_one _).trans ?_))
  refine congrArg₂ (fun a b : EReal => Ideal.div (a * (Ideal.ofBits .f32 0xBF000000#32 * b)) (Ideal.ofBits .f32 0x44800000#32))
    ((rowSum_apply _ _ _ _ _ _).trans (Finset.sum_congr rfl fun k _ => ?_)) (congrArg₂ Ideal.div (block_scale x _) (block_energy x _))
  exact congrArg (fun a : EReal => x (ValueIdx.ix2 (I 0) k) * a) (hg _)

/-! ## The blocks' rows -/

theorem row0 (t : Fin cfg0.N) (r : Fin 512) (J : Fin 8192) (h : J.val = t.val * 512 + r.val) :
    row (iblk m c 0 t : (Mat 512 1024).Idx → EReal) r = row (m ((c.tc : Thread nD τ).loc main_arg0)) J := by
  funext k
  show m ((c.tc : Thread nD τ).loc main_arg0) (((cfg0.win 0).blk t).view.emb (ValueIdx.ix2 r k)) = m _ _
  refine congrArg _ (funext fun a => Fin.ext ?_)
  match a with
  | ⟨0, _⟩ =>
    show (((cfg0.win 0).blk t).view.emb (ValueIdx.ix2 r k) 0).val = J.val
    rw [h]
    blk_simp [index0 t]
    rfl
  | ⟨1, _⟩ => blk_simp [index0 t]

theorem row1 (t : Fin cfg0.N) : row (iblk m c 1 t : (Mat 1 1024).Idx → EReal) 0 = row (m ((c.tc : Thread nD τ).loc main_arg1)) 0 := by
  funext k
  show m ((c.tc : Thread nD τ).loc main_arg1) (((cfg0.win 1).blk t).view.emb (ValueIdx.ix2 0 k)) = m _ _
  refine congrArg _ (funext fun a => Fin.ext ?_)
  match a with
  | ⟨0, _⟩ => blk_simp [index1 t]
  | ⟨1, _⟩ => blk_simp [index1 t]

theorem row2 (t : Fin cfg0.N) (r : Fin 512) (J : Fin 8192) (h : J.val = t.val * 512 + r.val) :
    row (iblk m c 2 t : (Mat 512 1024).Idx → EReal) r = row (m ((c.tc : Thread nD τ).loc main_arg2)) J := by
  funext k
  show m ((c.tc : Thread nD τ).loc main_arg2) (((cfg0.win 2).blk t).view.emb (ValueIdx.ix2 r k)) = m _ _
  refine congrArg _ (funext fun a => Fin.ext ?_)
  match a with
  | ⟨0, _⟩ =>
    show (((cfg0.win 2).blk t).view.emb (ValueIdx.ix2 r k) 0).val = J.val
    rw [h]
    blk_simp [index2 t]
    rfl
  | ⟨1, _⟩ => blk_simp [index2 t]

theorem row3 (t : Fin cfg0.N) (r : Fin 512) (J : Fin 8192) (h : J.val = t.val * 512 + r.val) :
    row (iblk m c 3 t : (Mat 512 1024).Idx → EReal) r = row (m ((c.tc : Thread nD τ).loc main_arg3)) J := by
  funext k
  show m ((c.tc : Thread nD τ).loc main_arg3) (((cfg0.win 3).blk t).view.emb (ValueIdx.ix2 r k)) = m _ _
  refine congrArg _ (funext fun a => Fin.ext ?_)
  match a with
  | ⟨0, _⟩ =>
    show (((cfg0.win 3).blk t).view.emb (ValueIdx.ix2 r k) 0).val = J.val
    rw [h]
    blk_simp [index3 t]
    rfl
  | ⟨1, _⟩ => blk_simp [index3 t]

/-! ## The arrays -/

/-- The gradient by the rows, as the arguments give it. -/
def resultRows : (Mat 8192 1024).Idx → EReal :=
  rows (m ((c.tc : Thread nD τ).loc main_arg0)) (m ((c.tc : Thread nD τ).loc main_arg1)) (m ((c.tc : Thread nD τ).loc main_arg2)) (m ((c.tc : Thread nD τ).loc main_arg3))

/-- The gradient by the weights, as the arguments give it. -/
def resultWeights : (Mat 1 1024).Idx → EReal :=
  weights (m ((c.tc : Thread nD τ).loc main_arg0)) (m ((c.tc : Thread nD τ).loc main_arg2))

/-- A block's rows are the whole array's. -/
theorem block_rows (t : Fin cfg0.N) (y : S512x1024.Idx) (J : (Mat 8192 1024).Idx) (h0 : (J 0).val = t.val * 512 + (y 0).val) (h1 : (J 1).val = (y 1).val) :
    (k0_pay6 (F := Ideal) (iblk m c 0 t) (iblk m c 1 t) (iblk m c 2 t) (iblk m c 3 t) y : EReal) = resultRows m c J := by
  refine (block_back _ _ _ _ _).trans ?_
  rw [row0 m c t (y 0) (J 0) h0, row1 m c t, row2 m c t (y 0) (J 0) h0, row3 m c t (y 0) (J 0) h0]
  exact congrArg (back _ _ _ _) (Fin.ext h1.symm)

theorem array4 : (dats m 0 c).arrAt 4 cfg0.N = resultRows m c := by
  refine (dats m 0 c).arrAt_eq_of_covers 4 _ (by decide +kernel) fun t hf y => ?_
  blk_simp
  have h : (outsAt0 m c t.val t.isLt).1 = k0_pay6 (F := Ideal) (iblk m c 0 t) (iblk m c 1 t) (iblk m c 2 t) (iblk m c 3 t) := by
    by_cases ht : t.val % 16 = 0
    · rw [outsAt0_A m c t ht]; funext z; frame_out
    · rw [outsAt0_B m c t ht]; funext z; frame_out
  rw [after0_4, h]
  refine block_rows m c t y _ ?_ ?_
  · blk_simp [index4 t]
  · blk_simp [index4 t]

theorem array5 : (dats m 0 c).arrAt 5 cfg0.N = resultRows m c := by
  refine (dats m 0 c).arrAt_eq_of_covers 5 _ (by decide +kernel) fun t hf y => ?_
  blk_simp
  have h : (outsAt0 m c t.val t.isLt).2.1 = k0_pay7 (F := Ideal) (iblk m c 0 t) (iblk m c 1 t) (iblk m c 2 t) (iblk m c 3 t) := by
    by_cases ht : t.val % 16 = 0
    · rw [outsAt0_A m c t ht]; funext z; frame_out
    · rw [outsAt0_B m c t ht]; funext z; frame_out
  rw [after0_5, h]
  refine block_rows m c t y _ ?_ ?_
  · blk_simp [index5 t]
  · blk_simp [index5 t]

/-- A block's share of the gradient by the weights. -/
def part (t : Fin cfg0.N) : S1x1024.Idx → EReal := fun I => ∑ r : Fin 512, share (row (iblk m c 0 t : (Mat 512 1024).Idx → EReal) r) (row (iblk m c 2 t : (Mat 512 1024).Idx → EReal) r) (I 1)

theorem point_zero : ∀ t : Fin cfg0.N, t.val / 16 = 0 := by decide +kernel

theorem emb6 (t : Fin cfg0.N) (y : S1x1024.Idx) : (((cfg0.win 6).blk t).view.emb y 1).val = (y 1).val := by
  blk_simp [index6 t]

theorem share_row (t : Fin cfg0.N) (k : Fin 512) (J : Fin 8192) (h : J.val = t.val * 512 + k.val) (j j' : Fin 1024) (hj : j'.val = j.val) :
    share (row (iblk m c 0 t : (Mat 512 1024).Idx → EReal) k) (row (iblk m c 2 t : (Mat 512 1024).Idx → EReal) k) j
      = share (row (m ((c.tc : Thread nD τ).loc main_arg0)) J) (row (m ((c.tc : Thread nD τ).loc main_arg2)) J) j' := by
  rw [row0 m c t k J h, row2 m c t k J h, Fin.ext hj]

theorem point_lt (t : Fin cfg0.N) (s : Fin 16) : 16 * (t.val / 16) + s.val < cfg0.N := by
  rw [point_zero t]
  exact (Nat.zero_add _).trans_lt s.isLt

/-- A sum taken in blocks. -/
theorem sum_blocks {S T L : ℕ} (hL : S * T = L) (f : Fin S → Fin T → EReal) (g : Fin L → EReal)
    (h : ∀ (s : Fin S) (k : Fin T) (l : Fin L), l.val = s.val * T + k.val → f s k = g l) : ∑ s, ∑ k, f s k = ∑ l, g l :=
  Fin.sum_mul_add_congr (hL := hL.symm) fun s k hl => h s k ⟨s.val * T + k.val, hl⟩ rfl

/-- The blocks' shares make up the whole. -/
theorem parts (t : Fin cfg0.N) (y : S1x1024.Idx) (J : (Mat 1 1024).Idx) (hJ : (J 1).val = (y 1).val) :
    ∑ s : Fin 16, part m c ⟨16 * (t.val / 16) + s.val, point_lt t s⟩ y = resultWeights m c J := by
  have h : ∀ (s : Fin 16) (k : Fin 512) (l : Fin 8192), l.val = s.val * 512 + k.val → l.val = (16 * (t.val / 16) + s.val) * 512 + k.val := by
    intro s k l hl
    rw [hl, point_zero t, Nat.mul_zero, Nat.zero_add]
  have e := sum_blocks (S := 16) (T := 512) (L := 8192) (by norm_num)
    (fun s k => share (row (iblk m c 0 ⟨16 * (t.val / 16) + s.val, point_lt t s⟩ : (Mat 512 1024).Idx → EReal) k)
      (row (iblk m c 2 ⟨16 * (t.val / 16) + s.val, point_lt t s⟩ : (Mat 512 1024).Idx → EReal) k) (y 1))
    (fun l => share (row (m ((c.tc : Thread nD τ).loc main_arg0)) l) (row (m ((c.tc : Thread nD τ).loc main_arg2)) l) (J 1))
    (fun s k l hl => share_row m c ⟨16 * (t.val / 16) + s.val, point_lt t s⟩ k l (h s k l hl) (y 1) (J 1) hJ)
  exact e

theorem array6 : (dats m 0 c).arrAt 6 cfg0.N = resultWeights m c := by
  refine (dats m 0 c).arrAt_eq_of_covers 6 _ (by decide +kernel) fun t hf y => ?_
  have ht := (flush0_6 t).mp hf
  blk_simp
  rw [after0_6, Pipeline.eq_sum_fin_of_reset_step_apply_of_flush (fun n h => (outsAt0 m c n h).2.2) 16 (fun _ => (0 : EReal)) (part m c)
    (fun t h j => by
      show (outsAt0 m c t.val t.isLt).2.2 j = _
      rw [outsAt0_A m c t h]; frame_out
      unfold k0_pay2; rw [shapeCast_self]
      exact congrArg₂ (fun a b : EReal => a + b) Ideal.ofBits_zero_f32 (block_share _ _ _))
    (fun t h j => by
      show (outsAt0 m c t.val t.isLt).2.2 j = _
      rw [outsAt0_B m c t h]; frame_out
      unfold k0_pay2; rw [shapeCast_self]
      exact congrArg (fun a : EReal => _ + a) (block_share _ _ _)) t ht, zero_add]
  exact parts m c t y _ (emb6 t y)

end Cert.DnormIdeal.Hand

namespace Cert.DnormRefIdeal.Hand

open Idealize.ShloMosaic Idealize.ShloMosaic.TcCoe Idealize.SL.Sem
open Cert.DnormRefIdeal Cert.DnormRefIdeal.Gen Cert.DnormRefIdeal.Read Cert.Norms

/-- An entry is its row's entry. -/
theorem entry (x : (Mat 8192 1024).Idx → EReal) (I : (Mat 8192 1024).Idx) (r : Fin 8192) (j : Fin 1024) (h0 : I 0 = r) (h1 : I 1 = j) : x I = row x r j := by
  subst h0 h1
  exact congrArg x (funext fun a => by
    match a with
    | ⟨0, _⟩ => rfl
    | ⟨1, _⟩ => rfl)

/-- An entry of the row of weights. -/
theorem entryRow (w : (Mat 1 1024).Idx → EReal) (I : (Mat 1 1024).Idx) (j : Fin 1024) (h1 : I 1 = j) : w I = row w 0 j := by
  subst h1
  exact congrArg w (funext fun a => by
    match a with
    | ⟨0, _⟩ => exact Subsingleton.elim (α := Fin 1) _ _
    | ⟨1, _⟩ => rfl)

theorem ref_energy (x : (Mat 8192 1024).Idx → EReal) (I : (Mat 8192 1).Idx) : (val_main_v6 (F := Ideal) x I : EReal) = energy (row x (I 0)) := by
  rw [val_main_v6_apply, val_main_v4_apply, val_main_v2_apply, val_main_v1_apply, val_main_v3_apply, val_main_v5_apply]
  show Ideal.div (Ideal.ofBits .f32 0x00000000#32 + _) _ + _ = _
  rw [Ideal.ofBits_zero_f32, zero_add]
  refine congrArg (fun a : EReal => Ideal.div a _ + _) (Finset.sum_congr rfl fun k _ => ?_)
  exact congrArg₂ (fun a b : EReal => a * b) (entry x _ _ _ rfl rfl) (entry x _ _ _ rfl rfl)

theorem ref_scale (x : (Mat 8192 1024).Idx → EReal) (I : (Mat 8192 1).Idx) : (val_main_v7 (F := Ideal) x I : EReal) = scale (row x (I 0)) :=
  congrArg Ideal.rsqrt (ref_energy x I)

theorem ref_weights (x d : (Mat 8192 1024).Idx → EReal) : val_main_v17 (F := Ideal) x d = Cert.DnormIdeal.Hand.weights x d := by
  funext J
  rw [val_main_v17_apply, val_main_v16_apply]
  show Ideal.ofBits .f32 0x00000000#32 + _ = _
  rw [Ideal.ofBits_zero_f32, zero_add]
  have hj : ∀ k : Fin 8192, (idx_main_v16 (idx_main_v17 J) k) 1 = J 1 := fun k => Fin.ext (by
    show (J 0).val * 1024 + (J 1).val = (J 1).val
    have h : (J 0).val < 1 := (J 0).isLt
    omega)
  refine Finset.sum_congr rfl fun k _ => ?_
  rw [val_main_v15_apply, val_main_v12_apply, val_main_v11_apply]
  exact congrArg₂ (fun a b : EReal => a * b) (congrArg₂ (fun a b : EReal => a * b) (entry x _ k (J 1) rfl (hj k)) (ref_scale x _)) (entry d _ k (J 1) rfl (hj k))

theorem ref_rows (x : (Mat 8192 1024).Idx → EReal) (w : (Mat 1 1024).Idx → EReal) (d r : (Mat 8192 1024).Idx → EReal) :
    val_main_v34 (F := Ideal) x w d r = Cert.DnormIdeal.Hand.rows x w d r := by
  have hg : ∀ I : (Mat 8192 1024).Idx, (val_main_v19 (F := Ideal) w d I : EReal) = weighted (row w 0) (row d (I 0)) (I 1) := fun I => by
    rw [val_main_v19_apply, val_main_v18_apply]
    exact congrArg₂ (fun a b : EReal => a * b) (entry d _ _ _ rfl rfl) (entryRow w _ _ rfl)
  have hp : ∀ I : (Mat 8192 1024).Idx, (val_main_v29 (F := Ideal) x w d I : EReal) = pull (row x (I 0)) (weighted (row w 0) (row d (I 0))) := fun I => by
    rw [val_main_v29_apply, val_main_v28_apply]
    show Ideal.ofBits .f32 0x00000000#32 + _ = _
    rw [Ideal.ofBits_zero_f32, zero_add, Fin.sum_univ_one, val_main_v27_apply, val_main_v25_apply, val_main_v26_apply, val_main_v22_apply, val_main_v21_apply,
      val_main_v10_apply, val_main_v8_apply, val_main_v9_apply]
    show Ideal.div ((Ideal.ofBits .f32 0x00000000#32 + _) * (_ * Ideal.div _ _)) _ = _
    rw [Ideal.ofBits_zero_f32, zero_add]
    refine congrArg₂ (fun a b : EReal => Ideal.div (a * (Ideal.ofBits .f32 0xBF000000#32 * b)) (Ideal.ofBits .f32 0x44800000#32))
      (Finset.sum_congr rfl fun k _ => ?_) (congrArg₂ Ideal.div (ref_scale x _) (ref_energy x _))
    rw [val_main_v20_apply]
    refine congrArg₂ (fun a b : EReal => a * b) (entry x _ _ _ (Fin.ext ?_) rfl) ((hg _).trans (congrArg (fun q => weighted (row w 0) (row d q) k) (Fin.ext ?_)))
    · show (I 0).val * 1 + 0 = (I 0).val
      omega
    · show (I 0).val * 1 + 0 = (I 0).val
      omega
  funext J
  have hx := entry x J (J 0) (J 1) rfl rfl
  have hr := entry r J (J 0) (J 1) rfl rfl
  rw [val_main_v34_apply, val_main_v33_apply, val_main_v32_apply, val_main_v31_apply, val_main_v30_apply, val_main_v24_apply, val_main_v23_apply]
  show r J + (val_main_v19 (F := Ideal) w d J * val_main_v7 (F := Ideal) x _ + x J * val_main_v29 (F := Ideal) x w d J + val_main_v29 (F := Ideal) x w d J * x J) = _
  rw [hg, hp, ref_scale, hx, hr]
  rfl

end Cert.DnormRefIdeal.Hand

namespace Cert.Norms

open Idealize.ShloMosaic Idealize.ShloMosaic.TcCoe Idealize.SL.Sem

theorem value_dnorm : Cert.algebraic_DnormIdeal_DnormRefIdeal := fun m g m' g' _ hargs =>
  ⟨DnormIdeal.Hand.resultRows m, DnormIdeal.Hand.resultRows m, DnormIdeal.Hand.resultWeights m,
    (θ_run _ _ _).mono (fun _ h c => ⟨(h c).1.trans (DnormIdeal.Hand.array4 m c), (h c).2.1.trans (DnormIdeal.Hand.array5 m c),
      (h c).2.2.1.trans (DnormIdeal.Hand.array6 m c), (h c).2.2.2⟩) (DnormIdeal.Value.run_blocks m g),
    (θ_run _ _ _).mono (fun _ h c => ⟨
      (h c).1.trans ((DnormRefIdeal.Read.val_main_v34_eq _ _ _ _).trans ((DnormRefIdeal.Hand.ref_rows _ _ _ _).trans (by
        rw [(hargs c).1, (hargs c).2.1, (hargs c).2.2.1, (hargs c).2.2.2]; rfl))),
      (h c).2.1.trans ((DnormRefIdeal.Read.val_main_v35_eq _ _ _ _).trans ((DnormRefIdeal.Hand.ref_rows _ _ _ _).trans (by
        rw [(hargs c).1, (hargs c).2.1, (hargs c).2.2.1, (hargs c).2.2.2]; rfl))),
      (h c).2.2.1.trans ((DnormRefIdeal.Read.val_main_v17_eq _ _).trans ((DnormRefIdeal.Hand.ref_weights _ _).trans (by
        rw [(hargs c).1, (hargs c).2.2.1]; rfl))), (h c).2.2.2⟩) (DnormRefIdeal.Value.run m' g')⟩

end Cert.Norms
-- ==== Proof.Optimiser.lean ====
/- One step of the optimiser on one entry, as formulas over the extended reals. -/
module

public import proofs.«01_k».proof.Proof.Products

@[expose] public section

noncomputable section

namespace Cert.Optimiser

open Idealize.ShloMosaic

/-- The sum of the four sources' gradients of an entry. -/
def total (a b c d : EReal) : EReal := a + b + c + d

/-- The new first moment of an entry with gradient `g` and first moment `m`. -/
def first (g m : EReal) : EReal := Ideal.ofBits .f32 0x3F666666#32 * m + Ideal.ofBits .f32 0x3DCCCCCD#32 * g

/-- The new second moment of an entry with gradient `g` and second moment `v`. -/
def second (g v : EReal) : EReal := Ideal.ofBits .f32 0x3F7FBE77#32 * v + Ideal.ofBits .f32 0x3A83126F#32 * (g * g)

/-- The change of an entry `w` with gradient `g` and moments `m`, `v`. -/
def change (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Optimiser
-- ==== Proof.ValueAdamIn.lean ====
/- The optimiser's step on the mixing layer's first matrix, with the four received gradients summed. -/
module

public import proofs.«01_k».proof.Proof.Optimiser
public import proofs.«01_k».proof.Proof.Gen.AdamInIdeal.Value
public import proofs.«01_k».proof.Proof.Gen.AdamInRefIdeal.Run
public import proofs.«01_k».proof.Proof.Gen.AdamInRefIdeal.Read
public import proofs.«01_k».proof.Defs
import Idealize.ShloMosaic.Lib.Pipeline.ValueKit

@[expose] public section

noncomputable section

namespace Cert.AdamInIdeal.Hand

open Idealize.ShloMosaic Idealize.ShloMosaic.TcCoe Idealize.SL.Sem
open Cert.AdamInIdeal Cert.AdamInIdeal.Gen Cert.AdamInIdeal.Value Cert.Optimiser

variable (m : (ℓ : Loc nD τ sig) → Buf (Elt Ideal) ℓ) (c : Dev nD)

/-- The block of received gradients has the place of the parameters' block, and all four sources. -/
theorem place0 : ∀ t : Fin cfg0.N, win0_0.index t = ![0, win0_1.index t 0, win0_1.index t 1, win0_1.index t 2] := by decide +kernel

/-- Where source `s`'s gradient of entry `J` is. -/
def source (s : Fin 4) (J : S2x1024x449.Idx) : S4x2x1024x449.Idx := fun a => match a with
  | ⟨0, _⟩ => s
  | ⟨1, _⟩ => J 0
  | ⟨2, _⟩ => J 1
  | ⟨3, _⟩ => J 2

/-- The four results, entry by entry, over the received gradients, the parameters and the moments. -/
def sums (r : S4x2x1024x449.Idx → EReal) : S2x1024x449.Idx → EReal := fun J => total (r (source 0 J)) (r (source 1 J)) (r (source 2 J)) (r (source 3 J))
def changes (r : S4x2x1024x449.Idx → EReal) (w p q : S2x1024x449.Idx → EReal) : S2x1024x449.Idx → EReal := fun J => change (sums r J) (w J) (p J) (q J)
def firsts (r : S4x2x1024x449.Idx → EReal) (p : S2x1024x449.Idx → EReal) : S2x1024x449.Idx → EReal := fun J => first (sums r J) (p J)
def seconds (r : S4x2x1024x449.Idx → EReal) (q : S2x1024x449.Idx → EReal) : S2x1024x449.Idx → EReal := fun J => second (sums r J) (q J)

variable {m c}

/-- A source's part of the received block. -/
theorem read_recv (t : Fin cfg0.N) (y : S1x512x449.Idx) (s : Fin 4) (I : (S4x1x512x449).Idx) (J : S2x1024x449.Idx)
    (hI : (I 0).val = s.val ∧ (I 1).val = 0 ∧ (I 2).val = (y 1).val ∧ (I 3).val = (y 2).val)
    (hJ : J = ((cfg0.win 1).blk t).view.emb y) :
    iblk m c 0 t I = m ((c.tc : Thread nD τ).loc main_arg0) (source s J) := by
  subst hJ
  show m ((c.tc : Thread nD τ).loc main_arg0) (((cfg0.win 0).blk t).view.emb I) = m _ _
  obtain ⟨h0, h1, h2, h3⟩ := hI
  have hy : (y 0).val = 0 := by have := (y 0).isLt; change (y 0).val < 1 at this; omega
  refine congrArg _ (funext fun a => Fin.ext ?_)
  match a with
  | ⟨0, _⟩ =>
    show win0_0.index t 0 * 4 + 1 * (I 0).val = s.val
    rw [place0 t, h0]
    show 0 * 4 + 1 * s.val = s.val
    omega
  | ⟨1, _⟩ =>
    show win0_0.index t 1 * 1 + 1 * (I 1).val = win0_1.index t 0 * 1 + 1 * (y 0).val
    rw [place0 t, h1, hy]
    rfl
  | ⟨2, _⟩ =>
    show win0_0.index t 2 * 512 + 1 * (I 2).val = win0_1.index t 1 * 512 + 1 * (y 1).val
    rw [place0 t, h2]
    rfl
  | ⟨3, _⟩ =>
    show win0_0.index t 3 * 449 + 1 * (I 3).val = win0_1.index t 2 * 449 + 1 * (y 2).val
    rw [place0 t, h3]
    rfl

/-- The sum of the four sources' parts of the received block. -/
theorem read_sum (t : Fin cfg0.N) (y : S1x512x449.Idx) (J : S2x1024x449.Idx) (hJ : J = ((cfg0.win 1).blk t).view.emb y) :
    total (View.ld (iblk m c 0 t) r0_0 (ix4_0 y)) (View.ld (iblk m c 0 t) r0_1 (ix4_1 y)) (View.ld (iblk m c 0 t) r0_2 (ix4_2 y))
      (View.ld (iblk m c 0 t) r0_3 (ix4_3 y)) = sums (m ((c.tc : Thread nD τ).loc main_arg0)) J := by
  have e (s : Fin 4) (I) (h) : (iblk m c 0 t I : EReal) = _ := read_recv (m := m) (c := c) t y s I J h hJ
  have k (z n : Nat) : z + 1 * n = z + n := by omega
  refine congr (congr (congr (congrArg total ?_) ?_) ?_) ?_
  · exact e 0 _ ⟨rfl, rfl, (k _ _).trans (Nat.zero_add _), (k _ _).trans (Nat.zero_add _)⟩
  · exact e 1 _ ⟨rfl, rfl, (k _ _).trans (Nat.zero_add _), (k _ _).trans (Nat.zero_add _)⟩
  · exact e 2 _ ⟨rfl, rfl, (k _ _).trans (Nat.zero_add _), (k _ _).trans (Nat.zero_add _)⟩
  · exact e 3 _ ⟨rfl, rfl, (k _ _).trans (Nat.zero_add _), (k _ _).trans (Nat.zero_add _)⟩

/-- The whole-block load of a block of the parameters or of a moment, at the block's own index. -/
theorem read_whole (x : Vec Ideal S1x512x449 .f32) (y : S1x512x449.Idx) : View.ld x r0_4 (ix5_0 y) = x y := by
  refine congrArg x (funext fun a => Fin.ext ?_)
  have hy : (y 0).val = 0 := by have := (y 0).isLt; change (y 0).val < 1 at this; omega
  match a with
  | ⟨0, _⟩ => exact hy.symm
  | ⟨1, _⟩ => show 0 + 1 * (y 1).val = (y 1).val; omega
  | ⟨2, _⟩ => show 0 + 1 * (y 2).val = (y 2).val; omega

/-- The blocks of the parameters and of the moments are at one place of their arrays. -/
theorem read_w (t : Fin cfg0.N) (y : S1x512x449.Idx) :
    (iblk m c 1 t y : EReal) = m ((c.tc : Thread nD τ).loc main_arg1) (((cfg0.win 1).blk t).view.emb y) := rfl
theorem read_p (t : Fin cfg0.N) (y : S1x512x449.Idx) :
    (iblk m c 2 t y : EReal) = m ((c.tc : Thread nD τ).loc main_arg2) (((cfg0.win 1).blk t).view.emb y) := rfl
theorem read_q (t : Fin cfg0.N) (y : S1x512x449.Idx) :
    (iblk m c 3 t y : EReal) = m ((c.tc : Thread nD τ).loc main_arg3) (((cfg0.win 1).blk t).view.emb y) := rfl

variable (m c)

/-- The summed gradients. -/
theorem array4 : (dats m 0 c).arrAt 4 cfg0.N = sums (m ((c.tc : Thread nD τ).loc main_arg0)) := by
  refine (dats m 0 c).arrAt_eq_of_covers 4 _ (by decide +kernel) fun t hf y => ?_
  blk_simp
  rw [after0_4]
  unfold_out out0_4
  refine (canon4_eq _ _ _ _ y).trans ?_
  exact read_sum t y _ rfl

/-- The changes. -/
theorem array5 : (dats m 0 c).arrAt 5 cfg0.N = changes (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  unfold_out out0_5
  refine (canon5_eq _ _ _ _ _ _ _ y).trans ?_
  have hs := read_sum (m := m) (c := c) t y _ rfl
  have hw := (read_whole (iblk m c 1 t) y).trans (read_w t y)
  have hp := (read_whole (iblk m c 2 t) y).trans (read_p t y)
  have hq := (read_whole (iblk m c 3 t) y).trans (read_q t y)
  exact congr (congr (congr (congrArg change hs) hw) hp) hq

/-- The new first moments. -/
theorem array6 : (dats m 0 c).arrAt 6 cfg0.N = firsts (m ((c.tc : Thread nD τ).loc main_arg0)) (m ((c.tc : Thread nD τ).loc main_arg2)) := by
  refine (dats m 0 c).arrAt_eq_of_covers 6 _ (by decide +kernel) fun t hf y => ?_
  blk_simp
  rw [after0_6]
  unfold_out out0_6
  refine (canon6_eq _ _ _ _ _ y).trans ?_
  have hs := read_sum (m := m) (c := c) t y _ rfl
  have hp := (read_whole (iblk m c 2 t) y).trans (read_p t y)
  exact congrArg₂ first hs hp

/-- The new second moments. -/
theorem array7 : (dats m 0 c).arrAt 7 cfg0.N = seconds (m ((c.tc : Thread nD τ).loc main_arg0)) (m ((c.tc : Thread nD τ).loc main_arg3)) := by
  refine (dats m 0 c).arrAt_eq_of_covers 7 _ (by decide +kernel) fun t hf y => ?_
  blk_simp
  rw [after0_7]
  unfold_out out0_7
  refine (canon7_eq _ _ _ _ _ y).trans ?_
  have hs := read_sum (m := m) (c := c) t y _ rfl
  have hq := (read_whole (iblk m c 3 t) y).trans (read_q t y)
  exact congrArg₂ second hs hq

end Cert.AdamInIdeal.Hand

namespace Cert.AdamInRefIdeal.Hand

open Idealize.ShloMosaic Idealize.ShloMosaic.TcCoe Idealize.SL.Sem
open Cert.AdamInRefIdeal Cert.AdamInRefIdeal.Gen Cert.AdamInRefIdeal.Read Cert.Optimiser

/-- The reference's sum of the received gradients. -/
theorem sums (r : S4x2x1024x449.Idx → EReal) : val_main_v1 (F := Ideal) r = Cert.AdamInIdeal.Hand.sums r := by
  funext J
  rw [val_main_v1_apply, val_main_cst_apply]
  show Ideal.ofBits .f32 0x00000000#32 + _ = _
  rw [Ideal.ofBits_zero_f32, zero_add, Fin.sum_univ_four]
  have e (s : Fin 4) : (val_main_v0 (F := Ideal) r (idx_main_v1 J s) : EReal) = r (Cert.AdamInIdeal.Hand.source s J) := by
    refine congrArg r (funext fun a => ?_)
    match a with
    | ⟨0, _⟩ => rfl
    | ⟨1, _⟩ => rfl
    | ⟨2, _⟩ => rfl
    | ⟨3, _⟩ => rfl
  rw [e 0, e 1, e 2, e 3]
  rfl

/-- The reference's new first moments. -/
theorem firsts (r : S4x2x1024x449.Idx → EReal) (p : S2x1024x449.Idx → EReal) : val_main_v6 (F := Ideal) r p = Cert.AdamInIdeal.Hand.firsts r p := by
  funext J
  rw [val_main_v6_apply, val_main_v3_apply, val_main_v5_apply, val_main_v2_apply, val_main_v4_apply, sums]
  rfl

/-- The reference's new second moments. -/
theorem seconds (r : S4x2x1024x449.Idx → EReal) (q : S2x1024x449.Idx → EReal) : val_main_v12 (F := Ideal) r q = Cert.AdamInIdeal.Hand.seconds r q := by
  funext J
  rw [val_main_v12_apply, val_main_v8_apply, val_main_v11_apply, val_main_v9_apply, val_main_v7_apply, val_main_v10_apply, sums]
  rfl

/-- The reference's changes. -/
theorem changes (r : S4x2x1024x449.Idx → EReal) (w p q : S2x1024x449.Idx → EReal) : val_main_v25 (F := Ideal) r w p q = Cert.AdamInIdeal.Hand.changes r w p q := by
  funext J
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, firsts, seconds]
  rfl

end Cert.AdamInRefIdeal.Hand

namespace Cert.Optimiser

open Idealize.ShloMosaic Idealize.ShloMosaic.TcCoe Idealize.SL.Sem

theorem value_in : Cert.algebraic_AdamInIdeal_AdamInRefIdeal := fun m g m' g' _ hargs =>
  ⟨_, _, _, _,
    (θ_run _ _ _).mono (fun _ h c => ⟨(h c).1.trans (AdamInIdeal.Hand.array4 m c), (h c).2.1.trans (AdamInIdeal.Hand.array5 m c),
      (h c).2.2.1.trans (AdamInIdeal.Hand.array6 m c), (h c).2.2.2.1.trans (AdamInIdeal.Hand.array7 m c), (h c).2.2.2.2⟩) (AdamInIdeal.Value.run_blocks m g),
    (θ_run _ _ _).mono (fun _ h c => ⟨(h c).1.trans ((AdamInRefIdeal.Read.val_main_v1_eq _).trans ((AdamInRefIdeal.Hand.sums _).trans (by
        rw [(hargs c).1]))),
      (h c).2.1.trans ((AdamInRefIdeal.Read.val_main_v25_eq _ _ _ _).trans ((AdamInRefIdeal.Hand.changes _ _ _ _).trans (by
        rw [(hargs c).1, (hargs c).2.1, (hargs c).2.2.1, (hargs c).2.2.2]))),
      (h c).2.2.1.trans ((AdamInRefIdeal.Read.val_main_v6_eq _ _).trans ((AdamInRefIdeal.Hand.firsts _ _).trans (by
        rw [(hargs c).1, (hargs c).2.2.1]))),
      (h c).2.2.2.1.trans ((AdamInRefIdeal.Read.val_main_v12_eq _ _).trans ((AdamInRefIdeal.Hand.seconds _ _).trans (by
        rw [(hargs c).1, (hargs c).2.2.2]))), (h c).2.2.2.2⟩) (AdamInRefIdeal.Value.run m' g')⟩

end Cert.Optimiser
-- ==== Proof.ValueAdamOut.lean ====
/- The optimiser's step on the mixing layer's second matrix, with the four received gradients summed. -/
module

public import proofs.«01_k».proof.Proof.Optimiser
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Defs
import Idealize.ShloMosaic.Lib.Pipeline.ValueKit

@[expose] public section

noncomputable section

namespace Cert.AdamOutIdeal.Hand

open Idealize.ShloMosaic Idealize.ShloMosaic.TcCoe Idealize.SL.Sem
open Cert.AdamOutIdeal Cert.AdamOutIdeal.Gen Cert.AdamOutIdeal.Value Cert.Optimiser

variable (m : (ℓ : Loc nD τ sig) → Buf (Elt Ideal) ℓ) (c : Dev nD)

/-- The block of received gradients has the place of the parameters' block, and all four sources. -/
theorem place0 : ∀ t : Fin cfg0.N, win0_0.index t = ![0, win0_1.index t 0, win0_1.index t 1, win0_1.index t 2] := by decide +kernel

/-- Where source `s`'s gradient of entry `J` is. -/
def source (s : Fin 4) (J : S2x128x1024.Idx) : S4x2x128x1024.Idx := fun a => match a with
  | ⟨0, _⟩ => s
  | ⟨1, _⟩ => J 0
  | ⟨2, _⟩ => J 1
  | ⟨3, _⟩ => J 2

/-- The four results, entry by entry, over the received gradients, the parameters and the moments. -/
def sums (r : S4x2x128x1024.Idx → EReal) : S2x128x1024.Idx → EReal := fun J => total (r (source 0 J)) (r (source 1 J)) (r (source 2 J)) (r (source 3 J))
def changes (r : S4x2x128x1024.Idx → EReal) (w p q : S2x128x1024.Idx → EReal) : S2x128x1024.Idx → EReal := fun J => change (sums r J) (w J) (p J) (q J)
def firsts (r : S4x2x128x1024.Idx → EReal) (p : S2x128x1024.Idx → EReal) : S2x128x1024.Idx → EReal := fun J => first (sums r J) (p J)
def seconds (r : S4x2x128x1024.Idx → EReal) (q : S2x128x1024.Idx → EReal) : S2x128x1024.Idx → EReal := fun J => second (sums r J) (q J)

variable {m c}

/-- A source's part of the received block. -/
theorem read_recv (t : Fin cfg0.N) (y : S1x128x1024.Idx) (s : Fin 4) (I : (S4x1x128x1024).Idx) (J : S2x128x1024.Idx)
    (hI : (I 0).val = s.val ∧ (I 1).val = 0 ∧ (I 2).val = (y 1).val ∧ (I 3).val = (y 2).val)
    (hJ : J = ((cfg0.win 1).blk t).view.emb y) :
    iblk m c 0 t I = m ((c.tc : Thread nD τ).loc main_arg0) (source s J) := by
  subst hJ
  show m ((c.tc : Thread nD τ).loc main_arg0) (((cfg0.win 0).blk t).view.emb I) = m _ _
  obtain ⟨h0, h1, h2, h3⟩ := hI
  have hy : (y 0).val = 0 := by have := (y 0).isLt; change (y 0).val < 1 at this; omega
  refine congrArg _ (funext fun a => Fin.ext ?_)
  match a with
  | ⟨0, _⟩ =>
    show win0_0.index t 0 * 4 + 1 * (I 0).val = s.val
    rw [place0 t, h0]
    show 0 * 4 + 1 * s.val = s.val
    omega
  | ⟨1, _⟩ =>
    show win0_0.index t 1 * 1 + 1 * (I 1).val = win0_1.index t 0 * 1 + 1 * (y 0).val
    rw [place0 t, h1, hy]
    rfl
  | ⟨2, _⟩ =>
    show win0_0.index t 2 * 128 + 1 * (I 2).val = win0_1.index t 1 * 128 + 1 * (y 1).val
    rw [place0 t, h2]
    rfl
  | ⟨3, _⟩ =>
    show win0_0.index t 3 * 1024 + 1 * (I 3).val = win0_1.index t 2 * 1024 + 1 * (y 2).val
    rw [place0 t, h3]
    rfl

/-- The sum of the four sources' parts of the received block. -/
theorem read_sum (t : Fin cfg0.N) (y : S1x128x1024.Idx) (J : S2x128x1024.Idx) (hJ : J = ((cfg0.win 1).blk t).view.emb y) :
    total (View.ld (iblk m c 0 t) r0_0 (ix4_0 y)) (View.ld (iblk m c 0 t) r0_1 (ix4_1 y)) (View.ld (iblk m c 0 t) r0_2 (ix4_2 y))
      (View.ld (iblk m c 0 t) r0_3 (ix4_3 y)) = sums (m ((c.tc : Thread nD τ).loc main_arg0)) J := by
  have e (s : Fin 4) (I) (h) : (iblk m c 0 t I : EReal) = _ := read_recv (m := m) (c := c) t y s I J h hJ
  have k (z n : Nat) : z + 1 * n = z + n := by omega
  refine congr (congr (congr (congrArg total ?_) ?_) ?_) ?_
  · exact e 0 _ ⟨rfl, rfl, (k _ _).trans (Nat.zero_add _), (k _ _).trans (Nat.zero_add _)⟩
  · exact e 1 _ ⟨rfl, rfl, (k _ _).trans (Nat.zero_add _), (k _ _).trans (Nat.zero_add _)⟩
  · exact e 2 _ ⟨rfl, rfl, (k _ _).trans (Nat.zero_add _), (k _ _).trans (Nat.zero_add _)⟩
  · exact e 3 _ ⟨rfl, rfl, (k _ _).trans (Nat.zero_add _), (k _ _).trans (Nat.zero_add _)⟩

/-- The whole-block load of a block of the parameters or of a moment, at the block's own index. -/
theorem read_whole (x : Vec Ideal S1x128x1024 .f32) (y : S1x128x1024.Idx) : View.ld x r0_4 (ix5_0 y) = x y := by
  refine congrArg x (funext fun a => Fin.ext ?_)
  have hy : (y 0).val = 0 := by have := (y 0).isLt; change (y 0).val < 1 at this; omega
  match a with
  | ⟨0, _⟩ => exact hy.symm
  | ⟨1, _⟩ => show 0 + 1 * (y 1).val = (y 1).val; omega
  | ⟨2, _⟩ => show 0 + 1 * (y 2).val = (y 2).val; omega

/-- The blocks of the parameters and of the moments are at one place of their arrays. -/
theorem read_w (t : Fin cfg0.N) (y : S1x128x1024.Idx) :
    (iblk m c 1 t y : EReal) = m ((c.tc : Thread nD τ).loc main_arg1) (((cfg0.win 1).blk t).view.emb y) := rfl
theorem read_p (t : Fin cfg0.N) (y : S1x128x1024.Idx) :
    (iblk m c 2 t y : EReal) = m ((c.tc : Thread nD τ).loc main_arg2) (((cfg0.win 1).blk t).view.emb y) := rfl
theorem read_q (t : Fin cfg0.N) (y : S1x128x1024.Idx) :
    (iblk m c 3 t y : EReal) = m ((c.tc : Thread nD τ).loc main_arg3) (((cfg0.win 1).blk t).view.emb y) := rfl

variable (m c)

/-- The summed gradients. -/
theorem array4 : (dats m 0 c).arrAt 4 cfg0.N = sums (m ((c.tc : Thread nD τ).loc main_arg0)) := by
  refine (dats m 0 c).arrAt_eq_of_covers 4 _ (by decide +kernel) fun t hf y => ?_
  blk_simp
  rw [after0_4]
  unfold_out out0_4
  refine (canon4_eq _ _ _ _ y).trans ?_
  exact read_sum t y _ rfl

/-- The changes. -/
theorem array5 : (dats m 0 c).arrAt 5 cfg0.N = changes (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  unfold_out out0_5
  refine (canon5_eq _ _ _ _ _ _ _ y).trans ?_
  have hs := read_sum (m := m) (c := c) t y _ rfl
  have hw := (read_whole (iblk m c 1 t) y).trans (read_w t y)
  have hp := (read_whole (iblk m c 2 t) y).trans (read_p t y)
  have hq := (read_whole (iblk m c 3 t) y).trans (read_q t y)
  exact congr (congr (congr (congrArg change hs) hw) hp) hq

/-- The new first moments. -/
theorem array6 : (dats m 0 c).arrAt 6 cfg0.N = firsts (m ((c.tc : Thread nD τ).loc main_arg0)) (m ((c.tc : Thread nD τ).loc main_arg2)) := by
  refine (dats m 0 c).arrAt_eq_of_covers 6 _ (by decide +kernel) fun t hf y => ?_
  blk_simp
  rw [after0_6]
  unfold_out out0_6
  refine (canon6_eq _ _ _ _ _ y).trans ?_
  have hs := read_sum (m := m) (c := c) t y _ rfl
  have hp := (read_whole (iblk m c 2 t) y).trans (read_p t y)
  exact congrArg₂ first hs hp

/-- The new second moments. -/
theorem array7 : (dats m 0 c).arrAt 7 cfg0.N = seconds (m ((c.tc : Thread nD τ).loc main_arg0)) (m ((c.tc : Thread nD τ).loc main_arg3)) := by
  refine (dats m 0 c).arrAt_eq_of_covers 7 _ (by decide +kernel) fun t hf y => ?_
  blk_simp
  rw [after0_7]
  unfold_out out0_7
  refine (canon7_eq _ _ _ _ _ y).trans ?_
  have hs := read_sum (m := m) (c := c) t y _ rfl
  have hq := (read_whole (iblk m c 3 t) y).trans (read_q t y)
  exact congrArg₂ second hs hq

end Cert.AdamOutIdeal.Hand

namespace Cert.AdamOutRefIdeal.Hand

open Idealize.ShloMosaic Idealize.ShloMosaic.TcCoe Idealize.SL.Sem
open Cert.AdamOutRefIdeal Cert.AdamOutRefIdeal.Gen Cert.AdamOutRefIdeal.Read Cert.Optimiser

/-- The reference's sum of the received gradients. -/
theorem sums (r : S4x2x128x1024.Idx → EReal) : val_main_v1 (F := Ideal) r = Cert.AdamOutIdeal.Hand.sums r := by
  funext J
  rw [val_main_v1_apply, val_main_cst_apply]
  show Ideal.ofBits .f32 0x00000000#32 + _ = _
  rw [Ideal.ofBits_zero_f32, zero_add, Fin.sum_univ_four]
  have e (s : Fin 4) : (val_main_v0 (F := Ideal) r (idx_main_v1 J s) : EReal) = r (Cert.AdamOutIdeal.Hand.source s J) := by
    refine congrArg r (funext fun a => ?_)
    match a with
    | ⟨0, _⟩ => rfl
    | ⟨1, _⟩ => rfl
    | ⟨2, _⟩ => rfl
    | ⟨3, _⟩ => rfl
  rw [e 0, e 1, e 2, e 3]
  rfl

/-- The reference's new first moments. -/
theorem firsts (r : S4x2x128x1024.Idx → EReal) (p : S2x128x1024.Idx → EReal) : val_main_v6 (F := Ideal) r p = Cert.AdamOutIdeal.Hand.firsts r p := by
  funext J
  rw [val_main_v6_apply, val_main_v3_apply, val_main_v5_apply, val_main_v2_apply, val_main_v4_apply, sums]
  rfl

/-- The reference's new second moments. -/
theorem seconds (r : S4x2x128x1024.Idx → EReal) (q : S2x128x1024.Idx → EReal) : val_main_v12 (F := Ideal) r q = Cert.AdamOutIdeal.Hand.seconds r q := by
  funext J
  rw [val_main_v12_apply, val_main_v8_apply, val_main_v11_apply, val_main_v9_apply, val_main_v7_apply, val_main_v10_apply, sums]
  rfl

/-- The reference's changes. -/
theorem changes (r : S4x2x128x1024.Idx → EReal) (w p q : S2x128x1024.Idx → EReal) : val_main_v25 (F := Ideal) r w p q = Cert.AdamOutIdeal.Hand.changes r w p q := by
  funext J
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, firsts, seconds]
  rfl

end Cert.AdamOutRefIdeal.Hand

namespace Cert.Optimiser

open Idealize.ShloMosaic Idealize.ShloMosaic.TcCoe Idealize.SL.Sem

theorem value_out : Cert.algebraic_AdamOutIdeal_AdamOutRefIdeal := fun m g m' g' _ hargs =>
  ⟨_, _, _, _,
    (θ_run _ _ _).mono (fun _ h c => ⟨(h c).1.trans (AdamOutIdeal.Hand.array4 m c), (h c).2.1.trans (AdamOutIdeal.Hand.array5 m c),
      (h c).2.2.1.trans (AdamOutIdeal.Hand.array6 m c), (h c).2.2.2.1.trans (AdamOutIdeal.Hand.array7 m c), (h c).2.2.2.2⟩) (AdamOutIdeal.Value.run_blocks m g),
    (θ_run _ _ _).mono (fun _ h c => ⟨(h c).1.trans ((AdamOutRefIdeal.Read.val_main_v1_eq _).trans ((AdamOutRefIdeal.Hand.sums _).trans (by
        rw [(hargs c).1]))),
      (h c).2.1.trans ((AdamOutRefIdeal.Read.val_main_v25_eq _ _ _ _).trans ((AdamOutRefIdeal.Hand.changes _ _ _ _).trans (by
        rw [(hargs c).1, (hargs c).2.1, (hargs c).2.2.1, (hargs c).2.2.2]))),
      (h c).2.2.1.trans ((AdamOutRefIdeal.Read.val_main_v6_eq _ _).trans ((AdamOutRefIdeal.Hand.firsts _ _).trans (by
        rw [(hargs c).1, (hargs c).2.2.1]))),
      (h c).2.2.2.1.trans ((AdamOutRefIdeal.Read.val_main_v12_eq _ _).trans ((AdamOutRefIdeal.Hand.seconds _ _).trans (by
        rw [(hargs c).1, (hargs c).2.2.2]))), (h c).2.2.2.2⟩) (AdamOutRefIdeal.Value.run m' g')⟩

end Cert.Optimiser
-- ==== Proof.ValueAdamUp.lean ====
/- The optimiser's step on the feed-forward's first matrix, with the four received gradients summed. -/
module

public import proofs.«01_k».proof.Proof.Optimiser
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Defs
import Idealize.ShloMosaic.Lib.Pipeline.ValueKit

@[expose] public section

noncomputable section

namespace Cert.AdamUpIdeal.Hand

open Idealize.ShloMosaic Idealize.ShloMosaic.TcCoe Idealize.SL.Sem
open Cert.AdamUpIdeal Cert.AdamUpIdeal.Gen Cert.AdamUpIdeal.Value Cert.Optimiser

variable (m : (ℓ : Loc nD τ sig) → Buf (Elt Ideal) ℓ) (c : Dev nD)

/-- The block of received gradients has the place of the parameters' block, and all four sources. -/
theorem place0 : ∀ t : Fin cfg0.N, win0_0.index t = ![0, win0_1.index t 0, win0_1.index t 1, win0_1.index t 2] := by decide +kernel

/-- Where source `s`'s gradient of entry `J` is. -/
def source (s : Fin 4) (J : S2x1024x704.Idx) : S4x2x1024x704.Idx := fun a => match a with
  | ⟨0, _⟩ => s
  | ⟨1, _⟩ => J 0
  | ⟨2, _⟩ => J 1
  | ⟨3, _⟩ => J 2

/-- The four results, entry by entry, over the received gradients, the parameters and the moments. -/
def sums (r : S4x2x1024x704.Idx → EReal) : S2x1024x704.Idx → EReal := fun J => total (r (source 0 J)) (r (source 1 J)) (r (source 2 J)) (r (source 3 J))
def changes (r : S4x2x1024x704.Idx → EReal) (w p q : S2x1024x704.Idx → EReal) : S2x1024x704.Idx → EReal := fun J => change (sums r J) (w J) (p J) (q J)
def firsts (r : S4x2x1024x704.Idx → EReal) (p : S2x1024x704.Idx → EReal) : S2x1024x704.Idx → EReal := fun J => first (sums r J) (p J)
def seconds (r : S4x2x1024x704.Idx → EReal) (q : S2x1024x704.Idx → EReal) : S2x1024x704.Idx → EReal := fun J => second (sums r J) (q J)

variable {m c}

/-- A source's part of the received block. -/
theorem read_recv (t : Fin cfg0.N) (y : S1x512x704.Idx) (s : Fin 4) (I : (S4x1x512x704).Idx) (J : S2x1024x704.Idx)
    (hI : (I 0).val = s.val ∧ (I 1).val = 0 ∧ (I 2).val = (y 1).val ∧ (I 3).val = (y 2).val)
    (hJ : J = ((cfg0.win 1).blk t).view.emb y) :
    iblk m c 0 t I = m ((c.tc : Thread nD τ).loc main_arg0) (source s J) := by
  subst hJ
  show m ((c.tc : Thread nD τ).loc main_arg0) (((cfg0.win 0).blk t).view.emb I) = m _ _
  obtain ⟨h0, h1, h2, h3⟩ := hI
  have hy : (y 0).val = 0 := by have := (y 0).isLt; change (y 0).val < 1 at this; omega
  refine congrArg _ (funext fun a => Fin.ext ?_)
  match a with
  | ⟨0, _⟩ =>
    show win0_0.index t 0 * 4 + 1 * (I 0).val = s.val
    rw [place0 t, h0]
    show 0 * 4 + 1 * s.val = s.val
    omega
  | ⟨1, _⟩ =>
    show win0_0.index t 1 * 1 + 1 * (I 1).val = win0_1.index t 0 * 1 + 1 * (y 0).val
    rw [place0 t, h1, hy]
    rfl
  | ⟨2, _⟩ =>
    show win0_0.index t 2 * 512 + 1 * (I 2).val = win0_1.index t 1 * 512 + 1 * (y 1).val
    rw [place0 t, h2]
    rfl
  | ⟨3, _⟩ =>
    show win0_0.index t 3 * 704 + 1 * (I 3).val = win0_1.index t 2 * 704 + 1 * (y 2).val
    rw [place0 t, h3]
    rfl

/-- The sum of the four sources' parts of the received block. -/
theorem read_sum (t : Fin cfg0.N) (y : S1x512x704.Idx) (J : S2x1024x704.Idx) (hJ : J = ((cfg0.win 1).blk t).view.emb y) :
    total (View.ld (iblk m c 0 t) r0_0 (ix4_0 y)) (View.ld (iblk m c 0 t) r0_1 (ix4_1 y)) (View.ld (iblk m c 0 t) r0_2 (ix4_2 y))
      (View.ld (iblk m c 0 t) r0_3 (ix4_3 y)) = sums (m ((c.tc : Thread nD τ).loc main_arg0)) J := by
  have e (s : Fin 4) (I) (h) : (iblk m c 0 t I : EReal) = _ := read_recv (m := m) (c := c) t y s I J h hJ
  have k (z n : Nat) : z + 1 * n = z + n := by omega
  refine congr (congr (congr (congrArg total ?_) ?_) ?_) ?_
  · exact e 0 _ ⟨rfl, rfl, (k _ _).trans (Nat.zero_add _), (k _ _).trans (Nat.zero_add _)⟩
  · exact e 1 _ ⟨rfl, rfl, (k _ _).trans (Nat.zero_add _), (k _ _).trans (Nat.zero_add _)⟩
  · exact e 2 _ ⟨rfl, rfl, (k _ _).trans (Nat.zero_add _), (k _ _).trans (Nat.zero_add _)⟩
  · exact e 3 _ ⟨rfl, rfl, (k _ _).trans (Nat.zero_add _), (k _ _).trans (Nat.zero_add _)⟩

/-- The whole-block load of a block of the parameters or of a moment, at the block's own index. -/
theorem read_whole (x : Vec Ideal S1x512x704 .f32) (y : S1x512x704.Idx) : View.ld x r0_4 (ix5_0 y) = x y := by
  refine congrArg x (funext fun a => Fin.ext ?_)
  have hy : (y 0).val = 0 := by have := (y 0).isLt; change (y 0).val < 1 at this; omega
  match a with
  | ⟨0, _⟩ => exact hy.symm
  | ⟨1, _⟩ => show 0 + 1 * (y 1).val = (y 1).val; omega
  | ⟨2, _⟩ => show 0 + 1 * (y 2).val = (y 2).val; omega

/-- The blocks of the parameters and of the moments are at one place of their arrays. -/
theorem read_w (t : Fin cfg0.N) (y : S1x512x704.Idx) :
    (iblk m c 1 t y : EReal) = m ((c.tc : Thread nD τ).loc main_arg1) (((cfg0.win 1).blk t).view.emb y) := rfl
theorem read_p (t : Fin cfg0.N) (y : S1x512x704.Idx) :
    (iblk m c 2 t y : EReal) = m ((c.tc : Thread nD τ).loc main_arg2) (((cfg0.win 1).blk t).view.emb y) := rfl
theorem read_q (t : Fin cfg0.N) (y : S1x512x704.Idx) :
    (iblk m c 3 t y : EReal) = m ((c.tc : Thread nD τ).loc main_arg3) (((cfg0.win 1).blk t).view.emb y) := rfl

variable (m c)

/-- The summed gradients. -/
theorem array4 : (dats m 0 c).arrAt 4 cfg0.N = sums (m ((c.tc : Thread nD τ).loc main_arg0)) := by
  refine (dats m 0 c).arrAt_eq_of_covers 4 _ (by decide +kernel) fun t hf y => ?_
  blk_simp
  rw [after0_4]
  unfold_out out0_4
  refine (canon4_eq _ _ _ _ y).trans ?_
  exact read_sum t y _ rfl

/-- The changes. -/
theorem array5 : (dats m 0 c).arrAt 5 cfg0.N = changes (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  unfold_out out0_5
  refine (canon5_eq _ _ _ _ _ _ _ y).trans ?_
  have hs := read_sum (m := m) (c := c) t y _ rfl
  have hw := (read_whole (iblk m c 1 t) y).trans (read_w t y)
  have hp := (read_whole (iblk m c 2 t) y).trans (read_p t y)
  have hq := (read_whole (iblk m c 3 t) y).trans (read_q t y)
  exact congr (congr (congr (congrArg change hs) hw) hp) hq

/-- The new first moments. -/
theorem array6 : (dats m 0 c).arrAt 6 cfg0.N = firsts (m ((c.tc : Thread nD τ).loc main_arg0)) (m ((c.tc : Thread nD τ).loc main_arg2)) := by
  refine (dats m 0 c).arrAt_eq_of_covers 6 _ (by decide +kernel) fun t hf y => ?_
  blk_simp
  rw [after0_6]
  unfold_out out0_6
  refine (canon6_eq _ _ _ _ _ y).trans ?_
  have hs := read_sum (m := m) (c := c) t y _ rfl
  have hp := (read_whole (iblk m c 2 t) y).trans (read_p t y)
  exact congrArg₂ first hs hp

/-- The new second moments. -/
theorem array7 : (dats m 0 c).arrAt 7 cfg0.N = seconds (m ((c.tc : Thread nD τ).loc main_arg0)) (m ((c.tc : Thread nD τ).loc main_arg3)) := by
  refine (dats m 0 c).arrAt_eq_of_covers 7 _ (by decide +kernel) fun t hf y => ?_
  blk_simp
  rw [after0_7]
  unfold_out out0_7
  refine (canon7_eq _ _ _ _ _ y).trans ?_
  have hs := read_sum (m := m) (c := c) t y _ rfl
  have hq := (read_whole (iblk m c 3 t) y).trans (read_q t y)
  exact congrArg₂ second hs hq

end Cert.AdamUpIdeal.Hand

namespace Cert.AdamUpRefIdeal.Hand

open Idealize.ShloMosaic Idealize.ShloMosaic.TcCoe Idealize.SL.Sem
open Cert.AdamUpRefIdeal Cert.AdamUpRefIdeal.Gen Cert.AdamUpRefIdeal.Read Cert.Optimiser

/-- The reference's sum of the received gradients. -/
theorem sums (r : S4x2x1024x704.Idx → EReal) : val_main_v1 (F := Ideal) r = Cert.AdamUpIdeal.Hand.sums r := by
  funext J
  rw [val_main_v1_apply, val_main_cst_apply]
  show Ideal.ofBits .f32 0x00000000#32 + _ = _
  rw [Ideal.ofBits_zero_f32, zero_add, Fin.sum_univ_four]
  have e (s : Fin 4) : (val_main_v0 (F := Ideal) r (idx_main_v1 J s) : EReal) = r (Cert.AdamUpIdeal.Hand.source s J) := by
    refine congrArg r (funext fun a => ?_)
    match a with
    | ⟨0, _⟩ => rfl
    | ⟨1, _⟩ => rfl
    | ⟨2, _⟩ => rfl
    | ⟨3, _⟩ => rfl
  rw [e 0, e 1, e 2, e 3]
  rfl

/-- The reference's new first moments. -/
theorem firsts (r : S4x2x1024x704.Idx → EReal) (p : S2x1024x704.Idx → EReal) : val_main_v6 (F := Ideal) r p = Cert.AdamUpIdeal.Hand.firsts r p := by
  funext J
  rw [val_main_v6_apply, val_main_v3_apply, val_main_v5_apply, val_main_v2_apply, val_main_v4_apply, sums]
  rfl

/-- The reference's new second moments. -/
theorem seconds (r : S4x2x1024x704.Idx → EReal) (q : S2x1024x704.Idx → EReal) : val_main_v12 (F := Ideal) r q = Cert.AdamUpIdeal.Hand.seconds r q := by
  funext J
  rw [val_main_v12_apply, val_main_v8_apply, val_main_v11_apply, val_main_v9_apply, val_main_v7_apply, val_main_v10_apply, sums]
  rfl

/-- The reference's changes. -/
theorem changes (r : S4x2x1024x704.Idx → EReal) (w p q : S2x1024x704.Idx → EReal) : val_main_v25 (F := Ideal) r w p q = Cert.AdamUpIdeal.Hand.changes r w p q := by
  funext J
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, firsts, seconds]
  rfl

end Cert.AdamUpRefIdeal.Hand

namespace Cert.Optimiser

open Idealize.ShloMosaic Idealize.ShloMosaic.TcCoe Idealize.SL.Sem

theorem value_up : Cert.algebraic_AdamUpIdeal_AdamUpRefIdeal := fun m g m' g' _ hargs =>
  ⟨_, _, _, _,
    (θ_run _ _ _).mono (fun _ h c => ⟨(h c).1.trans (AdamUpIdeal.Hand.array4 m c), (h c).2.1.trans (AdamUpIdeal.Hand.array5 m c),
      (h c).2.2.1.trans (AdamUpIdeal.Hand.array6 m c), (h c).2.2.2.1.trans (AdamUpIdeal.Hand.array7 m c), (h c).2.2.2.2⟩) (AdamUpIdeal.Value.run_blocks m g),
    (θ_run _ _ _).mono (fun _ h c => ⟨(h c).1.trans ((AdamUpRefIdeal.Read.val_main_v1_eq _).trans ((AdamUpRefIdeal.Hand.sums _).trans (by
        rw [(hargs c).1]))),
      (h c).2.1.trans ((AdamUpRefIdeal.Read.val_main_v25_eq _ _ _ _).trans ((AdamUpRefIdeal.Hand.changes _ _ _ _).trans (by
        rw [(hargs c).1, (hargs c).2.1, (hargs c).2.2.1, (hargs c).2.2.2]))),
      (h c).2.2.1.trans ((AdamUpRefIdeal.Read.val_main_v6_eq _ _).trans ((AdamUpRefIdeal.Hand.firsts _ _).trans (by
        rw [(hargs c).1, (hargs c).2.2.1]))),
      (h c).2.2.2.1.trans ((AdamUpRefIdeal.Read.val_main_v12_eq _ _).trans ((AdamUpRefIdeal.Hand.seconds _ _).trans (by
        rw [(hargs c).1, (hargs c).2.2.2]))), (h c).2.2.2.2⟩) (AdamUpRefIdeal.Value.run m' g')⟩

end Cert.Optimiser
-- ==== Proof.ValueAdamDown.lean ====
/- The optimiser's step on the feed-forward's second matrix, with the four received gradients summed. -/
module

public import proofs.«01_k».proof.Proof.Optimiser
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Defs
import Idealize.ShloMosaic.Lib.Pipeline.ValueKit

@[expose] public section

noncomputable section

namespace Cert.AdamDownIdeal.Hand

open Idealize.ShloMosaic Idealize.ShloMosaic.TcCoe Idealize.SL.Sem
open Cert.AdamDownIdeal Cert.AdamDownIdeal.Gen Cert.AdamDownIdeal.Value Cert.Optimiser

variable (m : (ℓ : Loc nD τ sig) → Buf (Elt Ideal) ℓ) (c : Dev nD)

/-- The block of received gradients has the place of the parameters' block, and all four sources. -/
theorem place0 : ∀ t : Fin cfg0.N, win0_0.index t = ![0, win0_1.index t 0, win0_1.index t 1, win0_1.index t 2] := by decide +kernel

/-- Where source `s`'s gradient of entry `J` is. -/
def source (s : Fin 4) (J : S2x352x1024.Idx) : S4x2x352x1024.Idx := fun a => match a with
  | ⟨0, _⟩ => s
  | ⟨1, _⟩ => J 0
  | ⟨2, _⟩ => J 1
  | ⟨3, _⟩ => J 2

/-- The four results, entry by entry, over the received gradients, the parameters and the moments. -/
def sums (r : S4x2x352x1024.Idx → EReal) : S2x352x1024.Idx → EReal := fun J => total (r (source 0 J)) (r (source 1 J)) (r (source 2 J)) (r (source 3 J))
def changes (r : S4x2x352x1024.Idx → EReal) (w p q : S2x352x1024.Idx → EReal) : S2x352x1024.Idx → EReal := fun J => change (sums r J) (w J) (p J) (q J)
def firsts (r : S4x2x352x1024.Idx → EReal) (p : S2x352x1024.Idx → EReal) : S2x352x1024.Idx → EReal := fun J => first (sums r J) (p J)
def seconds (r : S4x2x352x1024.Idx → EReal) (q : S2x352x1024.Idx → EReal) : S2x352x1024.Idx → EReal := fun J => second (sums r J) (q J)

variable {m c}

/-- A source's part of the received block. -/
theorem read_recv (t : Fin cfg0.N) (y : S1x352x1024.Idx) (s : Fin 4) (I : (S4x1x352x1024).Idx) (J : S2x352x1024.Idx)
    (hI : (I 0).val = s.val ∧ (I 1).val = 0 ∧ (I 2).val = (y 1).val ∧ (I 3).val = (y 2).val)
    (hJ : J = ((cfg0.win 1).blk t).view.emb y) :
    iblk m c 0 t I = m ((c.tc : Thread nD τ).loc main_arg0) (source s J) := by
  subst hJ
  show m ((c.tc : Thread nD τ).loc main_arg0) (((cfg0.win 0).blk t).view.emb I) = m _ _
  obtain ⟨h0, h1, h2, h3⟩ := hI
  have hy : (y 0).val = 0 := by have := (y 0).isLt; change (y 0).val < 1 at this; omega
  refine congrArg _ (funext fun a => Fin.ext ?_)
  match a with
  | ⟨0, _⟩ =>
    show win0_0.index t 0 * 4 + 1 * (I 0).val = s.val
    rw [place0 t, h0]
    show 0 * 4 + 1 * s.val = s.val
    omega
  | ⟨1, _⟩ =>
    show win0_0.index t 1 * 1 + 1 * (I 1).val = win0_1.index t 0 * 1 + 1 * (y 0).val
    rw [place0 t, h1, hy]
    rfl
  | ⟨2, _⟩ =>
    show win0_0.index t 2 * 352 + 1 * (I 2).val = win0_1.index t 1 * 352 + 1 * (y 1).val
    rw [place0 t, h2]
    rfl
  | ⟨3, _⟩ =>
    show win0_0.index t 3 * 1024 + 1 * (I 3).val = win0_1.index t 2 * 1024 + 1 * (y 2).val
    rw [place0 t, h3]
    rfl

/-- The sum of the four sources' parts of the received block. -/
theorem read_sum (t : Fin cfg0.N) (y : S1x352x1024.Idx) (J : S2x352x1024.Idx) (hJ : J = ((cfg0.win 1).blk t).view.emb y) :
    total (View.ld (iblk m c 0 t) r0_0 (ix4_0 y)) (View.ld (iblk m c 0 t) r0_1 (ix4_1 y)) (View.ld (iblk m c 0 t) r0_2 (ix4_2 y))
      (View.ld (iblk m c 0 t) r0_3 (ix4_3 y)) = sums (m ((c.tc : Thread nD τ).loc main_arg0)) J := by
  have e (s : Fin 4) (I) (h) : (iblk m c 0 t I : EReal) = _ := read_recv (m := m) (c := c) t y s I J h hJ
  have k (z n : Nat) : z + 1 * n = z + n := by omega
  refine congr (congr (congr (congrArg total ?_) ?_) ?_) ?_
  · exact e 0 _ ⟨rfl, rfl, (k _ _).trans (Nat.zero_add _), (k _ _).trans (Nat.zero_add _)⟩
  · exact e 1 _ ⟨rfl, rfl, (k _ _).trans (Nat.zero_add _), (k _ _).trans (Nat.zero_add _)⟩
  · exact e 2 _ ⟨rfl, rfl, (k _ _).trans (Nat.zero_add _), (k _ _).trans (Nat.zero_add _)⟩
  · exact e 3 _ ⟨rfl, rfl, (k _ _).trans (Nat.zero_add _), (k _ _).trans (Nat.zero_add _)⟩

/-- The whole-block load of a block of the parameters or of a moment, at the block's own index. -/
theorem read_whole (x : Vec Ideal S1x352x1024 .f32) (y : S1x352x1024.Idx) : View.ld x r0_4 (ix5_0 y) = x y := by
  refine congrArg x (funext fun a => Fin.ext ?_)
  have hy : (y 0).val = 0 := by have := (y 0).isLt; change (y 0).val < 1 at this; omega
  match a with
  | ⟨0, _⟩ => exact hy.symm
  | ⟨1, _⟩ => show 0 + 1 * (y 1).val = (y 1).val; omega
  | ⟨2, _⟩ => show 0 + 1 * (y 2).val = (y 2).val; omega

/-- The blocks of the parameters and of the moments are at one place of their arrays. -/
theorem read_w (t : Fin cfg0.N) (y : S1x352x1024.Idx) :
    (iblk m c 1 t y : EReal) = m ((c.tc : Thread nD τ).loc main_arg1) (((cfg0.win 1).blk t).view.emb y) := rfl
theorem read_p (t : Fin cfg0.N) (y : S1x352x1024.Idx) :
    (iblk m c 2 t y : EReal) = m ((c.tc : Thread nD τ).loc main_arg2) (((cfg0.win 1).blk t).view.emb y) := rfl
theorem read_q (t : Fin cfg0.N) (y : S1x352x1024.Idx) :
    (iblk m c 3 t y : EReal) = m ((c.tc : Thread nD τ).loc main_arg3) (((cfg0.win 1).blk t).view.emb y) := rfl

variable (m c)

/-- The summed gradients. -/
theorem array4 : (dats m 0 c).arrAt 4 cfg0.N = sums (m ((c.tc : Thread nD τ).loc main_arg0)) := by
  refine (dats m 0 c).arrAt_eq_of_covers 4 _ (by decide +kernel) fun t hf y => ?_
  blk_simp
  rw [after0_4]
  unfold_out out0_4
  refine (canon4_eq _ _ _ _ y).trans ?_
  exact read_sum t y _ rfl

/-- The changes. -/
theorem array5 : (dats m 0 c).arrAt 5 cfg0.N = changes (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  unfold_out out0_5
  refine (canon5_eq _ _ _ _ _ _ _ y).trans ?_
  have hs := read_sum (m := m) (c := c) t y _ rfl
  have hw := (read_whole (iblk m c 1 t) y).trans (read_w t y)
  have hp := (read_whole (iblk m c 2 t) y).trans (read_p t y)
  have hq := (read_whole (iblk m c 3 t) y).trans (read_q t y)
  exact congr (congr (congr (congrArg change hs) hw) hp) hq

/-- The new first moments. -/
theorem array6 : (dats m 0 c).arrAt 6 cfg0.N = firsts (m ((c.tc : Thread nD τ).loc main_arg0)) (m ((c.tc : Thread nD τ).loc main_arg2)) := by
  refine (dats m 0 c).arrAt_eq_of_covers 6 _ (by decide +kernel) fun t hf y => ?_
  blk_simp
  rw [after0_6]
  unfold_out out0_6
  refine (canon6_eq _ _ _ _ _ y).trans ?_
  have hs := read_sum (m := m) (c := c) t y _ rfl
  have hp := (read_whole (iblk m c 2 t) y).trans (read_p t y)
  exact congrArg₂ first hs hp

/-- The new second moments. -/
theorem array7 : (dats m 0 c).arrAt 7 cfg0.N = seconds (m ((c.tc : Thread nD τ).loc main_arg0)) (m ((c.tc : Thread nD τ).loc main_arg3)) := by
  refine (dats m 0 c).arrAt_eq_of_covers 7 _ (by decide +kernel) fun t hf y => ?_
  blk_simp
  rw [after0_7]
  unfold_out out0_7
  refine (canon7_eq _ _ _ _ _ y).trans ?_
  have hs := read_sum (m := m) (c := c) t y _ rfl
  have hq := (read_whole (iblk m c 3 t) y).trans (read_q t y)
  exact congrArg₂ second hs hq

end Cert.AdamDownIdeal.Hand

namespace Cert.AdamDownRefIdeal.Hand

open Idealize.ShloMosaic Idealize.ShloMosaic.TcCoe Idealize.SL.Sem
open Cert.AdamDownRefIdeal Cert.AdamDownRefIdeal.Gen Cert.AdamDownRefIdeal.Read Cert.Optimiser

/-- The reference's sum of the received gradients. -/
theorem sums (r : S4x2x352x1024.Idx → EReal) : val_main_v1 (F := Ideal) r = Cert.AdamDownIdeal.Hand.sums r := by
  funext J
  rw [val_main_v1_apply, val_main_cst_apply]
  show Ideal.ofBits .f32 0x00000000#32 + _ = _
  rw [Ideal.ofBits_zero_f32, zero_add, Fin.sum_univ_four]
  have e (s : Fin 4) : (val_main_v0 (F := Ideal) r (idx_main_v1 J s) : EReal) = r (Cert.AdamDownIdeal.Hand.source s J) := by
    refine congrArg r (funext fun a => ?_)
    match a with
    | ⟨0, _⟩ => rfl
    | ⟨1, _⟩ => rfl
    | ⟨2, _⟩ => rfl
    | ⟨3, _⟩ => rfl
  rw [e 0, e 1, e 2, e 3]
  rfl

/-- The reference's new first moments. -/
theorem firsts (r : S4x2x352x1024.Idx → EReal) (p : S2x352x1024.Idx → EReal) : val_main_v6 (F := Ideal) r p = Cert.AdamDownIdeal.Hand.firsts r p := by
  funext J
  rw [val_main_v6_apply, val_main_v3_apply, val_main_v5_apply, val_main_v2_apply, val_main_v4_apply, sums]
  rfl

/-- The reference's new second moments. -/
theorem seconds (r : S4x2x352x1024.Idx → EReal) (q : S2x352x1024.Idx → EReal) : val_main_v12 (F := Ideal) r q = Cert.AdamDownIdeal.Hand.seconds r q := by
  funext J
  rw [val_main_v12_apply, val_main_v8_apply, val_main_v11_apply, val_main_v9_apply, val_main_v7_apply, val_main_v10_apply, sums]
  rfl

/-- The reference's changes. -/
theorem changes (r : S4x2x352x1024.Idx → EReal) (w p q : S2x352x1024.Idx → EReal) : val_main_v25 (F := Ideal) r w p q = Cert.AdamDownIdeal.Hand.changes r w p q := by
  funext J
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, firsts, seconds]
  rfl

end Cert.AdamDownRefIdeal.Hand

namespace Cert.Optimiser

open Idealize.ShloMosaic Idealize.ShloMosaic.TcCoe Idealize.SL.Sem

theorem value_down : Cert.algebraic_AdamDownIdeal_AdamDownRefIdeal := fun m g m' g' _ hargs =>
  ⟨_, _, _, _,
    (θ_run _ _ _).mono (fun _ h c => ⟨(h c).1.trans (AdamDownIdeal.Hand.array4 m c), (h c).2.1.trans (AdamDownIdeal.Hand.array5 m c),
      (h c).2.2.1.trans (AdamDownIdeal.Hand.array6 m c), (h c).2.2.2.1.trans (AdamDownIdeal.Hand.array7 m c), (h c).2.2.2.2⟩) (AdamDownIdeal.Value.run_blocks m g),
    (θ_run _ _ _).mono (fun _ h c => ⟨(h c).1.trans ((AdamDownRefIdeal.Read.val_main_v1_eq _).trans ((AdamDownRefIdeal.Hand.sums _).trans (by
        rw [(hargs c).1]))),
      (h c).2.1.trans ((AdamDownRefIdeal.Read.val_main_v25_eq _ _ _ _).trans ((AdamDownRefIdeal.Hand.changes _ _ _ _).trans (by
        rw [(hargs c).1, (hargs c).2.1, (hargs c).2.2.1, (hargs c).2.2.2]))),
      (h c).2.2.1.trans ((AdamDownRefIdeal.Read.val_main_v6_eq _ _).trans ((AdamDownRefIdeal.Hand.firsts _ _).trans (by
        rw [(hargs c).1, (hargs c).2.2.1]))),
      (h c).2.2.2.1.trans ((AdamDownRefIdeal.Read.val_main_v12_eq _ _).trans ((AdamDownRefIdeal.Hand.seconds _ _).trans (by
        rw [(hargs c).1, (hargs c).2.2.2]))), (h c).2.2.2.2⟩) (AdamDownRefIdeal.Value.run m' g')⟩

end Cert.Optimiser
-- ==== Proof.ValueAdamSmall.lean ====
/- The optimiser's step on the packed small parameters. -/
module

public import proofs.«01_k».proof.Proof.Optimiser
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs

@[expose] public section

noncomputable section

namespace Cert.AdamSmallIdeal.Hand

open Idealize.ShloMosaic Idealize.ShloMosaic.TcCoe Idealize.SL.Sem
open Cert.AdamSmallIdeal Cert.AdamSmallIdeal.Gen Cert.Optimiser

/-- The three results, entry by entry, over gradient, parameters and moments. -/
def changes (g w m v : S96x128.Idx → EReal) : S96x128.Idx → EReal := fun J => change (g J) (w J) (m J) (v J)
def firsts (g m : S96x128.Idx → EReal) : S96x128.Idx → EReal := fun J => first (g J) (m J)
def seconds (g v : S96x128.Idx → EReal) : S96x128.Idx → EReal := fun J => second (g J) (v J)

end Cert.AdamSmallIdeal.Hand

namespace Cert.AdamSmallRefIdeal.Hand

open Idealize.ShloMosaic Idealize.ShloMosaic.TcCoe Idealize.SL.Sem
open Cert.AdamSmallRefIdeal Cert.AdamSmallRefIdeal.Gen Cert.AdamSmallRefIdeal.Read Cert.Optimiser

/-- The reference's new first moment. -/
theorem firsts (g m : S96x128.Idx → EReal) : val_main_v4 (F := Ideal) g m = Cert.AdamSmallIdeal.Hand.firsts g m := by
  funext J
  rw [val_main_v4_apply, val_main_v1_apply, val_main_v3_apply, val_main_v0_apply, val_main_v2_apply]
  rfl

/-- The reference's new second moment. -/
theorem seconds (g v : S96x128.Idx → EReal) : val_main_v10 (F := Ideal) g v = Cert.AdamSmallIdeal.Hand.seconds g v := by
  funext J
  rw [val_main_v10_apply, val_main_v6_apply, val_main_v9_apply, val_main_v7_apply, val_main_v5_apply, val_main_v8_apply]
  rfl

/-- The reference's change. -/
theorem changes (g w m v : S96x128.Idx → EReal) : val_main_v23 (F := Ideal) g w m v = Cert.AdamSmallIdeal.Hand.changes g w m v := by
  funext J
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, firsts, seconds]
  rfl

end Cert.AdamSmallRefIdeal.Hand

namespace Cert.Optimiser

open Idealize.ShloMosaic Idealize.ShloMosaic.TcCoe Idealize.SL.Sem

theorem value_small : Cert.algebraic_AdamSmallIdeal_AdamSmallRefIdeal := fun m g m' g' _ hargs =>
  ⟨_, _, _,
    (θ_run _ _ _).mono (fun _ h c => ⟨(h c).1, (h c).2.1, (h c).2.2.1, (h c).2.2.2⟩) (AdamSmallIdeal.Value.run m g),
    (θ_run _ _ _).mono (fun _ h c => ⟨(h c).1.trans ((AdamSmallRefIdeal.Read.val_main_v23_eq _ _ _ _).trans ((AdamSmallRefIdeal.Hand.changes _ _ _ _).trans (by
        rw [(hargs c).1, (hargs c).2.1, (hargs c).2.2.1, (hargs c).2.2.2]; rfl))),
      (h c).2.1.trans ((AdamSmallRefIdeal.Read.val_main_v4_eq _ _).trans ((AdamSmallRefIdeal.Hand.firsts _ _).trans (by
        rw [(hargs c).1, (hargs c).2.2.1]; rfl))),
      (h c).2.2.1.trans ((AdamSmallRefIdeal.Read.val_main_v10_eq _ _).trans ((AdamSmallRefIdeal.Hand.seconds _ _).trans (by
        rw [(hargs c).1, (hargs c).2.2.2]; rfl))), (h c).2.2.2⟩) (AdamSmallRefIdeal.Value.run m' g')⟩

end Cert.Optimiser
-- ==== Proof.ValueSumSmall.lean ====
/- The sum of the small gradients of eight devices. -/
module

public import proofs.«01_k».proof.Proof.Optimiser
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Defs
import Idealize.ShloMosaic.Lib.Pipeline.ValueKit

@[expose] public section

noncomputable section

namespace Cert.SumSmallIdeal.Hand

open Idealize.ShloMosaic Idealize.ShloMosaic.TcCoe Idealize.SL.Sem
open Cert.SumSmallIdeal Cert.SumSmallIdeal.Gen Cert.SumSmallIdeal.Value

/-- Where source `s`'s gradient of entry `J` is. -/
def source (s : Fin 8) (J : S416x128.Idx) : S8x416x128.Idx := fun a => match a with
  | ⟨0, _⟩ => s
  | ⟨1, _⟩ => J 0
  | ⟨2, _⟩ => J 1

/-- The sum over the sources, entry by entry. -/
def result (r : S8x416x128.Idx → EReal) : S416x128.Idx → EReal := fun J => ∑ s : Fin 8, r (source s J)

/-- Where entry `J` is in one source's part. -/
def inside (J : S416x128.Idx) : S1x416x128.Idx := fun a => match a with
  | ⟨0, _⟩ => (0 : Fin 1)
  | ⟨1, _⟩ => J 0
  | ⟨2, _⟩ => J 1

/-- A part with its leading axis dropped. -/
theorem drop (x : Vec Ideal S1x416x128 .f32) (J : S416x128.Idx) :
    shapeCast S416x128 x shapeCasts_S1x416x128_S416x128 J = x (inside J) :=
  shapeCast_apply _ _ _ _ (by
    rw [Shape.rowMajor_val_two, Shape.rowMajor_val_three]
    show (0 * 416 + (J 0).val) * 128 + (J 1).val = (J 0).val * 128 + (J 1).val
    omega)

/-- A source's part, read in the whole. -/
theorem part (r : Vec Ideal S8x416x128 .f32) (s : Fin 8) (x : Vec Ideal S1x416x128 .f32) (J : S416x128.Idx) (I : S8x416x128.Idx)
    (hx : x (inside J) = r I) (hI : (I 0).val = s.val + 1 * 0 ∧ (I 1).val = 0 + 1 * (J 0).val ∧ (I 2).val = 0 + 1 * (J 1).val) :
    (shapeCast S416x128 x shapeCasts_S1x416x128_S416x128 J : EReal) = r (source s J) := by
  obtain ⟨h0, h1, h2⟩ := hI
  refine (drop x J).trans (hx.trans (congrArg r (funext fun a => Fin.ext ?_)))
  match a with
  | ⟨0, _⟩ => exact h0
  | ⟨1, _⟩ => exact h1.trans (by show 0 + 1 * (J 0).val = (J 0).val; omega)
  | ⟨2, _⟩ => exact h2.trans (by show 0 + 1 * (J 1).val = (J 1).val; omega)

/-- The kernel's sum. -/
theorem array (r : S8x416x128.Idx → EReal) : G1 (F := Ideal) r = result r := by
  funext J
  unfold result
  rw [Fin.sum_univ_eight]
  have e (s : Fin 8) (x I h h') : (shapeCast S416x128 x shapeCasts_S1x416x128_S416x128 J : EReal) = _ := part r s x J I h h'
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) ?_ ?_) ?_) ?_) ?_) ?_) ?_) ?_
  · exact e 0 _ _ rfl ⟨rfl, rfl, rfl⟩
  · exact e 1 _ _ rfl ⟨rfl, rfl, rfl⟩
  · exact e 2 _ _ rfl ⟨rfl, rfl, rfl⟩
  · exact e 3 _ _ rfl ⟨rfl, rfl, rfl⟩
  · exact e 4 _ _ rfl ⟨rfl, rfl, rfl⟩
  · exact e 5 _ _ rfl ⟨rfl, rfl, rfl⟩
  · exact e 6 _ _ rfl ⟨rfl, rfl, rfl⟩
  · exact e 7 _ _ rfl ⟨rfl, rfl, rfl⟩

end Cert.SumSmallIdeal.Hand

namespace Cert.SumSmallRefIdeal.Hand

open Idealize.ShloMosaic Idealize.ShloMosaic.TcCoe Idealize.SL.Sem
open Cert.SumSmallRefIdeal Cert.SumSmallRefIdeal.Gen Cert.SumSmallRefIdeal.Read

/-- The reference's sum. -/
theorem value (r : S8x416x128.Idx → EReal) : val_main_v0 (F := Ideal) r = Cert.SumSmallIdeal.Hand.result r := by
  funext J
  rw [val_main_v0_apply, val_main_cst_apply]
  show Ideal.ofBits .f32 0x00000000#32 + _ = _
  rw [Ideal.ofBits_zero_f32, zero_add]
  refine Finset.sum_congr rfl fun s _ => congrArg r (funext fun a => ?_)
  match a with
  | ⟨0, _⟩ => rfl
  | ⟨1, _⟩ => rfl
  | ⟨2, _⟩ => rfl

end Cert.SumSmallRefIdeal.Hand

namespace Cert.Optimiser

open Idealize.ShloMosaic Idealize.ShloMosaic.TcCoe Idealize.SL.Sem

theorem value_sums : Cert.algebraic_SumSmallIdeal_SumSmallRefIdeal := fun m g m' g' _ hargs =>
  ⟨_,
    (θ_run _ _ _).mono (fun _ h c => ⟨(h c).1.trans (SumSmallIdeal.Hand.array _), (h c).2⟩) (SumSmallIdeal.Value.run m g),
    (θ_run _ _ _).mono (fun _ h c => ⟨(h c).1.trans ((SumSmallRefIdeal.Read.val_main_v0_eq _).trans ((SumSmallRefIdeal.Hand.value _).trans (by
        rw [hargs c]))), (h c).2⟩) (SumSmallRefIdeal.Value.run m' g')⟩

end Cert.Optimiser
-- ==== Proof.Sweep.lean ====
/-
  A step over `n` blocks of 128 keys, for a point's 512 stacked rows (head `h`, query `r` at row `128 h + r`), written once
  for every `n` the kernel uses: 1, 4 and 8, and 1 under the strict mask of the diagonal. A step's arrays stack the blocks:
  row `512 b + ρ` is block `b` and stacked row `ρ`.
-/
module

public import proofs.«01_k».proof.Proof.Gen.KernelIdeal.Skeleton
public import Idealize.ShloMosaic.Lib.MatmulPlain

@[expose] public section

noncomputable section

namespace Cert.KernelIdeal.Sweep

open Idealize.ShloMosaic
open Cert.KernelIdeal Cert.KernelIdeal.Gen

variable {F : FTy → Type} [FloatOps F]

/-- How many blocks a step takes. -/
abbrev Ok (n : ℕ) : Prop := n = 1 ∨ n = 4 ∨ n = 8

abbrev Wide (n : ℕ) : Shape := ⟨2, ![512 * n, 128]⟩
abbrev Tall (n : ℕ) : Shape := ⟨2, ![512 * n, 1]⟩
abbrev Long (n : ℕ) : Shape := ⟨1, ![512 * n]⟩
abbrev Twice (n : ℕ) : Shape := ⟨2, ![2 * (512 * n), 128]⟩

/-! The side facts of the operations below, for the three numbers of blocks. -/
theorem cat_scores (n : ℕ) (hn : Ok n) : Shape.Concatenates (List.ofFn fun _ : Fin (2 * n) => S256x128) (Wide n) 0 := by
  rcases hn with rfl | rfl | rfl <;> decide
theorem cat_stack (n : ℕ) (hn : Ok n) (h : n ≠ 1) : Shape.Concatenates (List.ofFn fun _ : Fin n => S512x1) (Tall n) 0 := by
  rcases hn with rfl | rfl | rfl
  · exact absurd rfl h
  all_goals decide
theorem cat_twice (n : ℕ) (hn : Ok n) : Shape.Concatenates [Wide n, Wide n] (Twice n) 0 := by
  rcases hn with rfl | rfl | rfl <;> decide
theorem red_rows (n : ℕ) (hn : Ok n) : (Wide n).Reduces [1] (Long n) := by rcases hn with rfl | rfl | rfl <;> decide
theorem cast_col (n : ℕ) (hn : Ok n) : (Long n).ShapeCasts (Tall n) := by rcases hn with rfl | rfl | rfl <;> decide
theorem sl_cut (n : ℕ) (hn : Ok n) (b : Fin n) : (Tall n).Slices ![512 * b.val, 0] S512x1 := by
  rcases hn with rfl | rfl | rfl <;> revert b <;> decide
theorem sl_hi (n : ℕ) (hn : Ok n) : (Twice n).Slices ![0, 0] (Wide n) := by rcases hn with rfl | rfl | rfl <;> decide
theorem sl_lo (n : ℕ) (hn : Ok n) : (Twice n).Slices ![512 * n, 0] (Wide n) := by rcases hn with rfl | rfl | rfl <;> decide
theorem sl_part (n : ℕ) (hn : Ok n) (m : Fin (2 * n)) : (Wide n).Slices ![256 * m.val, 0] S256x128 := by
  rcases hn with rfl | rfl | rfl <;> revert m <;> decide
theorem sl_half (m : ℕ) : S512x128.Slices ![256 * (m % 2), 0] S256x128 := by
  rcases Nat.mod_two_eq_zero_or_one m with h | h <;> rw [h] <;> decide
theorem bc_col (n : ℕ) (hn : Ok n) : (Tall n).Broadcasts (Wide n) := by rcases hn with rfl | rfl | rfl <;> decide

/-- The stacked rows against each block's two pairs of heads. -/
def scores (n : ℕ) (hn : Ok n) (q : FVec F S512x128 .bf16) (K : Fin (2 * n) → FVec F S128x128 .bf16) : FVec F (Wide n) .f32 :=
  concatenate (Wide n) 0 (List.ofFn fun m : Fin (2 * n) => (⟨S256x128,
      matmul dot_S256x128_S128x128_S256x128_1_1_0_0_n_n none
        (extractStridedSlice S256x128 ![256 * (m.val % 2), 0] q (sl_half m.val))
        (K m) (constant S256x128 .f32 0x00000000#32)⟩ : (s : Shape) × (s.Idx → F .f32)))
    (by rw [List.map_ofFn]; exact cat_scores n hn)

/-- An entry-wise zero. -/
def zeros (s : Shape) : FVec F s .f32 := broadcast s (Scalar.ofBits .f32 0x00000000#32 : F .f32)
def ones (s : Shape) : FVec F s .f32 := broadcast s (Scalar.ofBits .f32 0x3F800000#32 : F .f32)

/-- `log σ(z)`, entry by entry. -/
def logSig (s : Shape) (z : FVec F s .f32) : FVec F s .f32 :=
  subf (minimumf z (zeros s)) (log (addf (ones s) (exp (subf (zeros s) (absf z)))))

/-- Zero outside the mask, if there is one. -/
def masked (s : Shape) (m : Option (IVec s 1)) (x : FVec F s .f32) : FVec F s .f32 :=
  match m with
  | none => x
  | some m => select m x (zeros s)

/-- The row sums, as a column. -/
def rowSums (n : ℕ) (hn : Ok n) (x : FVec F (Wide n) .f32) : FVec F (Tall n) .f32 :=
  shapeCast (Tall n) (multiReduction .add [1] (Long n) x 0x00000000#32 (red_rows n hn) (.inl rfl) rfl)
    (cast_col n hn)

/-- Block `b` of a column. -/
def cut : (n : ℕ) → Ok n → FVec F (Tall n) .f32 → Fin n → FVec F S512x1 .f32
  | 1, _, x, _ => x
  | 0, hn, _, _ => absurd hn (by decide)
  | n + 2, hn, x, b => extractStridedSlice S512x1 ![512 * b.val, 0] x (sl_cut (n + 2) hn b)

/-- Columns, one per block, stacked. -/
def stack : (n : ℕ) → Ok n → (Fin n → FVec F S512x1 .f32) → FVec F (Tall n) .f32
  | 1, _, f => f 0
  | 0, hn, _ => absurd hn (by decide)
  | n + 2, hn, f => concatenate (Tall (n + 2)) 0 (List.ofFn fun b : Fin (n + 2) => (⟨S512x1, f b⟩ : (s : Shape) × (s.Idx → F .f32)))
      (by rw [List.map_ofFn]; exact cat_stack (n + 2) hn (by omega))

/-- What a column comes to when the first `b` blocks of another are added to it. -/
def running (n : ℕ) (hn : Ok n) (p : FVec F S512x1 .f32) (x : FVec F (Tall n) .f32) : ℕ → FVec F S512x1 .f32
  | 0 => p
  | b + 1 => if h : b < n then addf (running n hn p x b) (cut n hn x ⟨b, h⟩) else running n hn p x b

/-- A product taken in two parts: what rounding keeps, and what it leaves. -/
def splitDot (n : ℕ) (hn : Ok n) (x : FVec F (Wide n) .f32) (a : FVec F S128x128 .bf16) : FVec F (Wide n) .f32 :=
  let hi := truncf .bf16 x bitsLt_bf16_f32
  let lo := truncf .bf16 (subf x (extf .f32 hi bitsLt_bf16_f32)) bitsLt_bf16_f32
  let y := matmul (DotDims.plain (2 * (512 * n)) 128 128) none
    (concatenate (Twice n) 0 [⟨Wide n, hi⟩, ⟨Wide n, lo⟩] (cat_twice n hn)) a (constant (Twice n) .f32 0x00000000#32)
  addf (extractStridedSlice (Wide n) ![0, 0] y (sl_hi n hn))
    (extractStridedSlice (Wide n) ![512 * n, 0] y (sl_lo n hn))

section
variable (n : ℕ) (hn : Ok n) (msk : Option (IVec (Wide n) 1)) (low : IVec S128x128 1) (after before : FVec F S128x128 .bf16)
  (q g : FVec F S512x128 .bf16) (tot p e : FVec F S512x1 .f32) (K V : Fin (2 * n) → FVec F S128x128 .bf16)

/-- `log σ(z)`, its complement's logarithm under the mask, and `σ(z)`. -/
def lb : FVec F (Wide n) .f32 := logSig (Wide n) (scores n hn q K)
def lom : FVec F (Wide n) .f32 := masked (Wide n) msk (subf (lb n hn q K) (scores n hn q K))
def sig : FVec F (Wide n) .f32 := exp (lb n hn q K)

/-- The log-complements' sum through block `b - 1`. -/
def through (b : ℕ) : FVec F S512x1 .f32 := running n hn p (rowSums n hn (lom n hn msk q K)) b

/-- The attention weights. -/
def wts : FVec F (Wide n) .f32 :=
  masked (Wide n) msk (exp (addf (addf (lb n hn q K) (splitDot n hn (lom n hn msk q K) after))
    (broadcastTo (Wide n) (subf (stack n hn fun _ => tot) (stack n hn fun b => through n hn msk q p K (b.val + 1)))
      (bc_col n hn))))

/-- The weights' gradients times the weights. -/
def ea : FVec F (Wide n) .f32 := mulf (scores n hn g V) (wts n hn msk after q tot p K)

/-- Their sum through block `b - 1`. -/
def eaThrough (b : ℕ) : FVec F S512x1 .f32 := running n hn e (rowSums n hn (ea n hn msk after q g tot p K V)) b

/-- Their sum over the keys before. -/
def dlom : FVec F (Wide n) .f32 :=
  masked (Wide n) msk (addf
    (broadcastTo (Wide n) (stack n hn fun b => eaThrough n hn msk after q g tot p e K V b.val) (bc_col n hn))
    (matmul (DotDims.plain (512 * n) 128 128) none (truncf .bf16 (ea n hn msk after q g tot p K V) bitsLt_bf16_f32) before (constant (Wide n) .f32 0x00000000#32)))

/-- The scores' gradients. -/
def dz : FVec F (Wide n) .bf16 :=
  truncf .bf16 (subf (mulf (ea n hn msk after q g tot p K V) (subf (ones (Wide n)) (sig n hn q K)))
    (mulf (dlom n hn msk after before q g tot p e K V) (sig n hn q K))) bitsLt_bf16_f32

/-- The weights, narrowed. -/
def wtsN : FVec F (Wide n) .bf16 := truncf .bf16 (wts n hn msk after q tot p K) bitsLt_bf16_f32

/-- Block and pair `m` of a wide array. -/
def part (x : FVec F (Wide n) .bf16) (m : Fin (2 * n)) : FVec F S256x128 .bf16 :=
  extractStridedSlice S256x128 ![256 * m.val, 0] x (sl_part n hn m)

/-- Pair `m % 2` of the stacked rows. -/
def half (x : FVec F S512x128 .bf16) (m : ℕ) : FVec F S256x128 .bf16 :=
  extractStridedSlice S256x128 ![256 * (m % 2), 0] x (sl_half m)

/-- A pair's dq with its first `b` blocks added. -/
def dqThrough (d : FVec F (Wide n) .bf16) (a : FVec F S128x128 .f32) (pr : Fin 2) : ℕ → FVec F S128x128 .f32
  | 0 => a
  | b + 1 => if h : b < n then
      let y := matmul dot_S256x128_S128x128_S256x128_1_0_0_1_n_n none (part n hn d ⟨2 * b + pr.val, by have := pr.isLt; omega⟩)
        (K ⟨2 * b + pr.val, by have := pr.isLt; omega⟩) (constant S256x128 .f32 0x00000000#32)
      addf (dqThrough d a pr b) (select low (extractStridedSlice S128x128 ![0, 0] y slices_S256x128_o0_0_S128x128)
        (extractStridedSlice S128x128 ![128, 0] y slices_S256x128_o128_0_S128x128))
    else dqThrough d a pr b

/-- What is stored where block and pair `m` of a sum held `old`. -/
def added (d : FVec F (Wide n) .bf16) (x : FVec F S512x128 .bf16) (m : Fin (2 * n)) (old : FVec F S128x128 .f32) : FVec F S128x128 .f32 :=
  shapeCast S128x128 (addf old (matmul dot_S256x128_S256x128_S128x128_0_0_1_1_n_n none (part n hn d m) (half x m.val)
    (constant S128x128 .f32 0x00000000#32))) shapeCasts_S128x128_S128x128

end

end Cert.KernelIdeal.Sweep
-- ==== Proof.Spec.lean ====
/-
  What a point of the sweep computes, over the reals: for each stacked row `ρ` and key `s` the score, the weight, the weight's
  gradient and the score's gradient. Rows, keys and columns are plain numbers; a quantity outside its range is never read.
-/
module

public import Idealize.ShloMosaic.PureOps.Ideal
public import Mathlib.Algebra.BigOperators.Intervals
public import Mathlib.Analysis.SpecialFunctions.Log.Basic

@[expose] public section

noncomputable section

namespace Cert.Spec

open Finset

/-- `log σ(z)`, as both programs take it. -/
def LS (z : ℝ) : ℝ := min z 0 - Real.log (1 + Real.exp (-|z|))

theorem one_add_exp_pos (z : ℝ) : 0 < 1 + Real.exp z := by positivity

/-- It is `z - log (1 + e^z)`. -/
theorem LS_eq (z : ℝ) : LS z = z - Real.log (1 + Real.exp z) := by
  unfold LS
  rcases le_total z 0 with h | h
  · rw [min_eq_left h, abs_of_nonpos h, neg_neg]
  · rw [min_eq_right h, abs_of_nonneg h]
    have e : 1 + Real.exp z = Real.exp z * (1 + Real.exp (-z)) := by
      rw [mul_add, mul_one, ← Real.exp_add, add_neg_cancel, Real.exp_zero, add_comm]
    rw [e, Real.log_mul (Real.exp_ne_zero z) (one_add_exp_pos _).ne', Real.log_exp]
    ring

/-- The complement's logarithm. -/
theorem LS_neg (z : ℝ) : LS (-z) = LS z - z := by
  unfold LS
  rw [abs_neg]
  have h : min (-z) 0 = min z 0 - z := by
    rcases le_total z 0 with h | h
    · rw [min_eq_left h, min_eq_right (by linarith)]; ring
    · rw [min_eq_right h, min_eq_left (by linarith)]; ring
  rw [h]; ring

/-- A sigmoid and its complement add to 1. -/
theorem exp_LS_add (z : ℝ) : Real.exp (LS z) + Real.exp (LS z - z) = 1 := by
  have h := one_add_exp_pos z
  rw [LS_eq, show z - Real.log (1 + Real.exp z) - z = - Real.log (1 + Real.exp z) by ring, Real.exp_sub, Real.exp_neg, Real.exp_log h]
  field_simp
  ring

/-- A point's operands: the query of each stacked row, the stacked scaled queries and cotangents, the keys, the values, and each
    row's total. -/
structure Data where
  T : ℕ → ℕ
  qs : ℕ → ℕ → ℝ
  gs : ℕ → ℕ → ℝ
  kk : ℕ → ℕ → ℝ
  vv : ℕ → ℕ → ℝ
  tot : ℕ → ℝ

variable (D : Data)

/-- A stacked row against a key or a value. -/
def dotRow (q k : ℕ → ℕ → ℝ) (ρ s : ℕ) : ℝ := ∑ l ∈ range 128, q ρ l * k s (128 * (ρ / 256) + l)

def Data.Z (ρ s : ℕ) : ℝ := dotRow D.qs D.kk ρ s
def Data.LOM (ρ s : ℕ) : ℝ := if s < D.T ρ then LS (D.Z ρ s) - D.Z ρ s else 0
def Data.PP (ρ n : ℕ) : ℝ := ∑ s ∈ range n, D.LOM ρ s
def Data.AA (ρ s : ℕ) : ℝ := if s < D.T ρ then Real.exp (LS (D.Z ρ s) + (D.tot ρ - D.PP ρ (s + 1))) else 0
def Data.EA (ρ s : ℕ) : ℝ := dotRow D.gs D.vv ρ s * D.AA ρ s
def Data.EE (ρ n : ℕ) : ℝ := ∑ s ∈ range n, D.EA ρ s
def Data.DL (ρ s : ℕ) : ℝ := if s < D.T ρ then D.EE ρ s else 0
def Data.DZ (ρ s : ℕ) : ℝ :=
  D.EA ρ s * (1 - Real.exp (LS (D.Z ρ s))) - D.DL ρ s * Real.exp (LS (D.Z ρ s))

/-- The row of a pair's 256 whose head a column belongs to. -/
def rowOf (r l : ℕ) : ℕ := if l < 64 then r else 128 + r

/-- A pair's dq over the first `n` keys. -/
def Data.DQ (pr n r l : ℕ) : ℝ := ∑ s ∈ range n, D.DZ (256 * pr + rowOf r l) s * D.kk s (128 * pr + l)

/-- What a point adds to a key's dk and to a value's dv. -/
def Data.DK (s pr l : ℕ) : ℝ := ∑ ρ ∈ range 256, D.DZ (256 * pr + ρ) s * D.qs (256 * pr + ρ) l
def Data.DV (s pr l : ℕ) : ℝ := ∑ ρ ∈ range 256, D.AA (256 * pr + ρ) s * D.gs (256 * pr + ρ) l

/-- Nothing comes from a key at or past the row's own query. -/
theorem Data.DZ_eq_zero {ρ s : ℕ} (h : D.T ρ ≤ s) : D.DZ ρ s = 0 := by
  have h' : ¬ s < D.T ρ := by omega
  simp only [Data.DZ, Data.EA, Data.AA, Data.DL, if_neg h', mul_zero, zero_mul, sub_zero]
theorem Data.AA_eq_zero {ρ s : ℕ} (h : D.T ρ ≤ s) : D.AA ρ s = 0 := by
  have h' : ¬ s < D.T ρ := by omega
  simp only [Data.AA, if_neg h']

/-! Sums over blocks of 128. -/

theorem sum_block (f : ℕ → ℝ) (B : ℕ) :
    ∑ s ∈ range (128 * (B + 1)), f s = ∑ s ∈ range (128 * B), f s + ∑ c ∈ range 128, f (128 * B + c) := by
  rw [show 128 * (B + 1) = 128 * B + 128 by ring, Finset.sum_range_add]

theorem sum_lt (f : ℕ → ℝ) {c : ℕ} (hc : c ≤ 128) : ∑ x ∈ range 128, f x * (if x < c then 1 else 0) = ∑ x ∈ range c, f x := by
  simp only [mul_ite, mul_one, mul_zero]
  rw [← Finset.sum_filter]
  refine Finset.sum_congr ?_ fun _ _ => rfl
  ext x; simp only [mem_filter, mem_range]; omega

theorem sum_gt (f : ℕ → ℝ) {c : ℕ} (hc : c < 128) :
    ∑ x ∈ range 128, f x * (if c < x then 1 else 0) = ∑ x ∈ range 128, f x - ∑ x ∈ range (c + 1), f x := by
  rw [← sum_lt f (show c + 1 ≤ 128 by omega), ← Finset.sum_sub_distrib]
  refine Finset.sum_congr rfl fun x _ => ?_
  by_cases h : c < x
  · rw [if_pos h, if_neg (by omega)]; ring
  · rw [if_neg h, if_pos (by omega)]; ring

/-- The keys of `s`'s block past `s`. -/
theorem sum_after (f : ℕ → ℝ) (s : ℕ) :
    ∑ x ∈ range 128, f (128 * (s / 128) + x) * (if s % 128 < x then 1 else 0)
      = ∑ x ∈ range (128 * (s / 128 + 1)), f x - ∑ x ∈ range (s + 1), f x := by
  rw [sum_gt (fun x => f (128 * (s / 128) + x)) (Nat.mod_lt s (by norm_num)), sum_block]
  have h : ∑ x ∈ range (s + 1), f x = ∑ x ∈ range (128 * (s / 128)), f x + ∑ x ∈ range (s % 128 + 1), f (128 * (s / 128) + x) := by
    rw [← Finset.sum_range_add, show 128 * (s / 128) + (s % 128 + 1) = s + 1 by omega]
  rw [h]; ring

/-- The keys of `s`'s block before `s`. -/
theorem sum_before (f : ℕ → ℝ) (s : ℕ) :
    ∑ x ∈ range (128 * (s / 128)), f x + ∑ x ∈ range 128, f (128 * (s / 128) + x) * (if x < s % 128 then 1 else 0)
      = ∑ x ∈ range s, f x := by
  rw [sum_lt (fun x => f (128 * (s / 128) + x)) (Nat.mod_lt s (by norm_num)).le, ← Finset.sum_range_add,
    show 128 * (s / 128) + s % 128 = s by omega]

/-! Real numbers among the extended reals. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sumFin {n : ℕ} (f : ℕ → ℝ) : ∑ k : Fin n, (f k.val : EReal) = ((∑ i ∈ range n, f i : ℝ) : EReal) := by
  rw [coe_sum, Finset.sum_range]

theorem coe_min (a b : ℝ) : min (a : EReal) (b : EReal) = ((min a b : ℝ) : EReal) :=
  (Monotone.map_min (fun _ _ h => EReal.coe_le_coe_iff.mpr h)).symm
theorem coe_max (a b : ℝ) : max (a : EReal) (b : EReal) = ((max a b : ℝ) : EReal) :=
  (Monotone.map_max (fun _ _ h => EReal.coe_le_coe_iff.mpr h)).symm
theorem coe_abs (a : ℝ) : max (a : EReal) (-(a : EReal)) = ((|a| : ℝ) : EReal) := by
  rw [← EReal.coe_neg, coe_max, abs_eq_max_neg]

end Cert.Spec
-- ==== Proof.SweepValue.lean ====
/-
  A step's arrays over the reals, entry by entry: each is read at its row and column as a real quantity of Spec.lean at the
  stacked row and the key the entry stands for.
-/
module

public import proofs.«01_k».proof.Proof.Sweep
public import proofs.«01_k».proof.Proof.Spec
public import Idealize.ShloMosaic.Lib.ValueIdx
public import Idealize.ShloMosaic.Lib.IdealHost
public import Idealize.ShloMosaic.Lib.Pipeline.Value
public import proofs.«01_k».proof.Proof.Column

@[expose] public section

noncomputable section

namespace Cert.KernelIdeal.Sweep

open Idealize.ShloMosaic Idealize.ShloMosaic.ValueIdx
open Cert.KernelIdeal Cert.KernelIdeal.Gen Cert.Spec
open Finset (range)

variable {φ : FTy}

/-- An entry of a step that starts at block `j0` stands for row `I 0 % 512` and this key. -/
def keyOf {n : ℕ} (j0 : ℕ) (I : (Wide n).Idx) : ℕ := 128 * (j0 + (I 0).val / 512) + (I 1).val

theorem wide0 {n : ℕ} (I : (Wide n).Idx) : (I 0).val < 512 * n := (I 0).isLt
theorem wide1 {n : ℕ} (I : (Wide n).Idx) : (I 1).val < 128 := (I 1).isLt

/-- A step's array is `f` of the stacked row and the key. -/
def IsW (n j0 : ℕ) (X : FVec Ideal (Wide n) φ) (f : ℕ → ℕ → ℝ) : Prop :=
  ∀ I, X I = ((f ((I 0).val % 512) (keyOf j0 I) : ℝ) : EReal)
/-- A step's column is `f` of the stacked row and the block. -/
def IsT (n : ℕ) (x : FVec Ideal (Tall n) .f32) (f : ℕ → ℕ → ℝ) : Prop :=
  ∀ I, x I = ((f ((I 0).val % 512) ((I 0).val / 512) : ℝ) : EReal)
/-- A column is `f` of the stacked row. -/
def IsC (x : FVec Ideal S512x1 .f32) (f : ℕ → ℝ) : Prop := ∀ I, x I = ((f (I 0).val : ℝ) : EReal)
/-- A matrix is `f` of its row and column. -/
def IsM (a b : ℕ) (x : FVec Ideal ⟨2, ![a, b]⟩ φ) (f : ℕ → ℕ → ℝ) : Prop := ∀ I, x I = ((f (I 0).val (I 1).val : ℝ) : EReal)
/-- A step's 2n blocks of keys, or of values. -/
def IsK (n j0 : ℕ) (K : Fin (2 * n) → FVec Ideal S128x128 .bf16) (f : ℕ → ℕ → ℝ) : Prop :=
  ∀ m I, K m I = ((f (128 * (j0 + m.val / 2) + (I 0).val) (128 * (m.val % 2) + (I 1).val) : ℝ) : EReal)

/-- Where a step's mask holds. -/
def live (n : ℕ) (msk : Option (IVec (Wide n) 1)) (I : (Wide n).Idx) : Prop :=
  match msk with
  | none => True
  | some m => m I = 1#1

variable {n j0 : ℕ}

/-! The operations. -/

theorem isC_add {x y : FVec Ideal S512x1 .f32} {f g : ℕ → ℝ} (hx : IsC x f) (hy : IsC y g) : IsC (addf x y) fun ρ => f ρ + g ρ :=
  fun I => by rw [addf_apply, hx I, hy I, ← EReal.coe_add]

theorem isT_sub {x y : FVec Ideal (Tall n) .f32} {f g : ℕ → ℕ → ℝ} (hx : IsT n x f) (hy : IsT n y g) :
    IsT n (subf x y) fun ρ b => f ρ b - g ρ b :=
  fun I => by rw [subf_apply, hx I, hy I, ← EReal.coe_sub]

theorem isW_add {x y : FVec Ideal (Wide n) .f32} {f g : ℕ → ℕ → ℝ} (hx : IsW n j0 x f) (hy : IsW n j0 y g) :
    IsW n j0 (addf x y) fun ρ s => f ρ s + g ρ s :=
  fun I => by rw [addf_apply, hx I, hy I, ← EReal.coe_add]

theorem isW_sub {x y : FVec Ideal (Wide n) .f32} {f g : ℕ → ℕ → ℝ} (hx : IsW n j0 x f) (hy : IsW n j0 y g) :
    IsW n j0 (subf x y) fun ρ s => f ρ s - g ρ s :=
  fun I => by rw [subf_apply, hx I, hy I, ← EReal.coe_sub]

theorem isW_mul {x y : FVec Ideal (Wide n) .f32} {f g : ℕ → ℕ → ℝ} (hx : IsW n j0 x f) (hy : IsW n j0 y g) :
    IsW n j0 (mulf x y) fun ρ s => f ρ s * g ρ s :=
  fun I => by rw [mulf_apply, hx I, hy I, ← EReal.coe_mul]

theorem isW_exp {x : FVec Ideal (Wide n) .f32} {f : ℕ → ℕ → ℝ} (hx : IsW n j0 x f) :
    IsW n j0 (Idealize.ShloMosaic.exp x) fun ρ s => Real.exp (f ρ s) :=
  fun I => by
    show Ideal.exp (x I) = _
    rw [hx I, Ideal.exp_coe]

theorem isW_trunc {x : FVec Ideal (Wide n) .f32} {f : ℕ → ℕ → ℝ} (hx : IsW n j0 x f) :
    IsW n j0 (truncf .bf16 x bitsLt_bf16_f32) f := fun I => by
  show x I = _
  exact hx I

theorem zeros_apply (s : Shape) (I : s.Idx) : (zeros s : FVec Ideal s .f32) I = ((0 : ℝ) : EReal) := by
  show Ideal.ofBits .f32 0x00000000#32 = _
  rw [Ideal.ofBits_zero_f32, EReal.coe_zero]
theorem ones_apply (s : Shape) (I : s.Idx) : (ones s : FVec Ideal s .f32) I = ((1 : ℝ) : EReal) := by
  show Ideal.ofBits .f32 0x3F800000#32 = _
  rw [Ideal.ofBits_one_f32, EReal.coe_one]

theorem isW_ones : IsW n j0 (ones (Wide n)) fun _ _ => 1 := fun I => ones_apply _ I

theorem isW_logSig {x : FVec Ideal (Wide n) .f32} {f : ℕ → ℕ → ℝ} (hx : IsW n j0 x f) :
    IsW n j0 (logSig (Wide n) x) fun ρ s => LS (f ρ s) := fun I => by
  have h : logSig (Wide n) x I = min (x I) ((zeros (Wide n) : FVec Ideal (Wide n) .f32) I)
      - Ideal.log ((ones (Wide n) : FVec Ideal (Wide n) .f32) I
        + Ideal.exp ((zeros (Wide n) : FVec Ideal (Wide n) .f32) I - max (x I) (-(x I)))) := rfl
  rw [h, zeros_apply, ones_apply, hx I, coe_abs, coe_min, ← EReal.coe_sub, Ideal.exp_coe, ← EReal.coe_add, Ideal.log_coe, zero_sub,
    if_neg (not_le.mpr (one_add_exp_pos _)), ← EReal.coe_sub]
  rfl

theorem isW_masked {x : FVec Ideal (Wide n) .f32} {f : ℕ → ℕ → ℝ} {T : ℕ → ℕ} {msk : Option (IVec (Wide n) 1)} (hx : IsW n j0 x f)
    (hm : ∀ I, live n msk I ↔ keyOf j0 I < T ((I 0).val % 512)) :
    IsW n j0 (masked (Wide n) msk x) fun ρ s => if s < T ρ then f ρ s else 0 := fun I => by
  have h := hm I
  cases msk with
  | none =>
    show x I = (((if keyOf j0 I < T ((I 0).val % 512) then f ((I 0).val % 512) (keyOf j0 I) else 0 : ℝ)) : EReal)
    rw [if_pos (h.mp trivial)]
    exact hx I
  | some m =>
    show (if m I = 1#1 then x I else (zeros (Wide n) : FVec Ideal (Wide n) .f32) I)
      = (((if keyOf j0 I < T ((I 0).val % 512) then f ((I 0).val % 512) (keyOf j0 I) else 0 : ℝ)) : EReal)
    by_cases hl : m I = 1#1
    · rw [if_pos hl, if_pos (h.mp hl)]; exact hx I
    · rw [if_neg hl, if_neg (fun h' => hl (h.mpr h')), zeros_apply]

/-- The stacked rows against the keys. -/
theorem isW_scores (hn : Ok n) {q : FVec Ideal S512x128 .bf16} {K : Fin (2 * n) → FVec Ideal S128x128 .bf16} {qs kk : ℕ → ℕ → ℝ}
    (hq : IsM 512 128 q qs) (hK : IsK n j0 K kk) : IsW n j0 (scores n hn q K) (dotRow qs kk) := fun I => by
  have h0 := wide0 I
  have h1 := wide1 I
  unfold scores
  rw [concatenate_ofFn_apply (t := Wide n) (s₁ := S256x128) 0 _ _ rfl 256 rfl I ⟨(I 0).val / 256, by omega⟩ rfl
    (ix2 ⟨(I 0).val % 256, Nat.mod_lt _ (by norm_num)⟩ ⟨(I 1).val, h1⟩) rfl
    (fun b hb => by
      match b with
      | ⟨0, _⟩ => exact absurd rfl hb
      | ⟨1, _⟩ => rfl)]
  refine (Ideal.matmul_transposedRhs_apply (M := 256) (K := 128) (N := 128) none _ _ _ _ _).trans ?_
  unfold dotRow
  rw [← coe_sumFin]
  have hz : (constant S256x128 .f32 0x00000000#32 : FVec Ideal S256x128 .f32) (ix2 ⟨(I 0).val % 256, Nat.mod_lt _ (by norm_num)⟩ ⟨(I 1).val, h1⟩) = 0 :=
    Ideal.ofBits_zero_f32
  rw [hz, zero_add]
  refine Finset.sum_congr rfl fun k _ => ?_
  rw [extractStridedSlice_apply _ _ _ _ (ix2 (⟨(I 0).val % 512, Nat.mod_lt _ (by norm_num)⟩ : Fin 512) k) (fun a => by
      match a with
      | ⟨0, _⟩ => show (I 0).val % 512 = 256 * ((I 0).val / 256 % 2) + (I 0).val % 256; omega
      | ⟨1, _⟩ => show k.val = 0 + k.val; omega), hq, hK, ← EReal.coe_mul]
  show ((qs ((I 0).val % 512) k.val * kk (128 * (j0 + (I 0).val / 256 / 2) + (I 1).val) (128 * ((I 0).val / 256 % 2) + k.val) : ℝ) : EReal) = _
  rw [show (I 0).val / 256 / 2 = (I 0).val / 512 by omega, show (I 0).val / 256 % 2 = (I 0).val % 512 / 256 by omega]
  rfl

/-- Row sums. -/
theorem isT_rowSums (hn : Ok n) {x : FVec Ideal (Wide n) .f32} {f : ℕ → ℕ → ℝ} (hx : IsW n j0 x f) :
    IsT n (rowSums n hn x) fun ρ b => ∑ c ∈ range 128, f ρ (128 * (j0 + b) + c) := fun I => by
  refine (column_apply (512 * n) _ _ _ (ix1 (⟨(I 0).val, (I 0).isLt⟩ : Fin (512 * n))) rfl).trans ?_
  refine (Ideal.multiReduction_add_single (s := Wide n) (a := 1) x _ (red_rows n hn) _ _ _).trans ?_
  rw [← coe_sumFin]
  refine Finset.sum_congr rfl fun k _ => ?_
  exact hx _

/-- Block `b` of a column. -/
theorem isC_cut : (n : ℕ) → (hn : Ok n) → {x : FVec Ideal (Tall n) .f32} → {f : ℕ → ℕ → ℝ} → IsT n x f → (b : Fin n) →
    IsC (cut n hn x b) fun ρ => f ρ b.val
  | 1, hn, x, f, hx, b => fun I => by
    have h0 : (I 0).val < 512 := (I 0).isLt
    have hb : b.val = 0 := Nat.lt_one_iff.mp b.isLt
    show x I = _
    rw [hx I, Nat.mod_eq_of_lt h0, Nat.div_eq_of_lt h0, hb]
  | 0, hn, _, _, _, _ => absurd hn (by decide)
  | n + 2, hn, x, f, hx, b => fun I => by
    have h0 : (I 0).val < 512 := (I 0).isLt
    have hb := b.isLt
    have h1 : (I 1).val = 0 := Nat.lt_one_iff.mp (I 1).isLt
    refine (extractStridedSlice_apply _ _ (sl_cut (n + 2) hn b) _ (ix2 (⟨512 * b.val + (I 0).val, by omega⟩ : Fin (512 * (n + 2))) (0 : Fin 1)) (fun a => by
      match a with
      | ⟨0, _⟩ => rfl
      | ⟨1, _⟩ => show 0 = 0 + (I 1).val; omega)).trans ?_
    rw [hx]
    show ((f ((512 * b.val + (I 0).val) % 512) ((512 * b.val + (I 0).val) / 512) : ℝ) : EReal) = _
    rw [show (512 * b.val + (I 0).val) % 512 = (I 0).val by omega, show (512 * b.val + (I 0).val) / 512 = b.val by omega]

/-- Columns stacked. -/
theorem isT_stack : (n : ℕ) → (hn : Ok n) → {x : Fin n → FVec Ideal S512x1 .f32} → {f : ℕ → ℕ → ℝ} →
    (∀ b : Fin n, IsC (x b) fun ρ => f ρ b.val) → IsT n (stack n hn x) f
  | 1, hn, x, f, hx => fun I => by
    have h0 : (I 0).val < 512 := wide0 (n := 1) (ix2 (I 0) (0 : Fin 128))
    show x 0 I = _
    rw [hx 0 I, Nat.mod_eq_of_lt h0, Nat.div_eq_of_lt h0]
    rfl
  | 0, hn, _, _, _ => absurd hn (by decide)
  | n + 2, hn, x, f, hx => fun I => by
    have h0 : (I 0).val < 512 * (n + 2) := (I 0).isLt
    have h1 : (I 1).val = 0 := Nat.lt_one_iff.mp (I 1).isLt
    refine (concatenate_ofFn_apply (t := Tall (n + 2)) (s₁ := S512x1) 0 _
      (by rw [List.map_ofFn]; exact cat_stack (n + 2) hn (by omega)) rfl 512 rfl I ⟨(I 0).val / 512, by omega⟩ rfl
      (ix2 ⟨(I 0).val % 512, Nat.mod_lt _ (by norm_num)⟩ (0 : Fin 1)) rfl
      (fun b hb => by
        match b with
        | ⟨0, _⟩ => exact absurd rfl hb
        | ⟨1, _⟩ => exact h1.symm)).trans ?_
    exact hx _ _

/-- A column along the keys. -/
theorem isW_bc (hn : Ok n) {x : FVec Ideal (Tall n) .f32} {f : ℕ → ℕ → ℝ} (hx : IsT n x f) :
    IsW n j0 (broadcastTo (Wide n) x (bc_col n hn)) fun ρ s => f ρ (s / 128 - j0) := fun I => by
  have h0 := wide0 I
  have h1 := wide1 I
  refine (broadcastTo_apply _ _ _ (ix2 (⟨(I 0).val, h0⟩ : Fin (512 * n)) (0 : Fin 1)) (fun a => by
    match a with
    | ⟨0, _⟩ => exact (if_neg (show ¬ 512 * n = 1 by omega)).symm
    | ⟨1, _⟩ => rfl)).trans ?_
  rw [hx]
  show ((f ((I 0).val % 512) ((I 0).val / 512) : ℝ) : EReal) = ((f ((I 0).val % 512) ((128 * (j0 + (I 0).val / 512) + (I 1).val) / 128 - j0) : ℝ) : EReal)
  rw [show (128 * (j0 + (I 0).val / 512) + (I 1).val) / 128 - j0 = (I 0).val / 512 by omega]

/-- A sum over keys, carried block by block. -/
theorem isC_running (hn : Ok n) {p : FVec Ideal S512x1 .f32} {x : FVec Ideal (Tall n) .f32} {f : ℕ → ℕ → ℝ}
    (hp : IsC p fun ρ => ∑ s ∈ range (128 * j0), f ρ s) (hx : IsT n x fun ρ b => ∑ c ∈ range 128, f ρ (128 * (j0 + b) + c)) :
    (b : ℕ) → b ≤ n → IsC (running n hn p x b) fun ρ => ∑ s ∈ range (128 * (j0 + b)), f ρ s
  | 0, _ => hp
  | b + 1, hb => by
    rw [running, dif_pos (show b < n by omega)]
    intro I
    rw [isC_add (isC_running hn hp hx b (by omega)) (isC_cut n hn hx ⟨b, by omega⟩) I]
    show _ = ((∑ s ∈ range (128 * (j0 + b + 1)), f (I 0).val s : ℝ) : EReal)
    rw [sum_block]

theorem constant_zero (s : Shape) (I : s.Idx) : (constant s .f32 0x00000000#32 : FVec Ideal s .f32) I = 0 := Ideal.ofBits_zero_f32

/-- A product with a 128×128 table of ones and zeros. -/
theorem isW_dot (M : ℕ) {x : FVec Ideal ⟨2, ![M, 128]⟩ .bf16} {a : FVec Ideal S128x128 .bf16} {f w : ℕ → ℕ → ℝ} (hx : IsM M 128 x f)
    (ha : IsM 128 128 a w) :
    IsM M 128 (matmul (DotDims.plain M 128 128) none x a (constant ⟨2, ![M, 128]⟩ .f32 0x00000000#32) : FVec Ideal ⟨2, ![M, 128]⟩ .f32)
      fun r c => ∑ k ∈ range 128, f r k * w k c := fun I => by
  rw [eq_ix2 I]
  refine (Ideal.matmul_plain_apply (M := M) (K := 128) (N := 128) none _ _ _ _ _).trans ?_
  rw [constant_zero, zero_add, ← coe_sumFin]
  refine Finset.sum_congr rfl fun k _ => ?_
  rw [hx, ha, ← EReal.coe_mul]
  rfl

theorem isM_wide {x : FVec Ideal (Wide n) φ} {f : ℕ → ℕ → ℝ} (hx : IsW n j0 x f) :
    IsM (512 * n) 128 x fun r c => f (r % 512) (128 * (j0 + r / 512) + c) := hx

theorem isW_of {x : FVec Ideal (Wide n) φ} {f : ℕ → ℕ → ℝ} {w : ℕ → ℕ → ℝ}
    (hx : IsM (512 * n) 128 x fun r c => ∑ k ∈ range 128, f (r % 512) (128 * (j0 + r / 512) + k) * w k c) :
    IsW n j0 x fun ρ s => ∑ k ∈ range 128, f ρ (128 * (s / 128) + k) * w k (s % 128) := fun I => by
  have h1 := wide1 I
  rw [hx I]
  show _ = ((∑ k ∈ range 128, f ((I 0).val % 512) (128 * ((128 * (j0 + (I 0).val / 512) + (I 1).val) / 128) + k) * w k ((128 * (j0 + (I 0).val / 512) + (I 1).val) % 128) : ℝ) : EReal)
  rw [show (128 * (j0 + (I 0).val / 512) + (I 1).val) / 128 = j0 + (I 0).val / 512 by omega,
    show (128 * (j0 + (I 0).val / 512) + (I 1).val) % 128 = (I 1).val by omega]

/-- The product in two parts is the product. -/
theorem isW_splitDot (hn : Ok n) {x : FVec Ideal (Wide n) .f32} {a : FVec Ideal S128x128 .bf16} {f w : ℕ → ℕ → ℝ} (hx : IsW n j0 x f)
    (ha : IsM 128 128 a w) :
    IsW n j0 (splitDot n hn x a) fun ρ s => ∑ k ∈ range 128, f ρ (128 * (s / 128) + k) * w k (s % 128) := by
  have hlo : ∀ I : (Wide n).Idx, (truncf .bf16 (subf x (extf .f32 (truncf .bf16 x bitsLt_bf16_f32) bitsLt_bf16_f32)) bitsLt_bf16_f32 : FVec Ideal (Wide n) .bf16) I
      = ((0 : ℝ) : EReal) := fun I => by
    show x I - x I = _
    rw [hx I, ← EReal.coe_sub, sub_self]
  let cc : FVec Ideal (Twice n) .bf16 := concatenate (Twice n) 0 [⟨Wide n, truncf .bf16 x bitsLt_bf16_f32⟩,
    ⟨Wide n, truncf .bf16 (subf x (extf .f32 (truncf .bf16 x bitsLt_bf16_f32) bitsLt_bf16_f32)) bitsLt_bf16_f32⟩] (cat_twice n hn)
  have hcc : IsM (2 * (512 * n)) 128 cc fun r c => if r < 512 * n then f (r % 512) (128 * (j0 + r / 512) + c) else 0 := fun I => by
    have h0 : (I 0).val < 2 * (512 * n) := (I 0).isLt
    have h1 : (I 1).val < 128 := (I 1).isLt
    have hcat := concatenate_ofFn_apply (t := Twice n) (s₁ := Wide n) 0
      (fun k : Fin 2 => if k = 0 then (truncf .bf16 x bitsLt_bf16_f32 : FVec Ideal (Wide n) .bf16)
        else truncf .bf16 (subf x (extf .f32 (truncf .bf16 x bitsLt_bf16_f32) bitsLt_bf16_f32)) bitsLt_bf16_f32)
      (cat_twice n hn) rfl (512 * n) rfl I
    by_cases h : (I 0).val < 512 * n
    · have hd : (I 0).val / (512 * n) = 0 := Nat.div_eq_of_lt h
      have hm : (I 0).val % (512 * n) = (I 0).val := Nat.mod_eq_of_lt h
      refine (hcat 0 hd (ix2 (⟨(I 0).val, h⟩ : Fin (512 * n)) (⟨(I 1).val, h1⟩ : Fin 128)) hm.symm (fun b hb => by
        match b with
        | ⟨0, _⟩ => exact absurd rfl hb
        | ⟨1, _⟩ => rfl)).trans ?_
      rw [if_pos rfl]
      show x _ = (((if (I 0).val < 512 * n then f ((I 0).val % 512) (128 * (j0 + (I 0).val / 512) + (I 1).val) else 0 : ℝ)) : EReal)
      rw [if_pos h, hx]
      rfl
    · have hd : (I 0).val / (512 * n) = 1 := by
        rw [Nat.div_eq_iff (by omega)]; omega
      have hm : (I 0).val % (512 * n) < 512 * n := Nat.mod_lt _ (by omega)
      refine (hcat 1 hd (ix2 (⟨(I 0).val % (512 * n), hm⟩ : Fin (512 * n)) (⟨(I 1).val, h1⟩ : Fin 128)) rfl (fun b hb => by
        match b with
        | ⟨0, _⟩ => exact absurd rfl hb
        | ⟨1, _⟩ => rfl)).trans ?_
      rw [if_neg (by decide), hlo]
      show _ = (((if (I 0).val < 512 * n then f ((I 0).val % 512) (128 * (j0 + (I 0).val / 512) + (I 1).val) else 0 : ℝ)) : EReal)
      rw [if_neg h]
  have hy := isW_dot (2 * (512 * n)) hcc ha
  refine isW_of (w := w) fun I => ?_
  have h0 := wide0 I
  have h1 := wide1 I
  refine (addf_apply _ _ _).trans ?_
  rw [extractStridedSlice_apply _ _ (sl_hi n hn) _ (ix2 (⟨(I 0).val, by omega⟩ : Fin (2 * (512 * n))) (⟨(I 1).val, h1⟩ : Fin 128)) (fun a => by
      match a with
      | ⟨0, _⟩ => show (I 0).val = 0 + (I 0).val; omega
      | ⟨1, _⟩ => show (I 1).val = 0 + (I 1).val; omega),
    extractStridedSlice_apply _ _ (sl_lo n hn) _ (ix2 (⟨512 * n + (I 0).val, by omega⟩ : Fin (2 * (512 * n))) (⟨(I 1).val, h1⟩ : Fin 128)) (fun a => by
      match a with
      | ⟨0, _⟩ => rfl
      | ⟨1, _⟩ => show (I 1).val = 0 + (I 1).val; omega)]
  refine (congrArg₂ (· + ·) (hy _) (hy _)).trans ?_
  rw [← EReal.coe_add]
  show ((∑ k ∈ range 128, (if (I 0).val < 512 * n then f ((I 0).val % 512) (128 * (j0 + (I 0).val / 512) + k) else 0) * w k (I 1).val
    + ∑ k ∈ range 128, (if 512 * n + (I 0).val < 512 * n then f ((512 * n + (I 0).val) % 512) (128 * (j0 + (512 * n + (I 0).val) / 512) + k) else 0) * w k (I 1).val : ℝ) : EReal) = _
  simp only [if_pos h0, if_neg (show ¬ 512 * n + (I 0).val < 512 * n by omega), zero_mul, Finset.sum_const_zero, add_zero]

end Cert.KernelIdeal.Sweep
-- ==== Proof.StepValue.lean ====
/- One step over the reals: what it carries on and what it adds, as Spec.lean's quantities. -/
module

public import proofs.«01_k».proof.Proof.SweepValue

@[expose] public section

noncomputable section

namespace Cert.KernelIdeal.Sweep

open Idealize.ShloMosaic Idealize.ShloMosaic.ValueIdx
open Cert.KernelIdeal Cert.KernelIdeal.Gen Cert.Spec
open Finset (range)

variable {φ : FTy}

theorem isW_congr {n j0 : ℕ} {X : FVec Ideal (Wide n) φ} {f g : ℕ → ℕ → ℝ} (hX : IsW n j0 X f) (h : ∀ ρ s, j0 ≤ s / 128 → f ρ s = g ρ s) :
    IsW n j0 X g := fun I => by
  have h1 := wide1 I
  rw [hX I, h _ _ (by show j0 ≤ (128 * (j0 + (I 0).val / 512) + (I 1).val) / 128; omega)]

/-- A step's operands over the reals, and what it has been handed. -/
structure Ready (D : Data) (n j0 : ℕ) (msk : Option (IVec (Wide n) 1)) (low : IVec S128x128 1) (after before : FVec Ideal S128x128 .bf16)
    (q g : FVec Ideal S512x128 .bf16) (tot p e : FVec Ideal S512x1 .f32) (K V : Fin (2 * n) → FVec Ideal S128x128 .bf16) : Prop where
  q : IsM 512 128 q D.qs
  g : IsM 512 128 g D.gs
  tot : IsC tot D.tot
  K : IsK n j0 K D.kk
  V : IsK n j0 V D.vv
  p : IsC p fun ρ => D.PP ρ (128 * j0)
  e : IsC e fun ρ => D.EE ρ (128 * j0)
  mask : ∀ I, live n msk I ↔ keyOf j0 I < D.T ((I 0).val % 512)
  low : ∀ I, low I = 1#1 ↔ (I 1).val < 64
  after : IsM 128 128 after fun k c => if c < k then 1 else 0
  before : IsM 128 128 before fun k c => if k < c then 1 else 0

variable {D : Data} {n j0 : ℕ} (hn : Ok n) {msk : Option (IVec (Wide n) 1)} {low : IVec S128x128 1} {after before : FVec Ideal S128x128 .bf16}
    {q g : FVec Ideal S512x128 .bf16} {tot p e : FVec Ideal S512x1 .f32} {K V : Fin (2 * n) → FVec Ideal S128x128 .bf16}

section
variable (R : Ready D n j0 msk low after before q g tot p e K V)
include R

theorem isW_lb : IsW n j0 (lb n hn q K) fun ρ s => LS (D.Z ρ s) := isW_logSig (isW_scores hn R.q R.K)

theorem isW_lom : IsW n j0 (lom n hn msk q K) D.LOM :=
  isW_masked (isW_sub (isW_lb hn R) (isW_scores hn R.q R.K)) R.mask

theorem isW_sig : IsW n j0 (sig n hn q K) fun ρ s => Real.exp (LS (D.Z ρ s)) := isW_exp (isW_lb hn R)

theorem isC_through (b : ℕ) (hb : b ≤ n) : IsC (through n hn msk q p K b) fun ρ => D.PP ρ (128 * (j0 + b)) :=
  isC_running hn (f := D.LOM) R.p (isT_rowSums hn (isW_lom hn R)) b hb

theorem isW_wts : IsW n j0 (wts n hn msk after q tot p K) D.AA := by
  have h1 : IsT n (subf (stack n hn fun _ => tot) (stack n hn fun b => through n hn msk q p K (b.val + 1)))
      fun ρ b => D.tot ρ - D.PP ρ (128 * (j0 + (b + 1))) :=
    isT_sub (isT_stack n hn (f := fun ρ _ => D.tot ρ) fun b => R.tot)
      (isT_stack n hn (f := fun ρ b => D.PP ρ (128 * (j0 + (b + 1)))) fun b => isC_through hn R (b.val + 1) b.isLt)
  have h2 := isW_masked (T := D.T) (isW_exp (isW_add (isW_add (isW_lb hn R) (isW_splitDot hn (isW_lom hn R) R.after)) (isW_bc (j0 := j0) hn h1))) R.mask
  refine isW_congr h2 fun ρ s hs => ?_
  unfold Data.AA
  refine if_congr Iff.rfl (congrArg Real.exp ?_) rfl
  rw [sum_after (D.LOM ρ) s, show j0 + (s / 128 - j0 + 1) = s / 128 + 1 by omega]
  unfold Data.PP
  ring

theorem isW_ea : IsW n j0 (ea n hn msk after q g tot p K V) D.EA := isW_mul (isW_scores hn R.g R.V) (isW_wts hn R)

theorem isC_eaThrough (b : ℕ) (hb : b ≤ n) : IsC (eaThrough n hn msk after q g tot p e K V b) fun ρ => D.EE ρ (128 * (j0 + b)) :=
  isC_running hn (f := D.EA) R.e (isT_rowSums hn (isW_ea hn R)) b hb

theorem isW_dlom : IsW n j0 (dlom n hn msk after before q g tot p e K V) D.DL := by
  have h1 : IsW n j0 (matmul (DotDims.plain (512 * n) 128 128) none (truncf .bf16 (ea n hn msk after q g tot p K V) bitsLt_bf16_f32) before
      (constant (Wide n) .f32 0x00000000#32) : FVec Ideal (Wide n) .f32) fun ρ s => ∑ k ∈ range 128, D.EA ρ (128 * (s / 128) + k) * (if k < s % 128 then 1 else 0) :=
    isW_of (w := fun k c => if k < c then 1 else 0) (isW_dot (512 * n) (isM_wide (isW_trunc (isW_ea hn R))) R.before)
  have h2 := isW_masked (T := D.T) (isW_add (isW_bc (j0 := j0) hn (isT_stack n hn (f := fun ρ b => D.EE ρ (128 * (j0 + b)))
    fun b => isC_eaThrough hn R b.val b.isLt.le)) h1) R.mask
  refine isW_congr h2 fun ρ s hs => ?_
  unfold Data.DL
  refine if_congr Iff.rfl ?_ rfl
  rw [show j0 + (s / 128 - j0) = s / 128 by omega]
  exact sum_before (D.EA ρ) s

theorem isW_dz : IsW n j0 (dz n hn msk after before q g tot p e K V) D.DZ :=
  isW_trunc (isW_sub (isW_mul (isW_ea hn R) (isW_sub isW_ones (isW_sig hn R))) (isW_mul (isW_dlom hn R) (isW_sig hn R)))

theorem isW_wtsN : IsW n j0 (wtsN n hn msk after q tot p K) D.AA := isW_trunc (isW_wts hn R)
end

/-- A block and pair of a step's array. -/
theorem isM_part {x : FVec Ideal (Wide n) .bf16} {f : ℕ → ℕ → ℝ} (hx : IsW n j0 x f) (m : Fin (2 * n)) :
    IsM 256 128 (part n hn x m) fun r c => f (256 * (m.val % 2) + r) (128 * (j0 + m.val / 2) + c) := fun I => by
  have h0 : (I 0).val < 256 := (I 0).isLt
  have h1 : (I 1).val < 128 := (I 1).isLt
  have hm := m.isLt
  refine (extractStridedSlice_apply _ _ (sl_part n hn m) _ (ix2 (⟨256 * m.val + (I 0).val, by omega⟩ : Fin (512 * n)) (⟨(I 1).val, h1⟩ : Fin 128)) (fun a => by
    match a with
    | ⟨0, _⟩ => rfl
    | ⟨1, _⟩ => show (I 1).val = 0 + (I 1).val; omega)).trans ?_
  rw [hx]
  show ((f ((256 * m.val + (I 0).val) % 512) (128 * (j0 + (256 * m.val + (I 0).val) / 512) + (I 1).val) : ℝ) : EReal) = _
  rw [show (256 * m.val + (I 0).val) % 512 = 256 * (m.val % 2) + (I 0).val by omega, show (256 * m.val + (I 0).val) / 512 = m.val / 2 by omega]

theorem isM_half {x : FVec Ideal S512x128 .bf16} {f : ℕ → ℕ → ℝ} (hx : IsM 512 128 x f) (m : ℕ) :
    IsM 256 128 (half x m) fun r c => f (256 * (m % 2) + r) c := fun I => by
  have h0 : (I 0).val < 256 := (I 0).isLt
  have h1 : (I 1).val < 128 := (I 1).isLt
  refine (extractStridedSlice_apply _ _ (sl_half m) _ (ix2 (⟨256 * (m % 2) + (I 0).val, by omega⟩ : Fin 512) (⟨(I 1).val, h1⟩ : Fin 128)) (fun a => by
    match a with
    | ⟨0, _⟩ => rfl
    | ⟨1, _⟩ => show (I 1).val = 0 + (I 1).val; omega)).trans ?_
  exact hx _

/-- A product that sums over both operands' rows. -/
theorem isM_tn {x y : FVec Ideal S256x128 .bf16} {f g : ℕ → ℕ → ℝ} (hx : IsM 256 128 x f) (hy : IsM 256 128 y g) :
    IsM 128 128 (matmul dot_S256x128_S256x128_S128x128_0_0_1_1_n_n none x y (constant S128x128 .f32 0x00000000#32) : FVec Ideal S128x128 .f32)
      fun r c => ∑ k ∈ range 256, f k r * g k c := fun I => by
  refine (Ideal.matmul_apply _ none x y _ I).trans ?_
  rw [constant_zero, zero_add, ← coe_sumFin,
    ← Equiv.sum_comp (contrEquiv1 dot_S256x128_S256x128_S128x128_0_0_1_1_n_n 256 rfl rfl).symm]
  refine Finset.sum_congr rfl fun k _ => ?_
  have hk := contrEquiv1_symm_val dot_S256x128_S256x128_S128x128_0_0_1_1_n_n 256 rfl rfl k
  rw [hx, hy, ← EReal.coe_mul]
  have e1 : (dot_S256x128_S256x128_S128x128_0_0_1_1_n_n.lhsIdx I ((contrEquiv1 dot_S256x128_S256x128_S128x128_0_0_1_1_n_n 256 rfl rfl).symm k) 0).val = k.val := hk
  have e2 : (dot_S256x128_S256x128_S128x128_0_0_1_1_n_n.rhsIdx I ((contrEquiv1 dot_S256x128_S256x128_S128x128_0_0_1_1_n_n 256 rfl rfl).symm k) 0).val = k.val := hk
  rw [e1, e2]
  rfl

/-- A pair's dq, block by block. -/
theorem isM_dqThrough {d : FVec Ideal (Wide n) .bf16} {a : FVec Ideal S128x128 .f32} (pr : Fin 2)
    (hd : IsW n j0 d D.DZ) (hK : IsK n j0 K D.kk) (hl : ∀ I, low I = 1#1 ↔ (I 1).val < 64) (ha : IsM 128 128 a (D.DQ pr.val (128 * j0))) :
    (b : ℕ) → b ≤ n → IsM 128 128 (dqThrough n hn low K d a pr b) (D.DQ pr.val (128 * (j0 + b)))
  | 0, _ => ha
  | b + 1, hb => by
    rw [dqThrough, dif_pos (show b < n by omega)]
    have hpr := pr.isLt
    have ih := isM_dqThrough pr hd hK hl ha b (by omega)
    have hm : 2 * b + pr.val < 2 * n := by omega
    have hy := isW_dot 256 (w := fun r c => D.kk (128 * (j0 + (2 * b + pr.val) / 2) + r) (128 * ((2 * b + pr.val) % 2) + c))
      (isM_part hn hd ⟨2 * b + pr.val, hm⟩) (hK ⟨2 * b + pr.val, hm⟩)
    intro I
    have h0 : (I 0).val < 128 := (I 0).isLt
    have h1 : (I 1).val < 128 := (I 1).isLt
    refine (addf_apply _ _ _).trans ?_
    refine (congrArg₂ (· + ·) (ih I) ?_).trans (b := ((D.DQ pr.val (128 * (j0 + b)) (I 0).val (I 1).val : ℝ) : EReal)
      + ((∑ k ∈ range 128, D.DZ (256 * pr.val + rowOf (I 0).val (I 1).val) (128 * (j0 + b) + k) * D.kk (128 * (j0 + b) + k) (128 * pr.val + (I 1).val) : ℝ) : EReal)) ?_
    · show (if low I = 1#1 then _ else _) = _
      have hd2 : (2 * b + pr.val) / 2 = b := by omega
      have hm2 : (2 * b + pr.val) % 2 = pr.val := by omega
      by_cases h : (I 1).val < 64
      · rw [if_pos ((hl I).mpr h)]
        refine (extractStridedSlice_apply _ _ slices_S256x128_o0_0_S128x128 _ (ix2 (⟨(I 0).val, by omega⟩ : Fin 256) (⟨(I 1).val, h1⟩ : Fin 128)) (fun a => by
          match a with
          | ⟨0, _⟩ => show (I 0).val = 0 + (I 0).val; omega
          | ⟨1, _⟩ => show (I 1).val = 0 + (I 1).val; omega)).trans ?_
        refine (hy _).trans ?_
        simp only [hd2, hm2, rowOf, if_pos h]
      · rw [if_neg (fun h' => h ((hl I).mp h'))]
        refine (extractStridedSlice_apply _ _ slices_S256x128_o128_0_S128x128 _ (ix2 (⟨128 + (I 0).val, by omega⟩ : Fin 256) (⟨(I 1).val, h1⟩ : Fin 128)) (fun a => by
          match a with
          | ⟨0, _⟩ => rfl
          | ⟨1, _⟩ => show (I 1).val = 0 + (I 1).val; omega)).trans ?_
        refine (hy _).trans ?_
        simp only [hd2, hm2, rowOf, if_neg h]
    · rw [← EReal.coe_add]
      refine congrArg _ ?_
      show _ = D.DQ pr.val (128 * (j0 + b + 1)) _ _
      unfold Data.DQ
      rw [sum_block]

/-- What a step adds to a sum. -/
theorem added_apply {d : FVec Ideal (Wide n) .bf16} {x : FVec Ideal S512x128 .bf16} {f g : ℕ → ℕ → ℝ} (hd : IsW n j0 d f) (hx : IsM 512 128 x g)
    (m : Fin (2 * n)) (old : FVec Ideal S128x128 .f32) (I : S128x128.Idx) :
    added n hn d x m old I = old I + ((∑ ρ ∈ range 256, f (256 * (m.val % 2) + ρ) (128 * (j0 + m.val / 2) + (I 0).val)
      * g (256 * (m.val % 2) + ρ) (I 1).val : ℝ) : EReal) := by
  unfold added
  refine (shapeCast_apply _ _ _ I rfl).trans ((addf_apply _ _ _).trans ?_)
  exact congrArg (old I + ·) (isM_tn (isM_part hn hd m) (isM_half hx m.val) I)

end Cert.KernelIdeal.Sweep
-- ==== Proof.AttendStep.lean ====
/-
  A step of the forward sweep over `n` blocks of 128 keys, taken from the last block to the first: block `b` of the step is the
  keys' block `jt - b`. It carries the sum of the log-complements over the keys past the block, and each pair's result.
-/
module

public import proofs.«01_k».proof.Proof.StepValue

@[expose] public section

noncomputable section

namespace Cert.KernelIdeal.Sweep

open Idealize.ShloMosaic Idealize.ShloMosaic.ValueIdx
open Cert.KernelIdeal Cert.KernelIdeal.Gen Cert.Spec
open Finset (range)

theorem sl_row (n : ℕ) (hn : Ok n) (b : Fin n) : (Wide n).Slices ![512 * b.val, 0] S512x128 := by
  rcases hn with rfl | rfl | rfl <;> revert b <;> decide
theorem sl_quarter (k : Fin 4) : S512x128.Slices ![128 * k.val, 0] S128x128 := by revert k; decide
theorem cat_pairs : Shape.Concatenates (List.ofFn fun _ : Fin 2 => S256x128) S512x128 0 := by decide

section
variable {F : FTy → Type} [FloatOps F]

/-- Block `b` of a wide array. -/
def cutWide : (n : ℕ) → Ok n → FVec F (Wide n) .bf16 → Fin n → FVec F S512x128 .bf16
  | 1, _, x, _ => x
  | 0, hn, _, _ => absurd hn (by decide)
  | n + 2, hn, x, b => extractStridedSlice S512x128 ![512 * b.val, 0] x (sl_row (n + 2) hn b)

/-- A block's weights against its values, both pairs of heads stacked. -/
def outBlk (a : FVec F S512x128 .bf16) (V : Fin 2 → FVec F S128x128 .bf16) : FVec F S512x128 .f32 :=
  concatenate S512x128 0 (List.ofFn fun m : Fin 2 => (⟨S256x128,
      matmul dot_S256x128_S128x128_S256x128_1_0_0_1_n_n none (half a m.val) (V m) (constant S256x128 .f32 0x00000000#32)⟩ : (s : Shape) × (s.Idx → F .f32)))
    (by rw [List.map_ofFn]; exact cat_pairs)

variable (n : ℕ) (hn : Ok n) (msk : Option (IVec (Wide n) 1)) (low : IVec S128x128 1) (after : FVec F S128x128 .bf16)
  (q : FVec F S512x128 .bf16) (p : FVec F S512x1 .f32) (K V : Fin (2 * n) → FVec F S128x128 .bf16)

/-- The weights, narrowed. -/
def fwdWts : FVec F (Wide n) .bf16 :=
  truncf .bf16 (masked (Wide n) msk (exp (addf (addf (lb n hn q K) (splitDot n hn (lom n hn msk q K) after))
    (broadcastTo (Wide n) (stack n hn fun b => through n hn msk q p K b.val) (bc_col n hn))))) bitsLt_bf16_f32

/-- A pair's result with the first `b` blocks added. -/
def outThrough (w : FVec F (Wide n) .bf16) (a : FVec F S128x128 .f32) (pr : Fin 2) : ℕ → FVec F S128x128 .f32
  | 0 => a
  | b + 1 => if h : b < n then
      let y := outBlk (cutWide n hn w ⟨b, h⟩) fun m => V ⟨2 * b + m.val, by have := m.isLt; omega⟩
      addf (outThrough w a pr b) (select low (extractStridedSlice S128x128 ![128 * (2 * pr.val), 0] y (sl_quarter ⟨2 * pr.val, by omega⟩))
        (extractStridedSlice S128x128 ![128 * (2 * pr.val + 1), 0] y (sl_quarter ⟨2 * pr.val + 1, by omega⟩)))
    else outThrough w a pr b

/-- What a step carries: the sum, and the two pairs' results. -/
abbrev FCar (F : FTy → Type) := FVec F S512x1 .f32 × FVec F S128x128 .f32 × FVec F S128x128 .f32

def fwdStep (s : FCar F) : FCar F :=
  (through n hn msk q s.1 K n,
    outThrough n hn low V (fwdWts n hn msk after q s.1 K) s.2.1 0 n,
    outThrough n hn low V (fwdWts n hn msk after q s.1 K) s.2.2 1 n)
end

/-! Over the reals. -/

/-- The key a step's own key `s` is, from the step's first block `jt` down. -/
def back (jt s : ℕ) : ℕ := 128 * (jt - s / 128) + s % 128

theorem back_block (jt b : ℕ) {c : ℕ} (hc : c < 128) : back jt (128 * b + c) = 128 * (jt - b) + c := by
  unfold back
  rw [show (128 * b + c) / 128 = b by omega, show (128 * b + c) % 128 = c by omega]

theorem isW_masked_of {n j0 : ℕ} {φ : FTy} {x : FVec Ideal (Wide n) .f32} {f : ℕ → ℕ → ℝ} {P : ℕ → ℕ → Prop} [∀ ρ s, Decidable (P ρ s)]
    {msk : Option (IVec (Wide n) 1)} (hx : IsW n j0 x f) (hm : ∀ I, live n msk I ↔ P ((I 0).val % 512) (keyOf j0 I)) :
    IsW n j0 (masked (Wide n) msk x) fun ρ s => if P ρ s then f ρ s else 0 := fun I => by
  have h := hm I
  cases msk with
  | none =>
    show x I = (((if P ((I 0).val % 512) (keyOf j0 I) then f ((I 0).val % 512) (keyOf j0 I) else 0 : ℝ)) : EReal)
    rw [if_pos (h.mp trivial)]
    exact hx I
  | some m =>
    show (if m I = 1#1 then x I else (zeros (Wide n) : FVec Ideal (Wide n) .f32) I)
      = (((if P ((I 0).val % 512) (keyOf j0 I) then f ((I 0).val % 512) (keyOf j0 I) else 0 : ℝ)) : EReal)
    by_cases hl : m I = 1#1
    · rw [if_pos hl, if_pos (h.mp hl)]; exact hx I
    · rw [if_neg hl, if_neg (fun h' => hl (h.mpr h')), zeros_apply]

theorem isW_congr_lt {n j0 : ℕ} {φ : FTy} {X : FVec Ideal (Wide n) φ} {f g : ℕ → ℕ → ℝ} (hX : IsW n j0 X f)
    (h : ∀ ρ s, s < 128 * (j0 + n) → f ρ s = g ρ s) : IsW n j0 X g := fun I => by
  have h0 := wide0 I
  have h1 := wide1 I
  rw [hX I, h _ _ (by show 128 * (j0 + (I 0).val / 512) + (I 1).val < _; omega)]

/-- A block of a wide array. -/
theorem isM_cutWide : (n : ℕ) → (hn : Ok n) → {x : FVec Ideal (Wide n) .bf16} → {f : ℕ → ℕ → ℝ} → IsW n 0 x f → (b : Fin n) →
    IsM 512 128 (cutWide n hn x b) fun r c => f r (128 * b.val + c)
  | 1, hn, x, f, hx, b => fun I => by
    have h0 : (I 0).val < 512 := (I 0).isLt
    have hb : b.val = 0 := Nat.lt_one_iff.mp b.isLt
    show x I = _
    rw [hx I, hb]
    show ((f ((I 0).val % 512) (128 * (0 + (I 0).val / 512) + (I 1).val) : ℝ) : EReal) = _
    rw [Nat.mod_eq_of_lt h0, Nat.div_eq_of_lt h0]
  | 0, hn, _, _, _, _ => absurd hn (by decide)
  | n + 2, hn, x, f, hx, b => fun I => by
    have h0 : (I 0).val < 512 := (I 0).isLt
    have h1 : (I 1).val < 128 := (I 1).isLt
    have hb := b.isLt
    refine (extractStridedSlice_apply _ _ (sl_row (n + 2) hn b) _ (ix2 (⟨512 * b.val + (I 0).val, by omega⟩ : Fin (512 * (n + 2))) (⟨(I 1).val, h1⟩ : Fin 128)) (fun a => by
      match a with
      | ⟨0, _⟩ => rfl
      | ⟨1, _⟩ => show (I 1).val = 0 + (I 1).val; omega)).trans ?_
    rw [hx]
    show ((f ((512 * b.val + (I 0).val) % 512) (128 * (0 + (512 * b.val + (I 0).val) / 512) + (I 1).val) : ℝ) : EReal) = _
    rw [show (512 * b.val + (I 0).val) % 512 = (I 0).val by omega, show 0 + (512 * b.val + (I 0).val) / 512 = b.val by omega]

/-- A block's weights against its values. -/
theorem isM_outBlk {a : FVec Ideal S512x128 .bf16} {V : Fin 2 → FVec Ideal S128x128 .bf16} {f : ℕ → ℕ → ℝ} {g : ℕ → ℕ → ℕ → ℝ}
    (ha : IsM 512 128 a f) (hV : ∀ m, IsM 128 128 (V m) (g m.val)) :
    IsM 512 128 (outBlk a V) fun r c => ∑ k ∈ range 128, f r k * g (r / 256) k c := fun I => by
  have h0 : (I 0).val < 512 := (I 0).isLt
  have h1 : (I 1).val < 128 := (I 1).isLt
  unfold outBlk
  rw [concatenate_ofFn_apply (t := S512x128) (s₁ := S256x128) 0 _ _ rfl 256 rfl I ⟨(I 0).val / 256, by omega⟩ rfl
    (ix2 ⟨(I 0).val % 256, Nat.mod_lt _ (by norm_num)⟩ ⟨(I 1).val, h1⟩) rfl
    (fun b hb => by
      match b with
      | ⟨0, _⟩ => exact absurd rfl hb
      | ⟨1, _⟩ => rfl)]
  refine (isW_dot 256 (isM_half ha _) (hV ⟨(I 0).val / 256, by omega⟩) _).trans ?_
  show ((∑ k ∈ range 128, f (256 * ((I 0).val / 256 % 2) + (I 0).val % 256) k * g ((I 0).val / 256) k (I 1).val : ℝ) : EReal) = _
  rw [show 256 * ((I 0).val / 256 % 2) + (I 0).val % 256 = (I 0).val by omega]

/-- A pair's result over the first `n` keys. -/
def _root_.Cert.Spec.Data.YY (D : Data) (pr n r l : ℕ) : ℝ := ∑ s ∈ range n, D.AA (256 * pr + rowOf r l) s * D.vv s (128 * pr + l)

/-- A forward step's operands over the reals, and what it has been handed. -/
structure FReady (D : Data) (n jt : ℕ) (msk : Option (IVec (Wide n) 1)) (low : IVec S128x128 1) (after : FVec Ideal S128x128 .bf16)
    (q : FVec Ideal S512x128 .bf16) (p : FVec Ideal S512x1 .f32) (K V : Fin (2 * n) → FVec Ideal S128x128 .bf16) : Prop where
  top : n ≤ jt + 1
  q : IsM 512 128 q D.qs
  K : IsK n 0 K fun s l => D.kk (back jt s) l
  V : IsK n 0 V fun s l => D.vv (back jt s) l
  p : IsC p fun ρ => D.tot ρ - D.PP ρ (128 * (jt + 1))
  mask : ∀ I, live n msk I ↔ back jt (keyOf 0 I) < D.T ((I 0).val % 512)
  low : ∀ I, low I = 1#1 ↔ (I 1).val < 64
  after : IsM 128 128 after fun k c => if c < k then 1 else 0

variable {D : Data} {n jt : ℕ} (hn : Ok n) {msk : Option (IVec (Wide n) 1)} {low : IVec S128x128 1} {after : FVec Ideal S128x128 .bf16}
    {q : FVec Ideal S512x128 .bf16} {p : FVec Ideal S512x1 .f32} {K V : Fin (2 * n) → FVec Ideal S128x128 .bf16}
    (R : FReady D n jt msk low after q p K V)

include R

theorem fwd_scores : IsW n 0 (scores n hn q K) fun ρ s => D.Z ρ (back jt s) := isW_scores hn R.q R.K
theorem fwd_lb : IsW n 0 (lb n hn q K) fun ρ s => LS (D.Z ρ (back jt s)) := isW_logSig (fwd_scores hn R)
theorem fwd_lom : IsW n 0 (lom n hn msk q K) fun ρ s => D.LOM ρ (back jt s) :=
  isW_masked_of (φ := .f32) (P := fun ρ s => back jt s < D.T ρ) (isW_sub (fwd_lb hn R) (fwd_scores hn R)) R.mask

theorem fwd_through : (b : ℕ) → b ≤ n → IsC (through n hn msk q p K b) fun ρ => D.tot ρ - D.PP ρ (128 * (jt + 1 - b))
  | 0, _ => R.p
  | b + 1, hb => by
    have ht := R.top
    show IsC (running n hn p _ (b + 1)) _
    rw [running, dif_pos (show b < n by omega)]
    intro I
    refine (isC_add (fwd_through b (by omega)) (isC_cut n hn (isT_rowSums hn (fwd_lom hn R)) ⟨b, by omega⟩) I).trans (congrArg _ ?_)
    show D.tot _ - D.PP _ (128 * (jt + 1 - b)) + ∑ c ∈ range 128, D.LOM _ (back jt (128 * (0 + b) + c)) = _
    rw [Finset.sum_congr rfl fun c hc => by rw [Nat.zero_add, back_block jt b (Finset.mem_range.mp hc)]]
    unfold Data.PP
    rw [show jt + 1 - b = jt - b + 1 by omega, sum_block, show jt + 1 - (b + 1) = jt - b by omega]
    ring

theorem fwd_wts : IsW n 0 (fwdWts n hn msk after q p K) fun ρ s => D.AA ρ (back jt s) := by
  have ht := R.top
  have h2 := isW_trunc (isW_masked_of (φ := .f32) (P := fun ρ s => back jt s < D.T ρ)
    (isW_exp (isW_add (isW_add (fwd_lb hn R) (isW_splitDot hn (fwd_lom hn R) R.after))
      (isW_bc (j0 := 0) hn (isT_stack n hn (f := fun ρ b => D.tot ρ - D.PP ρ (128 * (jt + 1 - b))) fun b => fwd_through hn R b.val b.isLt.le)))) R.mask)
  refine isW_congr_lt h2 fun ρ s hs => ?_
  unfold Data.AA
  refine if_congr Iff.rfl (congrArg Real.exp ?_) rfl
  have hd : back jt s / 128 = jt - s / 128 := by unfold back; omega
  have hm : back jt s % 128 = s % 128 := by unfold back; omega
  have e := sum_after (D.LOM ρ) (back jt s)
  rw [hd, hm] at e
  rw [Finset.sum_congr rfl fun c hc => by rw [back_block jt (s / 128) (Finset.mem_range.mp hc)], e,
    show jt + 1 - (s / 128 - 0) = jt - s / 128 + 1 by omega]
  unfold Data.PP
  ring

/-- A pair's result, block by block, `y` being the whole of it. -/
theorem fwd_out (pr : Fin 2) {a : FVec Ideal S128x128 .f32} {y : ℕ → ℕ → ℝ}
    (ha : IsM 128 128 a fun r l => y r l - D.YY pr.val (128 * (jt + 1)) r l) :
    (b : ℕ) → b ≤ n → IsM 128 128 (outThrough n hn low V (fwdWts n hn msk after q p K) a pr b) fun r l => y r l - D.YY pr.val (128 * (jt + 1 - b)) r l
  | 0, _ => ha
  | b + 1, hb => by
    have ht := R.top
    have hpr := pr.isLt
    have ih := fwd_out pr ha b (by omega)
    rw [outThrough, dif_pos (show b < n by omega)]
    have hy := isM_outBlk (g := fun m k c => D.vv (128 * (jt - b) + k) (128 * (m % 2) + c)) (isM_cutWide n hn (fwd_wts hn R) ⟨b, by omega⟩)
      (V := fun m => V ⟨2 * b + m.val, by have := m.isLt; omega⟩) (fun m J => by
        have hm := m.isLt
        have hJ : (J 0).val < 128 := (J 0).isLt
        rw [R.V]
        refine congrArg _ ?_
        show D.vv (back jt (128 * (0 + (2 * b + m.val) / 2) + (J 0).val)) (128 * ((2 * b + m.val) % 2) + (J 1).val) = _
        rw [show 0 + (2 * b + m.val) / 2 = b by omega, back_block jt b hJ, show (2 * b + m.val) % 2 = m.val % 2 by omega])
    intro I
    have h0 : (I 0).val < 128 := (I 0).isLt
    have h1 : (I 1).val < 128 := (I 1).isLt
    refine (addf_apply _ _ _).trans ?_
    refine (congrArg₂ (· + ·) (ih I) ?_).trans (b := ((y (I 0).val (I 1).val - D.YY pr.val (128 * (jt + 1 - b)) (I 0).val (I 1).val : ℝ) : EReal)
      + ((∑ k ∈ range 128, D.AA (256 * pr.val + rowOf (I 0).val (I 1).val) (128 * (jt - b) + k) * D.vv (128 * (jt - b) + k) (128 * pr.val + (I 1).val) : ℝ) : EReal)) ?_
    · have hk : ∀ ρ, ρ / 256 = pr.val → (∑ k ∈ range 128, D.AA ρ (back jt (128 * b + k)) * D.vv (128 * (jt - b) + k) (128 * (ρ / 256 % 2) + (I 1).val))
          = ∑ k ∈ range 128, D.AA ρ (128 * (jt - b) + k) * D.vv (128 * (jt - b) + k) (128 * pr.val + (I 1).val) := fun ρ hρ =>
        Finset.sum_congr rfl fun k hk => by
          have hk := Finset.mem_range.mp hk
          rw [back_block jt b hk, hρ, show pr.val % 2 = pr.val by omega]
      show (if low I = 1#1 then _ else _) = _
      by_cases h : (I 1).val < 64
      · rw [if_pos ((R.low I).mpr h)]
        refine (extractStridedSlice_apply _ _ _ _ (ix2 (⟨256 * pr.val + (I 0).val, by omega⟩ : Fin 512) (⟨(I 1).val, h1⟩ : Fin 128)) (fun a => by
          match a with
          | ⟨0, _⟩ => show 256 * pr.val + (I 0).val = 128 * (2 * pr.val) + (I 0).val; omega
          | ⟨1, _⟩ => show (I 1).val = 0 + (I 1).val; omega)).trans ((hy _).trans (congrArg _ ?_))
        rw [rowOf, if_pos h]
        exact hk (256 * pr.val + (I 0).val) (by omega)
      · rw [if_neg (fun h' => h ((R.low I).mp h'))]
        refine (extractStridedSlice_apply _ _ _ _ (ix2 (⟨256 * pr.val + (128 + (I 0).val), by omega⟩ : Fin 512) (⟨(I 1).val, h1⟩ : Fin 128)) (fun a => by
          match a with
          | ⟨0, _⟩ => show 256 * pr.val + (128 + (I 0).val) = 128 * (2 * pr.val + 1) + (I 0).val; omega
          | ⟨1, _⟩ => show (I 1).val = 0 + (I 1).val; omega)).trans ((hy _).trans (congrArg _ ?_))
        rw [rowOf, if_neg h]
        exact hk (256 * pr.val + (128 + (I 0).val)) (by omega)
    · rw [← EReal.coe_add]
      refine congrArg _ ?_
      unfold Data.YY
      rw [show jt + 1 - b = jt - b + 1 by omega, sum_block, show jt + 1 - (b + 1) = jt - b by omega]
      ring

end Cert.KernelIdeal.Sweep
-- ==== Proof.AttendTrip.lean ====
/- The trips of the forward sweep's loops, each as one step over its blocks, and what the point's own block gives before them. -/
module

public import proofs.«01_k».proof.Proof.AttendStep
public import proofs.«01_k».proof.Proof.Gen.AttendIdeal.Frame

@[expose] public section

set_option maxRecDepth 16384

noncomputable section

namespace Cert.AttendIdeal.Hand

open Idealize.ShloMosaic Idealize.ShloMosaic.TcCoe Idealize.ShloMosaic.Tactic
open Cert.AttendIdeal Cert.AttendIdeal.Gen Cert.KernelIdeal.Sweep

variable {F : FTy → Type} [FloatOps F]

variable (𝒱 : Variants) (c : Dev nD) (bd : Option 𝒱.V) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .bf16) (harg3 : arg3.IsWhole) (arg4 : Memref sig .tc .vmem S128x128 .f32) (harg4 : arg4.IsWhole)

/-- A 128×128 block of the keys and values, at a row and a column. -/
def kvAt (X2 : BufTy.Contents (Elt F) arg2.view.ty) (off : Fin 2 → ℕ) (inb : ∀ a, off a + S128x128.size a ≤ S8192x512.size a) : FVec F S128x128 .bf16 :=
  shapeCast S128x128 (View.readAt (Elt F) arg2.view (Rect.unit (s := S8192x512) off S128x128.size inb).toLoadRect X2) shapeCasts_S128x128_S128x128

variable (X2 : BufTy.Contents (Elt F) arg2.view.ty)

/-! The keys and the values of the steps: of the point's own block, of eight blocks, of four, of one. -/
def keysD (m : Fin (2 * 1)) : FVec F S128x128 .bf16 :=
  if m.val % 2 = 0 then kvAt arg2 X2 (k0_off1 i) (k0_off1_inb i) else kvAt arg2 X2 (k0_off2 i) (k0_off2_inb i)
def valsD (m : Fin (2 * 1)) : FVec F S128x128 .bf16 :=
  if m.val % 2 = 0 then kvAt arg2 X2 (k0_off3 i) (k0_off3_inb i) else kvAt arg2 X2 (k0_off4 i) (k0_off4_inb i)
def keys8 (t : Fin (k0_t1_loop i).trips) (m : Fin (2 * 8)) : FVec F S128x128 .bf16 :=
  if m.val % 2 = 0 then kvAt arg2 X2 (k0_off5 i t (BitVec.ofNat 32 (m.val / 2))) (k0_off5_inb i t ⟨m.val / 2, by have := m.isLt; omega⟩)
  else kvAt arg2 X2 (k0_off6 i t (BitVec.ofNat 32 (m.val / 2))) (k0_off6_inb i t ⟨m.val / 2, by have := m.isLt; omega⟩)
def vals8 (t : Fin (k0_t1_loop i).trips) (m : Fin (2 * 8)) : FVec F S128x128 .bf16 :=
  if m.val % 2 = 0 then kvAt arg2 X2 (k0_off7 i t (BitVec.ofNat 32 (m.val / 2))) (k0_off7_inb i t ⟨m.val / 2, by have := m.isLt; omega⟩)
  else kvAt arg2 X2 (k0_off8 i t (BitVec.ofNat 32 (m.val / 2))) (k0_off8_inb i t ⟨m.val / 2, by have := m.isLt; omega⟩)
def keys4 (t : Fin (k0_t3_loop i).trips) (m : Fin (2 * 4)) : FVec F S128x128 .bf16 :=
  if m.val % 2 = 0 then kvAt arg2 X2 (k0_off13 i (BitVec.ofNat 32 (m.val / 2))) (k0_off13_inb i t ⟨m.val / 2, by have := m.isLt; omega⟩)
  else kvAt arg2 X2 (k0_off14 i (BitVec.ofNat 32 (m.val / 2))) (k0_off14_inb i t ⟨m.val / 2, by have := m.isLt; omega⟩)
def vals4 (t : Fin (k0_t3_loop i).trips) (m : Fin (2 * 4)) : FVec F S128x128 .bf16 :=
  if m.val % 2 = 0 then kvAt arg2 X2 (k0_off15 i (BitVec.ofNat 32 (m.val / 2))) (k0_off15_inb i t ⟨m.val / 2, by have := m.isLt; omega⟩)
  else kvAt arg2 X2 (k0_off16 i (BitVec.ofNat 32 (m.val / 2))) (k0_off16_inb i t ⟨m.val / 2, by have := m.isLt; omega⟩)
def keys1 (t : Fin (k0_t5_loop i).trips) (m : Fin (2 * 1)) : FVec F S128x128 .bf16 :=
  if m.val % 2 = 0 then kvAt arg2 X2 (k0_off21 i t) (k0_off21_inb i t) else kvAt arg2 X2 (k0_off22 i t) (k0_off22_inb i t)
def vals1 (t : Fin (k0_t5_loop i).trips) (m : Fin (2 * 1)) : FVec F S128x128 .bf16 :=
  if m.val % 2 = 0 then kvAt arg2 X2 (k0_off23 i t) (k0_off23_inb i t) else kvAt arg2 X2 (k0_off24 i t) (k0_off24_inb i t)

section
variable (arg0 : BitVec 32) (low : IVec S128x128 1) (after : FVec F S128x128 .bf16) (q : FVec F S512x128 .bf16)

theorem trip1_eq (u0 : FVec F S512x1 .f32) (u1 u2 : FVec F S128x128 .f32) (w1 w2 : BitVec 32) (t : Fin (k0_t1_loop i).trips) (s : FCar F) :
    tripR_k0_t1 𝒱 c bd i arg1 harg1 arg2 harg2 arg3 harg3 arg4 harg4 arg0 low after q u0 u1 u2 w1 w2 X2 t s
      = fwdStep 8 (.inr (.inr rfl)) none low after q (keys8 i arg2 X2 t) (vals8 i arg2 X2 t) s := by
  unfold tripR_k0_t1 trip_k0_t1
  sl_kernel_rfl

theorem trip3_eq (u0 : FVec F S512x1 .f32) (u1 u2 : FVec F S128x128 .f32) (w1 w2 : BitVec 32) (t : Fin (k0_t3_loop i).trips) (s : FCar F) :
    tripR_k0_t3 𝒱 c bd i arg1 harg1 arg2 harg2 arg3 harg3 arg4 harg4 arg0 low after q u0 u1 u2 w1 w2 X2 t s
      = fwdStep 4 (.inr (.inl rfl)) none low after q (keys4 i arg2 X2 t) (vals4 i arg2 X2 t) s := by
  unfold tripR_k0_t3 trip_k0_t3
  sl_kernel_rfl

theorem trip5_eq (u0 : FVec F S512x1 .f32) (u1 u2 : FVec F S128x128 .f32) (w1 : BitVec 32) (b1 : BitVec 1) (w2 : BitVec 32) (t : Fin (k0_t5_loop i).trips) (s : FCar F) :
    tripR_k0_t5 𝒱 c bd i arg1 harg1 arg2 harg2 arg3 harg3 arg4 harg4 arg0 low after q u0 u1 u2 w1 b1 w2 X2 t s
      = fwdStep 1 (.inl rfl) none low after q (keys1 i arg2 X2 t) (vals1 i arg2 X2 t) s := by
  unfold tripR_k0_t5 trip_k0_t5
  sl_kernel_rfl
end

end Cert.AttendIdeal.Hand
-- ==== Proof.AttendOffsets.lean ====
/-
  The rows and columns the forward kernel's accesses start at, in closed form, and its loops' trip counts: a trip of the first
  loop takes eight blocks of 128 keys, a trip of the second four, a trip of the third one, each from the last block down.
-/
module

public import proofs.«01_k».proof.Proof.Gen.AttendIdeal

@[expose] public section

namespace Cert.AttendIdeal.Hand

open Idealize.ShloMosaic Cert.AttendIdeal Cert.AttendIdeal.Gen

theorem off1_eq : ∀ i : grid0.Coords, k0_off1 i = ![128 * (i 0).val, 0] := by decide +kernel
theorem off2_eq : ∀ i : grid0.Coords, k0_off2 i = ![128 * (i 0).val, 128] := by decide +kernel
theorem off3_eq : ∀ i : grid0.Coords, k0_off3 i = ![128 * (i 0).val, 256] := by decide +kernel
theorem off4_eq : ∀ i : grid0.Coords, k0_off4 i = ![128 * (i 0).val, 384] := by decide +kernel
theorem off5_eq : ∀ (i : grid0.Coords) (t : Fin (k0_t1_loop i).trips) (b : Fin 8), k0_off5 i t (BitVec.ofNat 32 b.val) = ![128 * ((i 0).val - 1 - 8 * t.val - b.val), 0] := by decide +kernel
theorem off6_eq : ∀ (i : grid0.Coords) (t : Fin (k0_t1_loop i).trips) (b : Fin 8), k0_off6 i t (BitVec.ofNat 32 b.val) = ![128 * ((i 0).val - 1 - 8 * t.val - b.val), 128] := by decide +kernel
theorem off7_eq : ∀ (i : grid0.Coords) (t : Fin (k0_t1_loop i).trips) (b : Fin 8), k0_off7 i t (BitVec.ofNat 32 b.val) = ![128 * ((i 0).val - 1 - 8 * t.val - b.val), 256] := by decide +kernel
theorem off8_eq : ∀ (i : grid0.Coords) (t : Fin (k0_t1_loop i).trips) (b : Fin 8), k0_off8 i t (BitVec.ofNat 32 b.val) = ![128 * ((i 0).val - 1 - 8 * t.val - b.val), 384] := by decide +kernel
theorem off13_eq : ∀ (i : grid0.Coords) (b : Fin 4), 4 ≤ (i 0).val % 8 → k0_off13 i (BitVec.ofNat 32 b.val) = ![128 * ((i 0).val % 8 - 1 - b.val), 0] := by decide +kernel
theorem off14_eq : ∀ (i : grid0.Coords) (b : Fin 4), 4 ≤ (i 0).val % 8 → k0_off14 i (BitVec.ofNat 32 b.val) = ![128 * ((i 0).val % 8 - 1 - b.val), 128] := by decide +kernel
theorem off15_eq : ∀ (i : grid0.Coords) (b : Fin 4), 4 ≤ (i 0).val % 8 → k0_off15 i (BitVec.ofNat 32 b.val) = ![128 * ((i 0).val % 8 - 1 - b.val), 256] := by decide +kernel
theorem off16_eq : ∀ (i : grid0.Coords) (b : Fin 4), 4 ≤ (i 0).val % 8 → k0_off16 i (BitVec.ofNat 32 b.val) = ![128 * ((i 0).val % 8 - 1 - b.val), 384] := by decide +kernel
theorem off21_eq : ∀ (i : grid0.Coords) (t : Fin (k0_t5_loop i).trips), k0_off21 i t = ![128 * ((i 0).val % 4 - 1 - t.val), 0] := by decide +kernel
theorem off22_eq : ∀ (i : grid0.Coords) (t : Fin (k0_t5_loop i).trips), k0_off22 i t = ![128 * ((i 0).val % 4 - 1 - t.val), 128] := by decide +kernel
theorem off23_eq : ∀ (i : grid0.Coords) (t : Fin (k0_t5_loop i).trips), k0_off23 i t = ![128 * ((i 0).val % 4 - 1 - t.val), 256] := by decide +kernel
theorem off24_eq : ∀ (i : grid0.Coords) (t : Fin (k0_t5_loop i).trips), k0_off24 i t = ![128 * ((i 0).val % 4 - 1 - t.val), 384] := by decide +kernel

theorem trips1 : ∀ i : grid0.Coords, (k0_t1_loop i).trips = (i 0).val / 8 := by decide +kernel
theorem trips2 : ∀ i : grid0.Coords, (k0_t2_loop i).trips = 0 := by decide +kernel
theorem trips3 : ∀ i : grid0.Coords, (k0_t3_loop i).trips = (i 0).val % 8 / 4 := by decide +kernel
theorem trips4 : ∀ i : grid0.Coords, (k0_t4_loop i).trips = 0 := by decide +kernel
theorem trips5 : ∀ i : grid0.Coords, (k0_t5_loop i).trips = (i 0).val % 4 := by decide +kernel
theorem trips6 : ∀ i : grid0.Coords, (k0_t6_loop i).trips = 0 := by decide +kernel

end Cert.AttendIdeal.Hand
-- ==== Proof.Offsets.lean ====
/-
  The rows and columns the kernel's accesses start at, in closed form. Block `j` of 128 keys starts at row `128 * j`; the
  two pairs of heads take the columns from 0 and from 128 (keys) and from 256 and from 384 (values). A trip of the wide
  loop takes eight blocks, the middle loop's one trip four, a trip of the narrow loop one.
-/
module

public import proofs.«01_k».proof.Proof.Gen.KernelIdeal

@[expose] public section

namespace Cert.KernelIdeal.Hand

open Idealize.ShloMosaic Cert.KernelIdeal Cert.KernelIdeal.Gen

theorem off1_eq : ∀ (i : grid0.Coords) (t : Fin (k0_t1_loop i).trips) (b : Fin 8), k0_off1 i t (BitVec.ofNat 32 b.val) = ![128 * (8 * t.val + b.val), 0] := by decide +kernel
theorem off2_eq : ∀ (i : grid0.Coords) (t : Fin (k0_t1_loop i).trips) (b : Fin 8), k0_off2 i t (BitVec.ofNat 32 b.val) = ![128 * (8 * t.val + b.val), 128] := by decide +kernel
theorem off3_eq : ∀ (i : grid0.Coords) (t : Fin (k0_t1_loop i).trips) (b : Fin 8), k0_off3 i t (BitVec.ofNat 32 b.val) = ![128 * (8 * t.val + b.val), 256] := by decide +kernel
theorem off4_eq : ∀ (i : grid0.Coords) (t : Fin (k0_t1_loop i).trips) (b : Fin 8), k0_off4 i t (BitVec.ofNat 32 b.val) = ![128 * (8 * t.val + b.val), 384] := by decide +kernel
theorem off5_eq : ∀ (i : grid0.Coords) (t : Fin (k0_t1_loop i).trips) (b : Fin 8), k0_off5 i t (BitVec.ofNat 32 b.val) = ![128 * (8 * t.val + b.val), 0] := by decide +kernel
theorem off6_eq : ∀ (i : grid0.Coords) (t : Fin (k0_t1_loop i).trips) (b : Fin 8), k0_off6 i t (BitVec.ofNat 32 b.val) = ![128 * (8 * t.val + b.val), 128] := by decide +kernel
instance (i : grid0.Coords) (t : Fin (k0_t1_loop i).trips) : ClosedOff (k0_off1 i t 0#32) := ⟨![128 * (8 * t.val + 0), 0], off1_eq i t 0⟩
instance (i : grid0.Coords) (t : Fin (k0_t1_loop i).trips) : ClosedOff (k0_off1 i t 1#32) := ⟨![128 * (8 * t.val + 1), 0], off1_eq i t 1⟩
instance (i : grid0.Coords) (t : Fin (k0_t1_loop i).trips) : ClosedOff (k0_off1 i t 2#32) := ⟨![128 * (8 * t.val + 2), 0], off1_eq i t 2⟩
instance (i : grid0.Coords) (t : Fin (k0_t1_loop i).trips) : ClosedOff (k0_off1 i t 3#32) := ⟨![128 * (8 * t.val + 3), 0], off1_eq i t 3⟩
instance (i : grid0.Coords) (t : Fin (k0_t1_loop i).trips) : ClosedOff (k0_off1 i t 4#32) := ⟨![128 * (8 * t.val + 4), 0], off1_eq i t 4⟩
instance (i : grid0.Coords) (t : Fin (k0_t1_loop i).trips) : ClosedOff (k0_off1 i t 5#32) := ⟨![128 * (8 * t.val + 5), 0], off1_eq i t 5⟩
instance (i : grid0.Coords) (t : Fin (k0_t1_loop i).trips) : ClosedOff (k0_off1 i t 6#32) := ⟨![128 * (8 * t.val + 6), 0], off1_eq i t 6⟩
instance (i : grid0.Coords) (t : Fin (k0_t1_loop i).trips) : ClosedOff (k0_off1 i t 7#32) := ⟨![128 * (8 * t.val + 7), 0], off1_eq i t 7⟩
instance (i : grid0.Coords) (t : Fin (k0_t1_loop i).trips) : ClosedOff (k0_off2 i t 0#32) := ⟨![128 * (8 * t.val + 0), 128], off2_eq i t 0⟩
instance (i : grid0.Coords) (t : Fin (k0_t1_loop i).trips) : ClosedOff (k0_off2 i t 1#32) := ⟨![128 * (8 * t.val + 1), 128], off2_eq i t 1⟩
instance (i : grid0.Coords) (t : Fin (k0_t1_loop i).trips) : ClosedOff (k0_off2 i t 2#32) := ⟨![128 * (8 * t.val + 2), 128], off2_eq i t 2⟩
instance (i : grid0.Coords) (t : Fin (k0_t1_loop i).trips) : ClosedOff (k0_off2 i t 3#32) := ⟨![128 * (8 * t.val + 3), 128], off2_eq i t 3⟩
instance (i : grid0.Coords) (t : Fin (k0_t1_loop i).trips) : ClosedOff (k0_off2 i t 4#32) := ⟨![128 * (8 * t.val + 4), 128], off2_eq i t 4⟩
instance (i : grid0.Coords) (t : Fin (k0_t1_loop i).trips) : ClosedOff (k0_off2 i t 5#32) := ⟨![128 * (8 * t.val + 5), 128], off2_eq i t 5⟩
instance (i : grid0.Coords) (t : Fin (k0_t1_loop i).trips) : ClosedOff (k0_off2 i t 6#32) := ⟨![128 * (8 * t.val + 6), 128], off2_eq i t 6⟩
instance (i : grid0.Coords) (t : Fin (k0_t1_loop i).trips) : ClosedOff (k0_off2 i t 7#32) := ⟨![128 * (8 * t.val + 7), 128], off2_eq i t 7⟩
instance (i : grid0.Coords) (t : Fin (k0_t1_loop i).trips) : ClosedOff (k0_off3 i t 0#32) := ⟨![128 * (8 * t.val + 0), 256], off3_eq i t 0⟩
instance (i : grid0.Coords) (t : Fin (k0_t1_loop i).trips) : ClosedOff (k0_off3 i t 1#32) := ⟨![128 * (8 * t.val + 1), 256], off3_eq i t 1⟩
instance (i : grid0.Coords) (t : Fin (k0_t1_loop i).trips) : ClosedOff (k0_off3 i t 2#32) := ⟨![128 * (8 * t.val + 2), 256], off3_eq i t 2⟩
instance (i : grid0.Coords) (t : Fin (k0_t1_loop i).trips) : ClosedOff (k0_off3 i t 3#32) := ⟨![128 * (8 * t.val + 3), 256], off3_eq i t 3⟩
instance (i : grid0.Coords) (t : Fin (k0_t1_loop i).trips) : ClosedOff (k0_off3 i t 4#32) := ⟨![128 * (8 * t.val + 4), 256], off3_eq i t 4⟩
instance (i : grid0.Coords) (t : Fin (k0_t1_loop i).trips) : ClosedOff (k0_off3 i t 5#32) := ⟨![128 * (8 * t.val + 5), 256], off3_eq i t 5⟩
instance (i : grid0.Coords) (t : Fin (k0_t1_loop i).trips) : ClosedOff (k0_off3 i t 6#32) := ⟨![128 * (8 * t.val + 6), 256], off3_eq i t 6⟩
instance (i : grid0.Coords) (t : Fin (k0_t1_loop i).trips) : ClosedOff (k0_off3 i t 7#32) := ⟨![128 * (8 * t.val + 7), 256], off3_eq i t 7⟩
instance (i : grid0.Coords) (t : Fin (k0_t1_loop i).trips) : ClosedOff (k0_off4 i t 0#32) := ⟨![128 * (8 * t.val + 0), 384], off4_eq i t 0⟩
instance (i : grid0.Coords) (t : Fin (k0_t1_loop i).trips) : ClosedOff (k0_off4 i t 1#32) := ⟨![128 * (8 * t.val + 1), 384], off4_eq i t 1⟩
instance (i : grid0.Coords) (t : Fin (k0_t1_loop i).trips) : ClosedOff (k0_off4 i t 2#32) := ⟨![128 * (8 * t.val + 2), 384], off4_eq i t 2⟩
instance (i : grid0.Coords) (t : Fin (k0_t1_loop i).trips) : ClosedOff (k0_off4 i t 3#32) := ⟨![128 * (8 * t.val + 3), 384], off4_eq i t 3⟩
instance (i : grid0.Coords) (t : Fin (k0_t1_loop i).trips) : ClosedOff (k0_off4 i t 4#32) := ⟨![128 * (8 * t.val + 4), 384], off4_eq i t 4⟩
instance (i : grid0.Coords) (t : Fin (k0_t1_loop i).trips) : ClosedOff (k0_off4 i t 5#32) := ⟨![128 * (8 * t.val + 5), 384], off4_eq i t 5⟩
instance (i : grid0.Coords) (t : Fin (k0_t1_loop i).trips) : ClosedOff (k0_off4 i t 6#32) := ⟨![128 * (8 * t.val + 6), 384], off4_eq i t 6⟩
instance (i : grid0.Coords) (t : Fin (k0_t1_loop i).trips) : ClosedOff (k0_off4 i t 7#32) := ⟨![128 * (8 * t.val + 7), 384], off4_eq i t 7⟩
instance (i : grid0.Coords) (t : Fin (k0_t1_loop i).trips) : ClosedOff (k0_off5 i t 0#32) := ⟨![128 * (8 * t.val + 0), 0], off5_eq i t 0⟩
instance (i : grid0.Coords) (t : Fin (k0_t1_loop i).trips) : ClosedOff (k0_off5 i t 1#32) := ⟨![128 * (8 * t.val + 1), 0], off5_eq i t 1⟩
instance (i : grid0.Coords) (t : Fin (k0_t1_loop i).trips) : ClosedOff (k0_off5 i t 2#32) := ⟨![128 * (8 * t.val + 2), 0], off5_eq i t 2⟩
instance (i : grid0.Coords) (t : Fin (k0_t1_loop i).trips) : ClosedOff (k0_off5 i t 3#32) := ⟨![128 * (8 * t.val + 3), 0], off5_eq i t 3⟩
instance (i : grid0.Coords) (t : Fin (k0_t1_loop i).trips) : ClosedOff (k0_off5 i t 4#32) := ⟨![128 * (8 * t.val + 4), 0], off5_eq i t 4⟩
instance (i : grid0.Coords) (t : Fin (k0_t1_loop i).trips) : ClosedOff (k0_off5 i t 5#32) := ⟨![128 * (8 * t.val + 5), 0], off5_eq i t 5⟩
instance (i : grid0.Coords) (t : Fin (k0_t1_loop i).trips) : ClosedOff (k0_off5 i t 6#32) := ⟨![128 * (8 * t.val + 6), 0], off5_eq i t 6⟩
instance (i : grid0.Coords) (t : Fin (k0_t1_loop i).trips) : ClosedOff (k0_off5 i t 7#32) := ⟨![128 * (8 * t.val + 7), 0], off5_eq i t 7⟩
instance (i : grid0.Coords) (t : Fin (k0_t1_loop i).trips) : ClosedOff (k0_off6 i t 0#32) := ⟨![128 * (8 * t.val + 0), 128], off6_eq i t 0⟩
instance (i : grid0.Coords) (t : Fin (k0_t1_loop i).trips) : ClosedOff (k0_off6 i t 1#32) := ⟨![128 * (8 * t.val + 1), 128], off6_eq i t 1⟩
instance (i : grid0.Coords) (t : Fin (k0_t1_loop i).trips) : ClosedOff (k0_off6 i t 2#32) := ⟨![128 * (8 * t.val + 2), 128], off6_eq i t 2⟩
instance (i : grid0.Coords) (t : Fin (k0_t1_loop i).trips) : ClosedOff (k0_off6 i t 3#32) := ⟨![128 * (8 * t.val + 3), 128], off6_eq i t 3⟩
instance (i : grid0.Coords) (t : Fin (k0_t1_loop i).trips) : ClosedOff (k0_off6 i t 4#32) := ⟨![128 * (8 * t.val + 4), 128], off6_eq i t 4⟩
instance (i : grid0.Coords) (t : Fin (k0_t1_loop i).trips) : ClosedOff (k0_off6 i t 5#32) := ⟨![128 * (8 * t.val + 5), 128], off6_eq i t 5⟩
instance (i : grid0.Coords) (t : Fin (k0_t1_loop i).trips) : ClosedOff (k0_off6 i t 6#32) := ⟨![128 * (8 * t.val + 6), 128], off6_eq i t 6⟩
instance (i : grid0.Coords) (t : Fin (k0_t1_loop i).trips) : ClosedOff (k0_off6 i t 7#32) := ⟨![128 * (8 * t.val + 7), 128], off6_eq i t 7⟩
theorem off13_eq : ∀ (i : grid0.Coords) (b : Fin 4), k0_off13 i (BitVec.ofNat 32 b.val) = ![128 * (8 * ((i 0).val / 8) + b.val), 0] := by decide +kernel
theorem off14_eq : ∀ (i : grid0.Coords) (b : Fin 4), k0_off14 i (BitVec.ofNat 32 b.val) = ![128 * (8 * ((i 0).val / 8) + b.val), 128] := by decide +kernel
theorem off15_eq : ∀ (i : grid0.Coords) (b : Fin 4), k0_off15 i (BitVec.ofNat 32 b.val) = ![128 * (8 * ((i 0).val / 8) + b.val), 256] := by decide +kernel
theorem off16_eq : ∀ (i : grid0.Coords) (b : Fin 4), k0_off16 i (BitVec.ofNat 32 b.val) = ![128 * (8 * ((i 0).val / 8) + b.val), 384] := by decide +kernel
theorem off17_eq : ∀ (i : grid0.Coords) (b : Fin 4), k0_off17 i (BitVec.ofNat 32 b.val) = ![128 * (8 * ((i 0).val / 8) + b.val), 0] := by decide +kernel
theorem off18_eq : ∀ (i : grid0.Coords) (b : Fin 4), k0_off18 i (BitVec.ofNat 32 b.val) = ![128 * (8 * ((i 0).val / 8) + b.val), 128] := by decide +kernel
instance (i : grid0.Coords) : ClosedOff (k0_off13 i 0#32) := ⟨![128 * (8 * ((i 0).val / 8) + 0), 0], off13_eq i 0⟩
instance (i : grid0.Coords) : ClosedOff (k0_off13 i 1#32) := ⟨![128 * (8 * ((i 0).val / 8) + 1), 0], off13_eq i 1⟩
instance (i : grid0.Coords) : ClosedOff (k0_off13 i 2#32) := ⟨![128 * (8 * ((i 0).val / 8) + 2), 0], off13_eq i 2⟩
instance (i : grid0.Coords) : ClosedOff (k0_off13 i 3#32) := ⟨![128 * (8 * ((i 0).val / 8) + 3), 0], off13_eq i 3⟩
instance (i : grid0.Coords) : ClosedOff (k0_off14 i 0#32) := ⟨![128 * (8 * ((i 0).val / 8) + 0), 128], off14_eq i 0⟩
instance (i : grid0.Coords) : ClosedOff (k0_off14 i 1#32) := ⟨![128 * (8 * ((i 0).val / 8) + 1), 128], off14_eq i 1⟩
instance (i : grid0.Coords) : ClosedOff (k0_off14 i 2#32) := ⟨![128 * (8 * ((i 0).val / 8) + 2), 128], off14_eq i 2⟩
instance (i : grid0.Coords) : ClosedOff (k0_off14 i 3#32) := ⟨![128 * (8 * ((i 0).val / 8) + 3), 128], off14_eq i 3⟩
instance (i : grid0.Coords) : ClosedOff (k0_off15 i 0#32) := ⟨![128 * (8 * ((i 0).val / 8) + 0), 256], off15_eq i 0⟩
instance (i : grid0.Coords) : ClosedOff (k0_off15 i 1#32) := ⟨![128 * (8 * ((i 0).val / 8) + 1), 256], off15_eq i 1⟩
instance (i : grid0.Coords) : ClosedOff (k0_off15 i 2#32) := ⟨![128 * (8 * ((i 0).val / 8) + 2), 256], off15_eq i 2⟩
instance (i : grid0.Coords) : ClosedOff (k0_off15 i 3#32) := ⟨![128 * (8 * ((i 0).val / 8) + 3), 256], off15_eq i 3⟩
instance (i : grid0.Coords) : ClosedOff (k0_off16 i 0#32) := ⟨![128 * (8 * ((i 0).val / 8) + 0), 384], off16_eq i 0⟩
instance (i : grid0.Coords) : ClosedOff (k0_off16 i 1#32) := ⟨![128 * (8 * ((i 0).val / 8) + 1), 384], off16_eq i 1⟩
instance (i : grid0.Coords) : ClosedOff (k0_off16 i 2#32) := ⟨![128 * (8 * ((i 0).val / 8) + 2), 384], off16_eq i 2⟩
instance (i : grid0.Coords) : ClosedOff (k0_off16 i 3#32) := ⟨![128 * (8 * ((i 0).val / 8) + 3), 384], off16_eq i 3⟩
instance (i : grid0.Coords) : ClosedOff (k0_off17 i 0#32) := ⟨![128 * (8 * ((i 0).val / 8) + 0), 0], off17_eq i 0⟩
instance (i : grid0.Coords) : ClosedOff (k0_off17 i 1#32) := ⟨![128 * (8 * ((i 0).val / 8) + 1), 0], off17_eq i 1⟩
instance (i : grid0.Coords) : ClosedOff (k0_off17 i 2#32) := ⟨![128 * (8 * ((i 0).val / 8) + 2), 0], off17_eq i 2⟩
instance (i : grid0.Coords) : ClosedOff (k0_off17 i 3#32) := ⟨![128 * (8 * ((i 0).val / 8) + 3), 0], off17_eq i 3⟩
instance (i : grid0.Coords) : ClosedOff (k0_off18 i 0#32) := ⟨![128 * (8 * ((i 0).val / 8) + 0), 128], off18_eq i 0⟩
instance (i : grid0.Coords) : ClosedOff (k0_off18 i 1#32) := ⟨![128 * (8 * ((i 0).val / 8) + 1), 128], off18_eq i 1⟩
instance (i : grid0.Coords) : ClosedOff (k0_off18 i 2#32) := ⟨![128 * (8 * ((i 0).val / 8) + 2), 128], off18_eq i 2⟩
instance (i : grid0.Coords) : ClosedOff (k0_off18 i 3#32) := ⟨![128 * (8 * ((i 0).val / 8) + 3), 128], off18_eq i 3⟩
theorem off25_eq : ∀ (i : grid0.Coords) (t : Fin (k0_t5_loop i).trips), k0_off25 i t = ![128 * (4 * ((i 0).val / 4) + t.val), 0] := by decide +kernel
instance (i : grid0.Coords) (t : Fin (k0_t5_loop i).trips) : ClosedOff (k0_off25 i t) := ⟨![128 * (4 * ((i 0).val / 4) + t.val), 0], off25_eq i t⟩
theorem off26_eq : ∀ (i : grid0.Coords) (t : Fin (k0_t5_loop i).trips), k0_off26 i t = ![128 * (4 * ((i 0).val / 4) + t.val), 128] := by decide +kernel
instance (i : grid0.Coords) (t : Fin (k0_t5_loop i).trips) : ClosedOff (k0_off26 i t) := ⟨![128 * (4 * ((i 0).val / 4) + t.val), 128], off26_eq i t⟩
theorem off27_eq : ∀ (i : grid0.Coords) (t : Fin (k0_t5_loop i).trips), k0_off27 i t = ![128 * (4 * ((i 0).val / 4) + t.val), 256] := by decide +kernel
instance (i : grid0.Coords) (t : Fin (k0_t5_loop i).trips) : ClosedOff (k0_off27 i t) := ⟨![128 * (4 * ((i 0).val / 4) + t.val), 256], off27_eq i t⟩
theorem off28_eq : ∀ (i : grid0.Coords) (t : Fin (k0_t5_loop i).trips), k0_off28 i t = ![128 * (4 * ((i 0).val / 4) + t.val), 384] := by decide +kernel
instance (i : grid0.Coords) (t : Fin (k0_t5_loop i).trips) : ClosedOff (k0_off28 i t) := ⟨![128 * (4 * ((i 0).val / 4) + t.val), 384], off28_eq i t⟩
theorem off29_eq : ∀ (i : grid0.Coords) (t : Fin (k0_t5_loop i).trips), k0_off29 i t = ![128 * (4 * ((i 0).val / 4) + t.val), 0] := by decide +kernel
instance (i : grid0.Coords) (t : Fin (k0_t5_loop i).trips) : ClosedOff (k0_off29 i t) := ⟨![128 * (4 * ((i 0).val / 4) + t.val), 0], off29_eq i t⟩
theorem off30_eq : ∀ (i : grid0.Coords) (t : Fin (k0_t5_loop i).trips), k0_off30 i t = ![128 * (4 * ((i 0).val / 4) + t.val), 128] := by decide +kernel
instance (i : grid0.Coords) (t : Fin (k0_t5_loop i).trips) : ClosedOff (k0_off30 i t) := ⟨![128 * (4 * ((i 0).val / 4) + t.val), 128], off30_eq i t⟩

/-! The loops' trip counts: the remainder loops make none. -/
theorem trips1 : ∀ i : grid0.Coords, (k0_t1_loop i).trips = (i 0).val / 8 := by decide +kernel
theorem trips2 : ∀ i : grid0.Coords, (k0_t2_loop i).trips = 0 := by decide +kernel
theorem trips3 : ∀ i : grid0.Coords, (k0_t3_loop i).trips = (i 0).val % 8 / 4 := by decide +kernel
theorem trips4 : ∀ i : grid0.Coords, (k0_t4_loop i).trips = 0 := by decide +kernel
theorem trips5 : ∀ i : grid0.Coords, (k0_t5_loop i).trips = (i 0).val % 4 := by decide +kernel
theorem trips6 : ∀ i : grid0.Coords, (k0_t6_loop i).trips = 0 := by decide +kernel

end Cert.KernelIdeal.Hand
-- ==== Proof.Trips.lean ====
/- One trip of each of the kernel's three loops over blocks of keys: run once, the values it carries and the contents it
   leaves in the two VMEM sums (dk and dv) read off the run as functions of what they were before. -/
module

public import proofs.«01_k».proof.Proof.Offsets
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameValue

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- What the loops carry: the running sum of the log-complements, the running sum of `ea`, the two heads' dq. -/
abbrev Car (F : FTy → Type) := FVec F S512x1 .f32 × FVec F S512x1 .f32 × FVec F S128x128 .f32 × FVec F S128x128 .f32

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole) (arg6 : Memref sig .tc .hbm S8192x256 .f32) (harg6 : arg6.IsWhole)
  (arg7 : Memref sig .tc .hbm S8192x256 .f32) (harg7 : arg7.IsWhole) (arg8 : Memref sig .tc .vmem S8192x256 .f32) (harg8 : arg8.IsWhole)
  (arg9 : Memref sig .tc .vmem S8192x256 .f32) (harg9 : arg9.IsWhole) (r0 r1 : DmaSems sig S_)
  (arg0 : BitVec 32) (v5 : IVec S128x128 1) (v15 v19 : FVec F S128x128 .bf16) (v50 v80 : FVec F S512x128 .bf16) (v111 : FVec F S512x1 .f32)

/-- The contents of a sum's buffer. -/
abbrev B8 : Type := Buf (Elt F) (arg8.view.loc (c : Thread nD τ))

/-- The buffers a trip touches: the whole keys and values, the two sums. -/
abbrev TripRes (X2 : Buf (Elt F) (arg2.view.loc (c : Thread nD τ))) (f8 : B8 (F := F) c arg8) (f9 : B8 (F := F) c arg9) : sProp 𝕄 :=
  iprop((arg2.view.loc (c : Thread nD τ) ↦[arg2.view.set]{fullShare} X2) ∗ (arg8.view.loc (c : Thread nD τ) ↦[arg8.view.set]{fullShare} f8) ∗ (arg9.view.loc (c : Thread nD τ) ↦[arg9.view.set]{fullShare} f9))

include harg2 harg8 harg9 in
/-- A trip of the wide loop: eight blocks of keys, `8 t … 8 t + 7`, with what it carries out and what it leaves in the
    two sums as functions of what it found. -/
@[irreducible] def trip1 (v0 : FVec F S512x1 .f32) (w1 w2 w3 w4 : BitVec 32)
    (t : Fin (k0_t1_loop i).trips) (acc : Car F)
    (X2 : Buf (Elt F) (arg2.view.loc (c : Thread nD τ))) (f8 : B8 (F := F) c arg8) (f9 : B8 (F := F) c arg9) :
    Σ' (r : Car F) (g8 : B8 (F := F) c arg8), { g9 : B8 (F := F) c arg9 //
      TripRes c arg2 arg8 arg9 X2 f8 f9 ⊢ wp frame (wpE defs₀ 𝒱₀ (c : Thread nD τ) none) Set.univ
        (k0_t1_body (F := F) i arg1 harg1 arg2 harg2 arg3 harg3 arg4 harg4 arg5 harg5 arg6 harg6 arg7 harg7 arg8 harg8 arg9 harg9 r0 r1 arg0 v5 v15 v19 v50 v80 v111 v0 w1 w2 w3 w4 t acc)
        (fun a => iprop(⌜a = r⌝ ∗ TripRes c arg2 arg8 arg9 X2 g8 g9)) } := by
  refine ⟨?_, ?_, ?_, ?run⟩
  case run =>
    unfold Gen.k0_t1_body
    iintro ⟨H2, H8, H9⟩
    sl_exec
    sl_step
    sl_close

include harg2 harg8 harg9 in
/-- A trip of the middle loop: the four blocks after the wide loop's. -/
@[irreducible] def trip3 (v0 v1 : FVec F S512x1 .f32) (v2 v3 : FVec F S128x128 .f32) (w1 w2 w3 w4 w5 w6 : BitVec 32)
    (t : Fin (k0_t3_loop i).trips) (acc : Car F)
    (X2 : Buf (Elt F) (arg2.view.loc (c : Thread nD τ))) (f8 : B8 (F := F) c arg8) (f9 : B8 (F := F) c arg9) :
    Σ' (r : Car F) (g8 : B8 (F := F) c arg8), { g9 : B8 (F := F) c arg9 //
      TripRes c arg2 arg8 arg9 X2 f8 f9 ⊢ wp frame (wpE defs₀ 𝒱₀ (c : Thread nD τ) none) Set.univ
        (k0_t3_body (F := F) i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc)
        (fun a => iprop(⌜a = r⌝ ∗ TripRes c arg2 arg8 arg9 X2 g8 g9)) } := by
  refine ⟨?_, ?_, ?_, ?run⟩
  case run =>
    unfold Gen.k0_t3_body
    iintro ⟨H2, H8, H9⟩
    sl_exec
    sl_step
    sl_close

include harg2 harg8 harg9 in
/-- A trip of the last loop: one block of keys. -/
@[irreducible] def trip5 (v0 v1 : FVec F S512x1 .f32) (v2 v3 : FVec F S128x128 .f32) (w1 w2 w3 w4 w5 w6 : BitVec 32)
    (t : Fin (k0_t5_loop i).trips) (acc : Car F)
    (X2 : Buf (Elt F) (arg2.view.loc (c : Thread nD τ))) (f8 : B8 (F := F) c arg8) (f9 : B8 (F := F) c arg9) :
    Σ' (r : Car F) (g8 : B8 (F := F) c arg8), { g9 : B8 (F := F) c arg9 //
      TripRes c arg2 arg8 arg9 X2 f8 f9 ⊢ wp frame (wpE defs₀ 𝒱₀ (c : Thread nD τ) none) Set.univ
        (k0_t5_body (F := F) i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc)
        (fun a => iprop(⌜a = r⌝ ∗ TripRes c arg2 arg8 arg9 X2 g8 g9)) } := by
  refine ⟨?_, ?_, ?_, ?run⟩
  case run =>
    unfold Gen.k0_t5_body
    iintro ⟨H2, H8, H9⟩
    sl_exec
    sl_step
    sl_close

end Cert.KernelIdeal.Hand
-- ==== Proof.Trip.lean ====
/- Every trip's results and the two sums it leaves, as one step over its blocks. -/
module

public import proofs.«01_k».proof.Proof.Sweep
public import proofs.«01_k».proof.Proof.Trips

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.KernelIdeal.Sweep

variable {F : FTy → Type} [FloatOps F]

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole) (arg6 : Memref sig .tc .hbm S8192x256 .f32) (harg6 : arg6.IsWhole)
  (arg7 : Memref sig .tc .hbm S8192x256 .f32) (harg7 : arg7.IsWhole) (arg8 : Memref sig .tc .vmem S8192x256 .f32) (harg8 : arg8.IsWhole)
  (arg9 : Memref sig .tc .vmem S8192x256 .f32) (harg9 : arg9.IsWhole) (r0 r1 : DmaSems sig S_)
  (arg0 : BitVec 32) (v5 : IVec S128x128 1) (v15 v19 : FVec F S128x128 .bf16) (v50 v80 : FVec F S512x128 .bf16) (v111 : FVec F S512x1 .f32)

/-- A 128×128 block of the keys and values, at a row and a column. -/
def kvAt (X2 : Buf (Elt F) (arg2.view.loc (c : Thread nD τ))) (off : Fin 2 → ℕ) (inb : ∀ a, off a + S128x128.size a ≤ S8192x512.size a) : FVec F S128x128 .bf16 :=
  shapeCast S128x128 (View.readAt (Elt F) arg2.view (Rect.unit (s := S8192x512) off S128x128.size inb).toLoadRect X2) shapeCasts_S128x128_S128x128

/-- A 128×128 block of a sum with a step's contribution added. -/
def addAt (n : ℕ) (hn : Ok n) (M : Memref sig .tc .vmem S8192x256 .f32) (f : Buf (Elt F) (M.view.loc (c : Thread nD τ)))
    (d : FVec F (Wide n) .bf16) (x : FVec F S512x128 .bf16) (off : Fin (2 * n) → Fin 2 → ℕ) (inb : ∀ m a, off m a + S128x128.size a ≤ S8192x256.size a)
    (m : Fin (2 * n)) : View.Piece (Elt F) S8192x256 .f32 :=
  ⟨Rect.unit (s := S8192x256) (off m) S128x128.size (inb m),
    added n hn d x m (View.readAt (Elt F) M.view (Rect.unit (s := S8192x256) (off m) S128x128.size (inb m)).toLoadRect f)⟩

/-- A sum after a step. -/
def addAll (n : ℕ) (hn : Ok n) (M : Memref sig .tc .vmem S8192x256 .f32) (f : Buf (Elt F) (M.view.loc (c : Thread nD τ)))
    (d : FVec F (Wide n) .bf16) (x : FVec F S512x128 .bf16) (off : Fin (2 * n) → Fin 2 → ℕ) (inb : ∀ m a, off m a + S128x128.size a ≤ S8192x256.size a) :
    Buf (Elt F) (M.view.loc (c : Thread nD τ)) :=
  M.view.writes (Elt F) f (List.ofFn fun m : Fin (2 * n) => addAt c n hn M f d x off inb m.rev)

/-- What a step carries out. -/
def stepCar (n : ℕ) (hn : Ok n) (msk : Option (IVec (Wide n) 1)) (acc : Car F) (K V : Fin (2 * n) → FVec F S128x128 .bf16) : Car F :=
  (through n hn msk v50 acc.1 K n, eaThrough n hn msk v15 v50 v80 v111 acc.1 acc.2.1 K V n,
    dqThrough n hn v5 K (dz n hn msk v15 v19 v50 v80 v111 acc.1 acc.2.1 K V) acc.2.2.1 0 n,
    dqThrough n hn v5 K (dz n hn msk v15 v19 v50 v80 v111 acc.1 acc.2.1 K V) acc.2.2.2 1 n)

/-- The keys and the values of a step of 1, and where it adds to the sums. -/
def keys1 (X2 : Buf (Elt F) (arg2.view.loc (c : Thread nD τ))) (t : Fin (k0_t5_loop i).trips) (m : Fin (2 * 1)) : FVec F S128x128 .bf16 :=
  if m.val % 2 = 0 then kvAt c arg2 X2 (k0_off25 i t) (k0_off25_inb i t) else kvAt c arg2 X2 (k0_off26 i t) (k0_off26_inb i t)
def vals1 (X2 : Buf (Elt F) (arg2.view.loc (c : Thread nD τ))) (t : Fin (k0_t5_loop i).trips) (m : Fin (2 * 1)) : FVec F S128x128 .bf16 :=
  if m.val % 2 = 0 then kvAt c arg2 X2 (k0_off27 i t) (k0_off27_inb i t) else kvAt c arg2 X2 (k0_off28 i t) (k0_off28_inb i t)
def place1 (t : Fin (k0_t5_loop i).trips) (m : Fin (2 * 1)) : Fin 2 → ℕ := if m.val % 2 = 0 then k0_off29 i t else k0_off30 i t
theorem place1_inb (t : Fin (k0_t5_loop i).trips) (m : Fin (2 * 1)) (a : Fin 2) : place1 i t m a + S128x128.size a ≤ S8192x256.size a := by
  unfold place1; split
  · exact k0_off29_inb i t a
  · exact k0_off30_inb i t a

theorem trip5_car (v0 v1 : FVec F S512x1 .f32) (v2 v3 : FVec F S128x128 .f32) (w1 w2 w3 w4 w5 w6 : BitVec 32)
    (t : Fin (k0_t5_loop i).trips) (acc : Car F)
    (X2 : Buf (Elt F) (arg2.view.loc (c : Thread nD τ))) (f8 : B8 (F := F) c arg8) (f9 : B8 (F := F) c arg9) :
    (trip5 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).1
      = stepCar v5 v15 v19 v50 v80 v111 1 (.inl rfl) none acc (keys1 c i arg2 X2 t) (vals1 c i arg2 X2 t) := by
  unfold trip5
  sl_kernel_rfl
theorem trip5_dk (v0 v1 : FVec F S512x1 .f32) (v2 v3 : FVec F S128x128 .f32) (w1 w2 w3 w4 w5 w6 : BitVec 32)
    (t : Fin (k0_t5_loop i).trips) (acc : Car F)
    (X2 : Buf (Elt F) (arg2.view.loc (c : Thread nD τ))) (f8 : B8 (F := F) c arg8) (f9 : B8 (F := F) c arg9) :
    (trip5 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).2.1
      = addAll c 1 (.inl rfl) arg8 f8 (dz 1 (.inl rfl) none v15 v19 v50 v80 v111 acc.1 acc.2.1 (keys1 c i arg2 X2 t) (vals1 c i arg2 X2 t)) v50 (place1 i t) (place1_inb i t) := by
  unfold trip5
  sl_kernel_rfl
theorem trip5_dv (v0 v1 : FVec F S512x1 .f32) (v2 v3 : FVec F S128x128 .f32) (w1 w2 w3 w4 w5 w6 : BitVec 32)
    (t : Fin (k0_t5_loop i).trips) (acc : Car F)
    (X2 : Buf (Elt F) (arg2.view.loc (c : Thread nD τ))) (f8 : B8 (F := F) c arg8) (f9 : B8 (F := F) c arg9) :
    (trip5 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).2.2.1
      = addAll c 1 (.inl rfl) arg9 f9 (wtsN 1 (.inl rfl) none v15 v50 v111 acc.1 (keys1 c i arg2 X2 t)) v80 (place1 i t) (place1_inb i t) := by
  unfold trip5
  sl_kernel_rfl

end Cert.KernelIdeal.Hand
-- ==== Proof.TripWide.lean ====
/- The trips of eight and of four blocks, as one step each. -/
module

public import proofs.«01_k».proof.Proof.Trip

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.KernelIdeal.Sweep

variable {F : FTy → Type} [FloatOps F]

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole) (arg6 : Memref sig .tc .hbm S8192x256 .f32) (harg6 : arg6.IsWhole)
  (arg7 : Memref sig .tc .hbm S8192x256 .f32) (harg7 : arg7.IsWhole) (arg8 : Memref sig .tc .vmem S8192x256 .f32) (harg8 : arg8.IsWhole)
  (arg9 : Memref sig .tc .vmem S8192x256 .f32) (harg9 : arg9.IsWhole) (r0 r1 : DmaSems sig S_)
  (arg0 : BitVec 32) (v5 : IVec S128x128 1) (v15 v19 : FVec F S128x128 .bf16) (v50 v80 : FVec F S512x128 .bf16) (v111 : FVec F S512x1 .f32)

/-- The keys and the values of a step of 4, and where it adds to the sums. -/
def keys4 (X2 : Buf (Elt F) (arg2.view.loc (c : Thread nD τ))) (m : Fin (2 * 4)) : FVec F S128x128 .bf16 :=
  if m.val % 2 = 0 then kvAt c arg2 X2 (k0_off13 i (BitVec.ofNat 32 (m.val / 2))) (k0_off13_inb i ⟨m.val / 2, by have := m.isLt; omega⟩) else kvAt c arg2 X2 (k0_off14 i (BitVec.ofNat 32 (m.val / 2))) (k0_off14_inb i ⟨m.val / 2, by have := m.isLt; omega⟩)
def vals4 (X2 : Buf (Elt F) (arg2.view.loc (c : Thread nD τ))) (m : Fin (2 * 4)) : FVec F S128x128 .bf16 :=
  if m.val % 2 = 0 then kvAt c arg2 X2 (k0_off15 i (BitVec.ofNat 32 (m.val / 2))) (k0_off15_inb i ⟨m.val / 2, by have := m.isLt; omega⟩) else kvAt c arg2 X2 (k0_off16 i (BitVec.ofNat 32 (m.val / 2))) (k0_off16_inb i ⟨m.val / 2, by have := m.isLt; omega⟩)
def place4 (m : Fin (2 * 4)) : Fin 2 → ℕ := if m.val % 2 = 0 then k0_off17 i (BitVec.ofNat 32 (m.val / 2)) else k0_off18 i (BitVec.ofNat 32 (m.val / 2))
theorem place4_inb (m : Fin (2 * 4)) (a : Fin 2) : place4 i m a + S128x128.size a ≤ S8192x256.size a := by
  unfold place4; split
  · exact k0_off17_inb i ⟨m.val / 2, by have := m.isLt; omega⟩ a
  · exact k0_off18_inb i ⟨m.val / 2, by have := m.isLt; omega⟩ a

theorem trip3_car (v0 v1 : FVec F S512x1 .f32) (v2 v3 : FVec F S128x128 .f32) (w1 w2 w3 w4 w5 w6 : BitVec 32)
    (t : Fin (k0_t3_loop i).trips) (acc : Car F)
    (X2 : Buf (Elt F) (arg2.view.loc (c : Thread nD τ))) (f8 : B8 (F := F) c arg8) (f9 : B8 (F := F) c arg9) :
    (trip3 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).1
      = stepCar v5 v15 v19 v50 v80 v111 4 (.inr (.inl rfl)) none acc (keys4 c i arg2 X2) (vals4 c i arg2 X2) := by
  unfold trip3
  sl_kernel_rfl
theorem trip3_dk (v0 v1 : FVec F S512x1 .f32) (v2 v3 : FVec F S128x128 .f32) (w1 w2 w3 w4 w5 w6 : BitVec 32)
    (t : Fin (k0_t3_loop i).trips) (acc : Car F)
    (X2 : Buf (Elt F) (arg2.view.loc (c : Thread nD τ))) (f8 : B8 (F := F) c arg8) (f9 : B8 (F := F) c arg9) :
    (trip3 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).2.1
      = addAll c 4 (.inr (.inl rfl)) arg8 f8 (dz 4 (.inr (.inl rfl)) none v15 v19 v50 v80 v111 acc.1 acc.2.1 (keys4 c i arg2 X2) (vals4 c i arg2 X2)) v50 (place4 i) (place4_inb i) := by
  unfold trip3
  sl_kernel_rfl
theorem trip3_dv (v0 v1 : FVec F S512x1 .f32) (v2 v3 : FVec F S128x128 .f32) (w1 w2 w3 w4 w5 w6 : BitVec 32)
    (t : Fin (k0_t3_loop i).trips) (acc : Car F)
    (X2 : Buf (Elt F) (arg2.view.loc (c : Thread nD τ))) (f8 : B8 (F := F) c arg8) (f9 : B8 (F := F) c arg9) :
    (trip3 𝒱₀ c i arg1 harg1 arg2 harg2 arg3 harg3 arg4 harg4 arg5 harg5 arg6 harg6 arg7 harg7 arg8 harg8 arg9 harg9 r0 r1 arg0 v5 v15 v19 v50 v80 v111 v0 v1 v2 v3 w1 w2 w3 w4 w5 w6 t acc X2 f8 f9).2.2.1
      = addAll c 4 (.inr (.inl rfl)) arg9 f9 (wtsN 4 (.inr (.inl rfl)) none v15 v50 v111 acc.1 (keys4 c i arg2 X2)) v80 (place4 i) (place4_inb i) := by
  unfold trip3
  sl_kernel_rfl

/-- The keys and the values of a step of 8, and where it adds to the sums. -/
def keys8 (X2 : Buf (Elt F) (arg2.view.loc (c : Thread nD τ))) (t : Fin (k0_t1_loop i).trips) (m : Fin (2 * 8)) : FVec F S128x128 .bf16 :=
  if m.val % 2 = 0 then kvAt c arg2 X2 (k0_off1 i t (BitVec.ofNat 32 (m.val / 2))) (k0_off1_inb i t ⟨m.val / 2, by have := m.isLt; omega⟩) else kvAt c arg2 X2 (k0_off2 i t (BitVec.ofNat 32 (m.val / 2))) (k0_off2_inb i t ⟨m.val / 2, by have := m.isLt; omega⟩)
def vals8 (X2 : Buf (Elt F) (arg2.view.loc (c : Thread nD τ))) (t : Fin (k0_t1_loop i).trips) (m : Fin (2 * 8)) : FVec F S128x128 .bf16 :=
  if m.val % 2 = 0 then kvAt c arg2 X2 (k0_off3 i t (BitVec.ofNat 32 (m.val / 2))) (k0_off3_inb i t ⟨m.val / 2, by have := m.isLt; omega⟩) else kvAt c arg2 X2 (k0_off4 i t (BitVec.ofNat 32 (m.val / 2))) (k0_off4_inb i t ⟨m.val / 2, by have := m.isLt; omega⟩)
def place8 (t : Fin (k0_t1_loop i).trips) (m : Fin (2 * 8)) : Fin 2 → ℕ := if m.val % 2 = 0 then k0_off5 i t (BitVec.ofNat 32 (m.val / 2)) else k0_off6 i t (BitVec.ofNat 32 (m.val / 2))
theorem place8_inb (t : Fin (k0_t1_loop i).trips) (m : Fin (2 * 8)) (a : Fin 2) : place8 i t m a + S128x128.size a ≤ S8192x256.size a := by
  unfold place8; split
  · exact k0_off5_inb i t ⟨m.val / 2, by have := m.isLt; omega⟩ a
  · exact k0_off6_inb i t ⟨m.val / 2, by have := m.isLt; omega⟩ a

theorem trip1_car (v0 : FVec F S512x1 .f32) (w1 w2 w3 w4 : BitVec 32)
    (t : Fin (k0_t1_loop i).trips) (acc : Car F)
    (X2 : Buf (Elt F) (arg2.view.loc (c : Thread nD τ))) (f8 : B8 (F := F) c arg8) (f9 : B8 (F := F) c arg9) :
    (trip1 𝒱₀ c i arg1 harg1 arg2 harg2 arg3 harg3 arg4 harg4 arg5 harg5 arg6 harg6 arg7 harg7 arg8 harg8 arg9 harg9 r0 r1 arg0 v5 v15 v19 v50 v80 v111 v0 w1 w2 w3 w4 t acc X2 f8 f9).1
      = stepCar v5 v15 v19 v50 v80 v111 8 (.inr (.inr rfl)) none acc (keys8 c i arg2 X2 t) (vals8 c i arg2 X2 t) := by
  unfold trip1
  sl_kernel_rfl
theorem trip1_dk (v0 : FVec F S512x1 .f32) (w1 w2 w3 w4 : BitVec 32)
    (t : Fin (k0_t1_loop i).trips) (acc : Car F)
    (X2 : Buf (Elt F) (arg2.view.loc (c : Thread nD τ))) (f8 : B8 (F := F) c arg8) (f9 : B8 (F := F) c arg9) :
    (trip1 𝒱₀ c i arg1 harg1 arg2 harg2 arg3 harg3 arg4 harg4 arg5 harg5 arg6 harg6 arg7 harg7 arg8 harg8 arg9 harg9 r0 r1 arg0 v5 v15 v19 v50 v80 v111 v0 w1 w2 w3 w4 t acc X2 f8 f9).2.1
      = addAll c 8 (.inr (.inr rfl)) arg8 f8 (dz 8 (.inr (.inr rfl)) none v15 v19 v50 v80 v111 acc.1 acc.2.1 (keys8 c i arg2 X2 t) (vals8 c i arg2 X2 t)) v50 (place8 i t) (place8_inb i t) := by
  unfold trip1
  sl_kernel_rfl
theorem trip1_dv (v0 : FVec F S512x1 .f32) (w1 w2 w3 w4 : BitVec 32)
    (t : Fin (k0_t1_loop i).trips) (acc : Car F)
    (X2 : Buf (Elt F) (arg2.view.loc (c : Thread nD τ))) (f8 : B8 (F := F) c arg8) (f9 : B8 (F := F) c arg9) :
    (trip1 𝒱₀ c i arg1 harg1 arg2 harg2 arg3 harg3 arg4 harg4 arg5 harg5 arg6 harg6 arg7 harg7 arg8 harg8 arg9 harg9 r0 r1 arg0 v5 v15 v19 v50 v80 v111 v0 w1 w2 w3 w4 t acc X2 f8 f9).2.2.1
      = addAll c 8 (.inr (.inr rfl)) arg9 f9 (wtsN 8 (.inr (.inr rfl)) none v15 v50 v111 acc.1 (keys8 c i arg2 X2 t)) v80 (place8 i t) (place8_inb i t) := by
  unfold trip1
  sl_kernel_rfl

end Cert.KernelIdeal.Hand
-- ==== Proof.Loops.lean ====
/- The kernel's six loops by their invariants. Before trip `k` the two sums hold what the trips before `k` left, and the
   carried values are theirs (`st1`, `st3`, `st5`); the three remainder loops have no trips. -/
module

public import proofs.«01_k».proof.Proof.Trips
public import proofs.«01_k».proof.Proof.Gen.KernelIdeal.Loops

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole) (arg6 : Memref sig .tc .hbm S8192x256 .f32) (harg6 : arg6.IsWhole)
  (arg7 : Memref sig .tc .hbm S8192x256 .f32) (harg7 : arg7.IsWhole) (arg8 : Memref sig .tc .vmem S8192x256 .f32) (harg8 : arg8.IsWhole)
  (arg9 : Memref sig .tc .vmem S8192x256 .f32) (harg9 : arg9.IsWhole) (r0 r1 : DmaSems sig S_)
  (arg0 : BitVec 32) (v5 : IVec S128x128 1) (v15 v19 : FVec F S128x128 .bf16) (v50 v80 : FVec F S512x128 .bf16) (v111 : FVec F S512x1 .f32)

/-- What loop 1's trips before `k` carry out and leave in the two sums. -/
def st1 (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) : ℕ → Car F × B8 (F := F) c arg8 × B8 (F := F) c arg9
  | 0 => (init, f8, f9)
  | k + 1 =>
    let p := st1 u0 u1 u2 u3 u4 init X2 f8 f9 k
    if h : k < (k0_t1_loop i).trips then
      let q := trip1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 ⟨k, h⟩ p.1 X2 p.2.1 p.2.2
      (q.1, q.2.1, q.2.2.1)
    else p

/-- The two sums before trip `k` of loop 1. -/
def sumDk1 (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) : ℕ → B8 (F := F) c arg8
  | 0 => f8
  | k + 1 => (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 (k + 1)).2.1
def sumDv1 (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) : ℕ → B8 (F := F) c arg9
  | 0 => f9
  | k + 1 => (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 (k + 1)).2.2
theorem sumDk1_eq (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) (k : ℕ) : sumDk1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k = (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.1 := by
  cases k <;> rfl
theorem sumDv1_eq (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) (k : ℕ) : sumDv1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k = (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.2 := by
  cases k <;> rfl

set_option warn.classDefReducibility false in
/-- Loop 1's invariant. -/
@[sl_loop] def loopInv1 (u0 : FVec F S512x1 .f32) (u1 : BitVec 32) (u2 : BitVec 32) (u3 : BitVec 32) (u4 : BitVec 32) (init : Car F) (X2 : Buf (Elt F) (arg2.view.loc (c : Thread nD τ))) (f8 : B8 (F := F) c arg8) (f9 : B8 (F := F) c arg9) :
    Gen.LoopInvTy_k0_t1 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 init where
  inv k acc := iprop(⌜acc = (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).1⌝ ∗ (arg2.view.loc (c : Thread nD τ) ↦[arg2.view.set]{fullShare} X2)
    ∗ (arg8.view.loc (c : Thread nD τ) ↦[arg8.view.set]{fullShare} sumDk1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k)
    ∗ (arg9.view.loc (c : Thread nD τ) ↦[arg9.view.set]{fullShare} sumDv1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k))
  step k acc := by
    have e : st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 (k.val + 1)
        = ((trip1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 k (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).1 X2 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.1 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.2).1,
          (trip1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 k (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).1 X2 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.1 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.2).2.1,
          (trip1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 k (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).1 X2 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.1 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.2).2.2.1) := by
      rw [st1]; exact dif_pos k.isLt
    simp only [sumDk1_eq, sumDv1_eq]
    rw [e]
    iintro ⟨%ha, H⟩
    subst ha
    iapply (wp_wand_r Idealize.ShloMosaic.frame (wpE (defs₀ (F := F)) 𝒱₀ (c : Thread nD τ) none) Set.univ)
    isplitl [H]
    · iapply (trip1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 k (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).1 X2 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.1 (st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k).2.2).2.2.2; iexact H
    · iintro %r H'
      iexact H'

set_option warn.classDefReducibility false in
/-- Loop 2 has no trips: it carries out what it is given. -/
@[sl_loop] def loopInv2 (u0 : FVec F S512x1 .f32) (u1 : BitVec 32) (u2 : BitVec 32) (u3 : BitVec 32) (u4 : BitVec 32) (u5 : BitVec 32) (init : Car F) :
    Gen.LoopInvTy_k0_t2 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 u5 init where
  inv _ acc := iprop(⌜acc = init⌝)
  step k _ := (Nat.not_lt_zero _ (Nat.lt_of_lt_of_eq k.isLt (trips2 i))).elim

/-- What loop 3's trips before `k` carry out and leave in the two sums. -/
def st3 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → Car F × B8 (F := F) c arg8 × B8 (F := F) c arg9
  | 0 => (init, f8, f9)
  | k + 1 =>
    let p := st3 u0 u1 u2 u3 u4 u5 u6 u7 u8 u9 init X2 f8 f9 k
    if h : k < (k0_t3_loop i).trips then
      let q := trip3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ p.1 X2 p.2.1 p.2.2
      (q.1, q.2.1, q.2.2.1)
    else p

/-- The two sums before trip `k` of loop 3. -/
def sumDk3 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → B8 (F := F) c arg8
  | 0 => f8
  | k + 1 => (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k + 1)).2.1
def sumDv3 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → B8 (F := F) c arg9
  | 0 => f9
  | k + 1 => (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k + 1)).2.2
theorem sumDk3_eq (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) (k : ℕ) : sumDk3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 := by
  cases k <;> rfl
theorem sumDv3_eq (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) (k : ℕ) : sumDv3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2 := by
  cases k <;> rfl

set_option warn.classDefReducibility false in
/-- Loop 3's invariant. -/
@[sl_loop] def loopInv3 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) :
    Gen.LoopInvTy_k0_t3 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init where
  inv k acc := iprop(⌜acc = (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1⌝ ∗ (arg2.view.loc (c : Thread nD τ) ↦[arg2.view.set]{fullShare} X2)
    ∗ (arg8.view.loc (c : Thread nD τ) ↦[arg8.view.set]{fullShare} sumDk3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k)
    ∗ (arg9.view.loc (c : Thread nD τ) ↦[arg9.view.set]{fullShare} sumDv3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k))
  step k acc := by
    have e : st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k.val + 1)
        = ((trip3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).1,
          (trip3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.1,
          (trip3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.2.1) := by
      rw [st3]; exact dif_pos k.isLt
    simp only [sumDk3_eq, sumDv3_eq]
    rw [e]
    iintro ⟨%ha, H⟩
    subst ha
    iapply (wp_wand_r Idealize.ShloMosaic.frame (wpE (defs₀ (F := F)) 𝒱₀ (c : Thread nD τ) none) Set.univ)
    isplitl [H]
    · iapply (trip3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.2.2; iexact H
    · iintro %r H'
      iexact H'

set_option warn.classDefReducibility false in
/-- Loop 4 has no trips: it carries out what it is given. -/
@[sl_loop] def loopInv4 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (u10 : BitVec 32) (init : Car F) :
    Gen.LoopInvTy_k0_t4 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 u10 init where
  inv _ acc := iprop(⌜acc = init⌝)
  step k _ := (Nat.not_lt_zero _ (Nat.lt_of_lt_of_eq k.isLt (trips4 i))).elim

/-- What loop 5's trips before `k` carry out and leave in the two sums. -/
def st5 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → Car F × B8 (F := F) c arg8 × B8 (F := F) c arg9
  | 0 => (init, f8, f9)
  | k + 1 =>
    let p := st5 u0 u1 u2 u3 u4 u5 u6 u7 u8 u9 init X2 f8 f9 k
    if h : k < (k0_t5_loop i).trips then
      let q := trip5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ p.1 X2 p.2.1 p.2.2
      (q.1, q.2.1, q.2.2.1)
    else p

/-- The two sums before trip `k` of loop 5. -/
def sumDk5 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → B8 (F := F) c arg8
  | 0 => f8
  | k + 1 => (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k + 1)).2.1
def sumDv5 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) : ℕ → B8 (F := F) c arg9
  | 0 => f9
  | k + 1 => (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k + 1)).2.2
theorem sumDk5_eq (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) (k : ℕ) : sumDk5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 := by
  cases k <;> rfl
theorem sumDv5_eq (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) (k : ℕ) : sumDv5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2 := by
  cases k <;> rfl

set_option warn.classDefReducibility false in
/-- Loop 5's invariant. -/
@[sl_loop] def loopInv5 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (init : Car F) (X2 : Buf (Elt F) (arg2.view.loc (c : Thread nD τ))) (f8 : B8 (F := F) c arg8) (f9 : B8 (F := F) c arg9) :
    Gen.LoopInvTy_k0_t5 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init where
  inv k acc := iprop(⌜acc = (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1⌝ ∗ (arg2.view.loc (c : Thread nD τ) ↦[arg2.view.set]{fullShare} X2)
    ∗ (arg8.view.loc (c : Thread nD τ) ↦[arg8.view.set]{fullShare} sumDk5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k)
    ∗ (arg9.view.loc (c : Thread nD τ) ↦[arg9.view.set]{fullShare} sumDv5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k))
  step k acc := by
    have e : st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 (k.val + 1)
        = ((trip5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).1,
          (trip5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.1,
          (trip5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.2.1) := by
      rw [st5]; exact dif_pos k.isLt
    simp only [sumDk5_eq, sumDv5_eq]
    rw [e]
    iintro ⟨%ha, H⟩
    subst ha
    iapply (wp_wand_r Idealize.ShloMosaic.frame (wpE (defs₀ (F := F)) 𝒱₀ (c : Thread nD τ) none) Set.univ)
    isplitl [H]
    · iapply (trip5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 k (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).1 X2 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.1 (st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k).2.2).2.2.2; iexact H
    · iintro %r H'
      iexact H'

set_option warn.classDefReducibility false in
/-- Loop 6 has no trips: it carries out what it is given. -/
@[sl_loop] def loopInv6 (u0 : FVec F S512x1 .f32) (u1 : FVec F S512x1 .f32) (u2 : FVec F S128x128 .f32) (u3 : FVec F S128x128 .f32) (u4 : BitVec 32) (u5 : BitVec 32) (u6 : BitVec 32) (u7 : BitVec 32) (u8 : BitVec 32) (u9 : BitVec 32) (u10 : BitVec 32) (init : Car F) :
    Gen.LoopInvTy_k0_t6 (F := F) Unit ℕ (Pipeline.UD sig nD τ) ℕ 𝒱₀ c none Set.univ i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 u10 init where
  inv _ acc := iprop(⌜acc = init⌝)
  step k _ := (Nat.not_lt_zero _ (Nat.lt_of_lt_of_eq k.isLt (trips6 i))).elim

end Cert.KernelIdeal.Hand
-- ==== Proof.Steps.lean ====
/- A point's sweep over the blocks of keys before its own as a chain of steps, read off the loops. -/
module

public import proofs.«01_k».proof.Proof.TripWide
public import proofs.«01_k».proof.Proof.Loops

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.KernelIdeal.Sweep

variable {F : FTy → Type} [FloatOps F]

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole) (arg6 : Memref sig .tc .hbm S8192x256 .f32) (harg6 : arg6.IsWhole)
  (arg7 : Memref sig .tc .hbm S8192x256 .f32) (harg7 : arg7.IsWhole) (arg8 : Memref sig .tc .vmem S8192x256 .f32) (harg8 : arg8.IsWhole)
  (arg9 : Memref sig .tc .vmem S8192x256 .f32) (harg9 : arg9.IsWhole) (r0 r1 : DmaSems sig S_)
  (arg0 : BitVec 32) (v5 : IVec S128x128 1) (v15 v19 : FVec F S128x128 .bf16) (v50 v80 : FVec F S512x128 .bf16) (v111 : FVec F S512x1 .f32)

/-- What the loops carry and the two sums. -/
abbrev St : Type := Car F × B8 (F := F) c arg8 × B8 (F := F) c arg9

/-- A step. -/
def stepSt (n : ℕ) (hn : Ok n) (msk : Option (IVec (Wide n) 1)) (K V : Fin (2 * n) → FVec F S128x128 .bf16)
    (off : Fin (2 * n) → Fin 2 → ℕ) (inb : ∀ m a, off m a + S128x128.size a ≤ S8192x256.size a) (s : St (F := F) c arg8 arg9) : St (F := F) c arg8 arg9 :=
  (stepCar v5 v15 v19 v50 v80 v111 n hn msk s.1 K V,
    addAll c n hn arg8 s.2.1 (dz n hn msk v15 v19 v50 v80 v111 s.1.1 s.1.2.1 K V) v50 off inb,
    addAll c n hn arg9 s.2.2 (wtsN n hn msk v15 v50 v111 s.1.1 K) v80 off inb)

/-- The first `k` steps of 8. -/
def run8 (X2 : Buf (Elt F) (arg2.view.loc (c : Thread nD τ))) (s : St (F := F) c arg8 arg9) : ℕ → St (F := F) c arg8 arg9
  | 0 => s
  | k + 1 => if h : k < (k0_t1_loop i).trips then
      stepSt c arg8 arg9 v5 v15 v19 v50 v80 v111 8 (.inr (.inr rfl)) none (keys8 c i arg2 X2 ⟨k, h⟩) (vals8 c i arg2 X2 ⟨k, h⟩) (place8 i ⟨k, h⟩) (place8_inb i ⟨k, h⟩) (run8 X2 s k)
    else run8 X2 s k

theorem st1_eq (u0 : FVec F S512x1 .f32) (u1 u2 u3 u4 : BitVec 32) (init : Car F) (X2 : Buf (Elt F) (arg2.view.loc (c : Thread nD τ))) (f8 : B8 (F := F) c arg8) (f9 : B8 (F := F) c arg9) (k : ℕ) :
    st1 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 init X2 f8 f9 k = run8 c i arg2 arg8 arg9 v5 v15 v19 v50 v80 v111 X2 (init, f8, f9) k := by
  induction k with
  | zero => rfl
  | succ k ih =>
    simp only [st1, run8]
    split <;> rename_i h
    · rw [ih]
      have e1 := trip1_car 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 ⟨k, h⟩ (run8 c i arg2 arg8 arg9 v5 v15 v19 v50 v80 v111 X2 (init, f8, f9) k).1 X2 (run8 c i arg2 arg8 arg9 v5 v15 v19 v50 v80 v111 X2 (init, f8, f9) k).2.1 (run8 c i arg2 arg8 arg9 v5 v15 v19 v50 v80 v111 X2 (init, f8, f9) k).2.2
      have e2 := trip1_dk 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 ⟨k, h⟩ (run8 c i arg2 arg8 arg9 v5 v15 v19 v50 v80 v111 X2 (init, f8, f9) k).1 X2 (run8 c i arg2 arg8 arg9 v5 v15 v19 v50 v80 v111 X2 (init, f8, f9) k).2.1 (run8 c i arg2 arg8 arg9 v5 v15 v19 v50 v80 v111 X2 (init, f8, f9) k).2.2
      have e3 := trip1_dv 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 ⟨k, h⟩ (run8 c i arg2 arg8 arg9 v5 v15 v19 v50 v80 v111 X2 (init, f8, f9) k).1 X2 (run8 c i arg2 arg8 arg9 v5 v15 v19 v50 v80 v111 X2 (init, f8, f9) k).2.1 (run8 c i arg2 arg8 arg9 v5 v15 v19 v50 v80 v111 X2 (init, f8, f9) k).2.2
      exact congr (congrArg Prod.mk e1) (congr (congrArg Prod.mk e2) e3)
    · exact ih

/-- The first `k` steps of 4. -/
def run4 (X2 : Buf (Elt F) (arg2.view.loc (c : Thread nD τ))) (s : St (F := F) c arg8 arg9) : ℕ → St (F := F) c arg8 arg9
  | 0 => s
  | k + 1 => if h : k < (k0_t3_loop i).trips then
      stepSt c arg8 arg9 v5 v15 v19 v50 v80 v111 4 (.inr (.inl rfl)) none (keys4 c i arg2 X2) (vals4 c i arg2 X2) (place4 i) (place4_inb i) (run4 X2 s k)
    else run4 X2 s k

theorem st3_eq (u0 u1 : FVec F S512x1 .f32) (u2 u3 : FVec F S128x128 .f32) (u4 u5 u6 u7 u8 u9 : BitVec 32) (init : Car F) (X2 : Buf (Elt F) (arg2.view.loc (c : Thread nD τ))) (f8 : B8 (F := F) c arg8) (f9 : B8 (F := F) c arg9) (k : ℕ) :
    st3 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = run4 c i arg2 arg8 arg9 v5 v15 v19 v50 v80 v111 X2 (init, f8, f9) k := by
  induction k with
  | zero => rfl
  | succ k ih =>
    simp only [st3, run4]
    split <;> rename_i h
    · rw [ih]
      have e1 := trip3_car 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run4 c i arg2 arg8 arg9 v5 v15 v19 v50 v80 v111 X2 (init, f8, f9) k).1 X2 (run4 c i arg2 arg8 arg9 v5 v15 v19 v50 v80 v111 X2 (init, f8, f9) k).2.1 (run4 c i arg2 arg8 arg9 v5 v15 v19 v50 v80 v111 X2 (init, f8, f9) k).2.2
      have e2 := trip3_dk 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run4 c i arg2 arg8 arg9 v5 v15 v19 v50 v80 v111 X2 (init, f8, f9) k).1 X2 (run4 c i arg2 arg8 arg9 v5 v15 v19 v50 v80 v111 X2 (init, f8, f9) k).2.1 (run4 c i arg2 arg8 arg9 v5 v15 v19 v50 v80 v111 X2 (init, f8, f9) k).2.2
      have e3 := trip3_dv 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run4 c i arg2 arg8 arg9 v5 v15 v19 v50 v80 v111 X2 (init, f8, f9) k).1 X2 (run4 c i arg2 arg8 arg9 v5 v15 v19 v50 v80 v111 X2 (init, f8, f9) k).2.1 (run4 c i arg2 arg8 arg9 v5 v15 v19 v50 v80 v111 X2 (init, f8, f9) k).2.2
      exact congr (congrArg Prod.mk e1) (congr (congrArg Prod.mk e2) e3)
    · exact ih

/-- The first `k` steps of 1. -/
def run1 (X2 : Buf (Elt F) (arg2.view.loc (c : Thread nD τ))) (s : St (F := F) c arg8 arg9) : ℕ → St (F := F) c arg8 arg9
  | 0 => s
  | k + 1 => if h : k < (k0_t5_loop i).trips then
      stepSt c arg8 arg9 v5 v15 v19 v50 v80 v111 1 (.inl rfl) none (keys1 c i arg2 X2 ⟨k, h⟩) (vals1 c i arg2 X2 ⟨k, h⟩) (place1 i ⟨k, h⟩) (place1_inb i ⟨k, h⟩) (run1 X2 s k)
    else run1 X2 s k

theorem st5_eq (u0 u1 : FVec F S512x1 .f32) (u2 u3 : FVec F S128x128 .f32) (u4 u5 u6 u7 u8 u9 : BitVec 32) (init : Car F) (X2 : Buf (Elt F) (arg2.view.loc (c : Thread nD τ))) (f8 : B8 (F := F) c arg8) (f9 : B8 (F := F) c arg9) (k : ℕ) :
    st5 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 init X2 f8 f9 k = run1 c i arg2 arg8 arg9 v5 v15 v19 v50 v80 v111 X2 (init, f8, f9) k := by
  induction k with
  | zero => rfl
  | succ k ih =>
    simp only [st5, run1]
    split <;> rename_i h
    · rw [ih]
      have e1 := trip5_car 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run1 c i arg2 arg8 arg9 v5 v15 v19 v50 v80 v111 X2 (init, f8, f9) k).1 X2 (run1 c i arg2 arg8 arg9 v5 v15 v19 v50 v80 v111 X2 (init, f8, f9) k).2.1 (run1 c i arg2 arg8 arg9 v5 v15 v19 v50 v80 v111 X2 (init, f8, f9) k).2.2
      have e2 := trip5_dk 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run1 c i arg2 arg8 arg9 v5 v15 v19 v50 v80 v111 X2 (init, f8, f9) k).1 X2 (run1 c i arg2 arg8 arg9 v5 v15 v19 v50 v80 v111 X2 (init, f8, f9) k).2.1 (run1 c i arg2 arg8 arg9 v5 v15 v19 v50 v80 v111 X2 (init, f8, f9) k).2.2
      have e3 := trip5_dv 𝒱₀ c i arg1 harg1 arg2 harg2 arg3 harg3 arg4 harg4 arg5 harg5 arg6 harg6 arg7 harg7 arg8 harg8 arg9 harg9 r0 r1 arg0 v5 v15 v19 v50 v80 v111 u0 u1 u2 u3 u4 u5 u6 u7 u8 u9 ⟨k, h⟩ (run1 c i arg2 arg8 arg9 v5 v15 v19 v50 v80 v111 X2 (init, f8, f9) k).1 X2 (run1 c i arg2 arg8 arg9 v5 v15 v19 v50 v80 v111 X2 (init, f8, f9) k).2.1 (run1 c i arg2 arg8 arg9 v5 v15 v19 v50 v80 v111 X2 (init, f8, f9) k).2.2
      exact congr (congrArg Prod.mk e1) (congr (congrArg Prod.mk e2) e3)
    · exact ih

end Cert.KernelIdeal.Hand
-- ==== Proof.Prologue.lean ====
/- The body's first part: at the first point the two sums are set to zero, elsewhere they are left as they were; then the
   pair's queries are loaded. -/
module

public import proofs.«01_k».proof.Proof.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- The two sums and the two results the body copies itself. -/
abbrev dkM : Memref sig .tc .vmem S8192x256 .f32 := Memref.whole cc0_scratch0
abbrev dvM : Memref sig .tc .vmem S8192x256 .f32 := Memref.whole cc0_scratch1
abbrev dkR : Memref sig .tc .hbm S8192x256 .f32 := Memref.whole main_v22_1
abbrev dvR : Memref sig .tc .hbm S8192x256 .f32 := Memref.whole main_v22_2

/-- A memref's buffer, held whole. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦[M.view.set]{fullShare} f

/-- The first point's condition, and the last's, as the program spells them. -/
theorem cond_first : ∀ i : grid0.Coords, (i 0).val = 0 → Scalar.cmpi .ne (Scalar.extui (Scalar.cmpi .eq (BitVec.ofNat 32 (i 0).val) 0#32) : BitVec 32) 0#32 = 1#1 := by decide +kernel
theorem cond_not_first : ∀ i : grid0.Coords, (i 0).val ≠ 0 → ¬ Scalar.cmpi .ne (Scalar.extui (Scalar.cmpi .eq (BitVec.ofNat 32 (i 0).val) 0#32) : BitVec 32) 0#32 = 1#1 := by decide +kernel
theorem cond_last : ∀ i : grid0.Coords, (i 0).val = 63 → Scalar.cmpi .ne (Scalar.extui (Scalar.cmpi .eq (BitVec.ofNat 32 (i 0).val) 63#32) : BitVec 32) 0#32 = 1#1 := by decide +kernel
theorem cond_not_last : ∀ i : grid0.Coords, (i 0).val ≠ 63 → ¬ Scalar.cmpi .ne (Scalar.extui (Scalar.cmpi .eq (BitVec.ofNat 32 (i 0).val) 63#32) : BitVec 32) 0#32 = 1#1 := by decide +kernel

/-- A sum at zero. -/
def zeroDk (c : Dev nD) : BufOf (F := F) c dkM := dkM.view.writes (Elt F) dkM.view.junk [⟨Rect.unit (s := S8192x256) ![0, 0] S8192x256.size inb_S8192x256_S8192x256_0_0, k0_pay415 (F := F)⟩]
def zeroDv (c : Dev nD) : BufOf (F := F) c dvM := dvM.view.writes (Elt F) dvM.view.junk [⟨Rect.unit (s := S8192x256) ![0, 0] S8192x256.size inb_S8192x256_S8192x256_0_0, k0_pay416 (F := F)⟩]

/-- What a point's sweep starts from, of what the buffers held: zero at the first point. -/
def start8 (c : Dev nD) (i : grid0.Coords) (q8 : BufOf (F := F) c dkM) : BufOf (F := F) c dkM := if (i 0).val = 0 then zeroDk c else q8
def start9 (c : Dev nD) (i : grid0.Coords) (q9 : BufOf (F := F) c dvM) : BufOf (F := F) c dvM := if (i 0).val = 0 then zeroDv c else q9

section
variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole)

/-- The type of what the first part hands on. -/
abbrev R53 (F : FTy → Type) := Σ' (arg0 : BitVec 32) (v5 : IVec S128x128 1) (v15 : FVec F S128x128 .bf16) (v19 : FVec F S128x128 .bf16) (v20 : IVec S512x128 1) (v23 : IVec S128x128 1) (v25 : IVec S128x128 1) (v31 : FVec F S128x128 .bf16) (v37 : FVec F S128x128 .bf16) (v38 : Vec F S128x128 .f32), FVec F S128x128 .f32

/-- The first part's run, at every point. -/
def p53 (X1 : BufOf (F := F) c arg1) :
    { r : R53 F // ∀ (q8 : BufOf (F := F) c dkM) (q9 : BufOf (F := F) c dvM),
      iprop(held c arg1 X1 ∗ held c dkM q8 ∗ held c dvM q9) ⊢ wp frame (wpE defs₀ 𝒱₀ (c : Thread nD τ) none) Set.univ
        (k0_part53 (F := F) i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1)
        (fun a => iprop(⌜a = r⌝ ∗ held c arg1 X1 ∗ held c dkM (start8 c i q8) ∗ held c dvM (start9 c i q9))) } := by
  refine ⟨?_, fun q8 q9 => ?run⟩
  case run =>
    rw [k0_part53_eq_skeleton]; unfold k0_part53_skel
    by_cases h : (i 0).val = 0
    · have hc := cond_first i h
      rw [show start8 c i q8 = zeroDk c from if_pos h, show start9 c i q9 = zeroDv c from if_pos h]
      iintro ⟨H1, H8, H9⟩
      sl_exec! (disch := sl_exact hc)
      sl_step
      unfold zeroDk zeroDv
      sl_close
    · have hc := cond_not_first i h
      rw [show start8 c i q8 = q8 from if_neg h, show start9 c i q9 = q9 from if_neg h]
      iintro ⟨H1, H8, H9⟩
      sl_exec (disch := sl_exact hc)
      sl_step
      sl_close
end

end Cert.KernelIdeal.Hand
-- ==== Proof.Body.lean ====
/- The kernel's body at a point: what it leaves in the point's dq block and in the two sums, as functions of what its
   operands and the sums held; at the last point the sums are copied out. -/
module

public import proofs.«01_k».proof.Proof.Prologue

@[expose] public section

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole)

/-- The body on given staging memrefs. -/
abbrev bodyOn : Prog (TpuEff nD τ sig (Elt F) Λ₀ .tc) PUnit :=
  cc0_dsb (F := F) i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1

/-- The four operands, at their contents. -/
abbrev ins (X1 : BufOf (F := F) c arg1) (X2 : BufOf (F := F) c arg2) (X3 : BufOf (F := F) c arg3) (X4 : BufOf (F := F) c arg4) : sProp 𝕄 :=
  iprop(held c arg1 X1 ∗ held c arg2 X2 ∗ held c arg3 X3 ∗ held c arg4 X4)

/-- The body's end: at the last point the two sums are copied to the results. -/
def lastIf : Prog (TpuEff nD τ sig (Elt F) Λ₀ .tc) PUnit := do
  let v320 : BitVec 1 := Scalar.cmpi .eq (BitVec.ofNat 32 (i 0).val) 63#32
  let v321 : BitVec 32 := Scalar.extui v320
  let v322 : BitVec 1 := Scalar.cmpi .ne v321 0#32
  if k0_h2 : v322 = 1#1 then do
    Prog.lift (.enqueueDma dkM (.here dkR) (.dma cc0_scoped0.sem) (Memref.isWhole_whole _).wordExact (Memref.isWhole_whole _).wordExact ⟨Or.inl rfl, trivial⟩)
    Prog.lift (.waitDma2 cc0_scoped0.sem dkM dkR (Memref.isWhole_whole _).wordExact (Memref.isWhole_whole _).wordExact)
    Prog.lift (.enqueueDma dvM (.here dvR) (.dma cc0_scoped1.sem) (Memref.isWhole_whole _).wordExact (Memref.isWhole_whole _).wordExact ⟨Or.inl rfl, trivial⟩)
    Prog.lift (.waitDma2 cc0_scoped1.sem dvM dvR (Memref.isWhole_whole _).wordExact (Memref.isWhole_whole _).wordExact)
    pure ⟨⟩
  else do
    pure ⟨⟩
  pure ⟨⟩

/-- Before the last point the end does nothing. -/
theorem lastIf_mid (h : (i 0).val ≠ 63) (P : sProp 𝕄) :
    P ⊢ wp frame (wpE defs₀ 𝒱₀ (c : Thread nD τ) none) Set.univ (lastIf (F := F) i) (fun _ => P) := by
  have hc := cond_not_last i h
  unfold lastIf
  iintro HP
  sl_exec (disch := sl_exact hc)
  sl_step
  iexact HP

/-- A buffer written whole holds what was written. -/
theorem copied_whole (c : Dev nD) (b : Ref sig .tc) (f w g : b.ty.Contents (Elt F)) (h : w = g) :
    (((Memref.whole b).view.loc (c : Thread nD τ) ↦[(Memref.whole b).view.set]{fullShare} (Memref.whole b).view.writes (Elt F) f [⟨Rect.whole _, w⟩]) : sProp 𝕄)
      ⊢ (Memref.whole b).view.loc (c : Thread nD τ) ↦[(Memref.whole b).view.set]{fullShare} g := by
  subst h
  rw [show (Memref.whole b).view.writes (Elt F) f [⟨Rect.whole _, w⟩] = w from
    (View.write_univ_eq_writes_whole (View.whole b) f [] w).symm.trans (View.write_whole_univ b f w)]

/-- At the last point the end copies the sums. -/
theorem lastIf_last (h : (i 0).val = 63) (g8 : BufOf (F := F) c dkM) (g9 : BufOf (F := F) c dvM)
    (f6 : BufOf (F := F) c dkR) (f7 : BufOf (F := F) c dvR) (W : Waits sig Unit) :
    iprop(held c dkM g8 ∗ held c dvM g9 ∗ held c dkR f6 ∗ held c dvR f7
      ∗ semVal ((c : Thread nD τ), SemLoc.dma 9) 0 ∗ semVal ((c : Thread nD τ), SemLoc.dma 10) 0 ∗ owes (c : Thread nD τ) 0 W)
    ⊢ wp frame (wpE defs₀ 𝒱₀ (c : Thread nD τ) none) Set.univ (lastIf (F := F) i) (fun _ =>
      iprop(held c dkM g8 ∗ held c dvM g9 ∗ held c dkR (fun j => g8 j) ∗ held c dvR (fun j => g9 j)
        ∗ semVal ((c : Thread nD τ), SemLoc.dma 9) 0 ∗ semVal ((c : Thread nD τ), SemLoc.dma 10) 0 ∗ (∃ W', owes (c : Thread nD τ) 0 W'))) := by
  have hc := cond_last i h
  unfold lastIf
  iintro ⟨H8, H9, H6, H7, Hs9, Hs10, HW⟩
  sl_exec (disch := sl_exact hc)
  sl_step
  isplitl [H8]; · iexact H8
  isplitl [H9]; · iexact H9
  isplitl [H6]; · iapply (copied_whole c main_v22_1 f6 _ g8 rfl); iexact H6
  isplitl [H7]; · iapply (copied_whole c main_v22_2 f7 _ g9 rfl); iexact H7
  isplitl [Hs9]; · iexact Hs9
  isplitl [Hs10]; · iexact Hs10
  iexists _; iexact HW

/-- The body's run up to its end. The pieces written into dq's block and the sums' contents are found by the run. -/
@[irreducible] def bodyRun (X1 : BufOf (F := F) c arg1) (X2 : BufOf (F := F) c arg2) (X3 : BufOf (F := F) c arg3) (X4 : BufOf (F := F) c arg4)
    (f8 : BufOf (F := F) c dkM) (f9 : BufOf (F := F) c dvM) :
    Σ' (L5 : List (View.Piece (Elt F) S128x256 .bf16)) (g8 : BufOf (F := F) c dkM), { g9 : BufOf (F := F) c dvM //
      ∀ (q8 : BufOf (F := F) c dkM) (q9 : BufOf (F := F) c dvM) (f5 : BufOf (F := F) c arg5) (K : PUnit → sProp 𝕄),
        start8 c i q8 = f8 → start9 c i q9 = f9 →
        (iprop(ins c arg1 arg2 arg3 arg4 X1 X2 X3 X4 ∗ held c arg5 f5 ∗ held c dkM q8 ∗ held c dvM q9
            ∗ (iprop(ins c arg1 arg2 arg3 arg4 X1 X2 X3 X4 ∗ held c arg5 (arg5.view.writes (Elt F) f5 L5) ∗ held c dkM g8 ∗ held c dvM g9)
              -∗ wp frame (wpE defs₀ 𝒱₀ (c : Thread nD τ) none) Set.univ (lastIf (F := F) i) K))
          ⊢ wp frame (wpE defs₀ 𝒱₀ (c : Thread nD τ) none) Set.univ (bodyOn (F := F) i arg1 harg1 arg2 harg2 arg3 harg3 arg4 harg4 arg5 harg5) K) } := by
  refine ⟨?_, ?_, ?_, fun q8 q9 f5 K e8 e9 => ?run⟩
  case run =>
    unfold bodyOn; rw [cc0_dsb_eq_skeleton]; unfold cc0_dsb_skel
    rw [wp_bind]
    iintro ⟨⟨H1, H2, H3, H4⟩, H5, H8, H9, Hk⟩
    iapply (wp_wand_r Idealize.ShloMosaic.frame (wpE (defs₀ (F := F)) 𝒱₀ (c : Thread nD τ) none) Set.univ)
    isplitl [H1 H8 H9]
    · iapply ((p53 𝒱₀ c i arg1 harg1 arg2 harg2 arg3 harg3 arg4 harg4 arg5 harg5 X1).2 q8 q9)
      isplitl [H1]; · iexact H1
      isplitl [H8]; · iexact H8
      iexact H9
    rw [e8, e9]
    iintro %r ⟨%hr, H1, H8, H9⟩
    subst hr
    unfold p53
    dsimp only
    sl_exec
    iapply Hk
    sl_close

end Cert.KernelIdeal.Hand
-- ==== Proof.BodyStep.lean ====
/- A point's body as a chain of steps: the sweep over the blocks before the point's own, then the masked step on its own. -/
module

public import proofs.«01_k».proof.Proof.Steps
public import proofs.«01_k».proof.Proof.Body

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.KernelIdeal.Sweep

variable {F : FTy → Type} [FloatOps F]

variable (𝒱₀ : Variants) (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .f32) (harg3 : arg3.IsWhole) (arg4 : Memref sig .tc .vmem S128x128 .f32) (harg4 : arg4.IsWhole)
  (arg5 : Memref sig .tc .vmem S128x256 .bf16) (harg5 : arg5.IsWhole)

/-- A pair's 128 columns of a point's block. -/
def left (M : Memref sig .tc .vmem S128x256 .f32) (X : BufOf (F := F) c M) : FVec F S128x128 .f32 :=
  View.readAt (Elt F) M.view (Rect.unit (s := S128x256) ![0, 0] S128x128.size inb_S128x256_S128x128_0_0).toLoadRect X
def right (M : Memref sig .tc .vmem S128x256 .f32) (X : BufOf (F := F) c M) : FVec F S128x128 .f32 :=
  View.readAt (Elt F) M.view (Rect.unit (s := S128x256) ![0, 128] S128x128.size inb_S128x256_S128x128_0_128).toLoadRect X

/-- The scaled queries and the cotangents of the four heads, stacked; the saved totals, stacked. -/
def qx (a b : FVec F S128x128 .f32) : FVec F S512x128 .bf16 :=
  k0_pay426 k0_pay421 k0_pay422 (k0_pay423 a) (k0_pay424 a) b k0_pay425 b
def gx (a b : FVec F S128x128 .f32) : FVec F S512x128 .bf16 :=
  k0_pay433 k0_pay428 (k0_pay429 a) (k0_pay430 a) (k0_pay431 b) (k0_pay432 b)
def tx (X4 : BufOf (F := F) c arg4) : FVec F S512x1 .f32 :=
  k0_pay434 (View.readAt (Elt F) arg4.view (Rect.unit (s := S128x128) ![0, 0] S128x128.size inb_S128x128_S128x128_0_0).toLoadRect X4)

/-- The keys and the values of a point's own block, and where its step adds. -/
def keysD (X2 : BufOf (F := F) c arg2) (m : Fin (2 * 1)) : FVec F S128x128 .bf16 :=
  if m.val % 2 = 0 then kvAt c arg2 X2 (k0_off37 i) (k0_off37_inb i) else kvAt c arg2 X2 (k0_off38 i) (k0_off38_inb i)
def valsD (X2 : BufOf (F := F) c arg2) (m : Fin (2 * 1)) : FVec F S128x128 .bf16 :=
  if m.val % 2 = 0 then kvAt c arg2 X2 (k0_off39 i) (k0_off39_inb i) else kvAt c arg2 X2 (k0_off40 i) (k0_off40_inb i)
def placeD (m : Fin (2 * 1)) : Fin 2 → ℕ := if m.val % 2 = 0 then k0_off41 i else k0_off42 i
theorem placeD_inb (m : Fin (2 * 1)) (a : Fin 2) : placeD i m a + S128x128.size a ≤ S8192x256.size a := by
  unfold placeD; split
  · exact k0_off41_inb i a
  · exact k0_off42_inb i a

/-! The words the program computes before its loops. -/
def w113 : BitVec 32 := Scalar.divsi (BitVec.ofNat 32 (i 0).val) 8#32
def w115 : BitVec 32 := Scalar.extui (Scalar.cmpi .sgt (BitVec.ofNat 32 (i 0).val) 0#32)
def w117 : BitVec 32 := Scalar.extui (Scalar.cmpi .slt (BitVec.ofNat 32 (i 0).val) 0#32)
def w139 : BitVec 32 := Scalar.select (Scalar.cmpi .eq 8#32 0#32) 1#32 8#32
def w140 : BitVec 32 := Scalar.remsi (BitVec.ofNat 32 (i 0).val) w139
def w147 : BitVec 32 := Scalar.select (Scalar.andi (Scalar.xori (Scalar.cmpi .slt (w140 i) 0#32) (Scalar.cmpi .slt w139 0#32)) (Scalar.cmpi .ne (w140 i) 0#32)) (Scalar.addi (w140 i) w139) (w140 i)
def w148 : BitVec 32 := Scalar.divsi (w147 i) 4#32
def w153 : BitVec 32 := Scalar.subi (Scalar.extui (Scalar.cmpi .sgt (w147 i) 0#32)) (Scalar.extui (Scalar.cmpi .slt (w147 i) 0#32))
def w155 : BitVec 32 := Scalar.extui (Scalar.cmpi .sgt 4#32 0#32)
def w157 : BitVec 32 := Scalar.extui (Scalar.cmpi .slt 4#32 0#32)

/-- The loop of 8, as its invariant states it. -/
def raw1 (v50 v80 : FVec F S512x128 .bf16) (v111 : FVec F S512x1 .f32) (X2 : BufOf (F := F) c arg2) (s : St (F := F) c dkM dvM) : St (F := F) c dkM dvM :=
  ((st1 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 k0_pay435 8#32 (w113 i) (w115 i) (w117 i) s.1 X2 s.2.1 s.2.2 (k0_t1_loop i).trips).1, sumDk1 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 k0_pay435 8#32 (w113 i) (w115 i) (w117 i) s.1 X2 s.2.1 s.2.2 (k0_t1_loop i).trips, sumDv1 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 k0_pay435 8#32 (w113 i) (w115 i) (w117 i) s.1 X2 s.2.1 s.2.2 (k0_t1_loop i).trips)
theorem raw1_eq (v50 v80 : FVec F S512x128 .bf16) (v111 : FVec F S512x1 .f32) (X2 : BufOf (F := F) c arg2) (s : St (F := F) c dkM dvM) : raw1 𝒱₀ c i arg1 harg1 arg2 harg2 arg3 harg3 arg4 harg4 arg5 harg5 v50 v80 v111 X2 s
    = run8 c i arg2 dkM dvM k0_pay417 k0_pay418 k0_pay419 v50 v80 v111 X2 s (k0_t1_loop i).trips := by
  unfold raw1
  rw [sumDk1_eq, sumDv1_eq, st1_eq]

/-- The loop of 4, as its invariant states it. -/
def raw3 (v50 v80 : FVec F S512x128 .bf16) (v111 : FVec F S512x1 .f32) (X2 : BufOf (F := F) c arg2) (u : St (F := F) c dkM dvM) (s : St (F := F) c dkM dvM) : St (F := F) c dkM dvM :=
  ((st3 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t3_loop i).trips).1, sumDk3 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t3_loop i).trips, sumDv3 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t3_loop i).trips)
theorem raw3_eq (v50 v80 : FVec F S512x128 .bf16) (v111 : FVec F S512x1 .f32) (X2 : BufOf (F := F) c arg2) (u : St (F := F) c dkM dvM) (s : St (F := F) c dkM dvM) : raw3 𝒱₀ c i arg1 harg1 arg2 harg2 arg3 harg3 arg4 harg4 arg5 harg5 v50 v80 v111 X2 u s
    = run4 c i arg2 dkM dvM k0_pay417 k0_pay418 k0_pay419 v50 v80 v111 X2 s (k0_t3_loop i).trips := by
  unfold raw3
  rw [sumDk3_eq, sumDv3_eq, st3_eq]

/-- The loop of 1, as its invariant states it. -/
def raw5 (v50 v80 : FVec F S512x128 .bf16) (v111 : FVec F S512x1 .f32) (X2 : BufOf (F := F) c arg2) (u : St (F := F) c dkM dvM) (s : St (F := F) c dkM dvM) : St (F := F) c dkM dvM :=
  ((st5 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t5_loop i).trips).1, sumDk5 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t5_loop i).trips, sumDv5 𝒱₀ c i arg1 harg1 arg2 harg2 arg3 harg3 arg4 harg4 arg5 harg5 dkR (Memref.isWhole_whole _) dvR (Memref.isWhole_whole _) dkM (Memref.isWhole_whole _) dvM (Memref.isWhole_whole _) cc0_scoped0 cc0_scoped1 (BitVec.ofNat 32 (i 0).val) k0_pay417 k0_pay418 k0_pay419 v50 v80 v111 u.1.1 u.1.2.1 u.1.2.2.1 u.1.2.2.2 (w147 i) 4#32 (w148 i) (w153 i) w155 w157 s.1 X2 s.2.1 s.2.2 (k0_t5_loop i).trips)
theorem raw5_eq (v50 v80 : FVec F S512x128 .bf16) (v111 : FVec F S512x1 .f32) (X2 : BufOf (F := F) c arg2) (u : St (F := F) c dkM dvM) (s : St (F := F) c dkM dvM) : raw5 𝒱₀ c i arg1 harg1 arg2 harg2 arg3 harg3 arg4 harg4 arg5 harg5 v50 v80 v111 X2 u s
    = run1 c i arg2 dkM dvM k0_pay417 k0_pay418 k0_pay419 v50 v80 v111 X2 s (k0_t5_loop i).trips := by
  unfold raw5
  rw [sumDk5_eq, sumDv5_eq, st5_eq]

/-- What the loops leave. -/
def swept (v50 v80 : FVec F S512x128 .bf16) (v111 : FVec F S512x1 .f32) (X2 : BufOf (F := F) c arg2) (f8 : BufOf (F := F) c dkM) (f9 : BufOf (F := F) c dvM) : St (F := F) c dkM dvM :=
  run1 c i arg2 dkM dvM k0_pay417 k0_pay418 k0_pay419 v50 v80 v111 X2
    (run4 c i arg2 dkM dvM k0_pay417 k0_pay418 k0_pay419 v50 v80 v111 X2
      (run8 c i arg2 dkM dvM k0_pay417 k0_pay418 k0_pay419 v50 v80 v111 X2 ((k0_pay435, k0_pay435, k0_pay436, k0_pay436), f8, f9) (k0_t1_loop i).trips)
      (k0_t3_loop i).trips) (k0_t5_loop i).trips

/-- What the point's own step leaves then. -/
def last (v50 v80 : FVec F S512x128 .bf16) (v111 : FVec F S512x1 .f32) (X2 : BufOf (F := F) c arg2) (f8 : BufOf (F := F) c dkM) (f9 : BufOf (F := F) c dvM) : St (F := F) c dkM dvM :=
  stepSt c dkM dvM k0_pay417 k0_pay418 k0_pay419 v50 v80 v111 1 (.inl rfl) (some k0_pay420) (keysD c i arg2 X2) (valsD c i arg2 X2) (placeD i) (placeD_inb i)
    (swept c i arg2 v50 v80 v111 X2 f8 f9)

/-- A point's sweep, the loops as their invariants state them. -/
def lastRaw (v50 v80 : FVec F S512x128 .bf16) (v111 : FVec F S512x1 .f32) (X2 : BufOf (F := F) c arg2) (f8 : BufOf (F := F) c dkM) (f9 : BufOf (F := F) c dvM) : St (F := F) c dkM dvM :=
  stepSt c dkM dvM k0_pay417 k0_pay418 k0_pay419 v50 v80 v111 1 (.inl rfl) (some k0_pay420) (keysD c i arg2 X2) (valsD c i arg2 X2) (placeD i) (placeD_inb i)
    (let s := raw1 𝒱₀ c i arg1 harg1 arg2 harg2 arg3 harg3 arg4 harg4 arg5 harg5 v50 v80 v111 X2 ((k0_pay435, k0_pay435, k0_pay436, k0_pay436), f8, f9)
    raw5 𝒱₀ c i arg1 harg1 arg2 harg2 arg3 harg3 arg4 harg4 arg5 harg5 v50 v80 v111 X2 s (raw3 𝒱₀ c i arg1 harg1 arg2 harg2 arg3 harg3 arg4 harg4 arg5 harg5 v50 v80 v111 X2 s s))

theorem lastRaw_eq (v50 v80 : FVec F S512x128 .bf16) (v111 : FVec F S512x1 .f32) (X2 : BufOf (F := F) c arg2) (f8 : BufOf (F := F) c dkM) (f9 : BufOf (F := F) c dvM) :
    lastRaw 𝒱₀ c i arg1 harg1 arg2 harg2 arg3 harg3 arg4 harg4 arg5 harg5 v50 v80 v111 X2 f8 f9 = last c i arg2 v50 v80 v111 X2 f8 f9 := by
  unfold lastRaw last swept
  simp only [raw1_eq, raw3_eq, raw5_eq]

variable (X1 : BufOf (F := F) c arg1) (X2 : BufOf (F := F) c arg2) (X3 : BufOf (F := F) c arg3) (X4 : BufOf (F := F) c arg4)
    (f8 : BufOf (F := F) c dkM) (f9 : BufOf (F := F) c dvM)

theorem bodyRun_dk : (bodyRun 𝒱₀ c i arg1 harg1 arg2 harg2 arg3 harg3 arg4 harg4 arg5 harg5 X1 X2 X3 X4 f8 f9).2.1
    = (last c i arg2 (qx (left c arg1 X1) (right c arg1 X1)) (gx (left c arg3 X3) (right c arg3 X3)) (tx c arg4 X4) X2 f8 f9).2.1 := by
  rw [← lastRaw_eq 𝒱₀ c i arg1 harg1 arg2 harg2 arg3 harg3 arg4 harg4 arg5 harg5]
  unfold bodyRun
  sl_kernel_rfl

theorem bodyRun_dv : (bodyRun 𝒱₀ c i arg1 harg1 arg2 harg2 arg3 harg3 arg4 harg4 arg5 harg5 X1 X2 X3 X4 f8 f9).2.2.1
    = (last c i arg2 (qx (left c arg1 X1) (right c arg1 X1)) (gx (left c arg3 X3) (right c arg3 X3)) (tx c arg4 X4) X2 f8 f9).2.2 := by
  rw [← lastRaw_eq 𝒱₀ c i arg1 harg1 arg2 harg2 arg3 harg3 arg4 harg4 arg5 harg5]
  unfold bodyRun
  sl_kernel_rfl

/-- The two pieces of a point's dq block. -/
def dqTwo (s : Car F) : List (View.Piece (Elt F) S128x256 .bf16) :=
  [⟨Rect.unit (s := S128x256) ![0, 128] S128x128.size inb_S128x256_S128x128_0_128, k0_pay4 s.2.2.2⟩,
   ⟨Rect.unit (s := S128x256) ![0, 0] S128x128.size inb_S128x256_S128x128_0_0, k0_pay3 s.2.2.1⟩]
theorem bodyRun_dq : (bodyRun 𝒱₀ c i arg1 harg1 arg2 harg2 arg3 harg3 arg4 harg4 arg5 harg5 X1 X2 X3 X4 f8 f9).1
    = dqTwo (last c i arg2 (qx (left c arg1 X1) (right c arg1 X1)) (gx (left c arg3 X3) (right c arg3 X3)) (tx c arg4 X4) X2 f8 f9).1 := by
  rw [← lastRaw_eq 𝒱₀ c i arg1 harg1 arg2 harg2 arg3 harg3 arg4 harg4 arg5 harg5]
  unfold bodyRun
  sl_kernel_rfl

end Cert.KernelIdeal.Hand
-- ==== Proof.AttendBody.lean ====
/- The forward kernel's body as a chain of steps, from the point's own block down to the first keys. -/
module

public import proofs.«01_k».proof.Proof.AttendTrip
public import proofs.«01_k».proof.Proof.AttendOffsets
public import proofs.«01_k».proof.Proof.BodyStep

@[expose] public section

set_option maxRecDepth 16384

noncomputable section

namespace Cert.AttendIdeal.Hand

open Idealize.ShloMosaic Idealize.ShloMosaic.TcCoe Idealize.ShloMosaic.Tactic
open Cert.AttendIdeal Cert.AttendIdeal.Gen Cert.KernelIdeal.Sweep

variable {F : FTy → Type} [FloatOps F]

variable (c : Dev nD) (i : grid0.Coords)
  (arg1 : Memref sig .tc .vmem S128x256 .f32) (harg1 : arg1.IsWhole) (arg2 : Memref sig .tc .vmem S8192x512 .bf16) (harg2 : arg2.IsWhole)
  (arg3 : Memref sig .tc .vmem S128x256 .bf16) (harg3 : arg3.IsWhole) (arg4 : Memref sig .tc .vmem S128x128 .f32) (harg4 : arg4.IsWhole)
  (X2 : BufTy.Contents (Elt F) arg2.view.ty) (x0 : Vec F S128x256 .f32) (x1 : Vec F S8192x512 .bf16)

section
variable (low : IVec S128x128 1) (after : FVec F S128x128 .bf16) (q : FVec F S512x128 .bf16)

/-- `k` trips of each loop. -/
def run8 (s : FCar F) : ℕ → FCar F
  | 0 => s
  | k + 1 => if h : k < (k0_t1_loop i).trips then fwdStep 8 (.inr (.inr rfl)) none low after q (keys8 i arg2 X2 ⟨k, h⟩) (vals8 i arg2 X2 ⟨k, h⟩) (run8 s k) else run8 s k
def run4 (s : FCar F) : ℕ → FCar F
  | 0 => s
  | k + 1 => if h : k < (k0_t3_loop i).trips then fwdStep 4 (.inr (.inl rfl)) none low after q (keys4 i arg2 X2 ⟨k, h⟩) (vals4 i arg2 X2 ⟨k, h⟩) (run4 s k) else run4 s k
def run1 (s : FCar F) : ℕ → FCar F
  | 0 => s
  | k + 1 => if h : k < (k0_t5_loop i).trips then fwdStep 1 (.inl rfl) none low after q (keys1 i arg2 X2 ⟨k, h⟩) (vals1 i arg2 X2 ⟨k, h⟩) (run1 s k) else run1 s k

variable (arg0 : BitVec 32) (s : FCar F)

theorem st1_eq (u0 : FVec F S512x1 .f32) (u1 u2 : FVec F S128x128 .f32) (w1 w2 : BitVec 32) : ∀ k, k ≤ (k0_t1_loop i).trips →
    st_k0_t1 Variants.none c none i arg1 harg1 arg2 harg2 arg3 harg3 arg4 harg4 arg0 low after q u0 u1 u2 w1 w2 X2 s k = run8 i arg2 X2 low after q s k
  | 0, _ => rfl
  | k + 1, h => by
    rw [run8, dif_pos (show k < _ by omega), ← st1_eq u0 u1 u2 w1 w2 k (by omega)]
    exact (st_k0_t1_succ _ _ _ _ _ _ _ _ _ _ _ _ _ _ _ _ _ _ _ _ _ _ _ ⟨k, h⟩).trans (trip1_eq ..)
theorem st3_eq (u0 : FVec F S512x1 .f32) (u1 u2 : FVec F S128x128 .f32) (w1 w2 : BitVec 32) : ∀ k, k ≤ (k0_t3_loop i).trips →
    st_k0_t3 Variants.none c none i arg1 harg1 arg2 harg2 arg3 harg3 arg4 harg4 arg0 low after q u0 u1 u2 w1 w2 X2 s k = run4 i arg2 X2 low after q s k
  | 0, _ => rfl
  | k + 1, h => by
    rw [run4, dif_pos (show k < _ by omega), ← st3_eq u0 u1 u2 w1 w2 k (by omega)]
    exact (st_k0_t3_succ _ _ _ _ _ _ _ _ _ _ _ _ _ _ _ _ _ _ _ _ _ _ _ ⟨k, h⟩).trans (trip3_eq ..)
theorem st5_eq (u0 : FVec F S512x1 .f32) (u1 u2 : FVec F S128x128 .f32) (w1 : BitVec 32) (b1 : BitVec 1) (w2 : BitVec 32) : ∀ k, k ≤ (k0_t5_loop i).trips →
    st_k0_t5 Variants.none c none i arg1 harg1 arg2 harg2 arg3 harg3 arg4 harg4 arg0 low after q u0 u1 u2 w1 b1 w2 X2 s k = run1 i arg2 X2 low after q s k
  | 0, _ => rfl
  | k + 1, h => by
    rw [run1, dif_pos (show k < _ by omega), ← st5_eq u0 u1 u2 w1 b1 w2 k (by omega)]
    exact (st_k0_t5_succ _ _ _ _ _ _ _ _ _ _ _ _ _ _ _ _ _ _ _ _ _ _ _ _ ⟨k, h⟩).trans (trip5_eq ..)
end

/-- A half of the query block. -/
def half0 : FVec F S128x128 .f32 := View.readAt (Elt F) arg1.view (Rect.unit (s := S128x256) ![0, 0] S128x128.size inb_S128x256_S128x128_0_0).toLoadRect (harg1.unread x0)
def half1 : FVec F S128x128 .f32 := View.readAt (Elt F) arg1.view (Rect.unit (s := S128x256) ![0, 128] S128x128.size inb_S128x256_S128x128_0_128).toLoadRect (harg1.unread x0)

/-- The stacked queries. -/
abbrev qq : FVec F S512x128 .bf16 := Cert.KernelIdeal.Hand.qx (half0 arg1 harg1 x0) (half1 arg1 harg1 x0)

/-- The point's own block's step, from nothing. -/
def s0 : FCar F := fwdStep 1 (.inl rfl) (some Cert.KernelIdeal.Gen.k0_pay420) k0_pay192 k0_pay193 (qq arg1 harg1 x0)
  (keysD i arg2 (harg2.unread x1)) (valsD i arg2 (harg2.unread x1)) (Cert.KernelIdeal.Gen.k0_pay435, Cert.KernelIdeal.Gen.k0_pay436, Cert.KernelIdeal.Gen.k0_pay436)

/-- The loops' states in turn, as the run has them. -/
def s1 : FCar F := let s := s0 i arg1 harg1 arg2 harg2 x0 x1
  st_k0_t1 Variants.none c none i arg1 harg1 arg2 harg2 arg3 harg3 arg4 harg4 (BitVec.ofNat 32 (i 0).val) k0_pay192 k0_pay193 (qq arg1 harg1 x0) s.1 s.2.1 s.2.2 0#32 (kernelRun0_A.sl.v130 i) (harg2.unread x1) s (k0_t1_loop i).trips
def s2 : FCar F := let s := s0 i arg1 harg1 arg2 harg2 x0 x1
  st_k0_t2 Variants.none c none i arg1 harg1 arg2 harg2 arg3 harg3 arg4 harg4 (BitVec.ofNat 32 (i 0).val) k0_pay192 k0_pay193 (qq arg1 harg1 x0) s.1 s.2.1 s.2.2 0#32 (kernelRun0_A.sl.v130 i) (kernelRun0_A.sl.v131 i) (harg2.unread x1)
    (s1 c i arg1 harg1 arg2 harg2 arg3 harg3 arg4 harg4 x0 x1) (k0_t2_loop i).trips
def s3 : FCar F := let s := s0 i arg1 harg1 arg2 harg2 x0 x1
  st_k0_t3 Variants.none c none i arg1 harg1 arg2 harg2 arg3 harg3 arg4 harg4 (BitVec.ofNat 32 (i 0).val) k0_pay192 k0_pay193 (qq arg1 harg1 x0) s.1 s.2.1 s.2.2 0#32 (kernelRun0_A.sl.v130 i) (harg2.unread x1)
    (s2 c i arg1 harg1 arg2 harg2 arg3 harg3 arg4 harg4 x0 x1) (k0_t3_loop i).trips
def s4 (w : BitVec 32) : FCar F := let s := s0 i arg1 harg1 arg2 harg2 x0 x1
  st_k0_t4 Variants.none c none i arg1 harg1 arg2 harg2 arg3 harg3 arg4 harg4 (BitVec.ofNat 32 (i 0).val) k0_pay192 k0_pay193 (qq arg1 harg1 x0) s.1 s.2.1 s.2.2 0#32 (kernelRun0_A.sl.v130 i) w (harg2.unread x1)
    (s3 c i arg1 harg1 arg2 harg2 arg3 harg3 arg4 harg4 x0 x1) (k0_t4_loop i).trips
def s5 (w : BitVec 32) : FCar F := let s := s4 c i arg1 harg1 arg2 harg2 arg3 harg3 arg4 harg4 x0 x1 w
  st_k0_t5 Variants.none c none i arg1 harg1 arg2 harg2 arg3 harg3 arg4 harg4 (BitVec.ofNat 32 (i 0).val) k0_pay192 k0_pay193 (qq arg1 harg1 x0) s.1 s.2.1 s.2.2 4#32 0#1 1#32 (harg2.unread x1) s (k0_t5_loop i).trips
def s6 (w w' : BitVec 32) : FCar F := let s := s4 c i arg1 harg1 arg2 harg2 arg3 harg3 arg4 harg4 x0 x1 w
  st_k0_t6 Variants.none c none i arg1 harg1 arg2 harg2 arg3 harg3 arg4 harg4 (BitVec.ofNat 32 (i 0).val) k0_pay192 k0_pay193 (qq arg1 harg1 x0) s.1 s.2.1 s.2.2 4#32 0#1 1#32 w' (harg2.unread x1)
    (s5 c i arg1 harg1 arg2 harg2 arg3 harg3 arg4 harg4 x0 x1 w) (k0_t6_loop i).trips

/-- The result block's two stores. -/
def stores (y0 y1 : FVec F S128x128 .f32) : List (View.Piece (Elt F) S128x256 .bf16) :=
  [⟨Rect.unit (s := S128x256) ![0, 128] S128x128.size inb_S128x256_S128x128_0_128, k0_pay242 y1⟩,
   ⟨Rect.unit (s := S128x256) ![0, 0] S128x128.size inb_S128x256_S128x128_0_0, k0_pay241 y0⟩]

theorem run_raw : (kernelRun0_A c i arg1 harg1 arg2 harg2 arg3 harg3 arg4 harg4 x0 x1).1
    = stores (s6 c i arg1 harg1 arg2 harg2 arg3 harg3 arg4 harg4 x0 x1 (kernelRun0_A.sl.v165 i) (kernelRun0_A.sl.v182 i)).2.1
        (s6 c i arg1 harg1 arg2 harg2 arg3 harg3 arg4 harg4 x0 x1 (kernelRun0_A.sl.v165 i) (kernelRun0_A.sl.v182 i)).2.2 := by
  unfold kernelRun0_A
  sl_kernel_rfl

/-- What the sweep carries at the end. -/
def last : FCar F :=
  run1 i arg2 (harg2.unread x1) k0_pay192 k0_pay193 (qq arg1 harg1 x0)
    (run4 i arg2 (harg2.unread x1) k0_pay192 k0_pay193 (qq arg1 harg1 x0)
      (run8 i arg2 (harg2.unread x1) k0_pay192 k0_pay193 (qq arg1 harg1 x0) (s0 i arg1 harg1 arg2 harg2 x0 x1) (k0_t1_loop i).trips)
      (k0_t3_loop i).trips)
    (k0_t5_loop i).trips

theorem s6_eq (w w' : BitVec 32) : s6 c i arg1 harg1 arg2 harg2 arg3 harg3 arg4 harg4 x0 x1 w w' = last i arg1 harg1 arg2 harg2 x0 x1 := by
  have e2 : s2 c i arg1 harg1 arg2 harg2 arg3 harg3 arg4 harg4 x0 x1 = s1 c i arg1 harg1 arg2 harg2 arg3 harg3 arg4 harg4 x0 x1 := by
    unfold s2; dsimp only; rw [trips2]; rfl
  have e4 : s4 c i arg1 harg1 arg2 harg2 arg3 harg3 arg4 harg4 x0 x1 w = s3 c i arg1 harg1 arg2 harg2 arg3 harg3 arg4 harg4 x0 x1 := by
    unfold s4; dsimp only; rw [trips4]; rfl
  have e6 : s6 c i arg1 harg1 arg2 harg2 arg3 harg3 arg4 harg4 x0 x1 w w' = s5 c i arg1 harg1 arg2 harg2 arg3 harg3 arg4 harg4 x0 x1 w := by
    unfold s6; dsimp only; rw [trips6]; rfl
  rw [e6]
  unfold s5; dsimp only
  rw [st5_eq _ _ _ _ _ _ _ _ _ _ _ _ _ _ _ _ _ _ _ _ _ _ _ le_rfl, e4]
  unfold s3; dsimp only
  rw [st3_eq _ _ _ _ _ _ _ _ _ _ _ _ _ _ _ _ _ _ _ _ _ _ le_rfl, e2]
  unfold s1; dsimp only
  rw [st1_eq _ _ _ _ _ _ _ _ _ _ _ _ _ _ _ _ _ _ _ _ _ _ le_rfl]
  rfl

/-- The body's stores are the sweep's two results. -/
theorem run_eq : (kernelRun0_A c i arg1 harg1 arg2 harg2 arg3 harg3 arg4 harg4 x0 x1).1
    = stores (last i arg1 harg1 arg2 harg2 x0 x1).2.1 (last i arg1 harg1 arg2 harg2 x0 x1).2.2 := by
  rw [run_raw, s6_eq]

end Cert.AttendIdeal.Hand
-- ==== Proof.Chain.lean ====
/-
  A point's chain of steps over the reals: after the blocks before block `j` it carries Spec.lean's sums over the keys below
  `128 j`, and the two sums hold what they held before the point with the point's share of those keys added.
-/
module

public import proofs.«01_k».proof.Proof.BodyStep
public import proofs.«01_k».proof.Proof.StepValue

@[expose] public section

noncomputable section

namespace Cert.KernelIdeal.Hand

open Idealize.ShloMosaic Idealize.ShloMosaic.ValueIdx Idealize.ShloMosaic.TcCoe
open Cert.KernelIdeal Cert.KernelIdeal.Gen Cert.KernelIdeal.Sweep Cert.Spec
open Finset (range)

variable (c : Dev nD)

/-- A 128×128 block of the keys and values, entry by entry. -/
theorem kvAt_apply (arg2 : Memref sig .tc .vmem S8192x512 .bf16) (X2 : BufOf (F := Ideal) c arg2) (off : Fin 2 → ℕ)
    (inb : ∀ a, off a + S128x128.size a ≤ S8192x512.size a) (I : S128x128.Idx) (J : S8192x512.Idx)
    (h0 : (J 0).val = off 0 + (I 0).val) (h1 : (J 1).val = off 1 + (I 1).val) :
    kvAt c arg2 X2 off inb I = arg2.view.read (Elt Ideal) X2 J := by
  unfold kvAt
  refine (shapeCast_apply _ _ _ I rfl).trans ?_
  refine (View.readAt_apply _ _ _).trans (congrArg _ (funext fun a => Fin.ext ?_))
  match a with
  | ⟨0, _⟩ => rw [LoadRect.idx_apply]; show off 0 + 1 * (I 0).val = (J 0).val; omega
  | ⟨1, _⟩ => rw [LoadRect.idx_apply]; show off 1 + 1 * (I 1).val = (J 1).val; omega

/-- The keys and values a point reads. -/
structure Keys (arg2 : Memref sig .tc .vmem S8192x512 .bf16) (X2 : BufOf (F := Ideal) c arg2) (D : Data) : Prop where
  k : ∀ J : S8192x512.Idx, (J 1).val < 256 → arg2.view.read (Elt Ideal) X2 J = ((D.kk (J 0).val (J 1).val : ℝ) : EReal)
  v : ∀ J : S8192x512.Idx, 256 ≤ (J 1).val → arg2.view.read (Elt Ideal) X2 J = ((D.vv (J 0).val ((J 1).val - 256) : ℝ) : EReal)

section
variable {c} {arg2 : Memref sig .tc .vmem S8192x512 .bf16} {X2 : BufOf (F := Ideal) c arg2} {D : Data} (H : Keys c arg2 X2 D)
  {n j0 : ℕ}

include H in
theorem isK_keys (hj : j0 + n ≤ 64) (K : Fin (2 * n) → FVec Ideal S128x128 .bf16)
    (h : ∀ m : Fin (2 * n), ∃ off inb, K m = kvAt c arg2 X2 off inb ∧ off = ![128 * (j0 + m.val / 2), 128 * (m.val % 2)]) :
    IsK n j0 K D.kk := fun m I => by
  obtain ⟨off, inb, hK, ho⟩ := h m
  have hm := m.isLt
  have h0 : (I 0).val < 128 := (I 0).isLt
  have h1 : (I 1).val < 128 := (I 1).isLt
  have e0 : off 0 = 128 * (j0 + m.val / 2) := by rw [ho]; rfl
  have e1 : off 1 = 128 * (m.val % 2) := by rw [ho]; rfl
  rw [hK, kvAt_apply c arg2 X2 off inb I (ix2 (⟨128 * (j0 + m.val / 2) + (I 0).val, by omega⟩ : Fin 8192) (⟨128 * (m.val % 2) + (I 1).val, by omega⟩ : Fin 512))
    (by rw [e0]) (by rw [e1])]
  exact H.k _ (by show 128 * (m.val % 2) + (I 1).val < 256; omega)

include H in
theorem isK_vals (hj : j0 + n ≤ 64) (K : Fin (2 * n) → FVec Ideal S128x128 .bf16)
    (h : ∀ m : Fin (2 * n), ∃ off inb, K m = kvAt c arg2 X2 off inb ∧ off = ![128 * (j0 + m.val / 2), 256 + 128 * (m.val % 2)]) :
    IsK n j0 K D.vv := fun m I => by
  obtain ⟨off, inb, hK, ho⟩ := h m
  have hm := m.isLt
  have h0 : (I 0).val < 128 := (I 0).isLt
  have h1 : (I 1).val < 128 := (I 1).isLt
  have e0 : off 0 = 128 * (j0 + m.val / 2) := by rw [ho]; rfl
  have e1 : off 1 = 256 + 128 * (m.val % 2) := by rw [ho]; rfl
  rw [hK, kvAt_apply c arg2 X2 off inb I (ix2 (⟨128 * (j0 + m.val / 2) + (I 0).val, by omega⟩ : Fin 8192) (⟨256 + 128 * (m.val % 2) + (I 1).val, by omega⟩ : Fin 512))
    (by rw [e0]) (by rw [e1])]
  refine (H.v _ (by show 256 ≤ 256 + 128 * (m.val % 2) + (I 1).val; omega)).trans ?_
  show ((D.vv (128 * (j0 + m.val / 2) + (I 0).val) (256 + 128 * (m.val % 2) + (I 1).val - 256) : ℝ) : EReal) = _
  rw [show 256 + 128 * (m.val % 2) + (I 1).val - 256 = 128 * (m.val % 2) + (I 1).val by omega]
end

/-- What a step's products come to at a row and a column of a sum. -/
def share (f g : ℕ → ℕ → ℝ) (s l : ℕ) : ℝ := ∑ ρ ∈ range 256, f (256 * (l / 128) + ρ) s * g (256 * (l / 128) + ρ) (l % 128)

/-- A sum after a step. -/
theorem addAll_read (M : Memref sig .tc .vmem S8192x256 .f32) {n j0 : ℕ} (hn : Ok n) (f0 : BufOf (F := Ideal) c M) {d : FVec Ideal (Wide n) .bf16}
    {x : FVec Ideal S512x128 .bf16} {f g : ℕ → ℕ → ℝ} (hd : IsW n j0 d f) (hx : IsM 512 128 x g) (off : Fin (2 * n) → Fin 2 → ℕ)
    (inb : ∀ m a, off m a + S128x128.size a ≤ S8192x256.size a) (ho : ∀ m, off m = ![128 * (j0 + m.val / 2), 128 * (m.val % 2)]) (I : S8192x256.Idx) :
    M.view.read (Elt Ideal) (addAll c n hn M f0 d x off inb) I
      = (M.view.read (Elt Ideal) f0 I : EReal) + ((if 128 * j0 ≤ (I 0).val ∧ (I 0).val < 128 * (j0 + n) then share f g (I 0).val (I 1).val else 0 : ℝ) : EReal) := by
  have e0 : ∀ m, off m 0 = 128 * (j0 + m.val / 2) := fun m => by rw [ho m]; rfl
  have e1 : ∀ m, off m 1 = 128 * (m.val % 2) := fun m => by rw [ho m]; rfl
  have hI1 : (I 1).val < 256 := (I 1).isLt
  unfold addAll
  by_cases h : 128 * j0 ≤ (I 0).val ∧ (I 0).val < 128 * (j0 + n)
  · rw [if_pos h]
    refine View.read_writes_apply_of_pieces M.view f0 (fun I => (M.view.read (Elt Ideal) f0 I : EReal) + ((share f g (I 0).val (I 1).val : ℝ) : EReal)) _ ?_ I ?_
    · intro p hp y
      rw [List.mem_ofFn] at hp
      obtain ⟨m', rfl⟩ := hp
      generalize hm' : m'.rev = m at y ⊢
      have y0 : (y 0).val < 128 := (y 0).isLt
      have y1 : (y 1).val < 128 := (y 1).isLt
      have c0 : (((addAt c n hn M f0 d x off inb m).1.emb y) 0).val = 128 * (j0 + m.val / 2) + (y 0).val := by
        show off m 0 + 1 * (y 0).val = _
        rw [e0]; omega
      have c1 : (((addAt c n hn M f0 d x off inb m).1.emb y) 1).val = 128 * (m.val % 2) + (y 1).val := by
        show off m 1 + 1 * (y 1).val = _
        rw [e1]; omega
      show added n hn d x m _ y = _
      rw [added_apply hn hd hx m _ y]
      beta_reduce
      rw [c0, c1]
      refine congrArg₂ (· + ·) ?_ ?_
      · rfl
      · unfold share
        rw [show (128 * (m.val % 2) + (y 1).val) / 128 = m.val % 2 by omega, show (128 * (m.val % 2) + (y 1).val) % 128 = (y 1).val by omega]
    · let m : Fin (2 * n) := ⟨2 * ((I 0).val / 128 - j0) + (I 1).val / 128, by omega⟩
      refine ⟨addAt c n hn M f0 d x off inb m, ?_, ?_⟩
      · rw [List.mem_ofFn]
        exact ⟨m.rev, by rw [Fin.rev_rev]⟩
      · refine (addAt c n hn M f0 d x off inb m).1.mem_set.mpr fun a => ?_
        match a with
        | ⟨0, _⟩ =>
          refine ⟨(I 0).val % 128, Nat.mod_lt _ (by norm_num), ?_⟩
          show (I 0).val = off m 0 + 1 * ((I 0).val % 128)
          rw [e0]
          show _ = 128 * (j0 + (2 * ((I 0).val / 128 - j0) + (I 1).val / 128) / 2) + _
          omega
        | ⟨1, _⟩ =>
          refine ⟨(I 1).val % 128, Nat.mod_lt _ (by norm_num), ?_⟩
          show (I 1).val = off m 1 + 1 * ((I 1).val % 128)
          rw [e1]
          show _ = 128 * ((2 * ((I 0).val / 128 - j0) + (I 1).val / 128) % 2) + _
          omega
  · rw [if_neg h, EReal.coe_zero, add_zero]
    refine View.read_writes_apply_of_forall_not_mem M.view f0 I _ fun p hp => ?_
    rw [List.mem_ofFn] at hp
    obtain ⟨m', rfl⟩ := hp
    have hm := m'.rev.isLt
    refine Rect.not_mem_set_of_axis _ I 0 (128 * (j0 + m'.rev.val / 2)) 128 (e0 _) rfl rfl ?_
    omega

/-- The point's chain at block `j`, from sums `a` (dk) and `b` (dv). -/
structure Inv (arg8 arg9 : Memref sig .tc .vmem S8192x256 .f32) (D : Data) (a b : ℕ → ℕ → ℝ) (j : ℕ) (s : St (F := Ideal) c arg8 arg9) : Prop where
  p : IsC s.1.1 fun ρ => D.PP ρ (128 * j)
  e : IsC s.1.2.1 fun ρ => D.EE ρ (128 * j)
  q0 : IsM 128 128 s.1.2.2.1 (D.DQ 0 (128 * j))
  q1 : IsM 128 128 s.1.2.2.2 (D.DQ 1 (128 * j))
  dk : ∀ I, arg8.view.read (Elt Ideal) s.2.1 I = ((a (I 0).val (I 1).val + (if (I 0).val < 128 * j then share D.DZ D.qs (I 0).val (I 1).val else 0) : ℝ) : EReal)
  dv : ∀ I, arg9.view.read (Elt Ideal) s.2.2 I = ((b (I 0).val (I 1).val + (if (I 0).val < 128 * j then share D.AA D.gs (I 0).val (I 1).val else 0) : ℝ) : EReal)

/-- What every step of a point is handed. -/
structure Fixed (D : Data) (low : IVec S128x128 1) (after before : FVec Ideal S128x128 .bf16) (q g : FVec Ideal S512x128 .bf16)
    (tot : FVec Ideal S512x1 .f32) : Prop where
  q : IsM 512 128 q D.qs
  g : IsM 512 128 g D.gs
  tot : IsC tot D.tot
  low : ∀ I, low I = 1#1 ↔ (I 1).val < 64
  after : IsM 128 128 after fun k c => if c < k then 1 else 0
  before : IsM 128 128 before fun k c => if k < c then 1 else 0

theorem inv_step {arg8 arg9 : Memref sig .tc .vmem S8192x256 .f32} {D : Data} {a b : ℕ → ℕ → ℝ} {n j0 : ℕ} (hn : Ok n) {s : St (F := Ideal) c arg8 arg9}
    (hs : Inv c arg8 arg9 D a b j0 s) {low : IVec S128x128 1} {after before : FVec Ideal S128x128 .bf16} {q g : FVec Ideal S512x128 .bf16}
    {tot : FVec Ideal S512x1 .f32} (hF : Fixed D low after before q g tot) {msk : Option (IVec (Wide n) 1)}
    (hm : ∀ I, live n msk I ↔ keyOf j0 I < D.T ((I 0).val % 512)) {K V : Fin (2 * n) → FVec Ideal S128x128 .bf16}
    (hK : IsK n j0 K D.kk) (hV : IsK n j0 V D.vv) (off : Fin (2 * n) → Fin 2 → ℕ)
    (inb : ∀ m a, off m a + S128x128.size a ≤ S8192x256.size a) (ho : ∀ m, off m = ![128 * (j0 + m.val / 2), 128 * (m.val % 2)]) :
    Inv c arg8 arg9 D a b (j0 + n) (stepSt c arg8 arg9 low after before q g tot n hn msk K V off inb s) := by
  have R : Ready D n j0 msk low after before q g tot s.1.1 s.1.2.1 K V :=
    ⟨hF.q, hF.g, hF.tot, hK, hV, hs.p, hs.e, hm, hF.low, hF.after, hF.before⟩
  have hdz := isW_dz hn R
  have hw := isW_wtsN hn R
  refine ⟨isC_through hn R n le_rfl, isC_eaThrough hn R n le_rfl, isM_dqThrough hn 0 hdz hK hF.low hs.q0 n le_rfl,
    isM_dqThrough hn 1 hdz hK hF.low hs.q1 n le_rfl, fun I => ?_, fun I => ?_⟩
  · refine (addAll_read c arg8 hn s.2.1 hdz hF.q off inb ho I).trans ?_
    rw [hs.dk I, ← EReal.coe_add]
    refine congrArg _ ?_
    rw [add_assoc]
    refine congrArg _ ?_
    split_ifs <;> first | omega | simp
  · refine (addAll_read c arg9 hn s.2.2 hw hF.g off inb ho I).trans ?_
    rw [hs.dv I, ← EReal.coe_add]
    refine congrArg _ ?_
    rw [add_assoc]
    refine congrArg _ ?_
    split_ifs <;> first | omega | simp

end Cert.KernelIdeal.Hand
-- ==== Proof.PrologueValue.lean ====
/- The masks, tables and stacked operands a point starts with, entry by entry. -/
module

public import proofs.«01_k».proof.Proof.Chain

@[expose] public section

noncomputable section

namespace Cert.KernelIdeal.Hand

open Idealize.ShloMosaic Idealize.ShloMosaic.ValueIdx Idealize.ShloMosaic.TcCoe
open Cert.KernelIdeal Cert.KernelIdeal.Gen Cert.KernelIdeal.Sweep Cert.Spec
open Finset (range)

/-! Words. -/

theorem slt64 : ∀ b : Fin 128, Scalar.cmpi .slt (BitVec.ofNat 32 b.val) 64#32 = 1#1 ↔ b.val < 64 := by decide +kernel
theorem slt_not64 : ∀ b : Fin 128, Scalar.xori (Scalar.cmpi .slt (BitVec.ofNat 32 b.val) 64#32) 1#1 = 1#1 ↔ ¬ b.val < 64 := by decide +kernel
theorem eqHead : ∀ (b : Fin 128) (h : Fin 4), Scalar.cmpi .eq (BitVec.ofNat 32 b.val) (BitVec.ofNat 32 h.val) = 1#1 ↔ b.val = h.val := by decide +kernel
theorem sltDiag : ∀ (a : Fin 512) (b : Fin 128), Scalar.cmpi .slt (BitVec.ofNat 32 b.val) (Scalar.andi (BitVec.ofNat 32 a.val) 127#32) = 1#1 ↔ b.val < a.val % 128 := by decide +kernel
theorem tableGt : ∀ a b : Fin 128, (Scalar.extui (Scalar.cmpi .sgt (BitVec.ofNat 32 a.val) (BitVec.ofNat 32 b.val)) : BitVec 32).toInt = if b.val < a.val then 1 else 0 := by decide +kernel
theorem tableLt : ∀ a b : Fin 128, (Scalar.extui (Scalar.cmpi .slt (BitVec.ofNat 32 a.val) (BitVec.ofNat 32 b.val)) : BitVec 32).toInt = if a.val < b.val then 1 else 0 := by decide +kernel

theorem low_iff (I : S128x128.Idx) : k0_pay417 I = 1#1 ↔ (I 1).val < 64 := by
  show Scalar.cmpi .slt (iota .tc S128x128 32 [1] iota_S128x128_d1_w32 I) 64#32 = 1#1 ↔ _
  rw [iota_single_apply]; exact slt64 (I 1)
theorem qlow_iff (I : S128x128.Idx) : k0_pay421 I = 1#1 ↔ (I 1).val < 64 := by
  show Scalar.cmpi .slt (iota .tc S128x128 32 [1] iota_S128x128_d1_w32 I) 64#32 = 1#1 ↔ _
  rw [iota_single_apply]; exact slt64 (I 1)
theorem qhigh_iff (I : S128x128.Idx) : k0_pay422 I = 1#1 ↔ ¬ (I 1).val < 64 := by
  show Scalar.xori (Scalar.cmpi .slt (iota .tc S128x128 32 [1] iota_S128x128_d1_w32 I) 64#32) 1#1 = 1#1 ↔ _
  rw [iota_single_apply]; exact slt_not64 (I 1)
theorem diag_iff (I : S512x128.Idx) : k0_pay420 I = 1#1 ↔ (I 1).val < (I 0).val % 128 := by
  show Scalar.cmpi .slt (iota .tc S512x128 32 [1] iota_S512x128_d1_w32 I) (Scalar.andi (iota .tc S512x128 32 [0] iota_S512x128_d0_w32 I) 127#32) = 1#1 ↔ _
  rw [iota_single_apply, iota_single_apply]; exact sltDiag (I 0) (I 1)

theorem after_val : IsM 128 128 (k0_pay418 : FVec Ideal S128x128 .bf16) fun k c => if c < k then 1 else 0 := fun I => by
  show (((Scalar.extui (Scalar.cmpi .sgt (iota .tc S128x128 32 [0] iota_S128x128_d0_w32 I) (iota .tc S128x128 32 [1] iota_S128x128_d1_w32 I)) : BitVec 32).toInt : ℝ) : EReal) = ((if (I 1).val < (I 0).val then 1 else 0 : ℝ) : EReal)
  rw [iota_single_apply, iota_single_apply, tableGt (I 0) (I 1)]
  split <;> norm_num
theorem before_val : IsM 128 128 (k0_pay419 : FVec Ideal S128x128 .bf16) fun k c => if k < c then 1 else 0 := fun I => by
  show (((Scalar.extui (Scalar.cmpi .slt (iota .tc S128x128 32 [0] iota_S128x128_d0_w32 I) (iota .tc S128x128 32 [1] iota_S128x128_d1_w32 I)) : BitVec 32).toInt : ℝ) : EReal) = ((if (I 0).val < (I 1).val then 1 else 0 : ℝ) : EReal)
  rw [iota_single_apply, iota_single_apply, tableLt (I 0) (I 1)]
  split <;> norm_num

theorem ofBits_eighth : Ideal.ofBits .f32 0x3E000000#32 = ((1 / 8 : ℝ) : EReal) := by
  simp [Ideal.ofBits, Ideal.ieee, -EReal.coe_mul]; norm_num

/-- A head's 128 rows: its 64 of a pair's 128 columns, scaled, and zeros. -/
theorem head_val {x : FVec Ideal S128x128 .bf16} {m : IVec S128x128 1} {a : FVec Ideal S128x128 .f32} {w : BitVec 32} {k : ℝ} {f : ℕ → ℕ → ℝ} (p : Fin 2)
    (hx : x = truncf .bf16 (select m (mulf a (broadcast S128x128 (Scalar.ofBits .f32 w : Ideal .f32))) (broadcast S128x128 (Scalar.ofBits .f32 0x00000000#32 : Ideal .f32))) bitsLt_bf16_f32)
    (hm : ∀ I, m I = 1#1 ↔ (I 1).val / 64 = p.val) (hw : Ideal.ofBits .f32 w = ((k : ℝ) : EReal)) (ha : IsM 128 128 a f) :
    IsM 128 128 x fun r l => if l / 64 = p.val then k * f r l else 0 := fun I => by
  have h : x I = if m I = 1#1 then a I * Ideal.ofBits .f32 w else Ideal.ofBits .f32 0x00000000#32 := by rw [hx]; rfl
  rw [h]
  show _ = ((if (I 1).val / 64 = p.val then k * f (I 0).val (I 1).val else 0 : ℝ) : EReal)
  by_cases h1 : (I 1).val / 64 = p.val
  · rw [if_pos ((hm I).mpr h1), if_pos h1, ha I, hw, ← EReal.coe_mul, mul_comm]
  · rw [if_neg (fun h' => h1 ((hm I).mp h')), if_neg h1, Ideal.ofBits_zero_f32, EReal.coe_zero]

theorem half_low {m : IVec S128x128 1} (h : ∀ I, m I = 1#1 ↔ (I 1).val < 64) (I : S128x128.Idx) : m I = 1#1 ↔ (I 1).val / 64 = (0 : Fin 2).val := by
  have h1 : (I 1).val < 128 := (I 1).isLt
  rw [h I]; show _ ↔ _ = 0; omega
theorem half_high {m : IVec S128x128 1} (h : ∀ I, m I = 1#1 ↔ ¬ (I 1).val < 64) (I : S128x128.Idx) : m I = 1#1 ↔ (I 1).val / 64 = (1 : Fin 2).val := by
  have h1 : (I 1).val < 128 := (I 1).isLt
  rw [h I]; show _ ↔ _ = 1; omega

/-- Four heads' rows, stacked. -/
theorem stack4 {N : ℕ} {φ : FTy} (x : Fin 4 → FVec Ideal ⟨2, ![128, N]⟩ φ) (y : FVec Ideal ⟨2, ![512, N]⟩ φ) (hc : Shape.Concatenates [⟨2, ![128, N]⟩, ⟨2, ![128, N]⟩, ⟨2, ![128, N]⟩, ⟨2, ![128, N]⟩] ⟨2, ![512, N]⟩ 0)
    (hy : y = concatenate ⟨2, ![512, N]⟩ 0 [⟨⟨2, ![128, N]⟩, x 0⟩, ⟨⟨2, ![128, N]⟩, x 1⟩, ⟨⟨2, ![128, N]⟩, x 2⟩, ⟨⟨2, ![128, N]⟩, x 3⟩] hc)
    {f : ℕ → ℕ → ℕ → ℝ} (hx : ∀ h, IsM 128 N (x h) (f h.val)) : IsM 512 N y fun ρ l => f (ρ / 128) (ρ % 128) l := fun I => by
  have h0 : (I 0).val < 512 := (I 0).isLt
  rw [hy]
  refine (concatenate_ofFn_apply (t := ⟨2, ![512, N]⟩) (s₁ := ⟨2, ![128, N]⟩) 0 x hc rfl 128 rfl I ⟨(I 0).val / 128, by omega⟩ rfl
    (ix2 ⟨(I 0).val % 128, Nat.mod_lt _ (by norm_num)⟩ (I 1)) rfl
    (fun b hb => by
      match b with
      | ⟨0, _⟩ => exact absurd rfl hb
      | ⟨1, _⟩ => rfl)).trans ?_
  exact hx _ _

variable (c : Dev nD)

/-- What a point's 128×256 block holds. -/
def IsB (M : Memref sig .tc .vmem S128x256 .f32) (X : BufOf (F := Ideal) c M) (f : ℕ → ℕ → ℝ) : Prop :=
  ∀ J : S128x256.Idx, M.view.read (Elt Ideal) X J = ((f (J 0).val (J 1).val : ℝ) : EReal)

variable {c}

theorem left_val {M : Memref sig .tc .vmem S128x256 .f32} {X : BufOf (F := Ideal) c M} {f : ℕ → ℕ → ℝ} (h : IsB c M X f) :
    IsM 128 128 (left c M X) fun r l => f r (128 * 0 + l) := fun I => by
  refine (h _).trans ?_
  rw [LoadRect.idx_apply, LoadRect.idx_apply]
  show ((f (0 + 1 * (I 0).val) (0 + 1 * (I 1).val) : ℝ) : EReal) = ((f (I 0).val (128 * 0 + (I 1).val) : ℝ) : EReal)
  simp only [Nat.zero_add, Nat.one_mul, Nat.mul_zero]
theorem right_val {M : Memref sig .tc .vmem S128x256 .f32} {X : BufOf (F := Ideal) c M} {f : ℕ → ℕ → ℝ} (h : IsB c M X f) :
    IsM 128 128 (right c M X) fun r l => f r (128 * 1 + l) := fun I => by
  refine (h _).trans ?_
  rw [LoadRect.idx_apply, LoadRect.idx_apply]
  show ((f (0 + 1 * (I 0).val) (128 + 1 * (I 1).val) : ℝ) : EReal) = ((f (I 0).val (128 * 1 + (I 1).val) : ℝ) : EReal)
  simp only [Nat.zero_add, Nat.one_mul]

/-- Stacked row `ρ`'s entries from a block `f`, with factor `k`. -/
def stacked (k : ℝ) (f : ℕ → ℕ → ℝ) (ρ l : ℕ) : ℝ := if l / 64 = ρ / 128 % 2 then k * f (ρ % 128) (128 * (ρ / 256) + l) else 0

theorem stacked_of {k : ℝ} {f : ℕ → ℕ → ℝ} {x : Fin 4 → FVec Ideal S128x128 .bf16} {y : FVec Ideal S512x128 .bf16}
    (hy : y = concatenate S512x128 0 [⟨S128x128, x 0⟩, ⟨S128x128, x 1⟩, ⟨S128x128, x 2⟩, ⟨S128x128, x 3⟩] concatenates_S128x128_S128x128_S128x128_S128x128_S512x128_d0)
    (h0 : IsM 128 128 (x 0) fun r l => if l / 64 = (0 : Fin 2).val then k * f r (128 * 0 + l) else 0)
    (h1 : IsM 128 128 (x 1) fun r l => if l / 64 = (1 : Fin 2).val then k * f r (128 * 0 + l) else 0)
    (h2 : IsM 128 128 (x 2) fun r l => if l / 64 = (0 : Fin 2).val then k * f r (128 * 1 + l) else 0)
    (h3 : IsM 128 128 (x 3) fun r l => if l / 64 = (1 : Fin 2).val then k * f r (128 * 1 + l) else 0) : IsM 512 128 y (stacked k f) := fun I => by
  have hI : (I 0).val < 512 := (I 0).isLt
  rw [stack4 x y concatenates_S128x128_S128x128_S128x128_S128x128_S512x128_d0 hy (f := fun h r l => if l / 64 = h % 2 then k * f r (128 * (h / 2) + l) else 0) (fun h => by
    match h with
    | 0 => exact h0
    | 1 => exact h1
    | 2 => exact h2
    | 3 => exact h3) I]
  unfold stacked
  show ((if (I 1).val / 64 = (I 0).val / 128 % 2 then k * f ((I 0).val % 128) (128 * ((I 0).val / 128 / 2) + (I 1).val) else 0 : ℝ) : EReal) = _
  rw [show (I 0).val / 128 / 2 = (I 0).val / 256 by omega]

theorem qx_val {a b : FVec Ideal S128x128 .f32} {f : ℕ → ℕ → ℝ} (ha : IsM 128 128 a fun r l => f r (128 * 0 + l)) (hb : IsM 128 128 b fun r l => f r (128 * 1 + l)) :
    IsM 512 128 (qx a b) (stacked (1 / 8) f) := by
  refine stacked_of (x := ![k0_pay423 a, k0_pay424 a, _, _]) rfl ?_ ?_ ?_ ?_
  · exact head_val 0 rfl (half_low qlow_iff) ofBits_eighth ha
  · exact head_val 1 rfl (half_high qhigh_iff) ofBits_eighth ha
  · exact head_val 0 rfl (half_low qlow_iff) ofBits_eighth hb
  · exact head_val 1 rfl (half_high qhigh_iff) ofBits_eighth hb

theorem gx_val {a b : FVec Ideal S128x128 .f32} {f : ℕ → ℕ → ℝ} (ha : IsM 128 128 a fun r l => f r (128 * 0 + l)) (hb : IsM 128 128 b fun r l => f r (128 * 1 + l)) :
    IsM 512 128 (gx a b) (stacked 1 f) := by
  have h1 : Ideal.ofBits .f32 0x3F800000#32 = ((1 : ℝ) : EReal) := by rw [Ideal.ofBits_one_f32, EReal.coe_one]
  refine stacked_of (x := ![k0_pay429 a, k0_pay430 a, k0_pay431 b, _]) rfl ?_ ?_ ?_ ?_
  · exact head_val 0 rfl (half_low qlow_iff) h1 ha
  · exact head_val 1 rfl (half_high qhigh_iff) h1 ha
  · exact head_val 0 rfl (half_low qlow_iff) h1 hb
  · exact head_val 1 rfl (half_high qhigh_iff) h1 hb

/-- A head's totals, from its lane. -/
theorem lane_val {v : FVec Ideal S128x128 .f32} {f : ℕ → ℕ → ℝ} (hv : IsM 128 128 v f) (h : Fin 4) {y : FVec Ideal S128x1 .f32}
    (hy : y = shapeCast S128x1 (multiReduction .add [1] S128 (select (cmpi .eq (iota .tc S128x128 32 [1] iota_S128x128_d1_w32) (broadcast S128x128 (BitVec.ofNat 32 h.val))) v
      (broadcast S128x128 (Scalar.ofBits .f32 0x00000000#32 : Ideal .f32))) 0x00000000#32 reduces_S128x128_S128 (.inl rfl) rfl) shapeCasts_S128_S128x1) :
    IsM 128 1 y fun r _ => f r h.val := fun I => by
  rw [hy]
  refine (column_apply 128 _ _ I (ix1 (⟨(I 0).val, (I 0).isLt⟩ : Fin 128)) rfl).trans ?_
  refine (Ideal.multiReduction_add_single (s := S128x128) (a := 1) _ _ reduces_S128x128_S128 _ _ _).trans ?_
  have hl := h.isLt
  rw [Finset.sum_eq_single (⟨h.val, by show _ < 128; omega⟩ : Fin (S128x128.size 1))]
  · show (if Scalar.cmpi .eq (iota .tc S128x128 32 [1] iota_S128x128_d1_w32 _) (BitVec.ofNat 32 h.val) = 1#1 then v _ else _) = _
    rw [iota_single_apply]
    refine (if_pos ?_).trans (hv _)
    exact (eqHead ⟨h.val, by omega⟩ h).mpr rfl
  · intro k _ hk
    show (if Scalar.cmpi .eq (iota .tc S128x128 32 [1] iota_S128x128_d1_w32 _) (BitVec.ofNat 32 h.val) = 1#1 then v _ else Ideal.ofBits .f32 0x00000000#32) = 0
    rw [iota_single_apply]
    exact (if_neg (fun h' => hk (Fin.ext ((eqHead k h).mp h')))).trans Ideal.ofBits_zero_f32
  · intro h'; exact absurd (Finset.mem_univ _) h'

theorem tx_val {arg4 : Memref sig .tc .vmem S128x128 .f32} {X4 : BufOf (F := Ideal) c arg4} {f : ℕ → ℕ → ℝ}
    (h : ∀ J : S128x128.Idx, arg4.view.read (Elt Ideal) X4 J = ((f (J 0).val (J 1).val : ℝ) : EReal)) :
    IsC (tx c arg4 X4) fun ρ => f (ρ % 128) (ρ / 128) := by
  have hv : IsM 128 128 (shapeCast S128x128 (View.readAt (Elt Ideal) arg4.view (Rect.unit (s := S128x128) ![0, 0] S128x128.size inb_S128x128_S128x128_0_0).toLoadRect X4) shapeCasts_S128x128_S128x128 : FVec Ideal S128x128 .f32) f := fun I => by
    refine (shapeCast_apply _ _ _ I rfl).trans ((h _).trans ?_)
    rw [LoadRect.idx_apply, LoadRect.idx_apply]
    show ((f (0 + 1 * (I 0).val) (0 + 1 * (I 1).val) : ℝ) : EReal) = _
    simp only [Nat.zero_add, Nat.one_mul]
  have hs := stack4 (N := 1) ![_, _, _, _] (tx c arg4 X4) concatenates_S128x1_S128x1_S128x1_S128x1_S512x1_d0 rfl (f := fun h r _ => f r h) (fun h => by
    match h with
    | 0 => exact lane_val hv 0 rfl
    | 1 => exact lane_val hv 1 rfl
    | 2 => exact lane_val hv 2 rfl
    | 3 => exact lane_val hv 3 rfl)
  exact hs

end Cert.KernelIdeal.Hand
-- ==== Proof.Runs.lean ====
/-
  A point's whole sweep: its steps of 8, its step of 4, its steps of 1 and its own masked block, one after the other, from the
  chain's zeros to what the point leaves.
-/
module

public import proofs.«01_k».proof.Proof.PrologueValue

@[expose] public section

noncomputable section

namespace Cert.KernelIdeal.Hand

open Idealize.ShloMosaic Idealize.ShloMosaic.ValueIdx Idealize.ShloMosaic.TcCoe
open Cert.KernelIdeal Cert.KernelIdeal.Gen Cert.KernelIdeal.Sweep Cert.Spec
open Finset (range)

theorem off37_eq : ∀ i : grid0.Coords, k0_off37 i = ![128 * (i 0).val, 0] := by decide +kernel
theorem off38_eq : ∀ i : grid0.Coords, k0_off38 i = ![128 * (i 0).val, 128] := by decide +kernel
theorem off39_eq : ∀ i : grid0.Coords, k0_off39 i = ![128 * (i 0).val, 256] := by decide +kernel
theorem off40_eq : ∀ i : grid0.Coords, k0_off40 i = ![128 * (i 0).val, 384] := by decide +kernel
theorem off41_eq : ∀ i : grid0.Coords, k0_off41 i = ![128 * (i 0).val, 0] := by decide +kernel
theorem off42_eq : ∀ i : grid0.Coords, k0_off42 i = ![128 * (i 0).val, 128] := by decide +kernel

variable {c : Dev nD} {i : grid0.Coords} {arg2 : Memref sig .tc .vmem S8192x512 .bf16} {X2 : BufOf (F := Ideal) c arg2}

/-- Whichever of a pair's blocks is read, its place. -/
theorem pick {m x y : ℕ} {o1 o2 : Fin 2 → ℕ} (i1 : ∀ a, o1 a + S128x128.size a ≤ S8192x512.size a) (i2 : ∀ a, o2 a + S128x128.size a ≤ S8192x512.size a)
    (h1 : m % 2 = 0 → o1 = ![x, y]) (h2 : m % 2 = 1 → o2 = ![x, y]) :
    ∃ off inb, (if m % 2 = 0 then kvAt c arg2 X2 o1 i1 else kvAt c arg2 X2 o2 i2) = kvAt c arg2 X2 off inb ∧ off = ![x, y] := by
  by_cases h : m % 2 = 0
  · exact ⟨o1, i1, if_pos h, h1 h⟩
  · exact ⟨o2, i2, if_neg h, h2 (by omega)⟩
theorem pickPlace {m x y : ℕ} {o1 o2 : Fin 2 → ℕ} (h1 : m % 2 = 0 → o1 = ![x, y]) (h2 : m % 2 = 1 → o2 = ![x, y]) :
    (if m % 2 = 0 then o1 else o2) = ![x, y] := by
  by_cases h : m % 2 = 0
  · rw [if_pos h, h1 h]
  · rw [if_neg h, h2 (by omega)]

variable {D : Data} (H : Keys c arg2 X2 D) (hT : ∀ ρ, ρ < 512 → D.T ρ = 128 * (i 0).val + ρ % 128)

include hT in
theorem live_none {n j0 : ℕ} (hj : j0 + n ≤ (i 0).val) (I : (Wide n).Idx) : live n none I ↔ keyOf j0 I < D.T ((I 0).val % 512) := by
  have h0 := wide0 I
  have h1 := wide1 I
  refine ⟨fun _ => ?_, fun _ => trivial⟩
  rw [hT _ (Nat.mod_lt _ (by norm_num))]
  unfold keyOf
  omega

include hT in
theorem live_diag (I : (Wide 1).Idx) : live 1 (some k0_pay420) I ↔ keyOf (i 0).val I < D.T ((I 0).val % 512) := by
  have h0 := wide0 I
  have h1 := wide1 I
  rw [hT _ (Nat.mod_lt _ (by norm_num))]
  refine (diag_iff I).trans ?_
  show (I 1).val < (I 0).val % 128 ↔ keyOf (i 0).val I < _
  unfold keyOf
  omega

variable {low : IVec S128x128 1} {after before : FVec Ideal S128x128 .bf16} {q g : FVec Ideal S512x128 .bf16} {tot : FVec Ideal S512x1 .f32}
  (hF : Fixed D low after before q g tot) {arg8 arg9 : Memref sig .tc .vmem S8192x256 .f32} {a b : ℕ → ℕ → ℝ}

include H hT hF in
theorem inv_run8 {s : St (F := Ideal) c arg8 arg9} (hs : Inv c arg8 arg9 D a b 0 s) : ∀ k, k ≤ (i 0).val / 8 →
    Inv c arg8 arg9 D a b (8 * k) (run8 c i arg2 arg8 arg9 low after before q g tot X2 s k) := by
  intro k
  induction k with
  | zero => exact fun _ => hs
  | succ k ih =>
    intro hk
    have hi : (i 0).val < 64 := (i 0).isLt
    have h : k < (k0_t1_loop i).trips := by rw [trips1]; omega
    rw [run8, dif_pos h, show 8 * (k + 1) = 8 * k + 8 by ring]
    refine inv_step c _ (ih (by omega)) hF (live_none hT (by omega)) (isK_keys H (by omega) _ fun m => ?_) (isK_vals H (by omega) _ fun m => ?_) _ _ fun m => ?_
    · exact pick _ _ (fun e => by rw [e]; exact off1_eq i ⟨k, h⟩ ⟨m.val / 2, by have := m.isLt; omega⟩) (fun e => by rw [e]; exact off2_eq i ⟨k, h⟩ ⟨m.val / 2, by have := m.isLt; omega⟩)
    · exact pick _ _ (fun e => by rw [e]; exact off3_eq i ⟨k, h⟩ ⟨m.val / 2, by have := m.isLt; omega⟩) (fun e => by rw [e]; exact off4_eq i ⟨k, h⟩ ⟨m.val / 2, by have := m.isLt; omega⟩)
    · exact pickPlace (fun e => by rw [e]; exact off5_eq i ⟨k, h⟩ ⟨m.val / 2, by have := m.isLt; omega⟩) (fun e => by rw [e]; exact off6_eq i ⟨k, h⟩ ⟨m.val / 2, by have := m.isLt; omega⟩)

include H hT hF in
theorem inv_run4 {s : St (F := Ideal) c arg8 arg9} (hs : Inv c arg8 arg9 D a b (8 * ((i 0).val / 8)) s) :
    Inv c arg8 arg9 D a b (4 * ((i 0).val / 4)) (run4 c i arg2 arg8 arg9 low after before q g tot X2 s (k0_t3_loop i).trips) := by
  have hi : (i 0).val < 64 := (i 0).isLt
  have ht := trips3 i
  by_cases h : (i 0).val % 8 / 4 = 0
  · rw [show (k0_t3_loop i).trips = 0 by omega, show 4 * ((i 0).val / 4) = 8 * ((i 0).val / 8) by omega]
    exact hs
  · have h' : 0 < (k0_t3_loop i).trips := by omega
    rw [show (k0_t3_loop i).trips = 0 + 1 by omega, run4, dif_pos h', show 4 * ((i 0).val / 4) = 8 * ((i 0).val / 8) + 4 by omega]
    refine inv_step c _ hs hF (live_none hT (by omega)) (isK_keys H (by omega) _ fun m => ?_) (isK_vals H (by omega) _ fun m => ?_) _ _ fun m => ?_
    · exact pick _ _ (fun e => by rw [e]; exact off13_eq i ⟨m.val / 2, by have := m.isLt; omega⟩) (fun e => by rw [e]; exact off14_eq i ⟨m.val / 2, by have := m.isLt; omega⟩)
    · exact pick _ _ (fun e => by rw [e]; exact off15_eq i ⟨m.val / 2, by have := m.isLt; omega⟩) (fun e => by rw [e]; exact off16_eq i ⟨m.val / 2, by have := m.isLt; omega⟩)
    · exact pickPlace (fun e => by rw [e]; exact off17_eq i ⟨m.val / 2, by have := m.isLt; omega⟩) (fun e => by rw [e]; exact off18_eq i ⟨m.val / 2, by have := m.isLt; omega⟩)

include H hT hF in
theorem inv_run1 {s : St (F := Ideal) c arg8 arg9} (hs : Inv c arg8 arg9 D a b (4 * ((i 0).val / 4)) s) : ∀ k, k ≤ (i 0).val % 4 →
    Inv c arg8 arg9 D a b (4 * ((i 0).val / 4) + k) (run1 c i arg2 arg8 arg9 low after before q g tot X2 s k) := by
  intro k
  induction k with
  | zero => exact fun _ => hs
  | succ k ih =>
    intro hk
    have hi : (i 0).val < 64 := (i 0).isLt
    have h : k < (k0_t5_loop i).trips := by rw [trips5]; omega
    rw [run1, dif_pos h, ← Nat.add_assoc]
    refine inv_step c _ (ih (by omega)) hF (live_none hT (by omega)) (isK_keys H (by omega) _ fun m => ?_) (isK_vals H (by omega) _ fun m => ?_) _ _ fun m => ?_ <;>
      have hm : m.val / 2 = 0 := by have := m.isLt; omega
    · exact pick _ _ (fun e => by rw [e, hm]; exact off25_eq i ⟨k, h⟩) (fun e => by rw [e, hm]; exact off26_eq i ⟨k, h⟩)
    · exact pick _ _ (fun e => by rw [e, hm]; exact off27_eq i ⟨k, h⟩) (fun e => by rw [e, hm]; exact off28_eq i ⟨k, h⟩)
    · exact pickPlace (fun e => by rw [e, hm]; exact off29_eq i ⟨k, h⟩) (fun e => by rw [e, hm]; exact off30_eq i ⟨k, h⟩)

theorem zeroCol (I : S512x1.Idx) : (k0_pay435 : FVec Ideal S512x1 .f32) I = ((0 : ℝ) : EReal) := Ideal.ofBits_zero_f32.trans EReal.coe_zero.symm
theorem zeroBlk (I : S128x128.Idx) : (k0_pay436 : FVec Ideal S128x128 .f32) I = ((0 : ℝ) : EReal) := Ideal.ofBits_zero_f32.trans EReal.coe_zero.symm

include H hT in
/-- What a point leaves, from sums `a` and `b`. -/
theorem last_inv (hF : Fixed D k0_pay417 k0_pay418 k0_pay419 q g tot) {f8 : BufOf (F := Ideal) c dkM} {f9 : BufOf (F := Ideal) c dvM}
    (h8 : ∀ I, dkM.view.read (Elt Ideal) f8 I = ((a (I 0).val (I 1).val : ℝ) : EReal))
    (h9 : ∀ I, dvM.view.read (Elt Ideal) f9 I = ((b (I 0).val (I 1).val : ℝ) : EReal)) :
    Inv c dkM dvM D a b ((i 0).val + 1) (last c i arg2 q g tot X2 f8 f9) := by
  have hi : (i 0).val < 64 := (i 0).isLt
  have h0 : Inv c dkM dvM D a b 0 ((k0_pay435, k0_pay435, k0_pay436, k0_pay436), f8, f9) := by
    refine ⟨fun I => ?_, fun I => ?_, fun I => ?_, fun I => ?_, fun I => ?_, fun I => ?_⟩
    · refine (zeroCol I).trans (congrArg _ ?_); simp [Data.PP]
    · refine (zeroCol I).trans (congrArg _ ?_); simp [Data.EE]
    · refine (zeroBlk I).trans (congrArg _ ?_); simp [Data.DQ]
    · refine (zeroBlk I).trans (congrArg _ ?_); simp [Data.DQ]
    · refine (h8 I).trans (congrArg _ ?_); simp
    · refine (h9 I).trans (congrArg _ ?_); simp
  have h8' := inv_run8 H hT hF h0 (k0_t1_loop i).trips (trips1 i).le
  rw [show 8 * (k0_t1_loop i).trips = 8 * ((i 0).val / 8) by rw [trips1]] at h8'
  have h1 := inv_run1 H hT hF (inv_run4 H hT hF h8') (k0_t5_loop i).trips (trips5 i).le
  have h2 : Inv c dkM dvM D a b (i 0).val (swept c i arg2 q g tot X2 f8 f9) := by
    have e : 4 * ((i 0).val / 4) + (k0_t5_loop i).trips = (i 0).val := by rw [trips5]; omega
    rw [e] at h1
    exact h1
  unfold last
  refine inv_step c _ h2 hF (live_diag hT) (isK_keys H (by omega) _ fun m => ?_) (isK_vals H (by omega) _ fun m => ?_) _ _ fun m => ?_ <;>
    have hm : m.val / 2 = 0 := by have := m.isLt; omega
  · exact pick _ _ (fun e => by rw [e, hm]; exact off37_eq i) (fun e => by rw [e, hm]; exact off38_eq i)
  · exact pick _ _ (fun e => by rw [e, hm]; exact off39_eq i) (fun e => by rw [e, hm]; exact off40_eq i)
  · exact pickPlace (fun e => by rw [e, hm]; exact off41_eq i) (fun e => by rw [e, hm]; exact off42_eq i)

end Cert.KernelIdeal.Hand
-- ==== Proof.AttendChain.lean ====
/-
  A forward point's chain of steps over the reals: once the blocks from block `B` up are done it carries, of each row, the sum
  over the keys from `128 B`, and of each pair of heads the part of the result that comes from those keys.
-/
module

public import proofs.«01_k».proof.Proof.AttendBody
public import proofs.«01_k».proof.Proof.Runs

@[expose] public section

noncomputable section

namespace Cert.AttendIdeal.Hand

open Idealize.ShloMosaic Idealize.ShloMosaic.ValueIdx Idealize.ShloMosaic.TcCoe
open Cert.AttendIdeal Cert.AttendIdeal.Gen Cert.KernelIdeal.Sweep Cert.Spec

/-- A 128×128 block of the keys and values, entry by entry. -/
theorem kvAt_apply (arg2 : Memref sig .tc .vmem S8192x512 .bf16) (X2 : BufTy.Contents (Elt Ideal) arg2.view.ty) (off : Fin 2 → ℕ)
    (inb : ∀ a, off a + S128x128.size a ≤ S8192x512.size a) (I : S128x128.Idx) (J : S8192x512.Idx)
    (h0 : (J 0).val = off 0 + (I 0).val) (h1 : (J 1).val = off 1 + (I 1).val) :
    kvAt arg2 X2 off inb I = arg2.view.read (Elt Ideal) X2 J := by
  unfold kvAt
  refine (shapeCast_apply _ _ _ I rfl).trans ?_
  refine (View.readAt_apply _ _ _).trans (congrArg _ (funext fun a => Fin.ext ?_))
  match a with
  | ⟨0, _⟩ => rw [LoadRect.idx_apply]; show off 0 + 1 * (I 0).val = (J 0).val; omega
  | ⟨1, _⟩ => rw [LoadRect.idx_apply]; show off 1 + 1 * (I 1).val = (J 1).val; omega

/-- What a block of keys and values holds. -/
structure Keys (x1 : Vec Ideal S8192x512 .bf16) (D : Data) : Prop where
  k : ∀ J : S8192x512.Idx, (J 1).val < 256 → x1 J = ((D.kk (J 0).val (J 1).val : ℝ) : EReal)
  v : ∀ J : S8192x512.Idx, 256 ≤ (J 1).val → x1 J = ((D.vv (J 0).val ((J 1).val - 256) : ℝ) : EReal)

section
variable {arg2 : Memref sig .tc .vmem S8192x512 .bf16} {harg2 : arg2.IsWhole} {x1 : Vec Ideal S8192x512 .bf16} {D : Data} (H : Keys x1 D) {n jt : ℕ}

include H in
theorem isK_keys (hj : jt < 64) (K : Fin (2 * n) → FVec Ideal S128x128 .bf16)
    (h : ∀ m : Fin (2 * n), ∃ off inb, K m = kvAt arg2 (harg2.unread x1) off inb ∧ off = ![128 * (jt - m.val / 2), 128 * (m.val % 2)]) :
    IsK n 0 K fun s l => D.kk (back jt s) l := fun m I => by
  obtain ⟨off, inb, hK, ho⟩ := h m
  have hm := m.isLt
  have h0 : (I 0).val < 128 := (I 0).isLt
  have h1 : (I 1).val < 128 := (I 1).isLt
  have e0 : off 0 = 128 * (jt - m.val / 2) := by rw [ho]; rfl
  have e1 : off 1 = 128 * (m.val % 2) := by rw [ho]; rfl
  rw [hK, kvAt_apply arg2 _ off inb I (ix2 (⟨128 * (jt - m.val / 2) + (I 0).val, by omega⟩ : Fin 8192) (⟨128 * (m.val % 2) + (I 1).val, by omega⟩ : Fin 512))
    (by rw [e0]) (by rw [e1]), harg2.read_unread]
  refine (H.k _ (by show 128 * (m.val % 2) + (I 1).val < 256; omega)).trans ?_
  show _ = ((D.kk (back jt (128 * (0 + m.val / 2) + (I 0).val)) (128 * (m.val % 2) + (I 1).val) : ℝ) : EReal)
  rw [Nat.zero_add, back_block jt _ h0]

include H in
theorem isK_vals (hj : jt < 64) (K : Fin (2 * n) → FVec Ideal S128x128 .bf16)
    (h : ∀ m : Fin (2 * n), ∃ off inb, K m = kvAt arg2 (harg2.unread x1) off inb ∧ off = ![128 * (jt - m.val / 2), 256 + 128 * (m.val % 2)]) :
    IsK n 0 K fun s l => D.vv (back jt s) l := fun m I => by
  obtain ⟨off, inb, hK, ho⟩ := h m
  have hm := m.isLt
  have h0 : (I 0).val < 128 := (I 0).isLt
  have h1 : (I 1).val < 128 := (I 1).isLt
  have e0 : off 0 = 128 * (jt - m.val / 2) := by rw [ho]; rfl
  have e1 : off 1 = 256 + 128 * (m.val % 2) := by rw [ho]; rfl
  rw [hK, kvAt_apply arg2 _ off inb I (ix2 (⟨128 * (jt - m.val / 2) + (I 0).val, by omega⟩ : Fin 8192) (⟨256 + 128 * (m.val % 2) + (I 1).val, by omega⟩ : Fin 512))
    (by rw [e0]) (by rw [e1]), harg2.read_unread]
  refine (H.v _ (by show 256 ≤ 256 + 128 * (m.val % 2) + (I 1).val; omega)).trans ?_
  show ((D.vv (128 * (jt - m.val / 2) + (I 0).val) (256 + 128 * (m.val % 2) + (I 1).val - 256) : ℝ) : EReal)
    = ((D.vv (back jt (128 * (0 + m.val / 2) + (I 0).val)) (128 * (m.val % 2) + (I 1).val) : ℝ) : EReal)
  rw [Nat.zero_add, back_block jt _ h0, show 256 + 128 * (m.val % 2) + (I 1).val - 256 = 128 * (m.val % 2) + (I 1).val by omega]

theorem pick {off off' : Fin 2 → ℕ} (inb : ∀ a, off a + S128x128.size a ≤ S8192x512.size a) (inb' : ∀ a, off' a + S128x128.size a ≤ S8192x512.size a)
    {X2 : BufTy.Contents (Elt Ideal) arg2.view.ty} {e : Fin 2 → ℕ} {m : ℕ} (h : m % 2 = 0 → off = e) (h' : m % 2 = 1 → off' = e) :
    ∃ o i, (if m % 2 = 0 then kvAt arg2 X2 off inb else kvAt arg2 X2 off' inb') = kvAt arg2 X2 o i ∧ o = e := by
  by_cases hm : m % 2 = 0
  · exact ⟨off, inb, if_pos hm, h hm⟩
  · exact ⟨off', inb', if_neg hm, h' (by omega)⟩
end

/-- The chain with the blocks from `B` up done; `Y` is the whole of each pair's result. -/
structure Inv (D : Data) (Y : ℕ → ℕ → ℕ → ℝ) (B : ℕ) (s : FCar Ideal) : Prop where
  p : IsC s.1 fun ρ => D.tot ρ - D.PP ρ (128 * B)
  y0 : IsM 128 128 s.2.1 fun r l => Y 0 r l - D.YY 0 (128 * B) r l
  y1 : IsM 128 128 s.2.2 fun r l => Y 1 r l - D.YY 1 (128 * B) r l

/-- What every step of a point is handed. -/
structure Fixed (D : Data) (low : IVec S128x128 1) (after : FVec Ideal S128x128 .bf16) (q : FVec Ideal S512x128 .bf16) : Prop where
  q : IsM 512 128 q D.qs
  low : ∀ I, low I = 1#1 ↔ (I 1).val < 64
  after : IsM 128 128 after fun k c => if c < k then 1 else 0

theorem inv_step {D : Data} {Y : ℕ → ℕ → ℕ → ℝ} {n jt B B' : ℕ} (hn : Ok n) {s : FCar Ideal} {low : IVec S128x128 1} {after : FVec Ideal S128x128 .bf16}
    {q : FVec Ideal S512x128 .bf16} (hF : Fixed D low after q) (hs : Inv D Y B s) (hB : B = jt + 1) (hB' : B' + n = B) {msk : Option (IVec (Wide n) 1)}
    (hm : ∀ I, live n msk I ↔ back jt (keyOf 0 I) < D.T ((I 0).val % 512)) {K V : Fin (2 * n) → FVec Ideal S128x128 .bf16}
    (hK : IsK n 0 K fun s l => D.kk (back jt s) l) (hV : IsK n 0 V fun s l => D.vv (back jt s) l) :
    Inv D Y B' (fwdStep n hn msk low after q K V s) := by
  subst hB
  have R : FReady D n jt msk low after q s.1 K V := ⟨by omega, hF.q, hK, hV, hs.p, hm, hF.low, hF.after⟩
  have e : jt + 1 - n = B' := by omega
  have h0 := fwd_through hn R n le_rfl
  have h1 := fwd_out hn R 0 hs.y0 n le_rfl
  have h2 := fwd_out hn R 1 hs.y1 n le_rfl
  rw [e] at h0 h1 h2
  exact ⟨h0, h1, h2⟩

section
variable {D : Data} {Y : ℕ → ℕ → ℕ → ℝ} {i : grid0.Coords} (hT : ∀ ρ, ρ < 512 → D.T ρ = 128 * (i 0).val + ρ % 128)

include hT in
theorem live_none {n jt : ℕ} (hj : jt < (i 0).val) (I : (Wide n).Idx) : live n none I ↔ back jt (keyOf 0 I) < D.T ((I 0).val % 512) := by
  have h1 := wide1 I
  refine ⟨fun _ => ?_, fun _ => trivial⟩
  rw [hT _ (Nat.mod_lt _ (by norm_num))]
  unfold keyOf
  rw [back_block jt _ h1]
  omega

include hT in
theorem live_diag (I : (Wide 1).Idx) : live 1 (some Cert.KernelIdeal.Gen.k0_pay420) I ↔ back (i 0).val (keyOf 0 I) < D.T ((I 0).val % 512) := by
  have h0 := wide0 I
  have h1 := wide1 I
  rw [hT _ (Nat.mod_lt _ (by norm_num))]
  refine (Cert.KernelIdeal.Hand.diag_iff I).trans ?_
  unfold keyOf
  rw [back_block _ _ h1]
  show (I 1).val < (I 0).val % 128 ↔ _
  omega

variable {low : IVec S128x128 1} {after : FVec Ideal S128x128 .bf16} {q : FVec Ideal S512x128 .bf16} (hF : Fixed D low after q)
  {arg2 : Memref sig .tc .vmem S8192x512 .bf16} {harg2 : arg2.IsWhole} {x1 : Vec Ideal S8192x512 .bf16} (H : Keys x1 D)

include H hT hF in
theorem inv_run8 {s : FCar Ideal} (hs : Inv D Y (i 0).val s) : ∀ k, k ≤ (i 0).val / 8 →
    Inv D Y ((i 0).val - 8 * k) (run8 i arg2 (harg2.unread x1) low after q s k) := by
  intro k
  induction k with
  | zero => exact fun _ => hs
  | succ k ih =>
    intro hk
    have hi : (i 0).val < 64 := (i 0).isLt
    have h : k < (k0_t1_loop i).trips := by rw [trips1]; omega
    rw [run8, dif_pos h]
    refine inv_step (jt := (i 0).val - 1 - 8 * k) _ hF (ih (by omega)) (by omega) (by omega) (live_none hT (by omega))
      (isK_keys (harg2 := harg2) H (by omega) _ fun m => ?_) (isK_vals (harg2 := harg2) H (by omega) _ fun m => ?_)
    · exact pick _ _ (fun e => by rw [e]; exact off5_eq i ⟨k, h⟩ ⟨m.val / 2, by have := m.isLt; omega⟩) (fun e => by rw [e]; exact off6_eq i ⟨k, h⟩ ⟨m.val / 2, by have := m.isLt; omega⟩)
    · exact pick _ _ (fun e => by rw [e]; exact off7_eq i ⟨k, h⟩ ⟨m.val / 2, by have := m.isLt; omega⟩) (fun e => by rw [e]; exact off8_eq i ⟨k, h⟩ ⟨m.val / 2, by have := m.isLt; omega⟩)

include H hT hF in
theorem inv_run4 {s : FCar Ideal} (hs : Inv D Y ((i 0).val % 8) s) :
    Inv D Y ((i 0).val % 4) (run4 i arg2 (harg2.unread x1) low after q s (k0_t3_loop i).trips) := by
  have hi : (i 0).val < 64 := (i 0).isLt
  have ht := trips3 i
  by_cases h : (i 0).val % 8 / 4 = 0
  · rw [show (k0_t3_loop i).trips = 0 by omega, show (i 0).val % 4 = (i 0).val % 8 by omega]
    exact hs
  · have h' : 0 < (k0_t3_loop i).trips := by omega
    have h4 : 4 ≤ (i 0).val % 8 := by omega
    rw [show (k0_t3_loop i).trips = 0 + 1 by omega, run4, dif_pos h']
    refine inv_step (jt := (i 0).val % 8 - 1) _ hF hs (by omega) (by omega) (live_none hT (by omega))
      (isK_keys (harg2 := harg2) H (by omega) _ fun m => ?_) (isK_vals (harg2 := harg2) H (by omega) _ fun m => ?_)
    · exact pick _ _ (fun e => by rw [e]; exact off13_eq i ⟨m.val / 2, by have := m.isLt; omega⟩ h4) (fun e => by rw [e]; exact off14_eq i ⟨m.val / 2, by have := m.isLt; omega⟩ h4)
    · exact pick _ _ (fun e => by rw [e]; exact off15_eq i ⟨m.val / 2, by have := m.isLt; omega⟩ h4) (fun e => by rw [e]; exact off16_eq i ⟨m.val / 2, by have := m.isLt; omega⟩ h4)

include H hT hF in
theorem inv_run1 {s : FCar Ideal} (hs : Inv D Y ((i 0).val % 4) s) : ∀ k, k ≤ (i 0).val % 4 →
    Inv D Y ((i 0).val % 4 - k) (run1 i arg2 (harg2.unread x1) low after q s k) := by
  intro k
  induction k with
  | zero => exact fun _ => hs
  | succ k ih =>
    intro hk
    have hi : (i 0).val < 64 := (i 0).isLt
    have h : k < (k0_t5_loop i).trips := by rw [trips5]; omega
    rw [run1, dif_pos h]
    refine inv_step (jt := (i 0).val % 4 - 1 - k) _ hF (ih (by omega)) (by omega) (by omega) (live_none hT (by omega))
      (isK_keys (harg2 := harg2) H (by omega) _ fun m => ?_) (isK_vals (harg2 := harg2) H (by omega) _ fun m => ?_) <;>
      have hm : m.val / 2 = 0 := by have := m.isLt; omega
    · exact pick _ _ (fun e => by rw [e, hm]; exact off21_eq i ⟨k, h⟩) (fun e => by rw [e, hm]; exact off22_eq i ⟨k, h⟩)
    · exact pick _ _ (fun e => by rw [e, hm]; exact off23_eq i ⟨k, h⟩) (fun e => by rw [e, hm]; exact off24_eq i ⟨k, h⟩)
end

/-! The point's own operands. -/

theorem half0_val {arg1 : Memref sig .tc .vmem S128x256 .f32} {harg1 : arg1.IsWhole} {x0 : Vec Ideal S128x256 .f32} {f : ℕ → ℕ → ℝ}
    (h : ∀ J, x0 J = ((f (J 0).val (J 1).val : ℝ) : EReal)) : IsM 128 128 (half0 arg1 harg1 x0) fun r l => f r (128 * 0 + l) := fun I => by
  refine (View.readAt_apply _ _ _).trans ?_
  rw [harg1.read_unread, h, LoadRect.idx_apply, LoadRect.idx_apply]
  show ((f (0 + 1 * (I 0).val) (0 + 1 * (I 1).val) : ℝ) : EReal) = ((f (I 0).val (128 * 0 + (I 1).val) : ℝ) : EReal)
  simp only [Nat.zero_add, Nat.one_mul, Nat.mul_zero]
theorem half1_val {arg1 : Memref sig .tc .vmem S128x256 .f32} {harg1 : arg1.IsWhole} {x0 : Vec Ideal S128x256 .f32} {f : ℕ → ℕ → ℝ}
    (h : ∀ J, x0 J = ((f (J 0).val (J 1).val : ℝ) : EReal)) : IsM 128 128 (half1 arg1 harg1 x0) fun r l => f r (128 * 1 + l) := fun I => by
  refine (View.readAt_apply _ _ _).trans ?_
  rw [harg1.read_unread, h, LoadRect.idx_apply, LoadRect.idx_apply]
  show ((f (0 + 1 * (I 0).val) (128 + 1 * (I 1).val) : ℝ) : EReal) = ((f (I 0).val (128 * 1 + (I 1).val) : ℝ) : EReal)
  simp only [Nat.zero_add, Nat.one_mul]

/-- A point's sweep leaves each pair's result over all the keys up to the point's own block. -/
theorem last_inv {D : Data} {i : grid0.Coords} (hT : ∀ ρ, ρ < 512 → D.T ρ = 128 * (i 0).val + ρ % 128)
    (htot : ∀ ρ, ρ < 512 → D.tot ρ = D.PP ρ (128 * ((i 0).val + 1)))
    {arg1 : Memref sig .tc .vmem S128x256 .f32} {harg1 : arg1.IsWhole} {arg2 : Memref sig .tc .vmem S8192x512 .bf16} {harg2 : arg2.IsWhole}
    {x0 : Vec Ideal S128x256 .f32} {x1 : Vec Ideal S8192x512 .bf16} (H : Keys x1 D) (hq : IsM 512 128 (qq arg1 harg1 x0) D.qs) :
    Inv D (fun pr => D.YY pr (128 * ((i 0).val + 1))) 0 (last i arg1 harg1 arg2 harg2 x0 x1) := by
  have hi : (i 0).val < 64 := (i 0).isLt
  have hF : Fixed D k0_pay192 k0_pay193 (qq arg1 harg1 x0) := ⟨hq, Cert.KernelIdeal.Hand.low_iff, Cert.KernelIdeal.Hand.after_val⟩
  have h0 : Inv D (fun pr => D.YY pr (128 * ((i 0).val + 1))) ((i 0).val + 1)
      (Cert.KernelIdeal.Gen.k0_pay435, Cert.KernelIdeal.Gen.k0_pay436, Cert.KernelIdeal.Gen.k0_pay436) := by
    refine ⟨fun I => ?_, fun I => ?_, fun I => ?_⟩
    · show _ = ((D.tot (I 0).val - D.PP (I 0).val (128 * ((i 0).val + 1)) : ℝ) : EReal)
      rw [htot _ (I 0).isLt, sub_self]; exact Cert.KernelIdeal.Hand.zeroCol I
    · show _ = ((D.YY 0 (128 * ((i 0).val + 1)) (I 0).val (I 1).val - D.YY 0 (128 * ((i 0).val + 1)) (I 0).val (I 1).val : ℝ) : EReal)
      rw [sub_self]; exact Cert.KernelIdeal.Hand.zeroBlk I
    · show _ = ((D.YY 1 (128 * ((i 0).val + 1)) (I 0).val (I 1).val - D.YY 1 (128 * ((i 0).val + 1)) (I 0).val (I 1).val : ℝ) : EReal)
      rw [sub_self]; exact Cert.KernelIdeal.Hand.zeroBlk I
  have h1 : Inv D (fun pr => D.YY pr (128 * ((i 0).val + 1))) (i 0).val (s0 i arg1 harg1 arg2 harg2 x0 x1) := by
    refine inv_step (jt := (i 0).val) _ hF h0 rfl rfl (live_diag hT) (isK_keys (harg2 := harg2) H hi _ fun m => ?_) (isK_vals (harg2 := harg2) H hi _ fun m => ?_) <;>
      have hm : m.val / 2 = 0 := by have := m.isLt; omega
    · exact pick _ _ (fun e => by rw [e, hm]; exact off1_eq i) (fun e => by rw [e, hm]; exact off2_eq i)
    · exact pick _ _ (fun e => by rw [e, hm]; exact off3_eq i) (fun e => by rw [e, hm]; exact off4_eq i)
  have h2 := inv_run8 hT hF (harg2 := harg2) H h1 ((i 0).val / 8) le_rfl
  rw [← trips1, show (i 0).val - 8 * (k0_t1_loop i).trips = (i 0).val % 8 by rw [trips1]; omega] at h2
  have h3 := inv_run4 hT hF (harg2 := harg2) H h2
  have h4 := inv_run1 hT hF (harg2 := harg2) H h3 ((i 0).val % 4) le_rfl
  rw [Nat.sub_self, ← trips5] at h4
  exact h4

end Cert.AttendIdeal.Hand
-- ==== Proof.Whole.lean ====
/-
  The gradients over the whole sequence, head by head and key by key, and how a point's sums, stacked head over head, come to
  them.  Real numbers only.
-/
module

public import proofs.«01_k».proof.Proof.Spec

@[expose] public section

noncomputable section

namespace Cert.Spec

open Finset (range)

/-- The queries, the keys, the values and the cotangents: 8192 rows, four heads of 64 columns. -/
structure Whole where
  q : ℕ → ℕ → ℝ
  k : ℕ → ℕ → ℝ
  v : ℕ → ℕ → ℝ
  g : ℕ → ℕ → ℝ

namespace Whole

variable (G : Whole)

/-- A head's row of `a` against its row of `b`. -/
def dotHead (a b : ℕ → ℕ → ℝ) (h t s : ℕ) : ℝ := ∑ d ∈ range 64, a t (64 * h + d) * b s (64 * h + d)

def z (h t s : ℕ) : ℝ := dotHead G.q G.k h t s * (1 / 8)
def lom (h t s : ℕ) : ℝ := if s < t then LS (G.z h t s) - G.z h t s else 0
def pp (h t n : ℕ) : ℝ := ∑ s ∈ range n, G.lom h t s
def aa (h t s : ℕ) : ℝ := if s < t then Real.exp (LS (G.z h t s) + (G.pp h t 8192 - G.pp h t (s + 1))) else 0
def ea (h t s : ℕ) : ℝ := dotHead G.g G.v h t s * G.aa h t s
def ee (h t n : ℕ) : ℝ := ∑ s ∈ range n, G.ea h t s
def dl (h t s : ℕ) : ℝ := if s < t then G.ee h t s else 0
def dz (h t s : ℕ) : ℝ := G.ea h t s * (1 - Real.exp (LS (G.z h t s))) - G.dl h t s * Real.exp (LS (G.z h t s))

def dq (t l : ℕ) : ℝ := (∑ s ∈ range 8192, G.dz (l / 64) t s * G.k s l) * (1 / 8)
def dk (s l : ℕ) : ℝ := ∑ t ∈ range 8192, G.dz (l / 64) t s * (1 / 8 * G.q t l)
def dv (s l : ℕ) : ℝ := ∑ t ∈ range 8192, G.aa (l / 64) t s * G.g t l

/-- Stacked row `ρ`'s entries from a block `f`, with factor `k`. -/
def stacked (k : ℝ) (f : ℕ → ℕ → ℝ) (ρ l : ℕ) : ℝ := if l / 64 = ρ / 128 % 2 then k * f (ρ % 128) (128 * (ρ / 256) + l) else 0

/-- What point `n` works on: queries `128 n` to `128 n + 127` of the four heads. -/
def point (n : ℕ) : Data where
  T ρ := 128 * n + ρ % 128
  qs := stacked (1 / 8) fun r l => G.q (128 * n + r) l
  gs := stacked 1 fun r l => G.g (128 * n + r) l
  kk := G.k
  vv := G.v
  tot ρ := G.pp (ρ / 128) (128 * n + ρ % 128) 8192

theorem sum128 (f : ℕ → ℝ) : ∑ x ∈ range 128, f x = ∑ x ∈ range 64, f x + ∑ x ∈ range 64, f (64 + x) := Finset.sum_range_add f 64 64
theorem sum256 (f : ℕ → ℝ) : ∑ x ∈ range 256, f x = ∑ x ∈ range 128, f x + ∑ x ∈ range 128, f (128 + x) := Finset.sum_range_add f 128 128

/-- A stacked row has one head's 64 entries. -/
theorem dotRow_stacked (κ : ℝ) (f k : ℕ → ℕ → ℝ) (ρ s : ℕ) :
    dotRow (stacked κ f) k ρ s = κ * ∑ d ∈ range 64, f (ρ % 128) (64 * (ρ / 128) + d) * k s (64 * (ρ / 128) + d) := by
  unfold dotRow
  rw [sum128]
  by_cases h : ρ / 128 % 2 = 0
  · rw [Finset.sum_eq_zero (s := range 64) (f := fun x => stacked κ f ρ (64 + x) * k s (128 * (ρ / 256) + (64 + x))), add_zero, Finset.mul_sum]
    · refine Finset.sum_congr rfl fun d hd => ?_
      rw [Finset.mem_range] at hd
      unfold stacked
      rw [if_pos (by omega), show 128 * (ρ / 256) + d = 64 * (ρ / 128) + d by omega]
      ring
    · intro d hd
      rw [Finset.mem_range] at hd
      unfold stacked
      rw [if_neg (by omega), zero_mul]
  · rw [Finset.sum_eq_zero (s := range 64) (f := fun x => stacked κ f ρ x * k s (128 * (ρ / 256) + x)), zero_add, Finset.mul_sum]
    · refine Finset.sum_congr rfl fun d hd => ?_
      rw [Finset.mem_range] at hd
      unfold stacked
      rw [if_pos (by omega), show 128 * (ρ / 256) + (64 + d) = 64 * (ρ / 128) + d by omega]
      ring
    · intro d hd
      rw [Finset.mem_range] at hd
      unfold stacked
      rw [if_neg (by omega), zero_mul]

variable (n : ℕ)

theorem point_Z (ρ s : ℕ) : (G.point n).Z ρ s = G.z (ρ / 128) (128 * n + ρ % 128) s := by
  show dotRow (stacked (1 / 8) fun r l => G.q (128 * n + r) l) G.k ρ s = _
  rw [dotRow_stacked]
  unfold z dotHead
  rw [mul_comm]
theorem point_LOM (ρ s : ℕ) : (G.point n).LOM ρ s = G.lom (ρ / 128) (128 * n + ρ % 128) s := by
  unfold Data.LOM; rw [point_Z]; rfl
theorem point_PP (ρ b : ℕ) : (G.point n).PP ρ b = G.pp (ρ / 128) (128 * n + ρ % 128) b :=
  Finset.sum_congr rfl fun _ _ => point_LOM _ _ _ _
theorem point_T (ρ : ℕ) : (G.point n).T ρ = 128 * n + ρ % 128 := by simp only [point]
theorem point_tot (ρ : ℕ) : (G.point n).tot ρ = G.pp (ρ / 128) (128 * n + ρ % 128) 8192 := by simp only [point]
theorem point_AA (ρ s : ℕ) : (G.point n).AA ρ s = G.aa (ρ / 128) (128 * n + ρ % 128) s := by
  unfold Data.AA aa; rw [point_Z, point_PP, point_T, point_tot]
theorem point_EA (ρ s : ℕ) : (G.point n).EA ρ s = G.ea (ρ / 128) (128 * n + ρ % 128) s := by
  unfold Data.EA; rw [point_AA, show dotRow (G.point n).gs (G.point n).vv ρ s = dotRow (stacked 1 fun r l => G.g (128 * n + r) l) G.v ρ s from rfl, dotRow_stacked, one_mul]; rfl
theorem point_EE (ρ b : ℕ) : (G.point n).EE ρ b = G.ee (ρ / 128) (128 * n + ρ % 128) b :=
  Finset.sum_congr rfl fun _ _ => point_EA _ _ _ _
theorem point_DL (ρ s : ℕ) : (G.point n).DL ρ s = G.dl (ρ / 128) (128 * n + ρ % 128) s := by
  unfold Data.DL; rw [point_EE]; rfl
theorem point_DZ (ρ s : ℕ) : (G.point n).DZ ρ s = G.dz (ρ / 128) (128 * n + ρ % 128) s := by
  unfold Data.DZ; rw [point_EA, point_DL, point_Z]; rfl

theorem dz_eq_zero {h t s : ℕ} (hs : t ≤ s) : G.dz h t s = 0 := by
  have h' : ¬ s < t := by omega
  simp only [dz, ea, aa, dl, if_neg h', mul_zero, zero_mul, sub_zero]

/-- A point's dq is its rows of the whole dq. -/
theorem point_dq {r l pr : ℕ} (hn : n < 64) (hr : r < 128) (hl : l < 128) :
    (G.point n).DQ pr (128 * (n + 1)) r l * (1 / 8) = G.dq (128 * n + r) (128 * pr + l) := by
  have e : (256 * pr + rowOf r l) / 128 = (128 * pr + l) / 64 ∧ (256 * pr + rowOf r l) % 128 = r := by
    unfold rowOf; split <;> omega
  unfold Data.DQ dq
  refine congrArg (· * (1 / 8 : ℝ)) ?_
  rw [show (8192 : ℕ) = 128 * (n + 1) + (8192 - 128 * (n + 1)) by omega, Finset.sum_range_add, Finset.sum_eq_zero (s := range (8192 - 128 * (n + 1))), add_zero]
  · refine Finset.sum_congr rfl fun s _ => ?_
    rw [point_DZ, e.1, e.2]; rfl
  · intro x _
    rw [dz_eq_zero _ (by omega), zero_mul]

/-- A pair's 256 rows against a column: the column's head's 128. -/
theorem share_stacked (κ : ℝ) (f g : ℕ → ℕ → ℝ) (s l : ℕ) :
    ∑ ρ ∈ range 256, f (256 * (l / 128) + ρ) s * stacked κ g (256 * (l / 128) + ρ) (l % 128)
      = ∑ r ∈ range 128, f (128 * (l / 64) + r) s * (κ * g r l) := by
  rw [sum256]
  by_cases h : l / 64 % 2 = 0
  · rw [Finset.sum_eq_zero (s := range 128) (f := fun x => f (256 * (l / 128) + (128 + x)) s * _), add_zero]
    · refine Finset.sum_congr rfl fun r hr => ?_
      rw [Finset.mem_range] at hr
      unfold stacked
      rw [if_pos (by omega), show 256 * (l / 128) + r = 128 * (l / 64) + r by omega, show (128 * (l / 64) + r) % 128 = r by omega,
        show 128 * ((128 * (l / 64) + r) / 256) + l % 128 = l by omega]
    · intro r hr
      rw [Finset.mem_range] at hr
      unfold stacked
      rw [if_neg (by omega), mul_zero]
  · rw [Finset.sum_eq_zero (s := range 128) (f := fun x => f (256 * (l / 128) + x) s * _), zero_add]
    · refine Finset.sum_congr rfl fun r hr => ?_
      rw [Finset.mem_range] at hr
      unfold stacked
      rw [if_pos (by omega), show 256 * (l / 128) + (128 + r) = 128 * (l / 64) + r by omega, show (128 * (l / 64) + r) % 128 = r by omega,
        show 128 * ((128 * (l / 64) + r) / 256) + l % 128 = l by omega]
    · intro r hr
      rw [Finset.mem_range] at hr
      unfold stacked
      rw [if_neg (by omega), mul_zero]

theorem point_dk (s l : ℕ) :
    ∑ ρ ∈ range 256, (G.point n).DZ (256 * (l / 128) + ρ) s * (G.point n).qs (256 * (l / 128) + ρ) (l % 128)
      = ∑ r ∈ range 128, G.dz (l / 64) (128 * n + r) s * (1 / 8 * G.q (128 * n + r) l) := by
  refine (share_stacked (1 / 8) (G.point n).DZ (fun r l => G.q (128 * n + r) l) s l).trans (Finset.sum_congr rfl fun r hr => ?_)
  rw [Finset.mem_range] at hr
  rw [point_DZ, show (128 * (l / 64) + r) / 128 = l / 64 by omega, show (128 * (l / 64) + r) % 128 = r by omega]
theorem point_dv (s l : ℕ) :
    ∑ ρ ∈ range 256, (G.point n).AA (256 * (l / 128) + ρ) s * (G.point n).gs (256 * (l / 128) + ρ) (l % 128)
      = ∑ r ∈ range 128, G.aa (l / 64) (128 * n + r) s * G.g (128 * n + r) l := by
  refine (share_stacked 1 (G.point n).AA (fun r l => G.g (128 * n + r) l) s l).trans (Finset.sum_congr rfl fun r hr => ?_)
  rw [Finset.mem_range] at hr
  rw [point_AA, show (128 * (l / 64) + r) / 128 = l / 64 by omega, show (128 * (l / 64) + r) % 128 = r by omega, one_mul]

/-- Blocks of 128 rows make the whole. -/
theorem sum_points (f : ℕ → ℝ) (n : ℕ) : ∑ t ∈ range n, ∑ r ∈ range 128, f (128 * t + r) = ∑ t ∈ range (128 * n), f t := by
  induction n with
  | zero => simp
  | succ n ih => rw [Finset.sum_range_succ, ih, sum_block]

theorem points_dk (s l : ℕ) :
    ∑ n ∈ range 64, ∑ ρ ∈ range 256, (G.point n).DZ (256 * (l / 128) + ρ) s * (G.point n).qs (256 * (l / 128) + ρ) (l % 128) = G.dk s l := by
  simp only [point_dk]
  exact sum_points (fun t => G.dz (l / 64) t s * (1 / 8 * G.q t l)) 64
theorem points_dv (s l : ℕ) :
    ∑ n ∈ range 64, ∑ ρ ∈ range 256, (G.point n).AA (256 * (l / 128) + ρ) s * (G.point n).gs (256 * (l / 128) + ρ) (l % 128) = G.dv s l := by
  simp only [point_dv]
  exact sum_points (fun t => G.aa (l / 64) t s * G.g t l) 64

end Whole

end Cert.Spec
-- ==== Proof.LogSig.lean ====
/-
  The programs' `log_sigmoid` on one entry that is a real number, and what its derivative keeps.
-/
module

public import proofs.«01_k».proof.Proof.Spec
public import Idealize.ShloMosaic.PureOps.Ideal.Laws

@[expose] public section

noncomputable section

namespace Cert.Spec

open Idealize.ShloMosaic

/-- `log (1 + e^x)`, as the programs take it. -/
def softplus (x : EReal) : EReal :=
  Scalar.select (Ideal.cmp .une (x - 0) (x - 0)) (x + 0) (max x 0 + Ideal.log1p (Ideal.exp (-(max (x - 0) (-(x - 0))))))

theorem softplus_coe (r : ℝ) : softplus (r : EReal) = ((- LS (-r) : ℝ) : EReal) := by
  unfold softplus
  have hc : Ideal.cmp .une ((r : EReal) - 0) ((r : EReal) - 0) = 0#1 := by simp [Ideal.cmp]
  rw [hc, show ∀ a b : EReal, Scalar.select (0#1) a b = b from fun a b => if_neg (by decide), sub_zero, coe_abs, ← EReal.coe_neg, Ideal.exp_coe]
  unfold Ideal.log1p
  rw [← EReal.coe_one, ← EReal.coe_add, Ideal.log_coe, if_neg (not_le.mpr (one_add_exp_pos _)), ← EReal.coe_zero, coe_max, ← EReal.coe_add]
  refine congrArg _ ?_
  unfold LS
  rw [abs_neg, neg_sub, ← neg_zero, min_neg_neg, neg_zero]
  ring

theorem logSig_coe (r : ℝ) : -(softplus (-(r : EReal))) = ((LS r : ℝ) : EReal) := by
  rw [← EReal.coe_neg, softplus_coe, ← EReal.coe_neg, neg_neg, neg_neg]

theorem ofBits_inf : Ideal.ofBits .f32 0x7F800000#32 = ⊤ := by simp [Ideal.ofBits, Ideal.ieee]

/-- A real number is not the largest value. -/
theorem select_top (r : ℝ) (a b : EReal) : Scalar.select (Ideal.cmp .oeq (r : EReal) ⊤) a b = b := by
  have hc : Ideal.cmp .oeq (r : EReal) ⊤ = 0#1 := by simp [Ideal.cmp]
  rw [hc]; exact if_neg (by decide)

/-- The derivative that is kept. -/
def slope (x : EReal) : EReal :=
  Ideal.exp (Scalar.select (Ideal.cmp .oeq x ⊤) 0 x - Scalar.select (Ideal.cmp .oeq (softplus x) ⊤) 0 (softplus x))

theorem slope_coe (r : ℝ) : slope (r : EReal) = ((Real.exp (r + LS (-r)) : ℝ) : EReal) := by
  unfold slope
  rw [softplus_coe, select_top, select_top, ← EReal.coe_sub, Ideal.exp_coe, sub_neg_eq_add]

/-- At `-z`, of `z`: the complement. -/
theorem slope_neg (z : ℝ) : slope (-(z : EReal)) = ((1 - Real.exp (LS z) : ℝ) : EReal) := by
  rw [← EReal.coe_neg, slope_coe, neg_neg, ← exp_LS_add z, add_sub_cancel_left]
  exact congrArg _ (congrArg _ (by ring))

/-- At `z`, of `-z`: the sigmoid. -/
theorem slope_pos (z : ℝ) : slope (z : EReal) = ((Real.exp (LS z) : ℝ) : EReal) := by
  rw [slope_coe, LS_neg]
  exact congrArg _ (congrArg _ (by ring))

end Cert.Spec
-- ==== Proof.Args.lean ====
/-
  The arguments as real numbers: the queries, keys and values are columns of the first, the cotangent is columns of the second.
-/
module

public import proofs.«01_k».proof.Proof.Whole
public import proofs.«01_k».proof.Proof.LogSig

@[expose] public section

noncomputable section

namespace Cert.Spec

open Idealize.ShloMosaic

abbrev Arg0 : Shape := ⟨2, ![8192, 3840]⟩
abbrev Arg1 : Shape := ⟨2, ![8192, 1024]⟩

/-- The arguments' columns that the call reads hold these numbers. -/
structure Holds (x0 : Arg0.Idx → EReal) (x1 : Arg1.Idx → EReal) (G : Whole) : Prop where
  q : ∀ J, 2816 ≤ (J 1).val → (J 1).val < 3072 → x0 J = ((G.q (J 0).val ((J 1).val - 2816) : ℝ) : EReal)
  k : ∀ J, 3072 ≤ (J 1).val → (J 1).val < 3328 → x0 J = ((G.k (J 0).val ((J 1).val - 3072) : ℝ) : EReal)
  v : ∀ J, 3328 ≤ (J 1).val → (J 1).val < 3584 → x0 J = ((G.v (J 0).val ((J 1).val - 3328) : ℝ) : EReal)
  g : ∀ J, 768 ≤ (J 1).val → x1 J = ((G.g (J 0).val ((J 1).val - 768) : ℝ) : EReal)

/-- An array's entry as a real number, 0 outside it. -/
def entry {a b : ℕ} (x : (⟨2, ![a, b]⟩ : Shape).Idx → EReal) (i j : ℕ) : ℝ :=
  if h : i < a ∧ j < b then (x (fun n => match n with | ⟨0, _⟩ => ⟨i, h.1⟩ | ⟨1, _⟩ => ⟨j, h.2⟩)).toReal else 0

theorem entry_eq {a b : ℕ} {x : (⟨2, ![a, b]⟩ : Shape).Idx → EReal} (J : (⟨2, ![a, b]⟩ : Shape).Idx) (hx : x J ≠ ⊤ ∧ x J ≠ ⊥) :
    x J = ((entry x (J 0).val (J 1).val : ℝ) : EReal) := by
  unfold entry
  have e : (fun n => match n with | ⟨0, _⟩ => ⟨(J 0).val, (J 0).isLt⟩ | ⟨1, _⟩ => ⟨(J 1).val, (J 1).isLt⟩ : (⟨2, ![a, b]⟩ : Shape).Idx) = J := funext fun n => by
    match n with
    | ⟨0, _⟩ => rfl
    | ⟨1, _⟩ => rfl
  rw [dif_pos ⟨(J 0).isLt, (J 1).isLt⟩]
  exact (EReal.coe_toReal (congrArg x e ▸ hx.1) (congrArg x e ▸ hx.2)).trans (congrArg x e) |>.symm

def wholeOf (x0 : Arg0.Idx → EReal) (x1 : Arg1.Idx → EReal) : Whole where
  q t l := entry x0 t (2816 + l)
  k t l := entry x0 t (3072 + l)
  v t l := entry x0 t (3328 + l)
  g t l := entry x1 t (768 + l)

/-- Arguments whose columns read are finite are real numbers there. -/
theorem holds_of {x0 : Arg0.Idx → EReal} {x1 : Arg1.Idx → EReal} (h0 : ∀ J, 2816 ≤ (J 1).val → (J 1).val < 3584 → x0 J ≠ ⊤ ∧ x0 J ≠ ⊥)
    (h1 : ∀ J, 768 ≤ (J 1).val → x1 J ≠ ⊤ ∧ x1 J ≠ ⊥) :
    Holds x0 x1 (wholeOf x0 x1) where
  q J a b := by
    show x0 J = ((entry x0 (J 0).val (2816 + ((J 1).val - 2816)) : ℝ) : EReal)
    rw [Nat.add_sub_cancel' a]; exact entry_eq J (h0 J (by omega) (by omega))
  k J a b := by
    show x0 J = ((entry x0 (J 0).val (3072 + ((J 1).val - 3072)) : ℝ) : EReal)
    rw [Nat.add_sub_cancel' a]; exact entry_eq J (h0 J (by omega) (by omega))
  v J a b := by
    show x0 J = ((entry x0 (J 0).val (3328 + ((J 1).val - 3328)) : ℝ) : EReal)
    rw [Nat.add_sub_cancel' a]; exact entry_eq J (h0 J (by omega) (by omega))
  g J a := by
    show x1 J = ((entry x1 (J 0).val (768 + ((J 1).val - 768)) : ℝ) : EReal)
    rw [Nat.add_sub_cancel' a]; exact entry_eq J (h1 J a)

/-- The causal mask's comparison. -/
theorem slt_small {a b : ℕ} (ha : a < 8192) (hb : b < 8192) :
    IntOp.cmpi .slt (BitVec.ofNat 32 a) (BitVec.ofNat 32 b) = if a < b then 1#1 else 0#1 := by
  have e : ∀ n : ℕ, n < 8192 → (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (BitVec.slt _ _) = _
  rw [BitVec.slt_eq_decide, e a ha, e b hb]
  by_cases h : a < b
  · rw [if_pos h, decide_eq_true (by exact_mod_cast h)]; rfl
  · rw [if_neg h, decide_eq_false (by exact_mod_cast h)]; rfl

/-- A masked entry. -/
theorem select_mask {p : Prop} [Decidable p] (a b : EReal) : Scalar.select (if p then 1#1 else 0#1) a b = if p then a else b := by
  by_cases h : p
  · rw [if_pos h, if_pos h]; exact if_pos rfl
  · rw [if_neg h, if_neg h]; exact if_neg (by decide)

end Cert.Spec
-- ==== Proof.Cumsum.lean ====
/-
  The reference's two running sums along the keys, over the reals: a window of the whole row, padded after it or before it.
-/
module

public import proofs.«01_k».proof.Proof.Spec
public import Idealize.ShloMosaic.PureOps.Ideal.Laws
import Idealize.ShloMosaic.Lib.Pointwise

@[expose] public section

noncomputable section

namespace Cert.Spec

open Idealize.ShloMosaic
open Finset (range)

/-- A left fold of a sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The scores' shape, at `N` queries and keys. -/
abbrev Scores (N : ℕ) : Shape := ⟨4, ![1, 4, N, N]⟩

abbrev Win (N : ℕ) : Shape := ⟨4, ![1, 1, 1, N]⟩

theorem win_numel (N : ℕ) : (Win N).numel = N := by
  simp [Shape.numel, Fin.prod_univ_four]

theorem win_coord {N : ℕ} (n : Fin (Win N).numel) (a : Fin 4) : ((Win N).rowMajor.symm n a).val = if a = 3 then n.val else 0 := by
  have e : ((Win N).rowMajor ((Win N).rowMajor.symm n)).val = n.val := by rw [Equiv.apply_symm_apply]
  rw [Shape.rowMajor_val_four] at e
  generalize (Win N).rowMajor.symm n = w at *
  have h0 : (w 0).val < 1 := (w 0).isLt
  have h1 : (w 1).val < 1 := (w 1).isLt
  have h2 : (w 2).val < 1 := (w 2).isLt
  have e0 : (w 0).val = 0 := by omega
  have e1 : (w 1).val = 0 := by omega
  have e2 : (w 2).val = 0 := by omega
  rw [e0, e1, e2] at e
  match a with
  | ⟨0, _⟩ => exact e0
  | ⟨1, _⟩ => exact e1
  | ⟨2, _⟩ => exact e2
  | ⟨3, _⟩ => exact (by simpa using e)

/-- One entry of a running sum: the window starts `d` before the entry's key. -/
theorem running {N d : ℕ} {hi : Fin 4 → ℕ} {x : (Scores N).Idx → EReal} {f : ℕ → ℕ → ℕ → ℝ}
    (hx : ∀ J, x J = ((f (J 1).val (J 2).val (J 3).val : ℝ) : EReal))
    (h : (Scores N).ReduceWindows (![1, 1, 1, N] : Fin 4 → ℕ) ![1, 1, 1, 1] ![0, 0, 0, d] hi (Scores N)) (i : (Scores N).Idx) :
    Ideal.hostReduceWindowAdd (s := Scores N) (![1, 1, 1, N] : Fin 4 → ℕ) ![1, 1, 1, 1] ![0, 0, 0, d] hi h x 0 i
      = ((∑ w ∈ range N, (if d ≤ (i 3).val + w ∧ (i 3).val + w - d < N then f (i 1).val (i 2).val ((i 3).val + w - d) else 0) : ℝ) : EReal) := by
  have h0 : (i 0).val < 1 := (i 0).isLt
  have h1 : (i 1).val < 4 := (i 1).isLt
  have h2 : (i 2).val < N := (i 2).isLt
  unfold Ideal.hostReduceWindowAdd Host.reduceWindow
  refine (foldl_add _ _ _).trans ?_
  rw [zero_add, ← Fin.sum_univ_def, coe_sum]
  refine (Finset.sum_congr rfl (g := fun n : Fin (Win N).numel =>
    (fun w : ℕ => (((if d ≤ (i 3).val + w ∧ (i 3).val + w - d < N then f (i 1).val (i 2).val ((i 3).val + w - d) else 0 : ℝ)) : EReal)) n.val) fun n _ => ?_).trans ?_
  · dsimp only
    have c0 := win_coord n 0
    have c1 := win_coord n 1
    have c2 := win_coord n 2
    have c3 := win_coord n 3
    rw [if_neg (by decide)] at c0 c1 c2
    rw [if_pos rfl] at c3
    by_cases hin : d ≤ (i 3).val + n.val ∧ (i 3).val + n.val - d < N
    · rw [dif_pos (fun a => by
        match a with
        | ⟨0, _⟩ => exact ⟨Nat.zero_le _, by show (i 0).val * 1 + ((Win N).rowMajor.symm n 0).val - 0 < 1; omega⟩
        | ⟨1, _⟩ => exact ⟨Nat.zero_le _, by show (i 1).val * 1 + ((Win N).rowMajor.symm n 1).val - 0 < 4; omega⟩
        | ⟨2, _⟩ => exact ⟨Nat.zero_le _, by show (i 2).val * 1 + ((Win N).rowMajor.symm n 2).val - 0 < N; omega⟩
        | ⟨3, _⟩ => exact ⟨by show d ≤ (i 3).val * 1 + ((Win N).rowMajor.symm n 3).val; omega,
            by show (i 3).val * 1 + ((Win N).rowMajor.symm n 3).val - d < N; omega⟩), hx]
      show ((f ((i 1).val * 1 + ((Win N).rowMajor.symm n 1).val - 0) ((i 2).val * 1 + ((Win N).rowMajor.symm n 2).val - 0)
        ((i 3).val * 1 + ((Win N).rowMajor.symm n 3).val - d) : ℝ) : EReal) = _
      rw [if_pos hin, c1, c2, c3]
      simp only [Nat.mul_one, Nat.add_zero, Nat.sub_zero]
    · rw [if_neg hin, dif_neg (fun hh => hin (by
        have h3 : d ≤ (i 3).val * 1 + ((Win N).rowMajor.symm n 3).val ∧ (i 3).val * 1 + ((Win N).rowMajor.symm n 3).val - d < N := hh 3
        rw [c3, Nat.mul_one] at h3
        exact h3))]
      rfl
  rw [← Finset.sum_range (fun w : ℕ => (((if d ≤ (i 3).val + w ∧ (i 3).val + w - d < N then f (i 1).val (i 2).val ((i 3).val + w - d) else 0 : ℝ)) : EReal))]
  exact congrArg (fun M => ∑ w ∈ range M, (((if d ≤ (i 3).val + w ∧ (i 3).val + w - d < N then f (i 1).val (i 2).val ((i 3).val + w - d) else 0 : ℝ)) : EReal)) (win_numel N)

/-- The sum from a key to the last. -/
theorem window_after (g : ℕ → ℝ) {N s : ℕ} (hs : s ≤ N) :
    ∑ w ∈ range N, (if 0 ≤ s + w ∧ s + w - 0 < N then g (s + w - 0) else 0) = ∑ x ∈ range N, g x - ∑ x ∈ range s, g x := by
  have e : ∑ x ∈ range N, g x = ∑ x ∈ range s, g x + ∑ w ∈ range (N - s), g (s + w) := by
    rw [← Finset.sum_range_add, Nat.add_sub_cancel' hs]
  rw [e, add_sub_cancel_left, ← Finset.sum_filter]
  refine Finset.sum_congr ?_ fun w _ => by rw [Nat.sub_zero]
  ext w; simp only [Finset.mem_filter, Finset.mem_range]; omega

/-- The sum from the first key through a key. -/
theorem window_before (g : ℕ → ℝ) {N s : ℕ} (hs : s < N) :
    ∑ w ∈ range N, (if N - 1 ≤ s + w ∧ s + w - (N - 1) < N then g (s + w - (N - 1)) else 0) = ∑ x ∈ range (s + 1), g x := by
  have e : N = (N - 1 - s) + (s + 1) := by omega
  have e2 : ∑ w ∈ range N, (if N - 1 ≤ s + w ∧ s + w - (N - 1) < N then g (s + w - (N - 1)) else 0)
      = ∑ w ∈ range ((N - 1 - s) + (s + 1)), (if N - 1 ≤ s + w ∧ s + w - (N - 1) < N then g (s + w - (N - 1)) else 0) := by
    rw [← e]
  rw [e2, Finset.sum_range_add, Finset.sum_eq_zero (fun w hw => if_neg (by have := Finset.mem_range.mp hw; omega)), zero_add]
  refine Finset.sum_congr rfl fun w hw => ?_
  have := Finset.mem_range.mp hw
  rw [if_pos (by omega), show s + (N - 1 - s + w) - (N - 1) = w by omega]

end Cert.Spec
-- ==== Proof.RefValue.lean ====
/-
  The reference's three results over the real numbers, operation after operation.
-/
module

public import proofs.«01_k».proof.Proof.Gen.ReferenceIdeal.Read
public import proofs.«01_k».proof.Proof.Args
public import proofs.«01_k».proof.Proof.Cumsum

@[expose] public section

set_option maxRecDepth 16384

noncomputable section

namespace Cert.ReferenceIdeal.Hand

open Idealize.ShloMosaic Cert.ReferenceIdeal Cert.ReferenceIdeal.Read Cert.Spec Cert.Spec.Whole
open Finset (range)

variable {x0 : Arg0.Idx → EReal} {x1 : Arg1.Idx → EReal} {G : Whole} (h : Holds x0 x1 G)

theorem eighth : FloatOps.ofBits (F := Ideal) .f32 0x3E000000#32 = ((1 / 8 : ℝ) : EReal) := by
  show Ideal.ofBits .f32 0x3E000000#32 = _
  simp [Ideal.ofBits, Ideal.ieee, -EReal.coe_mul]; norm_num
theorem zero32 : FloatOps.ofBits (F := Ideal) .f32 0x00000000#32 = (0 : EReal) := Ideal.ofBits_zero_f32
theorem inf32 : FloatOps.ofBits (F := Ideal) .f32 0x7F800000#32 = (⊤ : EReal) := ofBits_inf

include h in
theorem v3 (i : S1x8192x4x64.Idx) : val_main_v3 (F := Ideal) x0 i = ((G.q (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v3_apply, val_main_v0_apply]
  refine (h.q _ (Nat.le_add_right _ _) ?_).trans ?_
  · show 2816 + ((((i 0).val * 8192 + (i 1).val) * 4 + (i 2).val) * 64 + (i 3).val) % 256 < 3072; omega
  · show ((G.q (((((i 0).val * 8192 + (i 1).val) * 4 + (i 2).val) * 64 + (i 3).val) / 256) (2816 + ((((i 0).val * 8192 + (i 1).val) * 4 + (i 2).val) * 64 + (i 3).val) % 256 - 2816) : ℝ) : EReal) = _
    rw [show ((((i 0).val * 8192 + (i 1).val) * 4 + (i 2).val) * 64 + (i 3).val) / 256 = (i 1).val by omega,
      show 2816 + ((((i 0).val * 8192 + (i 1).val) * 4 + (i 2).val) * 64 + (i 3).val) % 256 - 2816 = 64 * (i 2).val + (i 3).val by omega]

include h in
theorem v4 (i : S1x8192x4x64.Idx) : val_main_v4 (F := Ideal) x0 i = ((G.k (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v4_apply, val_main_v1_apply]
  refine (h.k _ (Nat.le_add_right _ _) ?_).trans ?_
  · show 3072 + ((((i 0).val * 8192 + (i 1).val) * 4 + (i 2).val) * 64 + (i 3).val) % 256 < 3328; omega
  · show ((G.k (((((i 0).val * 8192 + (i 1).val) * 4 + (i 2).val) * 64 + (i 3).val) / 256) (3072 + ((((i 0).val * 8192 + (i 1).val) * 4 + (i 2).val) * 64 + (i 3).val) % 256 - 3072) : ℝ) : EReal) = _
    rw [show ((((i 0).val * 8192 + (i 1).val) * 4 + (i 2).val) * 64 + (i 3).val) / 256 = (i 1).val by omega,
      show 3072 + ((((i 0).val * 8192 + (i 1).val) * 4 + (i 2).val) * 64 + (i 3).val) % 256 - 3072 = 64 * (i 2).val + (i 3).val by omega]

include h in
theorem v5 (i : S1x8192x4x64.Idx) : val_main_v5 (F := Ideal) x0 i = ((G.v (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v5_apply, val_main_v2_apply]
  refine (h.v _ (Nat.le_add_right _ _) ?_).trans ?_
  · show 3328 + ((((i 0).val * 8192 + (i 1).val) * 4 + (i 2).val) * 64 + (i 3).val) % 256 < 3584; omega
  · show ((G.v (((((i 0).val * 8192 + (i 1).val) * 4 + (i 2).val) * 64 + (i 3).val) / 256) (3328 + ((((i 0).val * 8192 + (i 1).val) * 4 + (i 2).val) * 64 + (i 3).val) % 256 - 3328) : ℝ) : EReal) = _
    rw [show ((((i 0).val * 8192 + (i 1).val) * 4 + (i 2).val) * 64 + (i 3).val) / 256 = (i 1).val by omega,
      show 3328 + ((((i 0).val * 8192 + (i 1).val) * 4 + (i 2).val) * 64 + (i 3).val) % 256 - 3328 = 64 * (i 2).val + (i 3).val by omega]

include h in
theorem v30 (i : S1x4x64x8192.Idx) : val_main_v30 (F := Ideal) x1 i = ((G.g (i 3).val (64 * (i 1).val + (i 2).val) : ℝ) : EReal) := by
  have h0 : (i 0).val < 1 := (i 0).isLt
  have h1 : (i 1).val < 4 := (i 1).isLt
  have h2 : (i 2).val < 64 := (i 2).isLt
  have h3 : (i 3).val < 8192 := (i 3).isLt
  rw [val_main_v30_apply, val_main_v29_apply, val_main_v28_apply]
  refine (h.g _ (Nat.le_add_right _ _)).trans ?_
  show ((G.g (((((i 0).val * 8192 + (i 3).val) * 4 + (i 1).val) * 64 + (i 2).val) / 256) (768 + ((((i 0).val * 8192 + (i 3).val) * 4 + (i 1).val) * 64 + (i 2).val) % 256 - 768) : ℝ) : EReal) = _
  rw [show ((((i 0).val * 8192 + (i 3).val) * 4 + (i 1).val) * 64 + (i 2).val) / 256 = (i 3).val by omega,
    show 768 + ((((i 0).val * 8192 + (i 3).val) * 4 + (i 1).val) * 64 + (i 2).val) % 256 - 768 = 64 * (i 1).val + (i 2).val by omega]

include h in
/-- The scores. -/
theorem v8 (i : S1x4x8192x8192.Idx) : val_main_v8 (F := Ideal) x0 i = ((G.z (i 1).val (i 2).val (i 3).val : ℝ) : EReal) := by
  rw [val_main_v8_apply, val_main_v7_apply, val_main_cst_apply, eighth, val_main_v6_apply]
  show (_ : EReal) * _ = _
  unfold Whole.z dotHead
  rw [EReal.coe_mul, ← coe_sumFin]
  refine congrArg (· * ((1 / 8 : ℝ) : EReal)) (Finset.sum_congr rfl fun k _ => ?_)
  rw [v3 h, v4 h, ← EReal.coe_mul]

/-- The mask. -/
theorem mask (i : S1x4x8192x8192.Idx) : val_main_v19_1 (F := Ideal) i = if (i 3).val < (i 2).val then 1#1 else 0#1 := by
  rw [val_main_v19_1_apply, val_main_v15_apply, val_main_v13_apply, val_main_v14_apply, val_main_v10_apply, val_main_v12_apply,
    val_main_v9_apply, val_main_v11_apply]
  exact slt_small (i 3).isLt (i 2).isLt
theorem mask' (i : S1x4x8192x8192.Idx) : val_main_v24_1 (F := Ideal) i = if (i 3).val < (i 2).val then 1#1 else 0#1 :=
  (val_main_v24_1_apply i).trans ((val_main_v19_1_apply i).symm.trans (mask i))

/-- `log_sigmoid` of the scores, and its slope. -/
theorem soft0 (i : S1x4x8192x8192.Idx) : val_main_call0_v1_0 (F := Ideal) x0 i = softplus (-(val_main_v8 (F := Ideal) x0 i : EReal)) := by
  simp only [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, val_main_call0_v0_apply, zero32]
  rfl
theorem slope0 (i : S1x4x8192x8192.Idx) : val_main_v16_1 (F := Ideal) x0 i = slope (-(val_main_v8 (F := Ideal) x0 i : EReal)) := by
  simp only [val_main_v16_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_v15_apply, val_main_call0_call0_v19_apply, val_main_call0_call0_cst_0_apply, val_main_call0_call0_cst_1_apply,
    val_main_call0_call0_cst_2_apply, val_main_call0_call0_cst_3_apply, val_main_call0_v0_apply, soft0, zero32, inf32]
  rfl

/-- The same of the negated scores. -/
theorem soft1 (i : S1x4x8192x8192.Idx) : val_main_call1_v1_0 (F := Ideal) x0 i = softplus (- -(val_main_v8 (F := Ideal) x0 i : EReal)) := by
  simp only [val_main_call1_v1_0_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply,
    val_main_call1_call0_v5_apply, val_main_call1_call0_cst_apply, val_main_call1_v0_apply, val_main_v17_apply, zero32]
  rfl
theorem slope1 (i : S1x4x8192x8192.Idx) : val_main_v18_1 (F := Ideal) x0 i = slope (- -(val_main_v8 (F := Ideal) x0 i : EReal)) := by
  simp only [val_main_v18_1_apply, val_main_call1_call0_v21_apply, val_main_call1_call0_v16_apply, val_main_call1_call0_v20_apply,
    val_main_call1_call0_v14_apply, val_main_call1_call0_v18_apply, val_main_call1_call0_v13_apply, val_main_call1_call0_v17_apply,
    val_main_call1_call0_v15_apply, val_main_call1_call0_v19_apply, val_main_call1_call0_cst_0_apply, val_main_call1_call0_cst_1_apply,
    val_main_call1_call0_cst_2_apply, val_main_call1_call0_cst_3_apply, val_main_call1_v0_apply, val_main_v17_apply, soft1, zero32, inf32]
  rfl

include h in
theorem v16 (i : S1x4x8192x8192.Idx) : val_main_v16_0 (F := Ideal) x0 i = ((LS (G.z (i 1).val (i 2).val (i 3).val) : ℝ) : EReal) := by
  rw [val_main_v16_0_apply, soft0, v8 h]
  exact logSig_coe _
include h in
theorem v19 (i : S1x4x8192x8192.Idx) : val_main_v19_0 (F := Ideal) x0 i = ((G.lom (i 1).val (i 2).val (i 3).val : ℝ) : EReal) := by
  rw [val_main_v19_0_apply, mask, select_mask, val_main_v18_0_apply, soft1, v8 h, val_main_call2_v2_apply, val_main_call2_v0_apply,
    val_main_cst_0_apply, zero32]
  unfold Whole.lom
  split
  · rw [← EReal.coe_neg]
    exact (logSig_coe _).trans (congrArg _ (LS_neg _))
  · rfl

/-- A running sum as the host writes it, from an initial value 0. -/
theorem runningHost {N d : ℕ} {hi : Fin 4 → ℕ} {x : (Scores N).Idx → EReal} {f : ℕ → ℕ → ℕ → ℝ} {u : Shape} {v : u.Idx → EReal}
    (hx : ∀ J, x J = ((f (J 1).val (J 2).val (J 3).val : ℝ) : EReal)) (hv : ∀ j, v j = 0)
    (hw : (Scores N).ReduceWindows (![1, 1, 1, N] : Fin 4 → ℕ) ![1, 1, 1, 1] ![0, 0, 0, d] hi (Scores N)) (hu : 0 < u.numel) (i : (Scores N).Idx) :
    Host.reduceWindowAdd (F := Ideal) (φ := .f32) (s := Scores N) (![1, 1, 1, N] : Fin 4 → ℕ) ![1, 1, 1, 1] ![0, 0, 0, d] hi x v hw hu i
      = ((∑ w ∈ range N, (if d ≤ (i 3).val + w ∧ (i 3).val + w - d < N then f (i 1).val (i 2).val ((i 3).val + w - d) else 0) : ℝ) : EReal) := by
  unfold Host.reduceWindowAdd
  rw [hv]
  exact running hx hw i
theorem call3 (j : S_.Idx) : val_main_call3_v0 (F := Ideal) j = (0 : EReal) := by
  rw [val_main_call3_v0_apply, val_main_call3_cst_apply, zero32]
theorem call6 (j : S_.Idx) : val_main_call6_v0 (F := Ideal) j = (0 : EReal) := by
  rw [val_main_call6_v0_apply, val_main_call6_cst_apply, zero32]

include h in
/-- The reverse running sum of the masked logarithms. -/
theorem v20 (i : S1x4x8192x8192.Idx) :
    val_main_v20 (F := Ideal) x0 i = ((G.pp (i 1).val (i 2).val 8192 - G.pp (i 1).val (i 2).val (i 3).val : ℝ) : EReal) := by
  unfold val_main_v20
  refine (runningHost (N := 8192) (d := 0) (f := fun a t s => G.lom a t s) (v19 h) call3 _ _ i).trans (congrArg _ ?_)
  exact window_after (fun s => G.lom (i 1).val (i 2).val s) (Nat.le_of_lt (i 3).isLt)

include h in
/-- The weights before the mask. -/
theorem v23 (i : S1x4x8192x8192.Idx) : val_main_v23 (F := Ideal) x0 i
    = ((Real.exp (LS (G.z (i 1).val (i 2).val (i 3).val) + (G.pp (i 1).val (i 2).val 8192 - G.pp (i 1).val (i 2).val ((i 3).val + 1))) : ℝ) : EReal) := by
  rw [val_main_v23_apply, val_main_v22_apply, val_main_v21_apply, v16 h, v19 h, v20 h]
  show Ideal.exp (((_ : ℝ) : EReal) + (((_ : ℝ) : EReal) - ((_ : ℝ) : EReal))) = _
  rw [← EReal.coe_sub, ← EReal.coe_add, Ideal.exp_coe]
  refine congrArg _ (congrArg _ ?_)
  have e : G.pp (i 1).val (i 2).val ((i 3).val + 1) = G.pp (i 1).val (i 2).val (i 3).val + G.lom (i 1).val (i 2).val (i 3).val := Finset.sum_range_succ _ _
  rw [e]; ring
include h in
theorem v24 (i : S1x4x8192x8192.Idx) : val_main_v24_0 (F := Ideal) x0 i = ((G.aa (i 1).val (i 2).val (i 3).val : ℝ) : EReal) := by
  rw [val_main_v24_0_apply, mask', select_mask, v23 h, val_main_call4_v2_apply, val_main_call4_v0_apply, val_main_cst_1_apply, zero32]
  unfold Whole.aa
  split <;> rfl

include h in
/-- The weights' gradients times the weights. -/
theorem v35 (i : S1x4x8192x8192.Idx) : val_main_v35 (F := Ideal) x0 x1 i = ((G.ea (i 1).val (i 2).val (i 3).val : ℝ) : EReal) := by
  rw [val_main_v35_apply, val_main_v34_apply, mask', select_mask, v23 h, val_main_call5_v0_apply, val_main_call5_cst_apply, zero32, val_main_v31_apply]
  have e : (∑ k : Fin 64, (val_main_v30 (F := Ideal) x1) (lidx_main_v31 i k) * (val_main_v5 (F := Ideal) x0) (ridx_main_v31 i k) : EReal)
      = ((dotHead G.g G.v (i 1).val (i 2).val (i 3).val : ℝ) : EReal) := by
    unfold dotHead
    rw [← coe_sumFin]
    refine Finset.sum_congr rfl fun k _ => ?_
    rw [v30 h, v5 h, ← EReal.coe_mul]
  rw [e]
  unfold Whole.ea Whole.aa
  show ((if (i 3).val < (i 2).val then ((dotHead G.g G.v (i 1).val (i 2).val (i 3).val : ℝ) : EReal) else 0) : EReal) * _ = _
  split
  · rw [← EReal.coe_mul]
  · rw [zero_mul, mul_zero, EReal.coe_zero]

include h in
theorem v37 (i : S1x4x8192x8192.Idx) : val_main_v37 (F := Ideal) x0 x1 i = ((G.ee (i 1).val (i 2).val ((i 3).val + 1) : ℝ) : EReal) := by
  unfold val_main_v37
  refine (runningHost (N := 8192) (d := 8191) (f := fun a t s => G.ea a t s) (v35 h) call6 _ _ i).trans (congrArg _ ?_)
  exact window_before (fun s => G.ea (i 1).val (i 2).val s) (i 3).isLt

include h in
theorem v39 (i : S1x4x8192x8192.Idx) : val_main_v39 (F := Ideal) x0 x1 i = ((G.dl (i 1).val (i 2).val (i 3).val : ℝ) : EReal) := by
  rw [val_main_v39_apply, mask, select_mask, val_main_v38_apply, val_main_v36_apply, v35 h, v37 h, val_main_call7_v0_apply, val_main_call7_cst_apply, zero32]
  unfold Whole.dl
  split
  · show -(_ : EReal) + _ = _
    rw [← EReal.coe_neg, ← EReal.coe_add]
    refine congrArg _ ?_
    have e : G.ee (i 1).val (i 2).val ((i 3).val + 1) = G.ee (i 1).val (i 2).val (i 3).val + G.ea (i 1).val (i 2).val (i 3).val := Finset.sum_range_succ _ _
    rw [e]; ring
  · rfl

include h in
/-- The scores' gradients, scaled. -/
theorem v45 (i : S1x4x8192x8192.Idx) : val_main_v45 (F := Ideal) x0 x1 i = ((G.dz (i 1).val (i 2).val (i 3).val * (1 / 8) : ℝ) : EReal) := by
  rw [val_main_v45_apply, val_main_v43_apply, val_main_v41_apply, val_main_v40_apply, val_main_call8_v1_apply, val_main_call8_v0_apply,
    val_main_v42_apply, val_main_call9_v1_apply, val_main_call9_v0_apply, val_main_v44_apply, val_main_cst_2_apply, eighth, v39 h, v35 h,
    slope0, slope1, v8 h, slope_neg, neg_neg, slope_pos]
  show ((- -(-(_ : EReal) * _)) + -(-(_ : EReal) * _)) * _ = _
  rw [← EReal.coe_neg, ← EReal.coe_neg, ← EReal.coe_mul, ← EReal.coe_mul, ← EReal.coe_neg, ← EReal.coe_neg, ← EReal.coe_neg, ← EReal.coe_add, ← EReal.coe_mul]
  refine congrArg _ ?_
  unfold Whole.dz
  ring

/-- A row of a head's columns and its place among the 256. -/
theorem row_eq (i : S8192x256.Idx) : ((i 0).val * 256 + (i 1).val) / 256 % 8192 = (i 0).val ∧ ((i 0).val * 256 + (i 1).val) / 64 % 4 = (i 1).val / 64
    ∧ ((i 0).val * 256 + (i 1).val) % 64 = (i 1).val % 64 := by
  have h0 : (i 0).val < 8192 := (i 0).isLt
  have h1 : (i 1).val < 256 := (i 1).isLt
  omega

include h in
theorem dv (i : S8192x256.Idx) : val_main_v50 (F := Ideal) x0 x1 i = ((G.dv (i 0).val (i 1).val : ℝ) : EReal) := by
  rw [val_main_v50_apply, val_main_v33_apply, val_main_v32_apply]
  unfold Whole.dv
  rw [← coe_sumFin]
  refine Finset.sum_congr rfl fun k _ => ?_
  rw [v30 h, v24 h, ← EReal.coe_mul]
  show ((G.g k.val (64 * (((i 0).val * 256 + (i 1).val) / 64 % 4) + ((i 0).val * 256 + (i 1).val) % 64) * G.aa (((i 0).val * 256 + (i 1).val) / 64 % 4) k.val (((i 0).val * 256 + (i 1).val) / 256 % 8192) : ℝ) : EReal) = _
  rw [(row_eq i).1, (row_eq i).2.1, (row_eq i).2.2, Nat.div_add_mod, mul_comm]

include h in
theorem dk (i : S8192x256.Idx) : val_main_v51 (F := Ideal) x0 x1 i = ((G.dk (i 0).val (i 1).val : ℝ) : EReal) := by
  rw [val_main_v51_apply, val_main_v47_apply, val_main_v46_apply]
  unfold Whole.dk
  rw [← coe_sumFin]
  refine Finset.sum_congr rfl fun k _ => ?_
  rw [v45 h, v3 h, ← EReal.coe_mul]
  show ((G.dz (((i 0).val * 256 + (i 1).val) / 64 % 4) k.val (((i 0).val * 256 + (i 1).val) / 256 % 8192) * (1 / 8) * G.q k.val (64 * (((i 0).val * 256 + (i 1).val) / 64 % 4) + ((i 0).val * 256 + (i 1).val) % 64) : ℝ) : EReal) = _
  rw [(row_eq i).1, (row_eq i).2.1, (row_eq i).2.2, Nat.div_add_mod, mul_assoc]

include h in
theorem dq (i : S8192x256.Idx) : val_main_v53 (F := Ideal) x0 x1 i = ((G.dq (i 0).val (i 1).val : ℝ) : EReal) := by
  show val_main_v52 (F := Ideal) x0 x1 i = _
  rw [val_main_v52_apply, val_main_v49_apply, val_main_v48_apply]
  unfold Whole.dq
  rw [Finset.sum_mul, ← coe_sumFin]
  refine Finset.sum_congr rfl fun k _ => ?_
  rw [v45 h, v4 h, ← EReal.coe_mul]
  show ((G.dz (((i 0).val * 256 + (i 1).val) / 64 % 4) (((i 0).val * 256 + (i 1).val) / 256 % 8192) k.val * (1 / 8) * G.k k.val (64 * (((i 0).val * 256 + (i 1).val) / 64 % 4) + ((i 0).val * 256 + (i 1).val) % 64) : ℝ) : EReal) = _
  rw [(row_eq i).1, (row_eq i).2.1, (row_eq i).2.2, Nat.div_add_mod, mul_right_comm]

end Cert.ReferenceIdeal.Hand
-- ==== Proof.AttendWhole.lean ====
/-
  The forward result over the whole sequence, and how a point's sums over its stacked rows come to it.  Real numbers only.
-/
module

public import proofs.«01_k».proof.Proof.Whole
public import proofs.«01_k».proof.Proof.AttendStep

@[expose] public section

noncomputable section

namespace Cert.Spec.Whole

open Finset (range)

variable (G : Whole) (n : ℕ)

/-- A row's result: its weights over the values. -/
def y (t l : ℕ) : ℝ := ∑ s ∈ range 8192, G.aa (l / 64) t s * G.v s l

theorem aa_eq_zero {h t s : ℕ} (hs : t ≤ s) : G.aa h t s = 0 := if_neg (by omega)

/-- Past the row itself the running sum stands still. -/
theorem pp_stop {h t a b : ℕ} (ha : t ≤ a) (hab : a ≤ b) : G.pp h t b = G.pp h t a := by
  unfold pp
  rw [← Nat.add_sub_cancel' hab, Finset.sum_range_add, Finset.sum_eq_zero (s := range (b - a)), add_zero]
  intro x _
  exact if_neg (by omega)

/-- A point's totals are its running sums at the end of its own block. -/
theorem point_total {ρ : ℕ} (hn : n < 64) : (G.point n).tot ρ = (G.point n).PP ρ (128 * (n + 1)) := by
  rw [point_tot, point_PP]
  exact pp_stop _ (by omega) (by omega)

/-- A point's result is its rows of the whole result. -/
theorem point_y {r l pr : ℕ} (hn : n < 64) (hr : r < 128) (hl : l < 128) :
    (G.point n).YY pr (128 * (n + 1)) r l = G.y (128 * n + r) (128 * pr + l) := by
  have e : (256 * pr + rowOf r l) / 128 = (128 * pr + l) / 64 ∧ (256 * pr + rowOf r l) % 128 = r := by
    unfold rowOf; split <;> omega
  unfold Data.YY y
  rw [show (8192 : ℕ) = 128 * (n + 1) + (8192 - 128 * (n + 1)) by omega, Finset.sum_range_add, Finset.sum_eq_zero (s := range (8192 - 128 * (n + 1))), add_zero]
  · refine Finset.sum_congr rfl fun s _ => ?_
    rw [point_AA, e.1, e.2]; rfl
  · intro x _
    rw [aa_eq_zero _ (by omega), zero_mul]

end Cert.Spec.Whole
-- ==== Proof.AttendRef.lean ====
/-
  The forward reference's result over the real numbers, operation after operation.
-/
module

public import proofs.«01_k».proof.Proof.Gen.AttendRefIdeal.Read
public import proofs.«01_k».proof.Proof.RefValue
public import proofs.«01_k».proof.Proof.AttendWhole

@[expose] public section

set_option maxRecDepth 16384

noncomputable section

namespace Cert.AttendRefIdeal.Hand

open Idealize.ShloMosaic Cert.AttendRefIdeal Cert.AttendRefIdeal.Read Cert.Spec Cert.Spec.Whole
open Cert.ReferenceIdeal.Hand (eighth zero32 runningHost)
open Finset (range)

variable {x0 : Arg0.Idx → EReal} {x1 : Arg1.Idx → EReal} {G : Whole} (h : Holds x0 x1 G)

include h in
theorem v3 (i : S1x8192x4x64.Idx) : val_main_v3 (F := Ideal) x0 i = ((G.q (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v3_apply, val_main_v0_apply]
  refine (h.q _ (Nat.le_add_right _ _) ?_).trans ?_
  · show 2816 + ((((i 0).val * 8192 + (i 1).val) * 4 + (i 2).val) * 64 + (i 3).val) % 256 < 3072; omega
  · show ((G.q (((((i 0).val * 8192 + (i 1).val) * 4 + (i 2).val) * 64 + (i 3).val) / 256) (2816 + ((((i 0).val * 8192 + (i 1).val) * 4 + (i 2).val) * 64 + (i 3).val) % 256 - 2816) : ℝ) : EReal) = _
    rw [show ((((i 0).val * 8192 + (i 1).val) * 4 + (i 2).val) * 64 + (i 3).val) / 256 = (i 1).val by omega,
      show 2816 + ((((i 0).val * 8192 + (i 1).val) * 4 + (i 2).val) * 64 + (i 3).val) % 256 - 2816 = 64 * (i 2).val + (i 3).val by omega]

include h in
theorem v4 (i : S1x8192x4x64.Idx) : val_main_v4 (F := Ideal) x0 i = ((G.k (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v4_apply, val_main_v1_apply]
  refine (h.k _ (Nat.le_add_right _ _) ?_).trans ?_
  · show 3072 + ((((i 0).val * 8192 + (i 1).val) * 4 + (i 2).val) * 64 + (i 3).val) % 256 < 3328; omega
  · show ((G.k (((((i 0).val * 8192 + (i 1).val) * 4 + (i 2).val) * 64 + (i 3).val) / 256) (3072 + ((((i 0).val * 8192 + (i 1).val) * 4 + (i 2).val) * 64 + (i 3).val) % 256 - 3072) : ℝ) : EReal) = _
    rw [show ((((i 0).val * 8192 + (i 1).val) * 4 + (i 2).val) * 64 + (i 3).val) / 256 = (i 1).val by omega,
      show 3072 + ((((i 0).val * 8192 + (i 1).val) * 4 + (i 2).val) * 64 + (i 3).val) % 256 - 3072 = 64 * (i 2).val + (i 3).val by omega]

include h in
theorem v5 (i : S1x8192x4x64.Idx) : val_main_v5 (F := Ideal) x0 i = ((G.v (i 1).val (64 * (i 2).val + (i 3).val) : ℝ) : EReal) := by
  have h0 : (i 0).val < 1 := (i 0).isLt
  have h1 : (i 1).val < 8192 := (i 1).isLt
  have h2 : (i 2).val < 4 := (i 2).isLt
  have h3 : (i 3).val < 64 := (i 3).isLt
  rw [val_main_v5_apply, val_main_v2_apply]
  refine (h.v _ (Nat.le_add_right _ _) ?_).trans ?_
  · show 3328 + ((((i 0).val * 8192 + (i 1).val) * 4 + (i 2).val) * 64 + (i 3).val) % 256 < 3584; omega
  · show ((G.v (((((i 0).val * 8192 + (i 1).val) * 4 + (i 2).val) * 64 + (i 3).val) / 256) (3328 + ((((i 0).val * 8192 + (i 1).val) * 4 + (i 2).val) * 64 + (i 3).val) % 256 - 3328) : ℝ) : EReal) = _
    rw [show ((((i 0).val * 8192 + (i 1).val) * 4 + (i 2).val) * 64 + (i 3).val) / 256 = (i 1).val by omega,
      show 3328 + ((((i 0).val * 8192 + (i 1).val) * 4 + (i 2).val) * 64 + (i 3).val) % 256 - 3328 = 64 * (i 2).val + (i 3).val by omega]

include h in
/-- The scores. -/
theorem v8 (i : S1x4x8192x8192.Idx) : val_main_v8 (F := Ideal) x0 i = ((G.z (i 1).val (i 2).val (i 3).val : ℝ) : EReal) := by
  rw [val_main_v8_apply, val_main_v7_apply, val_main_cst_apply, eighth, val_main_v6_apply]
  show (_ : EReal) * _ = _
  unfold Whole.z dotHead
  rw [EReal.coe_mul, ← coe_sumFin]
  refine congrArg (· * ((1 / 8 : ℝ) : EReal)) (Finset.sum_congr rfl fun k _ => ?_)
  rw [v3 h, v4 h, ← EReal.coe_mul]

/-- The mask, before each of its two uses. -/
theorem mask (i : S1x4x8192x8192.Idx) : val_main_call2_v1 (F := Ideal) i = if (i 3).val < (i 2).val then 1#1 else 0#1 := by
  rw [val_main_call2_v1_apply, val_main_v15_apply, val_main_v13_apply, val_main_v14_apply, val_main_v10_apply, val_main_v12_apply,
    val_main_v9_apply, val_main_v11_apply]
  exact slt_small (i 3).isLt (i 2).isLt
theorem mask' (i : S1x4x8192x8192.Idx) : val_main_call4_v1 (F := Ideal) i = if (i 3).val < (i 2).val then 1#1 else 0#1 := by
  rw [val_main_call4_v1_apply, val_main_v15_apply, val_main_v13_apply, val_main_v14_apply, val_main_v10_apply, val_main_v12_apply,
    val_main_v9_apply, val_main_v11_apply]
  exact slt_small (i 3).isLt (i 2).isLt

/-- `softplus` of the negated scores, and of the scores. -/
theorem soft0 (i : S1x4x8192x8192.Idx) : val_main_call0_v1 (F := Ideal) x0 i = softplus (-(val_main_v8 (F := Ideal) x0 i : EReal)) := by
  simp only [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, val_main_call0_v0_apply, zero32]
  rfl
theorem soft1 (i : S1x4x8192x8192.Idx) : val_main_call1_v1 (F := Ideal) x0 i = softplus (- -(val_main_v8 (F := Ideal) x0 i : EReal)) := by
  simp only [val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply,
    val_main_call1_call0_v5_apply, val_main_call1_call0_cst_apply, val_main_call1_v0_apply, val_main_v17_apply, zero32]
  rfl

include h in
theorem v16 (i : S1x4x8192x8192.Idx) : val_main_v16 (F := Ideal) x0 i = ((LS (G.z (i 1).val (i 2).val (i 3).val) : ℝ) : EReal) := by
  rw [val_main_v16_apply, soft0, v8 h]
  exact logSig_coe _
include h in
theorem v19 (i : S1x4x8192x8192.Idx) : val_main_v19 (F := Ideal) x0 i = ((G.lom (i 1).val (i 2).val (i 3).val : ℝ) : EReal) := by
  rw [val_main_v19_apply, mask, select_mask, val_main_v18_apply, soft1, v8 h, val_main_call2_v2_apply, val_main_call2_v0_apply,
    val_main_cst_0_apply, zero32]
  unfold Whole.lom
  split
  · rw [← EReal.coe_neg]
    exact (logSig_coe _).trans (congrArg _ (LS_neg _))
  · rfl

theorem call3 (j : S_.Idx) : val_main_call3_v0 (F := Ideal) j = (0 : EReal) := by
  rw [val_main_call3_v0_apply, val_main_call3_cst_apply, zero32]
include h in
/-- The reverse running sum of the masked logarithms. -/
theorem v20 (i : S1x4x8192x8192.Idx) :
    val_main_v20 (F := Ideal) x0 i = ((G.pp (i 1).val (i 2).val 8192 - G.pp (i 1).val (i 2).val (i 3).val : ℝ) : EReal) := by
  unfold val_main_v20
  refine (runningHost (N := 8192) (d := 0) (f := fun a t s => G.lom a t s) (v19 h) call3 _ _ i).trans (congrArg _ ?_)
  exact window_after (fun s => G.lom (i 1).val (i 2).val s) (Nat.le_of_lt (i 3).isLt)

include h in
/-- The weights before the mask. -/
theorem v23 (i : S1x4x8192x8192.Idx) : val_main_v23 (F := Ideal) x0 i
    = ((Real.exp (LS (G.z (i 1).val (i 2).val (i 3).val) + (G.pp (i 1).val (i 2).val 8192 - G.pp (i 1).val (i 2).val ((i 3).val + 1))) : ℝ) : EReal) := by
  rw [val_main_v23_apply, val_main_v22_apply, val_main_v21_apply, v16 h, v19 h, v20 h]
  show Ideal.exp (((_ : ℝ) : EReal) + (((_ : ℝ) : EReal) - ((_ : ℝ) : EReal))) = _
  rw [← EReal.coe_sub, ← EReal.coe_add, Ideal.exp_coe]
  refine congrArg _ (congrArg _ ?_)
  have e : G.pp (i 1).val (i 2).val ((i 3).val + 1) = G.pp (i 1).val (i 2).val (i 3).val + G.lom (i 1).val (i 2).val (i 3).val := Finset.sum_range_succ _ _
  rw [e]; ring
include h in
theorem v24 (i : S1x4x8192x8192.Idx) : val_main_v24 (F := Ideal) x0 i = ((G.aa (i 1).val (i 2).val (i 3).val : ℝ) : EReal) := by
  rw [val_main_v24_apply, mask', select_mask, v23 h, val_main_call4_v2_apply, val_main_call4_v0_apply, val_main_cst_1_apply, zero32]
  unfold Whole.aa
  split <;> rfl

/-- A row of the result and a column among the 256: the column's head and its place in the head. -/
theorem row_eq (i : S8192x256.Idx) : ((i 0).val * 256 + (i 1).val) / 256 % 8192 = (i 0).val ∧ ((i 0).val * 256 + (i 1).val) / 64 % 4 = (i 1).val / 64
    ∧ ((i 0).val * 256 + (i 1).val) % 64 = (i 1).val % 64 := Cert.ReferenceIdeal.Hand.row_eq i

include h in
theorem y (i : S8192x256.Idx) : val_main_v28 (F := Ideal) x0 i = ((G.y (i 0).val (i 1).val : ℝ) : EReal) := by
  show val_main_v27 (F := Ideal) x0 i = _
  rw [val_main_v27_apply, val_main_v26_apply, val_main_v25_apply]
  unfold Whole.y
  rw [← coe_sumFin]
  refine Finset.sum_congr rfl fun k _ => ?_
  rw [v5 h, v24 h, ← EReal.coe_mul]
  show ((G.v k.val (64 * (((i 0).val * 256 + (i 1).val) / 64 % 4) + ((i 0).val * 256 + (i 1).val) % 64) * G.aa (((i 0).val * 256 + (i 1).val) / 64 % 4) (((i 0).val * 256 + (i 1).val) / 256 % 8192) k.val : ℝ) : EReal) = _
  rw [(row_eq i).1, (row_eq i).2.1, (row_eq i).2.2, Nat.div_add_mod, mul_comm]

end Cert.AttendRefIdeal.Hand
-- ==== Proof.ValueAttend.lean ====
/-
  The forward call's result: each point is handed its rows of the queries and all the keys and values, its two stores are its
  rows of the whole result, and the reference gives the same.
-/
module

public import proofs.«01_k».proof.Proof.AttendChain
public import proofs.«01_k».proof.Proof.AttendRef
public import proofs.«01_k».proof.Proof.Gen.AttendIdeal.Value
public import proofs.«01_k».proof.Defs
import Idealize.ShloMosaic.Lib.Pipeline.ValueKit
import Idealize.ShloMosaic.Lib.KernelVsHost
import Idealize.ShloMosaic.Lib.Claim

@[expose] public section

set_option maxRecDepth 16384

noncomputable section

namespace Cert.AttendIdeal.Hand

open Idealize.ShloMosaic Idealize.ShloMosaic.TcCoe
open Cert.AttendIdeal Cert.AttendIdeal.Gen Cert.KernelIdeal.Sweep Cert.Spec

variable (m : (ℓ : Loc nD τ sig) → Buf (Elt Ideal) ℓ) (c : Dev nD)

theorem index0 : ∀ t : Fin cfg0.N, win0_0.index t = ![t.val, 11] := by decide +kernel
theorem index1 : ∀ t : Fin cfg0.N, win0_1.index t = ![0, 0] := by decide +kernel
theorem index2 : ∀ t : Fin cfg0.N, win0_2.index t = ![t.val, 0] := by decide +kernel
theorem coord_eq : ∀ t : Fin grid0.N, ((grid0.coords t) 0).val = t.val := by decide +kernel

/-- The keys and values as the host hands them over: columns of the argument. -/
theorem kv_apply (J : S8192x512.Idx) (K : S8192x3840.Idx) (e0 : (K 0).val = (J 0).val) (e1 : (K 1).val = 3072 + (J 1).val) :
    V m c main_v1 J = (m ((c : Thread nD τ).loc main_arg0) K : EReal) := by
  have e : V m c main_v1 = truncf (F := Ideal) .bf16 (extractStridedSlice S8192x512 ![0, 3072] (m ((c : Thread nD τ).loc main_arg0)) slices_S8192x3840_S8192x512_0_3072) bitsLt_bf16_f32 := by
    simp only [V, hostOps0]
    entry_read
    rfl
  rw [e]
  refine extractStridedSlice_apply (s := S8192x3840) (t := S8192x512) _ _ slices_S8192x3840_S8192x512_0_3072 J K fun a => ?_
  match a with
  | ⟨0, _⟩ => exact e0.trans (Nat.zero_add _).symm
  | ⟨1, _⟩ => exact e1

/-- A point's blocks, entry by entry. -/
theorem qBlk_apply (t : Fin cfg0.N) (I : S128x256.Idx) (J : S8192x3840.Idx) (h0 : (J 0).val = 128 * t.val + (I 0).val) (h1 : (J 1).val = 2816 + (I 1).val) :
    iblk m c 0 t I = V m c main_arg0 J := by
  show V m c main_arg0 (((cfg0.win 0).blk t).view.emb I) = _
  refine congrArg _ (funext fun a => Fin.ext ?_)
  match a with
  | ⟨0, _⟩ => blk_simp [index0 t]; show t.val * 128 + (I 0).val = (J 0).val; omega
  | ⟨1, _⟩ => blk_simp [index0 t]; show 11 * 256 + (I 1).val = (J 1).val; omega
theorem kvBlk_apply (t : Fin cfg0.N) (I : S8192x512.Idx) : iblk m c 1 t I = V m c main_v1 I := by
  show V m c main_v1 (((cfg0.win 1).blk t).view.emb I) = _
  refine congrArg _ (funext fun a => Fin.ext ?_)
  match a with
  | ⟨0, _⟩ => blk_simp [index1 t]
  | ⟨1, _⟩ => blk_simp [index1 t]

/-- A block read back from its two halves. -/
theorem stores_read (M : View sig .tc .vmem S128x256 .bf16) (y0 y1 : FVec Ideal S128x128 .f32) {f : ℕ → ℕ → ℝ}
    (h0 : ∀ y, (y0 y : EReal) = ((f (y 0).val (y 1).val : ℝ) : EReal))
    (h1 : ∀ y, (y1 y : EReal) = ((f (y 0).val (128 + (y 1).val) : ℝ) : EReal)) (I : S128x256.Idx) :
    M.read (Elt Ideal) (M.writes (Elt Ideal) M.junk (stores y0 y1)) I = ((f (I 0).val (I 1).val : ℝ) : EReal) := by
  refine View.read_writes_apply_of_pieces (Val := Elt Ideal) M M.junk (fun I => ((f (I 0).val (I 1).val : ℝ) : EReal) : S128x256.Idx → Elt Ideal .bf16) _ ?_ I ?_
  · intro p hp y
    unfold stores at hp
    rcases List.mem_cons.mp hp with rfl | hp
    · refine (h1 y).trans ?_
      show _ = ((f (0 + 1 * (y 0).val) (128 + 1 * (y 1).val) : ℝ) : EReal)
      simp only [Nat.zero_add, Nat.one_mul]
    · obtain rfl := List.mem_singleton.mp hp
      refine (h0 y).trans ?_
      show _ = ((f (0 + 1 * (y 0).val) (0 + 1 * (y 1).val) : ℝ) : EReal)
      simp only [Nat.zero_add, Nat.one_mul]
  · have I0 : (I 0).val < 128 := (I 0).isLt
    have I1 : (I 1).val < 256 := (I 1).isLt
    unfold stores
    by_cases h1 : (I 1).val < 128
    · have e : I ∈ (Rect.unit (s := S128x256) ![0, 0] S128x128.size inb_S128x256_S128x128_0_0).set := Rect.mem_set_unit.mpr fun a => by
        match a with
        | ⟨0, _⟩ => exact ⟨Nat.zero_le _, by show (I 0).val < 0 + 128; omega⟩
        | ⟨1, _⟩ => exact ⟨Nat.zero_le _, by show (I 1).val < 0 + 128; omega⟩
      exact ⟨_, List.mem_cons_of_mem _ (List.mem_singleton_self _), e⟩
    · have e : I ∈ (Rect.unit (s := S128x256) ![0, 128] S128x128.size inb_S128x256_S128x128_0_128).set := Rect.mem_set_unit.mpr fun a => by
        match a with
        | ⟨0, _⟩ => exact ⟨Nat.zero_le _, by show (I 0).val < 0 + 128; omega⟩
        | ⟨1, _⟩ => exact ⟨by show 128 ≤ (I 1).val; omega, by show (I 1).val < 128 + 128; omega⟩
      exact ⟨_, List.mem_cons_self, e⟩

variable {m c} {G : Whole} {x1 : Arg1.Idx → EReal} (h : Holds (m ((c : Thread nD τ).loc main_arg0)) x1 G) (t : Fin cfg0.N)

include h in
theorem q_t (J : S128x256.Idx) : iblk m c 0 t J = ((G.q (128 * t.val + (J 0).val) (J 1).val : ℝ) : EReal) := by
  have h0 : (J 0).val < 128 := (J 0).isLt
  have h1 : (J 1).val < 256 := (J 1).isLt
  have ht : t.val < 64 := t.isLt.trans_eq N_0
  rw [qBlk_apply m c t J (ValueIdx.ix2 (⟨128 * t.val + (J 0).val, by omega⟩ : Fin 8192) (⟨2816 + (J 1).val, by omega⟩ : Fin 3840)) rfl rfl, V_main_arg0]
  refine (h.q _ (Nat.le_add_right _ _) (by show 2816 + (J 1).val < 3072; omega)).trans ?_
  show ((G.q (128 * t.val + (J 0).val) (2816 + (J 1).val - 2816) : ℝ) : EReal) = _
  rw [Nat.add_sub_cancel_left]

include h in
theorem keys_t : Keys (iblk m c 1 t) (G.point t.val) where
  k J a := by
    have h1 : (J 1).val < 512 := (J 1).isLt
    rw [kvBlk_apply, kv_apply m c J (ValueIdx.ix2 (J 0) (⟨3072 + (J 1).val, by omega⟩ : Fin 3840)) rfl rfl]
    exact (h.k _ (Nat.le_add_right _ _) (Nat.add_lt_add_left a 3072)).trans (congrArg (fun n => ((G.k (J 0).val n : ℝ) : EReal)) (Nat.add_sub_cancel_left ..))
  v J a := by
    have h1 : (J 1).val < 512 := (J 1).isLt
    rw [kvBlk_apply, kv_apply m c J (ValueIdx.ix2 (J 0) (⟨3072 + (J 1).val, by omega⟩ : Fin 3840)) rfl rfl]
    refine (h.v _ (Nat.add_le_add_left a 3072) (Nat.add_lt_add_left h1 3072)).trans (congrArg (fun n => ((G.v (J 0).val n : ℝ) : EReal)) ?_)
    show 3072 + (J 1).val - 3328 = (J 1).val - 256
    omega

include h in
/-- A point's sweep comes to its rows of the whole result. -/
theorem last_t {a1 : Memref sig .tc .vmem S128x256 .f32} {g1 : a1.IsWhole} {a2 : Memref sig .tc .vmem S8192x512 .bf16} {g2 : a2.IsWhole} :
    (∀ y, ((last (grid0.coords t) a1 g1 a2 g2 (iblk m c 0 t) (iblk m c 1 t)).2.1 y : EReal) = ((G.y (128 * t.val + (y 0).val) (y 1).val : ℝ) : EReal))
    ∧ ∀ y, ((last (grid0.coords t) a1 g1 a2 g2 (iblk m c 0 t) (iblk m c 1 t)).2.2 y : EReal) = ((G.y (128 * t.val + (y 0).val) (128 + (y 1).val) : ℝ) : EReal) := by
  have ht : t.val < 64 := t.isLt.trans_eq N_0
  have e : ((grid0.coords t) 0).val = t.val := coord_eq t
  have hq : IsM 512 128 (qq a1 g1 (iblk m c 0 t)) (G.point t.val).qs :=
    Cert.KernelIdeal.Hand.qx_val (f := fun r l => G.q (128 * t.val + r) l) (half0_val (f := fun r l => G.q (128 * t.val + r) l) (q_t h t))
      (half1_val (f := fun r l => G.q (128 * t.val + r) l) (q_t h t))
  have hi := last_inv (D := G.point t.val) (i := grid0.coords t) (arg1 := a1) (harg1 := g1) (arg2 := a2) (harg2 := g2)
    (fun ρ _ => by rw [e, Whole.point_T]) (fun ρ _ => by rw [e]; exact Whole.point_total _ _ ht) (keys_t h t) hq
  rw [e] at hi
  have z : ∀ pr r l, (G.point t.val).YY pr (128 * 0) r l = 0 := fun pr r l => by
    unfold Data.YY; rw [Nat.mul_zero, Finset.range_zero, Finset.sum_empty]
  refine ⟨fun y => (hi.y0 y).trans (congrArg _ ?_), fun y => (hi.y1 y).trans (congrArg _ ?_)⟩
  · beta_reduce
    rw [z, sub_zero, Whole.point_y G t.val ht (y 0).isLt (y 1).isLt, Nat.mul_zero, Nat.zero_add]
  · beta_reduce
    rw [z, sub_zero, Whole.point_y G t.val ht (y 0).isLt (y 1).isLt, Nat.mul_one]

include h in
/-- The call's result array. -/
theorem y_array : (dats m 0 c).arrAt 2 cfg0.N = fun I : S8192x256.Idx => ((G.y (I 0).val (I 1).val : ℝ) : EReal) := by
  refine (dats m 0 c).arrAt_eq_of_covers 2 _ (by decide +kernel) fun t hf y => ?_
  blk_simp
  rw [after0_2]
  unfold outsAt0
  dsimp only
  unfold out0_A_2
  rw [run_eq]
  have hl := last_t h t (a1 := ms0_0 t) (g1 := hs0_0 t) (a2 := ms0_1 t) (g2 := hs0_1 t)
  refine (stores_read VO0_2 _ _ (f := fun r l => G.y (128 * t.val + r) l) hl.1 hl.2 _).trans ?_
  refine congrArg _ (congrArg₂ G.y ?_ ?_)
  · blk_simp [index2 t]; show 128 * t.val + _ = t.val * 128 + _; omega
  · blk_simp [index2 t]

end Cert.AttendIdeal.Hand
-- ==== Proof.Frame.lean ====
/- The launch: what the two sums hold as the grid advances, the body at every point, and the run of the whole program with
   the contents of its three results. -/
module

public import proofs.«01_k».proof.Proof.Body
public import proofs.«01_k».proof.Proof.Gen.KernelIdeal.Frame
public import Idealize.ShloMosaic.Lib.Pipeline.FrameValue
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the call -/

set_option maxHeartbeats 800000 in
/-- The host's operations, then the call. -/
theorem host_prefix (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-! ## What the sums hold before each point, and what a point writes -/

/-- The four operands' blocks at a point: the queries, all keys and values, the cotangents, the saved totals. -/
abbrev qBlk (c : Dev nD) (t : Fin cfg0.N) : Vec F S128x256 .f32 := iblk m c 0 t
abbrev kvBlk (c : Dev nD) (t : Fin cfg0.N) : Vec F S8192x512 .bf16 := iblk m c 1 t
abbrev doBlk (c : Dev nD) (t : Fin cfg0.N) : Vec F S128x256 .f32 := iblk m c 2 t
abbrev totBlk (c : Dev nD) (t : Fin cfg0.N) : Vec F S128x128 .f32 := iblk m c 3 t

/-- The body's run at a point whose operands hold their blocks and whose sums hold `f8`, `f9`. -/
abbrev runAt (c : Dev nD) (t : Fin cfg0.N) (f8 : BufOf (F := F) c dkM) (f9 : BufOf (F := F) c dvM) :=
  bodyRun (F := F) Variants.none c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    ((st0_0 t).view.rep (qBlk m c t)) ((st0_1 t).view.rep (kvBlk m c t)) ((st0_2 t).view.rep (doBlk m c t)) ((st0_3 t).view.rep (totBlk m c t)) f8 f9

/-- The two sums a point's sweep starts from: zero at the first point, what the point before left afterwards. -/
def sums (c : Dev nD) : ℕ → BufOf (F := F) c dkM × BufOf (F := F) c dvM
  | 0 => (zeroDk c, zeroDv c)
  | n + 1 => if h : n < cfg0.N then ((runAt m c ⟨n, h⟩ (sums c n).1 (sums c n).2).2.1, (runAt m c ⟨n, h⟩ (sums c n).1 (sums c n).2).2.2.1) else sums c n

theorem sums_zero (c : Dev nD) : sums m c 0 = (zeroDk c, zeroDv c) := rfl
theorem sums_succ (c : Dev nD) (t : Fin cfg0.N) :
    sums m c (t.val + 1) = ((runAt m c t (sums m c t.val).1 (sums m c t.val).2).2.1, (runAt m c t (sums m c t.val).1 (sums m c t.val).2).2.2.1) :=
  dif_pos t.isLt

attribute [irreducible] sums

/-- The pieces a point writes into its dq block. -/
def dqPieces (c : Dev nD) (t : Fin cfg0.N) : List (View.Piece (Elt F) S128x256 .bf16) := (runAt m c t (sums m c t.val).1 (sums m c t.val).2).1

/-- The two pieces are the two halves of the block. -/
theorem dqPieces_cover (c : Dev nD) (t : Fin cfg0.N) (y : S128x256.Idx) : ∃ pc ∈ dqPieces m c t, y ∈ pc.1.set :=
  View.cover_of_tiledL (dqPieces m c t) S128x128.size (by sl_kernel_rfl) y

/-- A point's dq block. -/
def dqBlock (c : Dev nD) (t : Fin cfg0.N) : Vec F S128x256 .bf16 :=
  (win0_4.stage (cfg0.slots t 4)).view.read (Elt F) ((win0_4.stage (cfg0.slots t 4)).view.writes (Elt F) (win0_4.stage (cfg0.slots t 4)).view.junk (dqPieces m c t))

/-- The grid's coordinate is the point's number. -/
theorem coord_eq : ∀ t : Fin grid0.N, ((grid0.coords t) 0).val = t.val := by decide +kernel
theorem coord_zero (t : Fin cfg0.N) : ((grid0.coords t) 0).val = 0 ↔ t.val = 0 := by rw [show ((grid0.coords t) 0).val = t.val from coord_eq t]
theorem coord_last (t : Fin cfg0.N) : ((grid0.coords t) 0).val = 63 ↔ t.val + 1 = cfg0.N := by
  rw [show ((grid0.coords t) 0).val = t.val from coord_eq t]; have h : cfg0.N = 64 := N_0; omega

/-! ## The invariant between points -/

/-- The body's two semaphores, and the two results it copies itself. -/
abbrev osem0 : Fin 2 → SemLoc sig := fun j => (![SemLoc.dma 9, SemLoc.dma 10] : Fin 2 → SemLoc sig) j
theorem ownSemFacts0 : Pipeline.OwnSemFacts spec0 osem0 := by decide
def R0 : Finset (Ref sig .tc) := {main_v22_1, main_v22_2}
theorem R0_sub : R0 ⊆ Pipeline.restRefs sig spec0 \ ∅ := by decide

theorem sems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl

/-- A buffer held through the memref of the whole of it. -/
theorem held_whole (c : Dev nD) (b : Ref sig .tc) (f : Buf (Elt F) ((c : Thread nD τ).loc b)) :
    (held c (Memref.whole b) f : sProp 𝕄) = (((c : Thread nD τ).loc b) ↦{fullShare} f) := by
  unfold held; rw [show (Memref.whole b : Memref sig .tc _ _ _).view.set = Finset.univ from View.set_whole b]
theorem pts_held (c : Dev nD) (b : Ref sig .tc) (f : Buf (Elt F) ((c : Thread nD τ).loc b)) :
    (((c : Thread nD τ).loc b) ↦{fullShare} f : sProp 𝕄) ⊢ held c (Memref.whole b) f := (held_whole c b f) ▸ .rfl
theorem held_pts (c : Dev nD) (b : Ref sig .tc) (f : Buf (Elt F) ((c : Thread nD τ).loc b)) :
    (held c (Memref.whole b) f : sProp 𝕄) ⊢ ((c : Thread nD τ).loc b) ↦{fullShare} f := (held_whole c b f) ▸ .rfl

theorem routed_eq (c : Dev nD) (W : (b : Ref sig .tc) → Buf (Elt F) ((c : Thread nD τ).loc b)) :
    (Pipeline.routed R0 c W : sProp 𝕄) = iprop(held c dkR (W main_v22_1) ∗ held c dvR (W main_v22_2)) := by
  unfold Pipeline.routed; rw [BI.bigSep_eq_bigSepL_of_eq [main_v22_1, main_v22_2] (by decide) (by decide), show held c dkR (W main_v22_1) = _ from held_whole c main_v22_1 _, show held c dvR (W main_v22_2) = _ from held_whole c main_v22_2 _]; rfl

/-- What the three results' buffers that the body writes itself end with: the sums after the last point. -/
def ends (c : Dev nD) (b : Ref sig .tc) : Buf (Elt F) ((c : Thread nD τ).loc b) :=
  if h : b = main_v22_1 then h ▸ (fun j => (sums m c cfg0.N).1 j : Buf (Elt F) ((c : Thread nD τ).loc main_v22_1))
  else if h : b = main_v22_2 then h ▸ (fun j => (sums m c cfg0.N).2 j : Buf (Elt F) ((c : Thread nD τ).loc main_v22_2))
  else V m c b

theorem ends_dk (c : Dev nD) : ends m c main_v22_1 = (fun j => (sums m c cfg0.N).1 j : Buf (Elt F) ((c : Thread nD τ).loc main_v22_1)) := dif_pos rfl
theorem ends_dv (c : Dev nD) : ends m c main_v22_2 = (fun j => (sums m c cfg0.N).2 j : Buf (Elt F) ((c : Thread nD τ).loc main_v22_2)) :=
  (dif_neg (by decide)).trans (dif_pos rfl)

/-- The invariant before point `n`: the sums hold what the points so far made of them (at first, anything), the two results
    hold anything until the last point, and the sums after it. -/
def inv (c : Dev nD) (n : ℕ) : sProp 𝕄 :=
  iprop((∃ q8 q9, ⌜n ≠ 0 → q8 = (sums m c n).1 ∧ q9 = (sums m c n).2⌝ ∗ held c dkM q8 ∗ held c dvM q9)
    ∗ (∃ r, prngReg c r) ∗ (semVal ((c : Thread nD τ), SemLoc.dma 9) 0 ∗ semVal ((c : Thread nD τ), SemLoc.dma 10) 0)
    ∗ (∃ f6 f7, ⌜n = cfg0.N → f6 = ends m c main_v22_1 ∧ f7 = ends m c main_v22_2⌝ ∗ held c dkR f6 ∗ held c dvR f7))

/-- The proof data: the arrays as the call finds them, the operands' blocks left in place, the point's dq block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqBlock m c t
  Φ t := inv m c t.val
  q _ := fullShare
  owed _ := 0

theorem A_eq (c : Dev nD) (w : Fin cfg0.W) : (dats m 0 c).A w = V m c (Pipeline.arrRef spec0 w) := by
  dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- What the sweep of a point starts from is what the points before left: at the first point whatever was there is
    overwritten by zero. -/
theorem start8_eq (c : Dev nD) (t : Fin cfg0.N) (q8 : BufOf (F := F) c dkM) (h : t.val ≠ 0 → q8 = (sums m c t.val).1) :
    start8 c (grid0.coords t) q8 = (sums m c t.val).1 := by
  unfold start8
  by_cases h0 : t.val = 0
  · rw [if_pos ((coord_zero t).mpr h0), h0, sums_zero]
  · rw [if_neg (fun h' => h0 ((coord_zero t).mp h')), h h0]
theorem start9_eq (c : Dev nD) (t : Fin cfg0.N) (q9 : BufOf (F := F) c dvM) (h : t.val ≠ 0 → q9 = (sums m c t.val).2) :
    start9 c (grid0.coords t) q9 = (sums m c t.val).2 := by
  unfold start9
  by_cases h0 : t.val = 0
  · rw [if_pos ((coord_zero t).mpr h0), h0, sums_zero]
  · rw [if_neg (fun h' => h0 ((coord_zero t).mp h')), h h0]

/-- A block written over anything by the point's pieces reads as the point's dq block. -/
theorem dq_owned (c : Dev nD) (t : Fin cfg0.N) (f5 : BufOf (F := F) c (st0_4 t)) :
    (held c (st0_4 t) ((st0_4 t).view.writes (Elt F) f5 (runAt m c t (sums m c t.val).1 (sums m c t.val).2).1) : sProp 𝕄) ⊢ owns (c : Thread nD τ) (st0_4 t) fullShare (dqBlock m c t) := by
  unfold owns
  iintro H
  iexists _; isplitr
  swap; · iexact H
  ipureintro; exact View.read_writes_of_cover _ _ _ _ _ (dqPieces_cover m c t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.castSucc = inv m c t.val from rfl, show (dats m 0 c).Φ t.succ = inv m c (t.val + 1) from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = dqBlock m c t from rfl]
  unfold Dat.owesAt Pipeline.owesWithin
  rw [show (dats m 0 c).owed t.castSucc = 0 from rfl, show (dats m 0 c).owed t.succ = 0 from rfl]
  unfold inv
  iintro ⟨⟨⟨%q8, %q9, %hq, H8, H9⟩, Hg, ⟨Hs9, Hs10⟩, ⟨%f6, %f7, %hf, H6, H7⟩⟩, ⟨%W, -, HW⟩, ⟨%d0, H0⟩, ⟨%d1, H1⟩, ⟨%d2, H2⟩, ⟨%d3, H3⟩, ⟨%d4, H4⟩⟩
  ihave H0' := (rep_of_owns c (st0_0 t) fullShare _) $$ H0
  ihave H1' := (rep_of_owns c (st0_1 t) fullShare _) $$ H1
  ihave H2' := (rep_of_owns c (st0_2 t) fullShare _) $$ H2
  ihave H3' := (rep_of_owns c (st0_3 t) fullShare _) $$ H3
  ihave H4' := (rep_of_owns c (st0_4 t) fullShare _) $$ H4
  iapply ((runAt m c t (sums m c t.val).1 (sums m c t.val).2).2.2.2 q8 q9 _ _ (start8_eq m c t q8 fun h => (hq h).1) (start9_eq m c t q9 fun h => (hq h).2))
  isplitl [H0' H1' H2' H3']
  · isplitl [H0']; · iexact H0'
    isplitl [H1']; · iexact H1'
    isplitl [H2']; · iexact H2'
    iexact H3'
  isplitl [H4']; · iexact H4'
  isplitl [H8]; · iexact H8
  isplitl [H9]; · iexact H9
  iintro ⟨⟨H0, H1, H2, H3⟩, H4, H8, H9⟩
  ihave H0' := (owns_of_rep c (st0_0 t) fullShare _) $$ H0
  ihave H1' := (owns_of_rep c (st0_1 t) fullShare _) $$ H1
  ihave H2' := (owns_of_rep c (st0_2 t) fullShare _) $$ H2
  ihave H3' := (owns_of_rep c (st0_3 t) fullShare _) $$ H3
  ihave H4' := (dq_owned m c t ((st0_4 t).view.rep ((dats m 0 c).before 4 t d4))) $$ H4
  by_cases hl : ((grid0.coords t) 0).val = 63
  · have hN := (coord_last t).mp hl
    iapply (wp_wand_r Idealize.ShloMosaic.frame (wpE (defs₀ (F := F)) Variants.none (c : Thread nD τ) none) Set.univ)
    isplitl [H6 H7 H8 H9 Hs9 Hs10 HW]
    · iapply (lastIf_last Variants.none c (grid0.coords t) hl _ _ f6 f7 W)
      isplitl [H8]; · iexact H8
      isplitl [H9]; · iexact H9
      isplitl [H6]; · iexact H6
      isplitl [H7]; · iexact H7
      isplitl [Hs9]; · iexact Hs9
      isplitl [Hs10]; · iexact Hs10
      iexact HW
    iintro %_u ⟨H8, H9, H6, H7, Hs9, Hs10, ⟨%W', HW'⟩⟩
    isplitl [Hg H6 H7 H8 H9 Hs9 Hs10]
    · isplitl [H8 H9]
      · iexists _, _; isplitr
        swap
        · isplitl [H8]; · iexact H8
          iexact H9
        ipureintro; intro _; rw [sums_succ]; exact ⟨rfl, rfl⟩
      isplitl [Hg]; · iexact Hg
      isplitl [Hs9 Hs10]
      · isplitl [Hs9]; · iexact Hs9
        iexact Hs10
      iexists _, _; isplitr
      swap
      · isplitl [H6]; · iexact H6
        iexact H7
      ipureintro; intro _; rw [ends_dk, ends_dv]; have hs := (congrArg (sums m c) hN).symm.trans (sums_succ m c t); exact ⟨by rw [hs], by rw [hs]⟩
    isplitl [HW']
    · iexists W'; isplitr; · ipureintro; exact fun _ _ => Or.inl trivial
      iexact HW'
    isplitl [H0']; · iexact H0'
    isplitl [H1']; · iexact H1'
    isplitl [H2']; · iexact H2'
    isplitl [H3']; · iexact H3'
    iexact H4'
  · have hN : t.val + 1 ≠ cfg0.N := fun h => hl ((coord_last t).mpr h)
    iapply (lastIf_mid Variants.none c (grid0.coords t) hl _)
    isplitl [Hg H6 H7 H8 H9 Hs9 Hs10]
    · isplitl [H8 H9]
      · iexists _, _; isplitr
        swap
        · isplitl [H8]; · iexact H8
          iexact H9
        ipureintro; intro _; rw [sums_succ]; exact ⟨rfl, rfl⟩
      isplitl [Hg]; · iexact Hg
      isplitl [Hs9 Hs10]
      · isplitl [Hs9]; · iexact Hs9
        iexact Hs10
      iexists _, _; isplitr
      swap
      · isplitl [H6]; · iexact H6
        iexact H7
      ipureintro; exact fun h => absurd h hN
    isplitl [HW]
    · iexists W; isplitr; · ipureintro; exact fun _ _ => Or.inl trivial
      iexact HW
    isplitl [H0']; · iexact H0'
    isplitl [H1']; · iexact H1'
    isplitl [H2']; · iexact H2'
    isplitl [H3']; · iexact H3'
    iexact H4'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_first (c : Dev nD) : Pipeline.ΦDRG osem0 spec0 ∅ R0 (V m) (V m) c ⊢ (inv m c 0 : sProp 𝕄) := by
  rw [Pipeline.ΦDRG_eq, scopedRest0_eq, sems_eq, routed_eq]
  unfold inv
  iintro ⟨⟨⟨%q8, H8⟩, ⟨%q9, H9⟩⟩, Hg, Hs, -, ⟨H6, H7⟩⟩
  isplitl [H8 H9]
  · iexists q8, q9; isplitr; · ipureintro; exact fun h => absurd rfl h
    isplitl [H8]; · iapply (pts_held c cc0_scratch0 q8); iexact H8
    iapply (pts_held c cc0_scratch1 q9); iexact H9
  isplitl [Hg]; · iexact Hg
  isplitl [Hs]; · iexact Hs
  iexists _, _; isplitr
  swap
  · isplitl [H6]; · iexact H6
    iexact H7
  ipureintro; exact fun h => absurd h (by decide)

theorem inv_last (c : Dev nD) : (inv m c cfg0.N : sProp 𝕄) ⊢ Pipeline.ΦDRG osem0 spec0 ∅ R0 (V m) (ends m) c := by
  rw [Pipeline.ΦDRG_eq, scopedRest0_eq, sems_eq, routed_eq]
  unfold inv
  iintro ⟨⟨%q8, %q9, -, H8, H9⟩, Hg, Hs, ⟨%f6, %f7, %hf, H6, H7⟩⟩
  obtain ⟨rfl, rfl⟩ := hf rfl
  isplitl [H8 H9]
  · isplitl [H8]
    · iexists q8; iapply (held_pts c cc0_scratch0 q8); iexact H8
    iexists q9; iapply (held_pts c cc0_scratch1 q9); iexact H9
  isplitl [Hg]; · iexact Hg
  isplitl [Hs]; · iexact Hs
  isplitr
  · iapply (Entails.of_eq bigSep_empty.symm); iempintro
  isplitl [H6]; · iexact H6
  iexact H7

set_option backward.isDefEq.respectTransparency.types false in
/-- The whole program's run: the arguments unchanged, every result's contents, every counter back at zero. -/
theorem run_main : θ_run defs (onTc (τ := τ) (main (F := F))) (s₀ m ρ)
    (fun r => Pipeline.FramePostRG cfgs (dats m) 0 R0 (V m) (ends m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := host_prefix m Variants.none) (hA := A_eq m) (G := ends m)
    (hin := inv_first m) (hout := inv_last m)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).1 2).trans (((dats m 0 c).arrAt_in 2 rfl _).trans ((A_eq m c 2).trans (V_main_arg1 m c)))⟩, h.2⟩) (run_main m ρ)

end Cert.KernelIdeal.Hand
-- ==== Proof.Blocks.lean ====
/- The blocks a point is handed, entry by entry, from the arrays the call finds. -/
module

public import proofs.«01_k».proof.Proof.Frame
import Idealize.ShloMosaic.Lib.Pipeline.ValueKit

@[expose] public section

noncomputable section

namespace Cert.KernelIdeal.Hand

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

theorem index0 : ∀ t : Fin cfg0.N, win0_0.index t = ![t.val, 11] := by decide +kernel
theorem index1 : ∀ t : Fin cfg0.N, win0_1.index t = ![0, 0] := by decide +kernel
theorem index2 : ∀ t : Fin cfg0.N, win0_2.index t = ![t.val, 3] := by decide +kernel
theorem index3 : ∀ t : Fin cfg0.N, win0_3.index t = ![t.val, 0] := by decide +kernel
theorem index4 : ∀ t : Fin cfg0.N, win0_4.index t = ![t.val, 0] := by decide +kernel

theorem qBlk_apply (t : Fin cfg0.N) (I : S128x256.Idx) (J : S8192x3840.Idx) (h0 : (J 0).val = 128 * t.val + (I 0).val) (h1 : (J 1).val = 2816 + (I 1).val) :
    qBlk m c t I = V m c main_arg0 J := by
  show V m c main_arg0 (((cfg0.win 0).blk t).view.emb I) = _
  refine congrArg _ (funext fun a => Fin.ext ?_)
  match a with
  | ⟨0, _⟩ => blk_simp [index0 t]; show t.val * 128 + (I 0).val = (J 0).val; omega
  | ⟨1, _⟩ => blk_simp [index0 t]; show 11 * 256 + (I 1).val = (J 1).val; omega
theorem kvBlk_apply (t : Fin cfg0.N) (I : S8192x512.Idx) : kvBlk m c t I = V m c main_v1 I := by
  show V m c main_v1 (((cfg0.win 1).blk t).view.emb I) = _
  refine congrArg _ (funext fun a => Fin.ext ?_)
  match a with
  | ⟨0, _⟩ => blk_simp [index1 t]
  | ⟨1, _⟩ => blk_simp [index1 t]
theorem doBlk_apply (t : Fin cfg0.N) (I : S128x256.Idx) (J : S8192x1024.Idx) (h0 : (J 0).val = 128 * t.val + (I 0).val) (h1 : (J 1).val = 768 + (I 1).val) :
    doBlk m c t I = V m c main_arg1 J := by
  show V m c main_arg1 (((cfg0.win 2).blk t).view.emb I) = _
  refine congrArg _ (funext fun a => Fin.ext ?_)
  match a with
  | ⟨0, _⟩ => blk_simp [index2 t]; show t.val * 128 + (I 0).val = (J 0).val; omega
  | ⟨1, _⟩ => blk_simp [index2 t]; show 3 * 256 + (I 1).val = (J 1).val; omega
theorem totBlk_apply (t : Fin cfg0.N) (I : S128x128.Idx) (J : S8192x128.Idx) (h0 : (J 0).val = 128 * t.val + (I 0).val) (h1 : (J 1).val = (I 1).val) :
    totBlk m c t I = V m c main_v21 J := by
  show V m c main_v21 (((cfg0.win 3).blk t).view.emb I) = _
  refine congrArg _ (funext fun a => Fin.ext ?_)
  match a with
  | ⟨0, _⟩ => blk_simp [index3 t]; show t.val * 128 + (I 0).val = (J 0).val; omega
  | ⟨1, _⟩ => blk_simp [index3 t]; exact h1.symm

/-- The dq array after the run, from every point's block. -/
theorem dq_array (A : S8192x256.Idx → Elt F .bf16)
    (h : ∀ (t : Fin cfg0.N) (I : S128x256.Idx) (J : S8192x256.Idx), (J 0).val = 128 * t.val + (I 0).val → (J 1).val = (I 1).val → dqBlock m c t I = A J) :
    (dats m 0 c).arrAt 4 cfg0.N = A := by
  refine (dats m 0 c).arrAt_eq_of_covers 4 _ (by decide +kernel) fun t hf y => ?_
  blk_simp
  refine h t _ _ ?_ ?_
  · blk_simp [index4 t]; show t.val * 128 + _ = 128 * t.val + _; omega
  · blk_simp [index4 t]

end Cert.KernelIdeal.Hand
-- ==== Proof.Grid.lean ====
/-
  The grid's points one after the other: each point's operands are its rows of the arrays, its dq block is its rows of the
  whole dq, and after the last point the two sums are the whole dk and dv.
-/
module

public import proofs.«01_k».proof.Proof.Blocks
public import proofs.«01_k».proof.Proof.Runs
public import proofs.«01_k».proof.Proof.Whole

@[expose] public section

set_option maxRecDepth 16384

noncomputable section

namespace Cert.KernelIdeal.Hand

open Idealize.ShloMosaic Idealize.ShloMosaic.ValueIdx Idealize.ShloMosaic.TcCoe
open Cert.KernelIdeal Cert.KernelIdeal.Gen Cert.KernelIdeal.Sweep Cert.Spec
open Finset (range)

variable (m : (ℓ : Loc nD τ sig) → Buf (Elt Ideal) ℓ) (c : Dev nD) (G : Whole)

/-- What the call finds in its arrays. -/
structure Found : Prop where
  q : ∀ J : S8192x3840.Idx, 2816 ≤ (J 1).val → (J 1).val < 3072 → (V m c main_arg0 J : EReal) = ((G.q (J 0).val ((J 1).val - 2816) : ℝ) : EReal)
  g : ∀ J : S8192x1024.Idx, 768 ≤ (J 1).val → (V m c main_arg1 J : EReal) = ((G.g (J 0).val ((J 1).val - 768) : ℝ) : EReal)
  k : ∀ J : S8192x512.Idx, (J 1).val < 256 → (V m c main_v1 J : EReal) = ((G.k (J 0).val (J 1).val : ℝ) : EReal)
  v : ∀ J : S8192x512.Idx, 256 ≤ (J 1).val → (V m c main_v1 J : EReal) = ((G.v (J 0).val ((J 1).val - 256) : ℝ) : EReal)
  tot : ∀ J : S8192x128.Idx, (V m c main_v21 J : EReal) = ((if (J 1).val < 4 then G.pp (J 1).val (J 0).val 8192 else 0 : ℝ) : EReal)

variable {m c G} (h : Found m c G) (t : Fin cfg0.N)

include h in
theorem isB_q : IsB c (st0_0 t) ((st0_0 t).view.rep (qBlk m c t)) fun r l => G.q (128 * t.val + r) l := fun J => by
  have h0 : (J 0).val < 128 := (J 0).isLt
  have h1 : (J 1).val < 256 := (J 1).isLt
  have ht : t.val < 64 := t.isLt.trans_eq N_0
  rw [View.read_rep, qBlk_apply m c t J (ix2 (⟨128 * t.val + (J 0).val, by omega⟩ : Fin 8192) (⟨2816 + (J 1).val, by omega⟩ : Fin 3840)) rfl rfl]
  refine (h.q _ (by show 2816 ≤ 2816 + (J 1).val; omega) (by show 2816 + (J 1).val < 3072; omega)).trans ?_
  show ((G.q (128 * t.val + (J 0).val) (2816 + (J 1).val - 2816) : ℝ) : EReal) = _
  rw [Nat.add_sub_cancel_left]
include h in
theorem isB_g : IsB c (st0_2 t) ((st0_2 t).view.rep (doBlk m c t)) fun r l => G.g (128 * t.val + r) l := fun J => by
  have h0 : (J 0).val < 128 := (J 0).isLt
  have h1 : (J 1).val < 256 := (J 1).isLt
  have ht : t.val < 64 := t.isLt.trans_eq N_0
  rw [View.read_rep, doBlk_apply m c t J (ix2 (⟨128 * t.val + (J 0).val, by omega⟩ : Fin 8192) (⟨768 + (J 1).val, by omega⟩ : Fin 1024)) rfl rfl]
  refine (h.g _ (by show 768 ≤ 768 + (J 1).val; omega)).trans ?_
  show ((G.g (128 * t.val + (J 0).val) (768 + (J 1).val - 768) : ℝ) : EReal) = _
  rw [Nat.add_sub_cancel_left]
include h in
theorem keys_t : Keys c (st0_1 t) ((st0_1 t).view.rep (kvBlk m c t)) (G.point t.val) :=
  ⟨fun J hJ => by rw [View.read_rep, kvBlk_apply]; exact h.k J hJ, fun J hJ => by rw [View.read_rep, kvBlk_apply]; exact h.v J hJ⟩
include h in
theorem tot_t (J : S128x128.Idx) : (st0_3 t).view.read (Elt Ideal) ((st0_3 t).view.rep (totBlk m c t)) J
    = ((if (J 1).val < 4 then G.pp (J 1).val (128 * t.val + (J 0).val) 8192 else 0 : ℝ) : EReal) := by
  have h0 : (J 0).val < 128 := (J 0).isLt
  have ht : t.val < 64 := t.isLt.trans_eq N_0
  rw [View.read_rep, totBlk_apply m c t J (ix2 (⟨128 * t.val + (J 0).val, by omega⟩ : Fin 8192) (J 1)) rfl rfl]
  exact h.tot _

/-- The operands as the sweep reads them. -/
abbrev qT (m : (ℓ : Loc nD τ sig) → Buf (Elt Ideal) ℓ) (c : Dev nD) (t : Fin cfg0.N) : FVec Ideal S512x128 .bf16 :=
  qx (left c (st0_0 t) ((st0_0 t).view.rep (qBlk m c t))) (right c (st0_0 t) ((st0_0 t).view.rep (qBlk m c t)))
abbrev gT (m : (ℓ : Loc nD τ sig) → Buf (Elt Ideal) ℓ) (c : Dev nD) (t : Fin cfg0.N) : FVec Ideal S512x128 .bf16 :=
  gx (left c (st0_2 t) ((st0_2 t).view.rep (doBlk m c t))) (right c (st0_2 t) ((st0_2 t).view.rep (doBlk m c t)))
abbrev tT (m : (ℓ : Loc nD τ sig) → Buf (Elt Ideal) ℓ) (c : Dev nD) (t : Fin cfg0.N) : FVec Ideal S512x1 .f32 :=
  tx c (st0_3 t) ((st0_3 t).view.rep (totBlk m c t))

include h in
theorem fixed_t : Fixed (G.point t.val) k0_pay417 k0_pay418 k0_pay419 (qT m c t) (gT m c t) (tT m c t) where
  q := qx_val (left_val (isB_q h t)) (right_val (isB_q h t))
  g := gx_val (left_val (isB_g h t)) (right_val (isB_g h t))
  tot := fun I => by
    have hI : (I 0).val < 512 := (I 0).isLt
    refine (tx_val (f := fun r l => if l < 4 then G.pp l (128 * t.val + r) 8192 else 0) (tot_t h t) I).trans (congrArg _ ?_)
    beta_reduce
    rw [if_pos (by omega), Whole.point_tot]
  low := low_iff
  after := after_val
  before := before_val

/-- What the points before `n` made of a key's dk and a value's dv. -/
def dkTo (G : Whole) (n s l : ℕ) : ℝ := ∑ p ∈ range n, share (G.point p).DZ (G.point p).qs s l
def dvTo (G : Whole) (n s l : ℕ) : ℝ := ∑ p ∈ range n, share (G.point p).AA (G.point p).gs s l

include h in
/-- What a point leaves, from the sums of the points before. -/
theorem point_inv {f8 : BufOf (F := Ideal) c dkM} {f9 : BufOf (F := Ideal) c dvM}
    (h8 : ∀ I, dkM.view.read (Elt Ideal) f8 I = ((dkTo G t.val (I 0).val (I 1).val : ℝ) : EReal))
    (h9 : ∀ I, dvM.view.read (Elt Ideal) f9 I = ((dvTo G t.val (I 0).val (I 1).val : ℝ) : EReal)) :
    Inv c dkM dvM (G.point t.val) (dkTo G t.val) (dvTo G t.val) (t.val + 1)
      (last c (grid0.coords t) (st0_1 t) (qT m c t) (gT m c t) (tT m c t) ((st0_1 t).view.rep (kvBlk m c t)) f8 f9) := by
  have e : ((grid0.coords t) 0).val = t.val := coord_eq t
  have := last_inv (i := grid0.coords t) (keys_t h t) (fun ρ _ => by rw [e, Whole.point_T]) (fixed_t h t) h8 h9
  rw [e] at this
  exact this

/-- A point past which a key lies adds nothing to it. -/
theorem share_dz_zero (n s l : ℕ) (hs : 128 * (n + 1) ≤ s) : share (G.point n).DZ (G.point n).qs s l = 0 :=
  Finset.sum_eq_zero fun ρ _ => by rw [Data.DZ_eq_zero _ (by rw [Whole.point_T]; omega), zero_mul]
theorem share_aa_zero (n s l : ℕ) (hs : 128 * (n + 1) ≤ s) : share (G.point n).AA (G.point n).gs s l = 0 :=
  Finset.sum_eq_zero fun ρ _ => by rw [Data.AA_eq_zero _ (by rw [Whole.point_T]; omega), zero_mul]

theorem whole_mem (I : S8192x256.Idx) : I ∈ (Rect.unit (s := S8192x256) ![0, 0] S8192x256.size inb_S8192x256_S8192x256_0_0).set :=
  Rect.mem_set_unit.mpr fun a => by
    match a with
    | ⟨0, _⟩ => exact ⟨Nat.zero_le _, by show (I 0).val < 0 + 8192; rw [Nat.zero_add]; exact (I 0).isLt⟩
    | ⟨1, _⟩ => exact ⟨Nat.zero_le _, by show (I 1).val < 0 + 256; rw [Nat.zero_add]; exact (I 1).isLt⟩
theorem zeroDk_read (I : S8192x256.Idx) : dkM.view.read (Elt Ideal) (zeroDk c) I = (0 : EReal) := by
  unfold zeroDk
  refine View.read_writes_apply_of_pieces (Val := Elt Ideal) dkM.view dkM.view.junk (fun _ => (0 : EReal) : S8192x256.Idx → Elt Ideal .f32) _ ?_ I ?_
  swap
  · refine ⟨_, List.mem_singleton_self _, ?_⟩
    exact whole_mem I
  intro p hp y
  rw [List.mem_singleton] at hp
  subst hp
  exact Ideal.ofBits_zero_f32
theorem zeroDv_read (I : S8192x256.Idx) : dvM.view.read (Elt Ideal) (zeroDv c) I = (0 : EReal) := by
  unfold zeroDv
  refine View.read_writes_apply_of_pieces (Val := Elt Ideal) dvM.view dvM.view.junk (fun _ => (0 : EReal) : S8192x256.Idx → Elt Ideal .f32) _ ?_ I ?_
  swap
  · refine ⟨_, List.mem_singleton_self _, ?_⟩
    exact whole_mem I
  intro p hp y
  rw [List.mem_singleton] at hp
  subst hp
  exact Ideal.ofBits_zero_f32

include h in
/-- The sums before each point. -/
theorem sums_read (n : ℕ) (hn : n ≤ cfg0.N) :
    (∀ I, dkM.view.read (Elt Ideal) (sums m c n).1 I = ((dkTo G n (I 0).val (I 1).val : ℝ) : EReal))
      ∧ (∀ I, dvM.view.read (Elt Ideal) (sums m c n).2 I = ((dvTo G n (I 0).val (I 1).val : ℝ) : EReal)) := by
  induction n with
  | zero =>
    rw [sums_zero]
    exact ⟨fun I => (zeroDk_read (c := c) I).trans (by simp only [dkTo, Finset.range_zero, Finset.sum_empty, EReal.coe_zero]),
      fun I => (zeroDv_read (c := c) I).trans (by simp only [dvTo, Finset.range_zero, Finset.sum_empty, EReal.coe_zero])⟩
  | succ n ih =>
    obtain ⟨i8, i9⟩ := ih (by omega)
    have hi := point_inv h ⟨n, hn⟩ i8 i9
    have hs := sums_succ m c ⟨n, hn⟩
    have h8 : (sums m c (n + 1)).1 = _ := (congrArg Prod.fst hs).trans (bodyRun_dk ..)
    have h9 : (sums m c (n + 1)).2 = _ := (congrArg Prod.snd hs).trans (bodyRun_dv ..)
    rw [h8, h9]
    refine ⟨fun I => (hi.dk I).trans (congrArg _ ?_), fun I => (hi.dv I).trans (congrArg _ ?_)⟩
    · rw [show dkTo G (n + 1) (I 0).val (I 1).val = dkTo G n (I 0).val (I 1).val + _ from Finset.sum_range_succ _ n]
      refine congrArg _ ?_
      split
      · rfl
      · exact (share_dz_zero n _ _ (by show 128 * (n + 1) ≤ _; rename_i h'; exact not_lt.mp h')).symm
    · rw [show dvTo G (n + 1) (I 0).val (I 1).val = dvTo G n (I 0).val (I 1).val + _ from Finset.sum_range_succ _ n]
      refine congrArg _ ?_
      split
      · rfl
      · exact (share_aa_zero n _ _ (by show 128 * (n + 1) ≤ _; rename_i h'; exact not_lt.mp h')).symm

include h in
theorem ends_dk_val (I : S8192x256.Idx) : ends m c main_v22_1 I = ((G.dk (I 0).val (I 1).val : ℝ) : EReal) := by
  rw [ends_dk]
  refine ((sums_read h cfg0.N le_rfl).1 I).trans (congrArg _ ?_)
  rw [show cfg0.N = 64 from N_0]
  exact G.points_dk _ _
include h in
theorem ends_dv_val (I : S8192x256.Idx) : ends m c main_v22_2 I = ((G.dv (I 0).val (I 1).val : ℝ) : EReal) := by
  rw [ends_dv]
  refine ((sums_read h cfg0.N le_rfl).2 I).trans (congrArg _ ?_)
  rw [show cfg0.N = 64 from N_0]
  exact G.points_dv _ _

theorem pay3_apply (v : FVec Ideal S128x128 .f32) (I : S128x128.Idx) : (k0_pay3 v : FVec Ideal S128x128 .bf16) I = v I * ((1 / 8 : ℝ) : EReal) := by
  show v I * Ideal.ofBits .f32 0x3E000000#32 = _
  rw [ofBits_eighth]
theorem pay4_apply (v : FVec Ideal S128x128 .f32) (I : S128x128.Idx) : (k0_pay4 v : FVec Ideal S128x128 .bf16) I = v I * ((1 / 8 : ℝ) : EReal) := by
  show v I * Ideal.ofBits .f32 0x3E000000#32 = _
  rw [ofBits_eighth]

/-- A dq block from its two halves. -/
theorem dqTwo_read (M : Memref sig .tc .vmem S128x256 .bf16) (s : Car Ideal) {f : ℕ → ℕ → ℝ}
    (h0 : ∀ y, (k0_pay3 s.2.2.1 : FVec Ideal S128x128 .bf16) y = ((f (y 0).val (y 1).val : ℝ) : EReal))
    (h1 : ∀ y, (k0_pay4 s.2.2.2 : FVec Ideal S128x128 .bf16) y = ((f (y 0).val (128 + (y 1).val) : ℝ) : EReal)) (I : S128x256.Idx) :
    M.view.read (Elt Ideal) (M.view.writes (Elt Ideal) M.view.junk (dqTwo s)) I = ((f (I 0).val (I 1).val : ℝ) : EReal) := by
  refine View.read_writes_apply_of_pieces (Val := Elt Ideal) M.view M.view.junk (fun I => ((f (I 0).val (I 1).val : ℝ) : EReal) : S128x256.Idx → Elt Ideal .bf16) _ ?_ I ?_
  · intro p hp y
    unfold dqTwo at hp
    rcases List.mem_cons.mp hp with rfl | hp
    · refine (h1 y).trans ?_
      show _ = ((f (0 + 1 * (y 0).val) (128 + 1 * (y 1).val) : ℝ) : EReal)
      simp only [Nat.zero_add, Nat.one_mul]
    · obtain rfl := List.mem_singleton.mp hp
      refine (h0 y).trans ?_
      show _ = ((f (0 + 1 * (y 0).val) (0 + 1 * (y 1).val) : ℝ) : EReal)
      simp only [Nat.zero_add, Nat.one_mul]
  · have I0 : (I 0).val < 128 := (I 0).isLt
    have I1 : (I 1).val < 256 := (I 1).isLt
    unfold dqTwo
    by_cases h1 : (I 1).val < 128
    · have e : I ∈ (Rect.unit (s := S128x256) ![0, 0] S128x128.size inb_S128x256_S128x128_0_0).set := Rect.mem_set_unit.mpr fun a => by
        match a with
        | ⟨0, _⟩ => exact ⟨Nat.zero_le _, by show (I 0).val < 0 + 128; omega⟩
        | ⟨1, _⟩ => exact ⟨Nat.zero_le _, by show (I 1).val < 0 + 128; omega⟩
      exact ⟨_, List.mem_cons_of_mem _ (List.mem_singleton_self _), e⟩
    · have e : I ∈ (Rect.unit (s := S128x256) ![0, 128] S128x128.size inb_S128x256_S128x128_0_128).set := Rect.mem_set_unit.mpr fun a => by
        match a with
        | ⟨0, _⟩ => exact ⟨Nat.zero_le _, by show (I 0).val < 0 + 128; omega⟩
        | ⟨1, _⟩ => exact ⟨by show 128 ≤ (I 1).val; omega, by show (I 1).val < 128 + 128; omega⟩
      exact ⟨_, List.mem_cons_self, e⟩

include h in
theorem dqBlock_val (I : S128x256.Idx) : dqBlock m c t I = ((G.dq (128 * t.val + (I 0).val) (I 1).val : ℝ) : EReal) := by
  have ht : t.val < 64 := t.isLt.trans_eq N_0
  obtain ⟨i8, i9⟩ := sums_read h t.val t.isLt.le
  have hi := point_inv h t i8 i9
  have hp : dqPieces m c t = _ := bodyRun_dq ..
  unfold dqBlock
  rw [hp]
  refine dqTwo_read (st0_4 t) _ (f := fun r l => G.dq (128 * t.val + r) l) (fun y => ?_) (fun y => ?_) I
  · refine (pay3_apply _ y).trans ?_
    rw [hi.q0 y, ← EReal.coe_mul, Whole.point_dq G t.val ht (y 0).isLt (y 1).isLt]
    simp only [Nat.zero_add, Nat.mul_zero]
  · refine (pay4_apply _ y).trans ?_
    rw [hi.q1 y, ← EReal.coe_mul, Whole.point_dq G t.val ht (y 0).isLt (y 1).isLt]

include h in
theorem dq_val : (dats m 0 c).arrAt 4 cfg0.N = fun I : S8192x256.Idx => ((G.dq (I 0).val (I 1).val : ℝ) : EReal) := by
  refine dq_array m c _ fun t I J h0 h1 => ?_
  rw [dqBlock_val h t I, h0, h1]

end Cert.KernelIdeal.Hand
-- ==== Proof.HostTot.lean ====
/-
  What the host prepares for the call: the keys and values, and each row's total of the masked logarithms.
-/
module

public import proofs.«01_k».proof.Proof.Grid
public import proofs.«01_k».proof.Proof.Args
public import Idealize.ShloMosaic.Lib.KernelVsHost
import Idealize.ShloMosaic.Lib.Claim

@[expose] public section

set_option maxRecDepth 16384

noncomputable section

namespace Cert.KernelIdeal.Hand

open Idealize.ShloMosaic Idealize.ShloMosaic.TcCoe
open Cert.KernelIdeal Cert.KernelIdeal.Gen Cert.Spec
open Finset (range)

/-! ## The host's operations as functions of the first argument -/

def kvHost (x : FVec Ideal S8192x3840 .f32) : FVec Ideal S8192x512 .bf16 :=
  truncf .bf16 (extractStridedSlice S8192x512 ![0, 3072] x slices_S8192x3840_S8192x512_0_3072) bitsLt_bf16_f32
def qHost (x : FVec Ideal S8192x3840 .f32) : FVec Ideal S8192x4x64 .f32 :=
  shapeCast S8192x4x64 (extractStridedSlice S8192x256 ![0, 2816] x slices_S8192x3840_S8192x256_0_2816) shapeCasts_S8192x256_S8192x4x64
def kHost (x : FVec Ideal S8192x3840 .f32) : FVec Ideal S8192x4x64 .f32 :=
  shapeCast S8192x4x64 (extractStridedSlice S8192x256 ![0, 3072] x slices_S8192x3840_S8192x256_0_3072) shapeCasts_S8192x256_S8192x4x64
/-- A number at every score. -/
def every (b : BitVec 32) : FVec Ideal S4x8192x8192 .f32 := broadcastInDim S4x8192x8192 ![] bcast_S_S4x8192x8192 (constant (F := Ideal) S_ .f32 b)
def zHost (x : FVec Ideal S8192x3840 .f32) : FVec Ideal S4x8192x8192 .f32 :=
  mulf (Host.dotGeneral dot_S8192x4x64_S8192x4x64_S4x8192x8192_2_2_0_0_1_1 none (qHost x) (kHost x)) (every 0x3E000000#32)
def softHost (y : FVec Ideal S4x8192x8192 .f32) : FVec Ideal S4x8192x8192 .f32 :=
  select (cmpf .une (subf y (every 0x00000000#32)) (subf y (every 0x00000000#32))) (addf y (every 0x00000000#32))
    (addf (maximumf y (every 0x00000000#32)) (Host.log1p (Host.exp (Host.negf (Host.absf (subf y (every 0x00000000#32)))))))
def maskHost : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
def lomHost (x : FVec Ideal S8192x3840 .f32) : FVec Ideal S4x8192x8192 .f32 :=
  select (broadcastInDim S4x8192x8192 ![1, 2] bcast_S8192x8192_S4x8192x8192_1_2 maskHost) (Host.negf (softHost (Host.negf (Host.negf (zHost x))))) (every 0x00000000#32)
def sumHost (x : FVec Ideal S8192x3840 .f32) : FVec Ideal S4x8192 .f32 :=
  Host.reduceAdd (lomHost x) (constant (F := Ideal) S_ .f32 0x00000000#32) reducesTo_S4x8192x8192_S4x8192_d2 h_S_
def totHost (x : FVec Ideal S8192x3840 .f32) : FVec Ideal S8192x128 .f32 :=
  pad S8192x128 ![0, 0] ![0, 124] ![0, 0] (transpose S8192x4 [1, 0] (sumHost x) transposes_S4x8192_S8192x4_1_0)
    (sitofp (F := Ideal) .f32 (constantI S_ 32 0#32)) pads_S8192x4_S8192x128_000_01240 h_S_

variable (m : (ℓ : Loc nD τ sig) → Buf (Elt Ideal) ℓ) (c : Dev nD)

theorem V_kv : V m c main_v1 = kvHost (m ((c : Thread nD τ).loc main_arg0)) := by
  simp only [V, hostOps0, hostOps0_1, hostOps0_2, hostOps0_3, hostOps0_4, hostOps0_5, List.flatten_cons, List.flatten_nil, List.append_nil, List.cons_append, List.nil_append]
  entry_read
  rfl
theorem V_tot : V m c main_v21 = totHost (m ((c : Thread nD τ).loc main_arg0)) := by
  simp only [V, hostOps0, hostOps0_1, hostOps0_2, hostOps0_3, hostOps0_4, hostOps0_5, List.flatten_cons, List.flatten_nil, List.append_nil, List.cons_append, List.nil_append]
  entry_read
  rfl

/-! ## Their entries over the reals -/

variable {x0 : Arg0.Idx → EReal} {x1 : Arg1.Idx → EReal} {G : Whole} (h : Holds x0 x1 G)

theorem kv_apply (x : Arg0.Idx → EReal) (J : S8192x512.Idx) (K : S8192x3840.Idx) (e0 : (K 0).val = (J 0).val) (e1 : (K 1).val = 3072 + (J 1).val) :
    kvHost x J = x K := by
  show extractStridedSlice S8192x512 ![0, 3072] x slices_S8192x3840_S8192x512_0_3072 J = _
  refine extractStridedSlice_apply _ _ _ J K fun a => ?_
  match a with
  | ⟨0, _⟩ => exact e0.trans (Nat.zero_add _).symm
  | ⟨1, _⟩ => exact e1

/-- One head's column of the queries or keys. -/
theorem head_apply {off : Fin 2 → ℕ} (x : Arg0.Idx → EReal) (hs : S8192x3840.Slices off S8192x256) (J : S8192x4x64.Idx) (K : S8192x3840.Idx) (e : off 0 = 0)
    (e0 : (K 0).val = (J 0).val) (e1 : (K 1).val = off 1 + (64 * (J 1).val + (J 2).val)) :
    shapeCast S8192x4x64 (extractStridedSlice S8192x256 off x hs) shapeCasts_S8192x256_S8192x4x64 J = x K := by
  have h1 : (J 1).val < 4 := (J 1).isLt
  have h2 : (J 2).val < 64 := (J 2).isLt
  refine (shapeCast_apply _ _ J (ValueIdx.ix2 (J 0) (⟨64 * (J 1).val + (J 2).val, by omega⟩ : Fin 256)) ?_).trans ?_
  · rw [Shape.rowMajor_val_two, Shape.rowMajor_val_three]
    show (J 0).val * 256 + (64 * (J 1).val + (J 2).val) = ((J 0).val * 4 + (J 1).val) * 64 + (J 2).val
    omega
  · refine extractStridedSlice_apply _ _ _ _ K fun a => ?_
    match a with
    | ⟨0, _⟩ => exact e0.trans ((Nat.zero_add _).symm.trans (congrArg (· + (J 0).val) e.symm))
    | ⟨1, _⟩ => exact e1

include h in
theorem q_apply (J : S8192x4x64.Idx) : qHost x0 J = ((G.q (J 0).val (64 * (J 1).val + (J 2).val) : ℝ) : EReal) := by
  have h1 : (J 1).val < 4 := (J 1).isLt
  have h2 : (J 2).val < 64 := (J 2).isLt
  refine (head_apply x0 _ J (ValueIdx.ix2 (J 0) (⟨2816 + (64 * (J 1).val + (J 2).val), by omega⟩ : Fin 3840)) rfl rfl rfl).trans ?_
  refine (h.q _ (Nat.le_add_right _ _) ?_).trans (congrArg (fun n => ((G.q (J 0).val n : ℝ) : EReal)) (Nat.add_sub_cancel_left ..))
  show 2816 + (64 * (J 1).val + (J 2).val) < 3072; omega
include h in
theorem k_apply (J : S8192x4x64.Idx) : kHost x0 J = ((G.k (J 0).val (64 * (J 1).val + (J 2).val) : ℝ) : EReal) := by
  have h1 : (J 1).val < 4 := (J 1).isLt
  have h2 : (J 2).val < 64 := (J 2).isLt
  refine (head_apply x0 _ J (ValueIdx.ix2 (J 0) (⟨3072 + (64 * (J 1).val + (J 2).val), by omega⟩ : Fin 3840)) rfl rfl rfl).trans ?_
  refine (h.k _ (Nat.le_add_right _ _) ?_).trans (congrArg (fun n => ((G.k (J 0).val n : ℝ) : EReal)) (Nat.add_sub_cancel_left ..))
  show 3072 + (64 * (J 1).val + (J 2).val) < 3328; omega

theorem every_apply (b : BitVec 32) (J : S4x8192x8192.Idx) : every b J = Ideal.ofBits .f32 b :=
  broadcastInDim_apply _ _ _ J (fun a => a.elim0) (fun a => a.elim0)

theorem lhs_0 (i : S4x8192x8192.Idx) (q : dot_S8192x4x64_S8192x4x64_S4x8192x8192_2_2_0_0_1_1.contr.Idx) : (dot_S8192x4x64_S8192x4x64_S4x8192x8192_2_2_0_0_1_1.lhsIdx i q 0).val = (i 1).val := by
  unfold DotDims.lhsIdx
  rw [dif_neg (show ¬(0 : Fin S8192x4x64.rank) ∈ dot_S8192x4x64_S8192x4x64_S4x8192x8192_2_2_0_0_1_1.lhsBatch by decide), dif_pos (show (0 : Fin S8192x4x64.rank) ∈ dot_S8192x4x64_S8192x4x64_S4x8192x8192_2_2_0_0_1_1.lhsNonContracting by decide)]
  rfl
theorem lhs_1 (i : S4x8192x8192.Idx) (q : dot_S8192x4x64_S8192x4x64_S4x8192x8192_2_2_0_0_1_1.contr.Idx) : (dot_S8192x4x64_S8192x4x64_S4x8192x8192_2_2_0_0_1_1.lhsIdx i q 1).val = (i 0).val := by
  unfold DotDims.lhsIdx
  rw [dif_pos (show (1 : Fin S8192x4x64.rank) ∈ dot_S8192x4x64_S8192x4x64_S4x8192x8192_2_2_0_0_1_1.lhsBatch by decide)]
  rfl
theorem lhs_2 (i : S4x8192x8192.Idx) (q : dot_S8192x4x64_S8192x4x64_S4x8192x8192_2_2_0_0_1_1.contr.Idx) : (dot_S8192x4x64_S8192x4x64_S4x8192x8192_2_2_0_0_1_1.lhsIdx i q 2).val = (q ⟨0, by decide⟩).val :=
  dot_S8192x4x64_S8192x4x64_S4x8192x8192_2_2_0_0_1_1.lhsIdx_val_of_single rfl i q
theorem rhs_0 (i : S4x8192x8192.Idx) (q : dot_S8192x4x64_S8192x4x64_S4x8192x8192_2_2_0_0_1_1.contr.Idx) : (dot_S8192x4x64_S8192x4x64_S4x8192x8192_2_2_0_0_1_1.rhsIdx i q 0).val = (i 2).val := by
  unfold DotDims.rhsIdx
  rw [dif_neg (show ¬(0 : Fin S8192x4x64.rank) ∈ dot_S8192x4x64_S8192x4x64_S4x8192x8192_2_2_0_0_1_1.rhsBatch by decide), dif_pos (show (0 : Fin S8192x4x64.rank) ∈ dot_S8192x4x64_S8192x4x64_S4x8192x8192_2_2_0_0_1_1.rhsNonContracting by decide)]
  rfl
theorem rhs_1 (i : S4x8192x8192.Idx) (q : dot_S8192x4x64_S8192x4x64_S4x8192x8192_2_2_0_0_1_1.contr.Idx) : (dot_S8192x4x64_S8192x4x64_S4x8192x8192_2_2_0_0_1_1.rhsIdx i q 1).val = (i 0).val := by
  unfold DotDims.rhsIdx
  rw [dif_pos (show (1 : Fin S8192x4x64.rank) ∈ dot_S8192x4x64_S8192x4x64_S4x8192x8192_2_2_0_0_1_1.rhsBatch by decide)]
  rfl
theorem rhs_2 (i : S4x8192x8192.Idx) (q : dot_S8192x4x64_S8192x4x64_S4x8192x8192_2_2_0_0_1_1.contr.Idx) : (dot_S8192x4x64_S8192x4x64_S4x8192x8192_2_2_0_0_1_1.rhsIdx i q 2).val = (q ⟨0, by decide⟩).val :=
  dot_S8192x4x64_S8192x4x64_S4x8192x8192_2_2_0_0_1_1.rhsIdx_val_of_single rfl i q

/-- One score before its scale, as a sum over the head's columns. -/
theorem dot_apply (y0 y1 : FVec Ideal S8192x4x64 .f32) (i : S4x8192x8192.Idx) :
    Host.dotGeneral dot_S8192x4x64_S8192x4x64_S4x8192x8192_2_2_0_0_1_1 none y0 y1 i
      = ∑ k : Fin 64, (y0 (ValueIdx.ix3 (i 1) (i 0) k) : EReal) * y1 (ValueIdx.ix3 (i 2) (i 0) k) := by
  simp only [Host.dotGeneral]
  rw [Ideal.dotGeneral_apply, ← Equiv.sum_comp (ValueIdx.contrEquiv1 dot_S8192x4x64_S8192x4x64_S4x8192x8192_2_2_0_0_1_1 64 rfl rfl).symm]
  refine Finset.sum_congr rfl fun k _ => ?_
  have hk := ValueIdx.contrEquiv1_symm_val dot_S8192x4x64_S8192x4x64_S4x8192x8192_2_2_0_0_1_1 64 rfl rfl k
  have el : dot_S8192x4x64_S8192x4x64_S4x8192x8192_2_2_0_0_1_1.lhsIdx i ((ValueIdx.contrEquiv1 dot_S8192x4x64_S8192x4x64_S4x8192x8192_2_2_0_0_1_1 64 rfl rfl).symm k) = ValueIdx.ix3 (i 1) (i 0) k := funext fun a => Fin.ext (by
    match a with
    | ⟨0, _⟩ => exact lhs_0 _ _
    | ⟨1, _⟩ => exact lhs_1 _ _
    | ⟨2, _⟩ => exact (lhs_2 _ _).trans hk)
  have er : dot_S8192x4x64_S8192x4x64_S4x8192x8192_2_2_0_0_1_1.rhsIdx i ((ValueIdx.contrEquiv1 dot_S8192x4x64_S8192x4x64_S4x8192x8192_2_2_0_0_1_1 64 rfl rfl).symm k) = ValueIdx.ix3 (i 2) (i 0) k := funext fun a => Fin.ext (by
    match a with
    | ⟨0, _⟩ => exact rhs_0 _ _
    | ⟨1, _⟩ => exact rhs_1 _ _
    | ⟨2, _⟩ => exact (rhs_2 _ _).trans hk)
  rw [el, er]
  rfl

include h in
theorem z_apply (J : S4x8192x8192.Idx) : zHost x0 J = ((G.z (J 0).val (J 1).val (J 2).val : ℝ) : EReal) := by
  show (Host.dotGeneral dot_S8192x4x64_S8192x4x64_S4x8192x8192_2_2_0_0_1_1 none (qHost x0) (kHost x0) J : EReal) * every 0x3E000000#32 J = _
  rw [dot_apply, every_apply, ofBits_eighth]
  unfold Whole.z Whole.dotHead
  rw [EReal.coe_mul, ← coe_sumFin]
  refine congrArg (· * ((1 / 8 : ℝ) : EReal)) (Finset.sum_congr rfl fun k _ => ?_)
  rw [q_apply h, k_apply h, ← EReal.coe_mul]

theorem mask_apply (J : S4x8192x8192.Idx) :
    broadcastInDim S4x8192x8192 ![1, 2] bcast_S8192x8192_S4x8192x8192_1_2 maskHost J = if (J 2).val < (J 1).val then 1#1 else 0#1 := by
  refine (broadcastInDim_apply _ _ _ J (ValueIdx.ix2 (J 1) (J 2)) fun a => ?_).trans ?_
  · match a with
    | ⟨0, _⟩ => rfl
    | ⟨1, _⟩ => rfl
  · refine Eq.trans ?_ (slt_small (J 2).isLt (J 1).isLt)
    unfold maskHost
    refine congrArg₂ (IntOp.cmpi .slt) ?_ ?_
    · refine (broadcastInDim_apply _ _ _ _ (ValueIdx.ix2 (0 : Fin 1) (J 2)) fun a => ?_).trans
        (broadcastInDim_apply _ _ (iotaInDim S8192 32 0) _ (ValueIdx.ix1 (J 2)) fun a => ?_)
      · match a with
        | ⟨0, _⟩ => rfl
        | ⟨1, _⟩ => rfl
      · match a with
        | ⟨0, _⟩ => rfl
    · refine (broadcastInDim_apply _ _ _ _ (ValueIdx.ix2 (J 1) (0 : Fin 1)) fun a => ?_).trans
        (broadcastInDim_apply _ _ (iotaInDim S8192 32 0) _ (ValueIdx.ix1 (J 1)) fun a => ?_)
      · match a with
        | ⟨0, _⟩ => rfl
        | ⟨1, _⟩ => rfl
      · match a with
        | ⟨0, _⟩ => rfl

theorem soft_apply (y : FVec Ideal S4x8192x8192 .f32) (J : S4x8192x8192.Idx) : softHost y J = softplus (y J) := by
  have e : (every 0x00000000#32 J : EReal) = 0 := (every_apply _ J).trans Ideal.ofBits_zero_f32
  show Scalar.select (Ideal.cmp .une ((y J : EReal) - every 0x00000000#32 J) ((y J : EReal) - every 0x00000000#32 J)) ((y J : EReal) + every 0x00000000#32 J)
    (max (y J : EReal) (every 0x00000000#32 J) + Ideal.log1p (Ideal.exp (-(max ((y J : EReal) - every 0x00000000#32 J) (-((y J : EReal) - every 0x00000000#32 J)))))) = _
  rw [e]
  rfl

include h in
theorem lom_apply (J : S4x8192x8192.Idx) : lomHost x0 J = ((G.lom (J 0).val (J 1).val (J 2).val : ℝ) : EReal) := by
  show Scalar.select (broadcastInDim S4x8192x8192 ![1, 2] bcast_S8192x8192_S4x8192x8192_1_2 maskHost J)
    (-(softHost (Host.negf (Host.negf (zHost x0))) J : EReal)) (every 0x00000000#32 J) = _
  rw [mask_apply, select_mask, soft_apply, every_apply, Ideal.ofBits_zero_f32]
  show (if _ then -(softplus (- -(zHost x0 J : EReal))) else (0 : EReal)) = _
  rw [z_apply h]
  unfold Whole.lom
  split
  · rw [← EReal.coe_neg]
    exact (logSig_coe _).trans (congrArg _ (LS_neg _))
  · rfl

theorem reducesD2 : S4x8192x8192.Reduces [2] S4x8192 := by decide

include h in
theorem sum_apply (J : S4x8192.Idx) : sumHost x0 J = ((G.pp (J 0).val (J 1).val 8192 : ℝ) : EReal) := by
  unfold sumHost Host.reduceAdd
  refine (Ideal.hostReduceAdd_single reducesTo_S4x8192x8192_S4x8192_d2 reducesD2 (lomHost x0) _ J).trans ?_
  unfold Whole.pp
  rw [← coe_sumFin]
  refine (congrArg₂ (· + ·) Ideal.ofBits_zero_f32 (Finset.sum_congr rfl fun k _ => ?_)).trans (zero_add _)
  exact lom_apply h _

include h in
theorem tot_apply (J : S8192x128.Idx) : totHost x0 J = ((if (J 1).val < 4 then G.pp (J 1).val (J 0).val 8192 else 0 : ℝ) : EReal) := by
  unfold totHost
  by_cases hJ : (J 1).val < 4
  · rw [if_pos hJ]
    refine (pad_apply_of_inside _ _ _ _ _ _ _ J (ValueIdx.ix2 (J 0) (⟨(J 1).val, hJ⟩ : Fin 4)) fun a => ?_).trans
      ((transpose_apply _ _ _ _ (ValueIdx.ix2 (⟨(J 1).val, hJ⟩ : Fin 4) (J 0)) fun b => ?_).trans (sum_apply h _))
    · match a with
      | ⟨0, _⟩ => exact ((Nat.zero_add _).trans (Nat.mul_one _)).symm
      | ⟨1, _⟩ => exact ((Nat.zero_add _).trans (Nat.mul_one _)).symm
    · match b with
      | ⟨0, _⟩ => rfl
      | ⟨1, _⟩ => rfl
  · rw [if_neg hJ]
    refine (pad_apply_of_not_inside _ _ _ _ _ _ _ J (1 : Fin 2) fun hn => hJ ?_).trans ?_
    · exact (((Nat.div_one _).trans (Nat.sub_zero _)).symm.trans_lt hn.2.2)
    · show (((0#32 : BitVec 32).toInt : ℝ) : EReal) = _
      norm_num

/-- The call finds the arguments' numbers. -/
theorem found {m : (ℓ : Loc nD τ sig) → Buf (Elt Ideal) ℓ} {c : Dev nD}
    (h : Holds (m ((c : Thread nD τ).loc main_arg0)) (m ((c : Thread nD τ).loc main_arg1)) G) : Found m c G where
  q J a b := by rw [V_main_arg0]; exact h.q J a b
  g J a := by rw [V_main_arg1]; exact h.g J a
  k J a := by
    have h1 : (J 1).val < 512 := (J 1).isLt
    rw [V_kv]
    refine (kv_apply _ J (ValueIdx.ix2 (J 0) (⟨3072 + (J 1).val, by omega⟩ : Fin 3840)) rfl rfl).trans ?_
    refine (h.k _ (Nat.le_add_right _ _) (Nat.add_lt_add_left a 3072)).trans (congrArg (fun n => ((G.k (J 0).val n : ℝ) : EReal)) (Nat.add_sub_cancel_left ..))
  v J a := by
    have h1 : (J 1).val < 512 := (J 1).isLt
    rw [V_kv]
    refine (kv_apply _ J (ValueIdx.ix2 (J 0) (⟨3072 + (J 1).val, by omega⟩ : Fin 3840)) rfl rfl).trans ?_
    refine (h.v _ (Nat.add_le_add_left a 3072) (Nat.add_lt_add_left h1 3072)).trans (congrArg (fun n => ((G.v (J 0).val n : ℝ) : EReal)) ?_)
    show 3072 + (J 1).val - 3328 = (J 1).val - 256
    omega
  tot J := by rw [V_tot]; exact tot_apply h J

end Cert.KernelIdeal.Hand
-- ==== Proof.lean ====
/- The certificate's claims, each by its theorem. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ddown.Frame
public import proofs.«01_k».proof.Proof.ValueDdown
public import proofs.«01_k».proof.Proof.Gen.Dact.Frame
public import proofs.«01_k».proof.Proof.ValueDact
public import proofs.«01_k».proof.Proof.Gen.Dup.Frame
public import proofs.«01_k».proof.Proof.ValueDup
public import proofs.«01_k».proof.Proof.Gen.Dh2.Frame
public import proofs.«01_k».proof.Proof.ValueDh2
public import proofs.«01_k».proof.Proof.Gen.Dout.Frame
public import proofs.«01_k».proof.Proof.ValueDout
public import proofs.«01_k».proof.Proof.Gen.Dycat.Frame
public import proofs.«01_k».proof.Proof.ValueDycat
public import proofs.«01_k».proof.Proof.Gen.Din.Frame
public import proofs.«01_k».proof.Proof.ValueDin
public import proofs.«01_k».proof.Proof.Gen.Dh.Frame
public import proofs.«01_k».proof.Proof.ValueDh
public import proofs.«01_k».proof.Proof.Gen.Proj.Frame
public import proofs.«01_k».proof.Proof.ValueProj
public import proofs.«01_k».proof.Proof.Gen.Mix.Frame
public import proofs.«01_k».proof.Proof.ValueMix
public import proofs.«01_k».proof.Proof.Gen.Up.Frame
public import proofs.«01_k».proof.Proof.ValueUp
public import proofs.«01_k».proof.Proof.Gen.Down.Frame
public import proofs.«01_k».proof.Proof.ValueDown
public import proofs.«01_k».proof.Proof.Gen.Norm.Frame
public import proofs.«01_k».proof.Proof.ValueNorm
public import proofs.«01_k».proof.Proof.Gen.Dnorm.Frame
public import proofs.«01_k».proof.Proof.ValueDnorm
public import proofs.«01_k».proof.Proof.Gen.AdamIn.Frame
public import proofs.«01_k».proof.Proof.ValueAdamIn
public import proofs.«01_k».proof.Proof.Gen.AdamOut.Frame
public import proofs.«01_k».proof.Proof.ValueAdamOut
public import proofs.«01_k».proof.Proof.Gen.AdamUp.Frame
public import proofs.«01_k».proof.Proof.ValueAdamUp
public import proofs.«01_k».proof.Proof.Gen.AdamDown.Frame
public import proofs.«01_k».proof.Proof.ValueAdamDown
public import proofs.«01_k».proof.Proof.Gen.AdamSmall.Frame
public import proofs.«01_k».proof.Proof.ValueAdamSmall
public import proofs.«01_k».proof.Proof.Gen.SumSmall.Frame
public import proofs.«01_k».proof.Proof.ValueSumSmall
public import proofs.«01_k».proof.Proof.Gen.Attend.Frame
public import proofs.«01_k».proof.Proof.ValueAttend
public import proofs.«01_k».proof.Proof.Frame
public import proofs.«01_k».proof.Proof.HostTot
public import proofs.«01_k».proof.Proof.RefValue

@[expose] public section

noncomputable section

namespace Cert.Proof

open Idealize.ShloMosaic Idealize.SL.Sem

section
attribute [local instance] Cert.Kernel.Gen.facts Cert.KernelIdeal.Gen.facts Cert.ReferenceIdeal.Gen.facts

/-- The two programs' bodies are the same text. -/
theorem bodies_eq : @Cert.Kernel.defs₀ Bits _ _ = @Cert.KernelIdeal.defs₀ Bits _ _ :=
  congrArg (Defs.onTc (nD := 1) (τ := Cert.Kernel.τ) (sig := Cert.Kernel.sig) (Val := Elt Bits) (Λ := Cert.Kernel.Λ₀)) (by
    funext l a
    match l, a with
    | 0, (t, s) => rfl)

theorem defs_eq : @Cert.Kernel.defs Bits _ _ = @Cert.KernelIdeal.defs Bits _ _ :=
  congrArg (Pipeline.defs (Cert.Kernel.pcfgs (F := Bits))) bodies_eq

set_option maxHeartbeats 4000000 in
set_option maxRecDepth 100000 in
/-- The two programs are the same text. -/
theorem mains_eq : @Cert.Kernel.main Bits _ _ = @Cert.KernelIdeal.main Bits _ _ := rfl

/-- A run is a run of any equal program. -/
theorem run_of_eq {nD : Nat} {τ : Topo} {sig} {Val : EltTy → Type} {Λ : Labels} {d d' : Defs nD τ sig Val Λ}
    {p p' : Dev nD → Prog (TpuEff nD τ sig Val Λ .tc) PUnit} (hd : d = d') (hp : p = p') {s} {Q}
    (h : θ_run d' (onTc (τ := τ) p') s Q) : θ_run d (onTc (τ := τ) p) s Q := by
  subst hd hp; exact h

/-- The kernel's frame: its program is the ideal one's text, whose run is proved at any values. -/
theorem frame_kernel : Cert.quiescent_Kernel := fun m ρ _ =>
  run_of_eq defs_eq mains_eq (Cert.KernelIdeal.Hand.frame (F := Bits) m ρ)

theorem frame_kernelIdeal : Cert.quiescent_KernelIdeal := fun m ρ _ =>
  Cert.KernelIdeal.Hand.frame m ρ

theorem frame_referenceIdeal : Cert.quiescent_ReferenceIdeal := fun m ρ _ =>
  (θ_run _ _ _).mono (fun _ h => ⟨fun c => (h c).2.2.2, sem_eq_zero_of_no_sems (by decide) _⟩) (Cert.ReferenceIdeal.Value.run m ρ)

/-! ## The value -/

instance facts_finite : Cert.Pre_finite.Facts where
  slices_S8192x3840_S8192x768_0_2816 := by decide
  bcast_S_S8192x768 := by decide
  slices_S8192x1024_S8192x256_0_768 := by decide
  bcast_S_S8192x256 := by decide

/-- Below infinity in absolute value: neither infinity. -/
theorem finite_of (a : EReal) (h : Ideal.cmp .olt (max a (-a)) (Ideal.ofBits .f32 0x7F800000#32) = 1#1) : a ≠ ⊤ ∧ a ≠ ⊥ := by
  rw [Cert.Spec.ofBits_inf] at h
  constructor
  · rintro rfl
    revert h
    simp [Ideal.cmp]
  · rintro rfl
    revert h
    simp [Ideal.cmp]

/-- The precondition's reading: the arguments' columns that the call reads are real numbers. -/
theorem holds_pre {x0 : Cert.Spec.Arg0.Idx → EReal} {x1 : Cert.Spec.Arg1.Idx → EReal}
    (h0 : (Cert.Pre_finite.fn (F := Ideal) x0 x1).1 = fun _ => 1#1) (h1 : (Cert.Pre_finite.fn (F := Ideal) x0 x1).2 = fun _ => 1#1) :
    Cert.Spec.Holds x0 x1 (Cert.Spec.wholeOf x0 x1) := by
  refine Cert.Spec.holds_of (fun J a b => ?_) fun J a => ?_
  · have e := congrFun h0 (ValueIdx.ix2 (J 0) (⟨(J 1).val - 2816, by omega⟩ : Fin 768))
    have s : extractStridedSlice Cert.Pre_finite.S8192x768 ![0, 2816] x0 Cert.Pre_finite.Facts.slices_S8192x3840_S8192x768_0_2816
        (ValueIdx.ix2 (J 0) (⟨(J 1).val - 2816, by omega⟩ : Fin 768)) = x0 J := by
      refine extractStridedSlice_apply _ _ _ _ J fun n => ?_
      match n with
      | ⟨0, _⟩ => exact (Nat.zero_add _).symm
      | ⟨1, _⟩ => exact (Nat.add_sub_cancel' a).symm
    refine finite_of _ (Eq.trans ?_ e)
    rw [← s]
    rfl
  · have h1024 : (J 1).val < 1024 := (J 1).isLt
    have e := congrFun h1 (ValueIdx.ix2 (J 0) (⟨(J 1).val - 768, by omega⟩ : Fin 256))
    have s : extractStridedSlice Cert.Pre_finite.S8192x256 ![0, 768] x1 Cert.Pre_finite.Facts.slices_S8192x1024_S8192x256_0_768
        (ValueIdx.ix2 (J 0) (⟨(J 1).val - 768, by omega⟩ : Fin 256)) = x1 J := by
      refine extractStridedSlice_apply _ _ _ _ J fun n => ?_
      match n with
      | ⟨0, _⟩ => exact (Nat.zero_add _).symm
      | ⟨1, _⟩ => exact (Nat.add_sub_cancel' a).symm
    refine finite_of _ (Eq.trans ?_ e)
    rw [← s]
    rfl

open Cert.KernelIdeal Cert.KernelIdeal.Gen in
/-- The kernel's results, over the numbers its arguments hold. -/
theorem kernel_value {G : Dev nD → Cert.Spec.Whole} (m : (ℓ : Loc nD τ sig) → Buf (Elt Ideal) ℓ) (ρ : Dev nD → PrngReg)
    (h : ∀ c : Dev nD, Cert.Spec.Holds (m ((c.tc : Thread nD τ).loc main_arg0)) (m ((c.tc : Thread nD τ).loc main_arg1)) (G c)) :
    θ_run defs (onTc (τ := τ) main) ⟨m, fun _ => 0, ρ⟩ (fun r => ∀ c : Dev nD,
      r.2.mem ((c.tc : Thread nD τ).loc main_v22_0) = (fun I : S8192x256.Idx => (((G c).dq (I 0).val (I 1).val : ℝ) : EReal))
      ∧ r.2.mem ((c.tc : Thread nD τ).loc main_v22_1) = (fun I : S8192x256.Idx => (((G c).dk (I 0).val (I 1).val : ℝ) : EReal))
      ∧ r.2.mem ((c.tc : Thread nD τ).loc main_v22_2) = (fun I : S8192x256.Idx => (((G c).dv (I 0).val (I 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ p c =>
    ⟨((p.1.1 c).1 4).trans (Cert.KernelIdeal.Hand.dq_val (Cert.KernelIdeal.Hand.found (h c))),
      (p.1.2 c main_v22_1 (by decide)).trans (funext (Cert.KernelIdeal.Hand.ends_dk_val (Cert.KernelIdeal.Hand.found (h c)))),
      (p.1.2 c main_v22_2 (by decide)).trans (funext (Cert.KernelIdeal.Hand.ends_dv_val (Cert.KernelIdeal.Hand.found (h c)))),
      ((p.1.1 c).1 0).trans (((Cert.KernelIdeal.Hand.dats m 0 c).arrAt_in 0 rfl _).trans ((Cert.KernelIdeal.Hand.A_eq m c 0).trans (V_main_arg0 m c))),
      ((p.1.1 c).1 2).trans (((Cert.KernelIdeal.Hand.dats m 0 c).arrAt_in 2 rfl _).trans ((Cert.KernelIdeal.Hand.A_eq m c 2).trans (V_main_arg1 m c)))⟩)
    (Cert.KernelIdeal.Hand.run_main m ρ)

open Cert.ReferenceIdeal in
/-- The reference's results, over the same numbers. -/
theorem reference_value {G : Dev nD → Cert.Spec.Whole} (m : (ℓ : Loc nD τ sig) → Buf (Elt Ideal) ℓ) (ρ : Dev nD → PrngReg)
    (h : ∀ c : Dev nD, Cert.Spec.Holds (m ((c.tc : Thread nD τ).loc main_arg0)) (m ((c.tc : Thread nD τ).loc main_arg1)) (G c)) :
    θ_run defs (onTc (τ := τ) main) ⟨m, fun _ => 0, ρ⟩ (fun r => ∀ c : Dev nD,
      r.2.mem ((c.tc : Thread nD τ).loc main_v53) = (fun I : S8192x256.Idx => (((G c).dq (I 0).val (I 1).val : ℝ) : EReal))
      ∧ r.2.mem ((c.tc : Thread nD τ).loc main_v51) = (fun I : S8192x256.Idx => (((G c).dk (I 0).val (I 1).val : ℝ) : EReal))
      ∧ r.2.mem ((c.tc : Thread nD τ).loc main_v50) = (fun I : S8192x256.Idx => (((G c).dv (I 0).val (I 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ p c =>
    ⟨(p c).1.trans ((Cert.ReferenceIdeal.Read.val_main_v53_eq m c).trans (funext (Cert.ReferenceIdeal.Hand.dq (h c)))),
      (p c).2.1.trans ((Cert.ReferenceIdeal.Read.val_main_v51_eq m c).trans (funext (Cert.ReferenceIdeal.Hand.dk (h c)))),
      (p c).2.2.1.trans ((Cert.ReferenceIdeal.Read.val_main_v50_eq m c).trans (funext (Cert.ReferenceIdeal.Hand.dv (h c)))),
      (p c).2.2.2.1, (p c).2.2.2.2⟩)
    (Cert.ReferenceIdeal.Value.run m ρ)

/-- Kernel and reference give the same three gradients. -/
theorem value : Cert.algebraic_KernelIdeal_ReferenceIdeal_pre_finite := fun m g m' g' hp he =>
  ⟨_, _, _, kernel_value m g fun c => holds_pre (hp c).1 (hp c).2, reference_value m' g' fun c => by
    rw [(he c).1, (he c).2]
    exact holds_pre (hp c).1 (hp c).2⟩

/-! ## The forward call's value -/

instance facts_finite_proj : Cert.Pre_finite_proj.Facts where
  slices_S8192x3840_S8192x768_0_2816 := by decide
  bcast_S_S8192x768 := by decide

/-- The forward call's precondition: the argument's columns that the call reads are real numbers; it has no cotangent. -/
theorem holds_pre_proj {x0 : Cert.Spec.Arg0.Idx → EReal} (h0 : Cert.Pre_finite_proj.fn (F := Ideal) x0 = fun _ => 1#1) :
    Cert.Spec.Holds x0 (fun _ => 0) (Cert.Spec.wholeOf x0 fun _ => 0) := by
  refine Cert.Spec.holds_of (fun J a b => ?_) fun J a => ⟨EReal.zero_ne_top, EReal.zero_ne_bot⟩
  have e := congrFun h0 (ValueIdx.ix2 (J 0) (⟨(J 1).val - 2816, by omega⟩ : Fin 768))
  have s : extractStridedSlice Cert.Pre_finite_proj.S8192x768 ![0, 2816] x0 Cert.Pre_finite_proj.Facts.slices_S8192x3840_S8192x768_0_2816
      (ValueIdx.ix2 (J 0) (⟨(J 1).val - 2816, by omega⟩ : Fin 768)) = x0 J := by
    refine extractStridedSlice_apply _ _ _ _ J fun n => ?_
    match n with
    | ⟨0, _⟩ => exact (Nat.zero_add _).symm
    | ⟨1, _⟩ => exact (Nat.add_sub_cancel' a).symm
  refine finite_of _ (Eq.trans ?_ e)
  rw [← s]
  rfl

/-- Forward call and reference give the same result. -/
theorem value_attend : Cert.algebraic_AttendIdeal_AttendRefIdeal_pre_finite_proj := fun m g m' g' hp he =>
  ⟨_, (θ_run _ _ _).mono (fun _ h c => ⟨(h c).1.trans (Cert.AttendIdeal.Hand.y_array (holds_pre_proj (hp c))), (h c).2.2⟩) (Cert.AttendIdeal.Value.run_blocks m g),
    (θ_run _ _ _).mono (fun _ h c => ⟨(h c).1.trans ((Cert.AttendRefIdeal.Read.val_main_v28_eq m' c).trans (funext (Cert.AttendRefIdeal.Hand.y (by
      rw [he c]
      exact holds_pre_proj (hp c))))), (h c).2⟩) (Cert.AttendRefIdeal.Value.run m' g')⟩

end

/-! ## The references of the products touch no semaphore -/

theorem frame_refDdown : Cert.quiescent_DdownRefIdeal := fun m ρ _ =>
  (θ_run _ _ _).mono (fun _ h => ⟨fun c => (h c).2, sem_eq_zero_of_no_sems (by decide) _⟩) (Cert.DdownRefIdeal.Value.run m ρ)
theorem frame_refDact : Cert.quiescent_DactRefIdeal := fun m ρ _ =>
  (θ_run _ _ _).mono (fun _ h => ⟨fun c => (h c).2, sem_eq_zero_of_no_sems (by decide) _⟩) (Cert.DactRefIdeal.Value.run m ρ)
theorem frame_refDup : Cert.quiescent_DupRefIdeal := fun m ρ _ =>
  (θ_run _ _ _).mono (fun _ h => ⟨fun c => (h c).2, sem_eq_zero_of_no_sems (by decide) _⟩) (Cert.DupRefIdeal.Value.run m ρ)
theorem frame_refDh2 : Cert.quiescent_Dh2RefIdeal := fun m ρ _ =>
  (θ_run _ _ _).mono (fun _ h => ⟨fun c => (h c).2, sem_eq_zero_of_no_sems (by decide) _⟩) (Cert.Dh2RefIdeal.Value.run m ρ)
theorem frame_refDout : Cert.quiescent_DoutRefIdeal := fun m ρ _ =>
  (θ_run _ _ _).mono (fun _ h => ⟨fun c => (h c).2, sem_eq_zero_of_no_sems (by decide) _⟩) (Cert.DoutRefIdeal.Value.run m ρ)
theorem frame_refDycat : Cert.quiescent_DycatRefIdeal := fun m ρ _ =>
  (θ_run _ _ _).mono (fun _ h => ⟨fun c => (h c).2, sem_eq_zero_of_no_sems (by decide) _⟩) (Cert.DycatRefIdeal.Value.run m ρ)
theorem frame_refDin : Cert.quiescent_DinRefIdeal := fun m ρ _ =>
  (θ_run _ _ _).mono (fun _ h => ⟨fun c => (h c).2, sem_eq_zero_of_no_sems (by decide) _⟩) (Cert.DinRefIdeal.Value.run m ρ)
theorem frame_refDh : Cert.quiescent_DhRefIdeal := fun m ρ _ =>
  (θ_run _ _ _).mono (fun _ h => ⟨fun c => (h c).2, sem_eq_zero_of_no_sems (by decide) _⟩) (Cert.DhRefIdeal.Value.run m ρ)
theorem frame_refProj : Cert.quiescent_ProjRefIdeal := fun m ρ _ =>
  (θ_run _ _ _).mono (fun _ h => ⟨fun c => (h c).2, sem_eq_zero_of_no_sems (by decide) _⟩) (Cert.ProjRefIdeal.Value.run m ρ)
theorem frame_refMix : Cert.quiescent_MixRefIdeal := fun m ρ _ =>
  (θ_run _ _ _).mono (fun _ h => ⟨fun c => (h c).2, sem_eq_zero_of_no_sems (by decide) _⟩) (Cert.MixRefIdeal.Value.run m ρ)
theorem frame_refUp : Cert.quiescent_UpRefIdeal := fun m ρ _ =>
  (θ_run _ _ _).mono (fun _ h => ⟨fun c => (h c).2, sem_eq_zero_of_no_sems (by decide) _⟩) (Cert.UpRefIdeal.Value.run m ρ)
theorem frame_refDown : Cert.quiescent_DownRefIdeal := fun m ρ _ =>
  (θ_run _ _ _).mono (fun _ h => ⟨fun c => (h c).2, sem_eq_zero_of_no_sems (by decide) _⟩) (Cert.DownRefIdeal.Value.run m ρ)
theorem frame_refNorm : Cert.quiescent_NormRefIdeal := fun m ρ _ =>
  (θ_run _ _ _).mono (fun _ h => ⟨fun c => (h c).2, sem_eq_zero_of_no_sems (by decide) _⟩) (Cert.NormRefIdeal.Value.run m ρ)
theorem frame_refDnorm : Cert.quiescent_DnormRefIdeal := fun m ρ _ =>
  (θ_run _ _ _).mono (fun _ h => ⟨fun c => (h c).2.2.2, sem_eq_zero_of_no_sems (by decide) _⟩) (Cert.DnormRefIdeal.Value.run m ρ)
theorem frame_refAdamIn : Cert.quiescent_AdamInRefIdeal := fun m ρ _ =>
  (θ_run _ _ _).mono (fun _ h => ⟨fun c => (h c).2.2.2.2, sem_eq_zero_of_no_sems (by decide) _⟩) (Cert.AdamInRefIdeal.Value.run m ρ)
theorem frame_refAdamOut : Cert.quiescent_AdamOutRefIdeal := fun m ρ _ =>
  (θ_run _ _ _).mono (fun _ h => ⟨fun c => (h c).2.2.2.2, sem_eq_zero_of_no_sems (by decide) _⟩) (Cert.AdamOutRefIdeal.Value.run m ρ)
theorem frame_refAdamUp : Cert.quiescent_AdamUpRefIdeal := fun m ρ _ =>
  (θ_run _ _ _).mono (fun _ h => ⟨fun c => (h c).2.2.2.2, sem_eq_zero_of_no_sems (by decide) _⟩) (Cert.AdamUpRefIdeal.Value.run m ρ)
theorem frame_refAdamDown : Cert.quiescent_AdamDownRefIdeal := fun m ρ _ =>
  (θ_run _ _ _).mono (fun _ h => ⟨fun c => (h c).2.2.2.2, sem_eq_zero_of_no_sems (by decide) _⟩) (Cert.AdamDownRefIdeal.Value.run m ρ)
theorem frame_refAdamSmall : Cert.quiescent_AdamSmallRefIdeal := fun m ρ _ =>
  (θ_run _ _ _).mono (fun _ h => ⟨fun c => (h c).2.2.2, sem_eq_zero_of_no_sems (by decide) _⟩) (Cert.AdamSmallRefIdeal.Value.run m ρ)
theorem frame_refSumSmall : Cert.quiescent_SumSmallRefIdeal := fun m ρ _ =>
  (θ_run _ _ _).mono (fun _ h => ⟨fun c => (h c).2, sem_eq_zero_of_no_sems (by decide) _⟩) (Cert.SumSmallRefIdeal.Value.run m ρ)
theorem frame_refAttend : Cert.quiescent_AttendRefIdeal := fun m ρ _ =>
  (θ_run _ _ _).mono (fun _ h => ⟨fun c => (h c).2, sem_eq_zero_of_no_sems (by decide) _⟩) (Cert.AttendRefIdeal.Value.run m ρ)

theorem claim : Cert.Claim := ⟨Cert.Kernel.Gen.facts, Cert.KernelIdeal.Gen.facts, Cert.ReferenceIdeal.Gen.facts,
  Cert.Ddown.Gen.facts, Cert.DdownIdeal.Gen.facts, Cert.DdownRefIdeal.Gen.facts, Cert.Dact.Gen.facts, Cert.DactIdeal.Gen.facts, Cert.DactRefIdeal.Gen.facts,
  Cert.Dup.Gen.facts, Cert.DupIdeal.Gen.facts, Cert.DupRefIdeal.Gen.facts, Cert.Dh2.Gen.facts, Cert.Dh2Ideal.Gen.facts, Cert.Dh2RefIdeal.Gen.facts,
  Cert.Dout.Gen.facts, Cert.DoutIdeal.Gen.facts, Cert.DoutRefIdeal.Gen.facts, Cert.Dycat.Gen.facts, Cert.DycatIdeal.Gen.facts, Cert.DycatRefIdeal.Gen.facts,
  Cert.Din.Gen.facts, Cert.DinIdeal.Gen.facts, Cert.DinRefIdeal.Gen.facts, Cert.Dh.Gen.facts, Cert.DhIdeal.Gen.facts, Cert.DhRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Norm.Gen.facts, Cert.NormIdeal.Gen.facts, Cert.NormRefIdeal.Gen.facts,
  Cert.Dnorm.Gen.facts, Cert.DnormIdeal.Gen.facts, Cert.DnormRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Cert.Attend.Gen.facts, Cert.AttendIdeal.Gen.facts, Cert.AttendRefIdeal.Gen.facts,
  facts_finite, facts_finite_proj,
  frame_kernel, frame_kernelIdeal, fun m ρ _ => frame_kernelIdeal m ρ trivial, frame_referenceIdeal,
  fun m ρ _ => frame_referenceIdeal m ρ trivial,
  fun m ρ _ => Cert.Ddown.Gen.frame m ρ, fun m ρ _ => Cert.DdownIdeal.Gen.frame m ρ, frame_refDdown,
  fun m ρ _ => Cert.Dact.Gen.frame m ρ, fun m ρ _ => Cert.DactIdeal.Gen.frame m ρ, frame_refDact,
  fun m ρ _ => Cert.Dup.Gen.frame m ρ, fun m ρ _ => Cert.DupIdeal.Gen.frame m ρ, frame_refDup,
  fun m ρ _ => Cert.Dh2.Gen.frame m ρ, fun m ρ _ => Cert.Dh2Ideal.Gen.frame m ρ, frame_refDh2,
  fun m ρ _ => Cert.Dout.Gen.frame m ρ, fun m ρ _ => Cert.DoutIdeal.Gen.frame m ρ, frame_refDout,
  fun m ρ _ => Cert.Dycat.Gen.frame m ρ, fun m ρ _ => Cert.DycatIdeal.Gen.frame m ρ, frame_refDycat,
  fun m ρ _ => Cert.Din.Gen.frame m ρ, fun m ρ _ => Cert.DinIdeal.Gen.frame m ρ, frame_refDin,
  fun m ρ _ => Cert.Dh.Gen.frame m ρ, fun m ρ _ => Cert.DhIdeal.Gen.frame m ρ, frame_refDh,
  fun m ρ _ => Cert.Proj.Gen.frame m ρ, fun m ρ _ => Cert.ProjIdeal.Gen.frame m ρ, frame_refProj,
  fun m ρ _ => Cert.Mix.Gen.frame m ρ, fun m ρ _ => Cert.MixIdeal.Gen.frame m ρ, frame_refMix,
  fun m ρ _ => Cert.Up.Gen.frame m ρ, fun m ρ _ => Cert.UpIdeal.Gen.frame m ρ, frame_refUp,
  fun m ρ _ => Cert.Down.Gen.frame m ρ, fun m ρ _ => Cert.DownIdeal.Gen.frame m ρ, frame_refDown,
  fun m ρ _ => Cert.Norm.Gen.frame m ρ, fun m ρ _ => Cert.NormIdeal.Gen.frame m ρ, frame_refNorm,
  fun m ρ _ => Cert.Dnorm.Gen.frame m ρ, fun m ρ _ => Cert.DnormIdeal.Gen.frame m ρ, frame_refDnorm,
  fun m ρ _ => Cert.AdamIn.Gen.frame m ρ, fun m ρ _ => Cert.AdamInIdeal.Gen.frame m ρ, frame_refAdamIn,
  fun m ρ _ => Cert.AdamOut.Gen.frame m ρ, fun m ρ _ => Cert.AdamOutIdeal.Gen.frame m ρ, frame_refAdamOut,
  fun m ρ _ => Cert.AdamUp.Gen.frame m ρ, fun m ρ _ => Cert.AdamUpIdeal.Gen.frame m ρ, frame_refAdamUp,
  fun m ρ _ => Cert.AdamDown.Gen.frame m ρ, fun m ρ _ => Cert.AdamDownIdeal.Gen.frame m ρ, frame_refAdamDown,
  fun m ρ _ => Cert.AdamSmall.Gen.frame m ρ, fun m ρ _ => Cert.AdamSmallIdeal.Gen.frame m ρ, frame_refAdamSmall,
  fun m ρ _ => Cert.SumSmall.Gen.frame m ρ, fun m ρ _ => Cert.SumSmallIdeal.Gen.frame m ρ, frame_refSumSmall,
  fun m ρ _ => Cert.Attend.Gen.frame m ρ, fun m ρ _ => Cert.AttendIdeal.Gen.frame m ρ, fun m ρ _ => Cert.AttendIdeal.Gen.frame m ρ,
  frame_refAttend, fun m ρ _ => frame_refAttend m ρ trivial,
  trivial, value,
  trivial, Cert.Products.value_ddown,
  trivial, Cert.Products.value_dact,
  trivial, Cert.Products.value_dup,
  trivial, Cert.Products.value_dh2,
  trivial, Cert.Products.value_dout,
  trivial, Cert.Products.value_dycat,
  trivial, Cert.Products.value_din,
  trivial, Cert.Products.value_dh,
  trivial, Cert.Products.value_proj,
  trivial, Cert.Products.value_mix,
  trivial, Cert.Products.value_up,
  trivial, Cert.Products.value_down,
  trivial, Cert.Norms.value_norm,
  trivial, Cert.Norms.value_dnorm,
  trivial, Cert.Optimiser.value_in,
  trivial, Cert.Optimiser.value_out,
  trivial, Cert.Optimiser.value_up,
  trivial, Cert.Optimiser.value_down,
  trivial, Cert.Optimiser.value_small,
  trivial, Cert.Optimiser.value_sums,
  trivial, value_attend⟩

end Cert.Proof

end
